-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v120) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v145) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v146) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)) (v2 : (c : Dev Cert.Kernel6Ideal.nD) → Buf (Elt Ideal) ((c.tc : Thread Cert.Kernel6Ideal.nD Cert.Kernel6Ideal.τ).loc Cert.Kernel6Ideal.main_v19_2)) (v3 : (c : Dev Cert.Kernel6Ideal.nD) → Buf (Elt Ideal) ((c.tc : Thread Cert.Kernel6Ideal.nD Cert.Kernel6Ideal.τ).loc Cert.Kernel6Ideal.main_v19_3)) (v4 : (c : Dev Cert.Kernel6Ideal.nD) → Buf (Elt Ideal) ((c.tc : Thread Cert.Kernel6Ideal.nD Cert.Kernel6Ideal.τ).loc Cert.Kernel6Ideal.main_v19_4)) (v5 : (c : Dev Cert.Kernel6Ideal.nD) → Buf (Elt Ideal) ((c.tc : Thread Cert.Kernel6Ideal.nD Cert.Kernel6Ideal.τ).loc Cert.Kernel6Ideal.main_v19_5)) (v6 : (c : Dev Cert.Kernel6Ideal.nD) → Buf (Elt Ideal) ((c.tc : Thread Cert.Kernel6Ideal.nD Cert.Kernel6Ideal.τ).loc Cert.Kernel6Ideal.main_v19_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_v19_2) = v2 c
          ∧ r.2.mem ((c.tc : Thread Cert.Kernel6Ideal.nD Cert.Kernel6Ideal.τ).loc Cert.Kernel6Ideal.main_v19_3) = v3 c
          ∧ r.2.mem ((c.tc : Thread Cert.Kernel6Ideal.nD Cert.Kernel6Ideal.τ).loc Cert.Kernel6Ideal.main_v19_4) = v4 c
          ∧ r.2.mem ((c.tc : Thread Cert.Kernel6Ideal.nD Cert.Kernel6Ideal.τ).loc Cert.Kernel6Ideal.main_v19_5) = v5 c
          ∧ r.2.mem ((c.tc : Thread Cert.Kernel6Ideal.nD Cert.Kernel6Ideal.τ).loc Cert.Kernel6Ideal.main_v19_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v148) = v0 c
          ∧ r.2.mem ((c.tc : Thread Cert.Reference6Ideal.nD Cert.Reference6Ideal.τ).loc Cert.Reference6Ideal.main_v149) = v1 c
          ∧ r.2.mem ((c.tc : Thread Cert.Reference6Ideal.nD Cert.Reference6Ideal.τ).loc Cert.Reference6Ideal.main_v150) = v2 c
          ∧ r.2.mem ((c.tc : Thread Cert.Reference6Ideal.nD Cert.Reference6Ideal.τ).loc Cert.Reference6Ideal.main_v162) = v3 c
          ∧ r.2.mem ((c.tc : Thread Cert.Reference6Ideal.nD Cert.Reference6Ideal.τ).loc Cert.Reference6Ideal.main_v163) = v4 c
          ∧ r.2.mem ((c.tc : Thread Cert.Reference6Ideal.nD Cert.Reference6Ideal.τ).loc Cert.Reference6Ideal.main_v165) = v5 c
          ∧ r.2.mem ((c.tc : Thread Cert.Reference6Ideal.nD Cert.Reference6Ideal.τ).loc Cert.Reference6Ideal.main_v167) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_decay : Cert.Pre_finite_decay.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_decay.lean ====
abbrev S4x8448x512 : Shape := ⟨3, ![4, 8448, 512]⟩
abbrev S4x33x512x256 : Shape := ⟨4, ![4, 33, 512, 256]⟩
abbrev S_ : Shape := ⟨0, ![]⟩

class Facts : Prop where
  bcast_S_S4x8448x512 : S_.BroadcastsInDim S4x8448x512 (![] : Fin 0 → Fin S4x8448x512.rank)
  reducesTo_S4x8448x512_S_d0_1_2 : S4x8448x512.ReducesTo [0, 1, 2] S_
  h_S_ : 0 < S_.numel

variable [Facts]

def fn {F : FTy → Type} [FloatOps F] (main_arg0 : FVec F S4x8448x512 .f32) (main_arg1 : FVec F S4x8448x512 .f32) (main_arg2 : FVec F S4x33x512x256 .bf16) : IVec S_ 1 :=
  let main_v0 : FVec F S4x8448x512 .f32 := Host.absf main_arg1
  let main_cst : FVec F S_ .f32 := constant S_ .f32 0x7F800000#32
  let main_v1 : FVec F S4x8448x512 .f32 := broadcastInDim S4x8448x512 ![] bcast_S_S4x8448x512 main_cst
  let main_v2 : IVec S4x8448x512 1 := cmpf .olt main_v0 main_v1
  let main_c : IVec S_ 1 := constantI S_ 1 1#1
  let main_v3 : IVec S_ 1 := (fun x v => Host.reduce IntOp.andi x v reducesTo_S4x8448x512_S_d0_1_2 h_S_) main_v2 main_c
  main_v3
-- ==== Kernel.lean ====
abbrev S4x8448x512 : Shape := ⟨3, ![4, 8448, 512]⟩
abbrev S4x33x512x256 : Shape := ⟨4, ![4, 33, 512, 256]⟩
abbrev S4x256x512 : Shape := ⟨3, ![4, 256, 512]⟩
abbrev S4x256x256 : Shape := ⟨3, ![4, 256, 256]⟩
abbrev S4x1x512x256 : Shape := ⟨4, ![4, 1, 512, 256]⟩
abbrev S4x4x128x128 : Shape := ⟨4, ![4, 4, 128, 128]⟩
abbrev S256x256 : Shape := ⟨2, ![256, 256]⟩
abbrev S256x128 : Shape := ⟨2, ![256, 128]⟩
abbrev S1x256x256 : Shape := ⟨3, ![1, 256, 256]⟩
abbrev S1x1x128x256 : Shape := ⟨4, ![1, 1, 128, 256]⟩
abbrev S128x256 : Shape := ⟨2, ![128, 256]⟩
abbrev S1x1x128x128 : Shape := ⟨4, ![1, 1, 128, 128]⟩
abbrev S128x128 : Shape := ⟨2, ![128, 128]⟩
abbrev S1x128 : Shape := ⟨2, ![1, 128]⟩

abbrev nBuf : Space → Nat
  | .hbm => 5
  | .vmem => 18
  | .smem => 0
  | _ => 0

abbrev bufTy : (tb : Table) → Fin (tcTables nBuf tb) → BufTy
  | .hbm, ⟨0, _⟩ => ⟨S4x8448x512, .f32⟩
  | .hbm, ⟨1, _⟩ => ⟨S4x8448x512, .f32⟩
  | .hbm, ⟨2, _⟩ => ⟨S4x33x512x256, .bf16⟩
  | .hbm, ⟨3, _⟩ => ⟨S4x33x512x256, .f32⟩
  | .hbm, ⟨4, _⟩ => ⟨S4x33x512x256, .f32⟩
  | .local _ .vmem, ⟨0, _⟩ => ⟨S4x256x512, .f32⟩
  | .local _ .vmem, ⟨1, _⟩ => ⟨S4x256x512, .f32⟩
  | .local _ .vmem, ⟨2, _⟩ => ⟨S4x256x256, .f32⟩
  | .local _ .vmem, ⟨3, _⟩ => ⟨S4x256x256, .f32⟩
  | .local _ .vmem, ⟨4, _⟩ => ⟨S4x1x512x256, .bf16⟩
  | .local _ .vmem, ⟨5, _⟩ => ⟨S4x1x512x256, .bf16⟩
  | .local _ .vmem, ⟨6, _⟩ => ⟨S4x256x512, .f32⟩
  | .local _ .vmem, ⟨7, _⟩ => ⟨S4x256x512, .f32⟩
  | .local _ .vmem, ⟨8, _⟩ => ⟨S4x256x256, .f32⟩
  | .local _ .vmem, ⟨9, _⟩ => ⟨S4x256x256, .f32⟩
  | .local _ .vmem, ⟨10, _⟩ => ⟨S4x1x512x256, .bf16⟩
  | .local _ .vmem, ⟨11, _⟩ => ⟨S4x1x512x256, .bf16⟩
  | .local _ .vmem, ⟨12, _⟩ => ⟨S4x1x512x256, .f32⟩
  | .local _ .vmem, ⟨13, _⟩ => ⟨S4x1x512x256, .f32⟩
  | .local _ .vmem, ⟨14, _⟩ => ⟨S4x1x512x256, .f32⟩
  | .local _ .vmem, ⟨15, _⟩ => ⟨S4x1x512x256, .f32⟩
  | .local _ .vmem, ⟨16, _⟩ => ⟨S4x4x128x128, .f32⟩
  | .local _ .vmem, ⟨17, _⟩ => ⟨S4x4x128x128, .f32⟩
  | _, _ => ⟨S4x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c33_i32 : BitVec 32 := 33#32
  let v1 : BitVec 32 := Scalar.subi c33_i32 arg1
  let c0_i32_0 : BitVec 32 := 0#32
  let v2 : BitVec 32 := Scalar.select v0 c0_i32_0 v1
  let c0_i32_1 : BitVec 32 := 0#32
  let c0_i32_2 : BitVec 32 := 0#32
  ![arg0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c33_i32 : BitVec 32 := 33#32
  let v1 : BitVec 32 := Scalar.subi c33_i32 arg1
  let c0_i32_0 : BitVec 32 := 0#32
  let v2 : BitVec 32 := Scalar.select v0 c0_i32_0 v1
  let c1_i32 : BitVec 32 := 1#32
  let c0_i32_1 : BitVec 32 := 0#32
  ![arg0.toNat, v2.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c33_i32 : BitVec 32 := 33#32
  let v1 : BitVec 32 := Scalar.subi c33_i32 arg1
  let c0_i32_0 : BitVec 32 := 0#32
  let v2 : BitVec 32 := Scalar.select v0 c0_i32_0 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c33_i32 : BitVec 32 := 33#32
  let v1 : BitVec 32 := Scalar.subi c33_i32 arg1
  let c0_i32_0 : BitVec 32 := 0#32
  let v2 : BitVec 32 := Scalar.select v0 c0_i32_0 v1
  let c0_i32_1 : BitVec 32 := 0#32
  let c0_i32_2 : BitVec 32 := 0#32
  let c0_i32_3 : BitVec 32 := 0#32
  ![arg0.toNat, v2.toNat, c0_i32_1.toNat, c0_i32_2.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8448x512 : Shape := ⟨3, ![4, 8448, 512]⟩
abbrev S4x33x512x256 : Shape := ⟨4, ![4, 33, 512, 256]⟩
abbrev S4x8448x256 : Shape := ⟨3, ![4, 8448, 256]⟩
abbrev S4x8448x4x64 : Shape := ⟨4, ![4, 8448, 4, 64]⟩
abbrev S4x33x256x512 : Shape := ⟨4, ![4, 33, 256, 512]⟩
abbrev S4x8448x4x128 : Shape := ⟨4, ![4, 8448, 4, 128]⟩
abbrev S4x8448x2x4x64 : Shape := ⟨5, ![4, 8448, 2, 4, 64]⟩
abbrev S_ : Shape := ⟨0, ![]⟩
abbrev S8x4x64x128 : Shape := ⟨4, ![8, 4, 64, 128]⟩
abbrev S4x256x4x64 : Shape := ⟨4, ![4, 256, 4, 64]⟩
abbrev S4x8192x4x64 : Shape := ⟨4, ![4, 8192, 4, 64]⟩
abbrev S8x8448x4x64 : Shape := ⟨4, ![8, 8448, 4, 64]⟩
abbrev S4x256x4x128 : Shape := ⟨4, ![4, 256, 4, 128]⟩
abbrev S4x8192x4x128 : Shape := ⟨4, ![4, 8192, 4, 128]⟩
abbrev S8x8448x4x128 : Shape := ⟨4, ![8, 8448, 4, 128]⟩
abbrev S4x8448x1x4x64 : Shape := ⟨5, ![4, 8448, 1, 4, 64]⟩
abbrev S8x132x64x4x64 : Shape := ⟨5, ![8, 132, 64, 4, 64]⟩
abbrev S132x8x4x64x64 : Shape := ⟨5, ![132, 8, 4, 64, 64]⟩
abbrev S8x132x64x4x128 : Shape := ⟨5, ![8, 132, 64, 4, 128]⟩
abbrev S132x8x4x64x128 : Shape := ⟨5, ![132, 8, 4, 64, 128]⟩
abbrev S132x8x4x1x64 : Shape := ⟨5, ![132, 8, 4, 1, 64]⟩
abbrev S64x64 : Shape := ⟨2, ![64, 64]⟩
abbrev S132x8x4x64 : Shape := ⟨4, ![132, 8, 4, 64]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S1x8x4x64 : Shape := ⟨4, ![1, 8, 4, 64]⟩
abbrev S8x4x64 : Shape := ⟨3, ![8, 4, 64]⟩
abbrev S8x4x64x1 : Shape := ⟨4, ![8, 4, 64, 1]⟩

abbrev nBuf : Space → Nat
  | .hbm => 152
  | .vmem => 0
  | .smem => 0
  | _ => 0

abbrev hbmTy0_0 (i : Nat) : BufTy := match i % 128 with
  | 0 => ⟨S4x8448x512, .f32⟩
  | 1 => ⟨S4x8448x512, .f32⟩
  | 2 => ⟨S4x33x512x256, .bf16⟩
  | 3 => ⟨S4x8448x256, .f32⟩
  | 4 => ⟨S4x8448x4x64, .f32⟩
  | 5 => ⟨S4x8448x256, .f32⟩
  | 6 => ⟨S4x8448x4x64, .f32⟩
  | 7 => ⟨S4x33x512x256, .f32⟩
  | 8 => ⟨S4x33x256x512, .f32⟩
  | 9 => ⟨S4x8448x4x128, .f32⟩
  | 10 => ⟨S4x8448x2x4x64, .f32⟩
  | 11 => ⟨S_, .f32⟩
  | 12 => ⟨S8x4x64x128, .f32⟩
  | 13 => ⟨S4x256x4x64, .f32⟩
  | 14 => ⟨S4x256x4x64, .f32⟩
  | 15 => ⟨S4x8192x4x64, .f32⟩
  | 16 => ⟨S4x8192x4x64, .f32⟩
  | 17 => ⟨S4x8448x4x64, .f32⟩
  | 18 => ⟨S8x8448x4x64, .f32⟩
  | 19 => ⟨S4x256x4x64, .f32⟩
  | 20 => ⟨S4x256x4x64, .f32⟩
  | 21 => ⟨S4x8192x4x64, .f32⟩
  | 22 => ⟨S4x8192x4x64, .f32⟩
  | 23 => ⟨S4x8448x4x64, .f32⟩
  | 24 => ⟨S8x8448x4x64, .f32⟩
  | 25 => ⟨S4x256x4x128, .f32⟩
  | 26 => ⟨S4x256x4x128, .f32⟩
  | 27 => ⟨S4x8192x4x128, .f32⟩
  | 28 => ⟨S4x8192x4x128, .f32⟩
  | 29 => ⟨S4x8448x4x128, .f32⟩
  | 30 => ⟨S8x8448x4x128, .f32⟩
  | 31 => ⟨S4x8448x1x4x64, .f32⟩
  | 32 => ⟨S4x8448x4x64, .f32⟩
  | 33 => ⟨S4x8448x1x4x64, .f32⟩
  | 34 => ⟨S4x8448x4x64, .f32⟩
  | 35 => ⟨S4x256x4x64, .f32⟩
  | 36 => ⟨S4x256x4x64, .f32⟩
  | 37 => ⟨S4x8192x4x64, .f32⟩
  | 38 => ⟨S4x8192x4x64, .f32⟩
  | 39 => ⟨S4x8448x4x64, .f32⟩
  | 40 => ⟨S8x8448x4x64, .f32⟩
  | 41 => ⟨S8x132x64x4x64, .f32⟩
  | 42 => ⟨S132x8x4x64x64, .f32⟩
  | 43 => ⟨S8x132x64x4x64, .f32⟩
  | 44 => ⟨S132x8x4x64x64, .f32⟩
  | 45 => ⟨S8x132x64x4x128, .f32⟩
  | 46 => ⟨S132x8x4x64x128, .f32⟩
  | 47 => ⟨S8x132x64x4x64, .f32⟩
  | 48 => ⟨S132x8x4x64x64, .f32⟩
  | 49 => ⟨S_, .f32⟩
  | 50 => ⟨S_, .f32⟩
  | 51 => ⟨S132x8x4x64x64, .f32⟩
  | 52 => ⟨S132x8x4x1x64, .f32⟩
  | 53 => ⟨S132x8x4x64x64, .f32⟩
  | 54 => ⟨S132x8x4x64x64, .f32⟩
  | 55 => ⟨S132x8x4x64x64, .f32⟩
  | 56 => ⟨S132x8x4x64x64, .f32⟩
  | 57 => ⟨S132x8x4x64x64, .f32⟩
  | 58 => ⟨S132x8x4x64x64, .f32⟩
  | 59 => ⟨S132x8x4x64x64, .f32⟩
  | 60 => ⟨S132x8x4x64x64, .f32⟩
  | 61 => ⟨S132x8x4x64x64, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S132x8x4x64x64, .f32⟩
  | 74 => ⟨S_, .f32⟩
  | 75 => ⟨S_, .f32⟩
  | 76 => ⟨S132x8x4x64x64, .i1⟩
  | 77 => ⟨S132x8x4x64x64, .f32⟩
  | 78 => ⟨S132x8x4x64x64, .f32⟩
  | 79 => ⟨S132x8x4x64x128, .f32⟩
  | 80 => ⟨S132x8x4x64, .f32⟩
  | 81 => ⟨S132x8x4x64, .f32⟩
  | 82 => ⟨S_, .f32⟩
  | 83 => ⟨S132x8x4x64x128, .f32⟩
  | 84 => ⟨S_, .i32⟩
  | 85 => ⟨S132x8x4x64x64, .f32⟩
  | 86 => ⟨S132x8x4x64x64, .f32⟩
  | 87 => ⟨S132x8x4x64x128, .f32⟩
  | 88 => ⟨S132x8x4x64, .f32⟩
  | 89 => ⟨S132x8x4x64x128, .f32⟩
  | 90 => ⟨S_, .i32⟩
  | 91 => ⟨S8x4x64x128, .f32⟩
  | 92 => ⟨S132x8x4x64x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x8x4x64x64, .f32⟩
  | 100 => ⟨S8x4x64x64, .f32⟩
  | 101 => ⟨S_, .i32⟩
  | 102 => ⟨S_, .i32⟩
  | 103 => ⟨S_, .i32⟩
  | 104 => ⟨S_, .i32⟩
  | 105 => ⟨S1x8x4x64x64, .f32⟩
  | 106 => ⟨S8x4x64x64, .f32⟩
  | 107 => ⟨S_, .i32⟩
  | 108 => ⟨S_, .i32⟩
  | 109 => ⟨S_, .i32⟩
  | 110 => ⟨S_, .i32⟩
  | 111 => ⟨S1x8x4x64x128, .f32⟩
  | 112 => ⟨S8x4x64x128, .f32⟩
  | 113 => ⟨S_, .i32⟩
  | 114 => ⟨S_, .i32⟩
  | 115 => ⟨S_, .i32⟩
  | 116 => ⟨S1x8x4x64, .f32⟩
  | 117 => ⟨S8x4x64, .f32⟩
  | 118 => ⟨S_, .i32⟩
  | 119 => ⟨S_, .i32⟩
  | 120 => ⟨S_, .i32⟩
  | 121 => ⟨S_, .i32⟩
  | 122 => ⟨S1x8x4x64x128, .f32⟩
  | 123 => ⟨S8x4x64x128, .f32⟩
  | 124 => ⟨S8x4x64x128, .f32⟩
  | 125 => ⟨S8x4x64x128, .f32⟩
  | 126 => ⟨S8x4x64x1, .f32⟩
  | 127 => ⟨S8x4x64x128, .f32⟩
  | _ => ⟨S4x8448x512, .f32⟩

abbrev hbmTy0_1 (i : Nat) : BufTy := match i % 128 with
  | 0 => ⟨S8x4x64x128, .f32⟩
  | 1 => ⟨S8x4x64x128, .f32⟩
  | 2 => ⟨S8x4x64x128, .f32⟩
  | 3 => ⟨S1x8x4x64x128, .f32⟩
  | 4 => ⟨S_, .i32⟩
  | 5 => ⟨S_, .i32⟩
  | 6 => ⟨S_, .i32⟩
  | 7 => ⟨S_, .i32⟩
  | 8 => ⟨S132x8x4x64x128, .f32⟩
  | 9 => ⟨S_, .i32⟩
  | 10 => ⟨S_, .i32⟩
  | 11 => ⟨S8x132x64x4x128, .f32⟩
  | 12 => ⟨S8x8448x4x128, .f32⟩
  | 13 => ⟨S4x8448x4x128, .f32⟩
  | 14 => ⟨S4x33x256x512, .f32⟩
  | 15 => ⟨S4x33x512x256, .f32⟩
  | 16 => ⟨S4x8448x4x128, .f32⟩
  | 17 => ⟨S4x256x4x128, .f32⟩
  | 18 => ⟨S4x256x4x128, .f32⟩
  | 19 => ⟨S4x8192x4x128, .f32⟩
  | 20 => ⟨S4x8192x4x128, .f32⟩
  | 21 => ⟨S4x8448x4x128, .f32⟩
  | 22 => ⟨S4x33x256x512, .f32⟩
  | 23 => ⟨S4x33x512x256, .f32⟩
  | _ => ⟨S4x8448x512, .f32⟩

abbrev hbmTy (i : Nat) : BufTy := match i / 128 with
  | 0 => hbmTy0_0 i
  | 1 => hbmTy0_1 i
  | _ => ⟨S4x8448x512, .f32⟩

abbrev bufTy : (tb : Table) → Fin (tcTables nBuf tb) → BufTy
  | .hbm, ⟨i, _⟩ => hbmTy i
  | _, _ => ⟨S4x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_call0_call0_cst : Ref sig .tc := ⟨.hbm, 49, rfl⟩
abbrev main_call0_call0_v0 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_c : Ref sig .tc := ⟨.hbm, 62, rfl⟩
abbrev main_v56 : Ref sig .tc := ⟨.hbm, 63, rfl⟩
abbrev main_call1_v0 : Ref sig .tc := ⟨.hbm, 64, rfl⟩
abbrev main_call1_c : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_0 : Ref sig .tc := ⟨.hbm, 70, rfl⟩
abbrev main_call1_v5 : Ref sig .tc := ⟨.hbm, 71, rfl⟩
abbrev main_v57 : Ref sig .tc := ⟨.hbm, 72, rfl⟩
abbrev main_v58 : Ref sig .tc := ⟨.hbm, 73, rfl⟩
abbrev main_cst_0 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_1 : Ref sig .tc := ⟨.hbm, 82, rfl⟩
abbrev main_v63 : Ref sig .tc := ⟨.hbm, 83, rfl⟩
abbrev main_c_2 : Ref sig .tc := ⟨.hbm, 84, rfl⟩
abbrev main_v64_0 : Ref sig .tc := ⟨.hbm, 85, rfl⟩
abbrev main_v64_1 : Ref sig .tc := ⟨.hbm, 86, rfl⟩
abbrev main_v64_2 : Ref sig .tc := ⟨.hbm, 87, rfl⟩
abbrev main_v64_3 : Ref sig .tc := ⟨.hbm, 88, rfl⟩
abbrev main_v64_4 : Ref sig .tc := ⟨.hbm, 89, rfl⟩
abbrev main_v64_5 : Ref sig .tc := ⟨.hbm, 90, rfl⟩
abbrev main_v64_6 : Ref sig .tc := ⟨.hbm, 91, rfl⟩
abbrev main_v64_7 : Ref sig .tc := ⟨.hbm, 92, rfl⟩
abbrev main_while0c_c_10 : Ref sig .tc := ⟨.hbm, 93, rfl⟩
abbrev main_while0c_v78 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v78 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v79 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_call5_c_2 : Ref sig .tc := ⟨.hbm, 110, rfl⟩
abbrev main_while0b_call5_v0 : Ref sig .tc := ⟨.hbm, 111, rfl⟩
abbrev main_while0b_v80 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_v0 : Ref sig .tc := ⟨.hbm, 116, rfl⟩
abbrev main_while0b_v81 : Ref sig .tc := ⟨.hbm, 117, rfl⟩
abbrev main_while0b_call7_c : Ref sig .tc := ⟨.hbm, 118, rfl⟩
abbrev main_while0b_call7_c_0 : Ref sig .tc := ⟨.hbm, 119, rfl⟩
abbrev main_while0b_call7_c_1 : Ref sig .tc := ⟨.hbm, 120, rfl⟩
abbrev main_while0b_call7_c_2 : Ref sig .tc := ⟨.hbm, 121, rfl⟩
abbrev main_while0b_call7_v0 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_call8_v0 : Ref sig .tc := ⟨.hbm, 131, rfl⟩
abbrev main_while0b_call8_c : Ref sig .tc := ⟨.hbm, 132, rfl⟩
abbrev main_while0b_call8_c_0 : Ref sig .tc := ⟨.hbm, 133, rfl⟩
abbrev main_while0b_call8_c_1 : Ref sig .tc := ⟨.hbm, 134, rfl⟩
abbrev main_while0b_call8_c_2 : Ref sig .tc := ⟨.hbm, 135, rfl⟩
abbrev main_while0b_v90 : Ref sig .tc := ⟨.hbm, 136, rfl⟩
abbrev main_while0b_c_10 : Ref sig .tc := ⟨.hbm, 137, rfl⟩
abbrev main_while0b_v91 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S4x8448x1024 : Shape := ⟨3, ![4, 8448, 1024]⟩
abbrev S4x8448x512 : Shape := ⟨3, ![4, 8448, 512]⟩
abbrev S4x33x512x256 : Shape := ⟨4, ![4, 33, 512, 256]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S4x8192x1024 : Shape := ⟨3, ![4, 8192, 1024]⟩
abbrev S2x256x1024 : Shape := ⟨3, ![2, 256, 1024]⟩
abbrev S2x256x512 : Shape := ⟨3, ![2, 256, 512]⟩
abbrev S2x1x512x256 : Shape := ⟨4, ![2, 1, 512, 256]⟩
abbrev S2x6x1024 : Shape := ⟨3, ![2, 6, 1024]⟩
abbrev S1x256x1024 : Shape := ⟨3, ![1, 256, 1024]⟩
abbrev S256x1024 : Shape := ⟨2, ![256, 1024]⟩
abbrev S1x6x1024 : Shape := ⟨3, ![1, 6, 1024]⟩
abbrev S6x1024 : Shape := ⟨2, ![6, 1024]⟩
abbrev S1x256x512 : Shape := ⟨3, ![1, 256, 512]⟩
abbrev S256x512 : Shape := ⟨2, ![256, 512]⟩
abbrev S1x1x512x256 : Shape := ⟨4, ![1, 1, 512, 256]⟩
abbrev S512x256 : Shape := ⟨2, ![512, 256]⟩
abbrev S1x1024 : Shape := ⟨2, ![1, 1024]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .f32⟩
  | .hbm, ⟨2, _⟩ => ⟨S4x33x512x256, .bf16⟩
  | .hbm, ⟨3, _⟩ => ⟨S8x6x1024, .f32⟩
  | .hbm, ⟨4, _⟩ => ⟨S4x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1024x4096, .bf16⟩
  | .hbm, ⟨13, _⟩ => ⟨S4096x1024, .bf16⟩
  | .hbm, ⟨14, _⟩ => ⟨S4x8192x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x512, .f32⟩
  | .local _ .vmem, ⟨3, _⟩ => ⟨S2x256x512, .f32⟩
  | .local _ .vmem, ⟨4, _⟩ => ⟨S2x1x512x256, .bf16⟩
  | .local _ .vmem, ⟨5, _⟩ => ⟨S2x1x512x256, .bf16⟩
  | .local _ .vmem, ⟨6, _⟩ => ⟨S2x6x1024, .f32⟩
  | .local _ .vmem, ⟨7, _⟩ => ⟨S2x6x1024, .f32⟩
  | .local _ .vmem, ⟨8, _⟩ => ⟨S4x1024, .f32⟩
  | .local _ .vmem, ⟨9, _⟩ => ⟨S512x1024, .bf16⟩
  | .local _ .vmem, ⟨10, _⟩ => ⟨S512x1024, .bf16⟩
  | .local _ .vmem, ⟨11, _⟩ => ⟨S1024x4096, .bf16⟩
  | .local _ .vmem, ⟨12, _⟩ => ⟨S4096x1024, .bf16⟩
  | .local _ .vmem, ⟨13, _⟩ => ⟨S2x256x1024, .f32⟩
  | .local _ .vmem, ⟨14, _⟩ => ⟨S2x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 1 := Scalar.cmpi .eq v0 c0_i32
  let c2_i32 : BitVec 32 := 2#32
  let v2 : BitVec 32 := Scalar.select v1 c2_i32 arg0
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8448x1024 : Shape := ⟨3, ![4, 8448, 1024]⟩
abbrev S4x8448x512 : Shape := ⟨3, ![4, 8448, 512]⟩
abbrev S4x33x512x256 : Shape := ⟨4, ![4, 33, 512, 256]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S4x8192x1024 : Shape := ⟨3, ![4, 8192, 1024]⟩
abbrev S4x1x1024 : Shape := ⟨3, ![4, 1, 1024]⟩
abbrev S4x33x256x512 : Shape := ⟨4, ![4, 33, 256, 512]⟩
abbrev S4x8192x512 : Shape := ⟨3, ![4, 8192, 512]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .f32⟩
  | .hbm, ⟨2, _⟩ => ⟨S4x33x512x256, .bf16⟩
  | .hbm, ⟨3, _⟩ => ⟨S8x6x1024, .f32⟩
  | .hbm, ⟨4, _⟩ => ⟨S4x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4x8192x1024, .f32⟩
  | .hbm, ⟨9, _⟩ => ⟨S4x1x1024, .f32⟩
  | .hbm, ⟨10, _⟩ => ⟨S4x1024, .f32⟩
  | .hbm, ⟨11, _⟩ => ⟨S4x1x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x1x1024, .f32⟩
  | .hbm, ⟨16, _⟩ => ⟨S4x1024, .f32⟩
  | .hbm, ⟨17, _⟩ => ⟨S4x1x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x33x512x256, .f32⟩
  | .hbm, ⟨28, _⟩ => ⟨S4x33x256x512, .f32⟩
  | .hbm, ⟨29, _⟩ => ⟨S4x8448x512, .f32⟩
  | .hbm, ⟨30, _⟩ => ⟨S4x8192x512, .f32⟩
  | .hbm, ⟨31, _⟩ => ⟨S4x8192x512, .f32⟩
  | .hbm, ⟨32, _⟩ => ⟨S4x8192x1024, .f32⟩
  | .hbm, ⟨33, _⟩ => ⟨S4x8192x1024, .f32⟩
  | .hbm, ⟨34, _⟩ => ⟨S1x1024, .f32⟩
  | .hbm, ⟨35, _⟩ => ⟨S1024, .f32⟩
  | .hbm, ⟨36, _⟩ => ⟨S4x8192x1024, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1x1024, .f32⟩
  | .hbm, ⟨56, _⟩ => ⟨S1024, .f32⟩
  | .hbm, ⟨57, _⟩ => ⟨S4x8192x1024, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S4x8192x1024, .f32⟩
  | .hbm, ⟨69, _⟩ => ⟨S4x8192x1024, .f32⟩
  | .hbm, ⟨70, _⟩ => ⟨S1x1x1024, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x1x1024, .f32⟩
  | .hbm, ⟨75, _⟩ => ⟨S4x1x1024, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x4096, .f32⟩
  | .hbm, ⟨81, _⟩ => ⟨S_, .f32⟩
  | .hbm, ⟨82, _⟩ => ⟨S4x8192x4096, .f32⟩
  | .hbm, ⟨83, _⟩ => ⟨S4x8192x4096, .f32⟩
  | .hbm, ⟨84, _⟩ => ⟨S4x8192x4096, .f32⟩
  | .hbm, ⟨85, _⟩ => ⟨S4x8192x1024, .f32⟩
  | .hbm, ⟨86, _⟩ => ⟨S1x1024, .f32⟩
  | .hbm, ⟨87, _⟩ => ⟨S1024, .f32⟩
  | .hbm, ⟨88, _⟩ => ⟨S4x8192x1024, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1024, .f32⟩
  | .hbm, ⟨100, _⟩ => ⟨S4x8192x1024, .f32⟩
  | .hbm, ⟨101, _⟩ => ⟨S1x1x1024, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call0_cst : Ref sig .tc := ⟨.hbm, 81, rfl⟩
abbrev main_call0_v0 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x8448x512 : Shape := ⟨3, ![4, 8448, 512]⟩
abbrev S4x33x512x256 : Shape := ⟨4, ![4, 33, 512, 256]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S2x256x1024 : Shape := ⟨3, ![2, 256, 1024]⟩
abbrev S2x256x512 : Shape := ⟨3, ![2, 256, 512]⟩
abbrev S2x1x512x256 : Shape := ⟨4, ![2, 1, 512, 256]⟩
abbrev S2x6x1024 : Shape := ⟨3, ![2, 6, 1024]⟩
abbrev S1x256x1024 : Shape := ⟨3, ![1, 256, 1024]⟩
abbrev S256x1024 : Shape := ⟨2, ![256, 1024]⟩
abbrev S1x6x1024 : Shape := ⟨3, ![1, 6, 1024]⟩
abbrev S6x1024 : Shape := ⟨2, ![6, 1024]⟩
abbrev S1x256x512 : Shape := ⟨3, ![1, 256, 512]⟩
abbrev S256x512 : Shape := ⟨2, ![256, 512]⟩
abbrev S1x1x512x256 : Shape := ⟨4, ![1, 1, 512, 256]⟩
abbrev S512x256 : Shape := ⟨2, ![512, 256]⟩
abbrev S1x1024 : Shape := ⟨2, ![1, 1024]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .f32⟩
  | .hbm, ⟨2, _⟩ => ⟨S4x33x512x256, .bf16⟩
  | .hbm, ⟨3, _⟩ => ⟨S8x6x1024, .f32⟩
  | .hbm, ⟨4, _⟩ => ⟨S4x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1024x4096, .bf16⟩
  | .hbm, ⟨13, _⟩ => ⟨S4096x1024, .bf16⟩
  | .hbm, ⟨14, _⟩ => ⟨S4x8448x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x512, .f32⟩
  | .local _ .vmem, ⟨3, _⟩ => ⟨S2x256x512, .f32⟩
  | .local _ .vmem, ⟨4, _⟩ => ⟨S2x1x512x256, .bf16⟩
  | .local _ .vmem, ⟨5, _⟩ => ⟨S2x1x512x256, .bf16⟩
  | .local _ .vmem, ⟨6, _⟩ => ⟨S2x6x1024, .f32⟩
  | .local _ .vmem, ⟨7, _⟩ => ⟨S2x6x1024, .f32⟩
  | .local _ .vmem, ⟨8, _⟩ => ⟨S4x1024, .f32⟩
  | .local _ .vmem, ⟨9, _⟩ => ⟨S512x1024, .bf16⟩
  | .local _ .vmem, ⟨10, _⟩ => ⟨S512x1024, .bf16⟩
  | .local _ .vmem, ⟨11, _⟩ => ⟨S1024x4096, .bf16⟩
  | .local _ .vmem, ⟨12, _⟩ => ⟨S4096x1024, .bf16⟩
  | .local _ .vmem, ⟨13, _⟩ => ⟨S2x256x1024, .f32⟩
  | .local _ .vmem, ⟨14, _⟩ => ⟨S2x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c2_i32 : BitVec 32 := 2#32
  let v2 : BitVec 32 := Scalar.select v1 c2_i32 arg0
  let c0_i32_1 : BitVec 32 := 0#32
  let c0_i32_2 : BitVec 32 := 0#32
  let c0_i32_3 : BitVec 32 := 0#32
  ![v2.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x8448x1024 : Shape := ⟨3, ![4, 8448, 1024]⟩
abbrev S4x8448x512 : Shape := ⟨3, ![4, 8448, 512]⟩
abbrev S4x33x512x256 : Shape := ⟨4, ![4, 33, 512, 256]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S8448 : Shape := ⟨1, ![8448]⟩
abbrev S8448x1 : Shape := ⟨2, ![8448, 1]⟩
abbrev S2x6x1024 : Shape := ⟨3, ![2, 6, 1024]⟩
abbrev S4x6x1024 : Shape := ⟨3, ![4, 6, 1024]⟩
abbrev S_ : Shape := ⟨0, ![]⟩
abbrev S4x1x1024 : Shape := ⟨3, ![4, 1, 1024]⟩
abbrev S4x33x256x512 : Shape := ⟨4, ![4, 33, 256, 512]⟩
abbrev S1x1024 : Shape := ⟨2, ![1, 1024]⟩
abbrev S1024 : Shape := ⟨1, ![1024]⟩
abbrev S4x8448 : Shape := ⟨2, ![4, 8448]⟩
abbrev S4x8448x1 : Shape := ⟨3, ![4, 8448, 1]⟩
abbrev S1x1x1024 : Shape := ⟨3, ![1, 1, 1024]⟩
abbrev S4x8448x4096 : Shape := ⟨3, ![4, 8448, 4096]⟩

abbrev nBuf : Space → Nat
  | .hbm => 165
  | .vmem => 0
  | .smem => 0
  | _ => 0

abbrev hbmTy0_0 (i : Nat) : BufTy := match i % 128 with
  | 0 => ⟨S4x8448x1024, .f32⟩
  | 1 => ⟨S4x8448x512, .f32⟩
  | 2 => ⟨S4x33x512x256, .bf16⟩
  | 3 => ⟨S8x6x1024, .f32⟩
  | 4 => ⟨S4x1024, .f32⟩
  | 5 => ⟨S1024x1024, .f32⟩
  | 6 => ⟨S1024x4096, .f32⟩
  | 7 => ⟨S4096x1024, .f32⟩
  | 8 => ⟨S8448, .i32⟩
  | 9 => ⟨S8448x1, .i32⟩
  | 10 => ⟨S2x6x1024, .f32⟩
  | 11 => ⟨S2x6x1024, .f32⟩
  | 12 => ⟨S4x6x1024, .f32⟩
  | 13 => ⟨S_, .i32⟩
  | 14 => ⟨S8448x1, .i32⟩
  | 15 => ⟨S8448x1, .i1⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8448x1024, .i1⟩
  | 23 => ⟨S4x8448x1024, .f32⟩
  | 24 => ⟨S4x8448x1024, .f32⟩
  | 25 => ⟨S4x8448x1024, .f32⟩
  | 26 => ⟨S_, .i32⟩
  | 27 => ⟨S8448x1, .i32⟩
  | 28 => ⟨S8448x1, .i1⟩
  | 29 => ⟨S4x1x1024, .f32⟩
  | 30 => ⟨S4x1024, .f32⟩
  | 31 => ⟨S4x1x1024, .f32⟩
  | 32 => ⟨S4x1x1024, .f32⟩
  | 33 => ⟨S4x1024, .f32⟩
  | 34 => ⟨S4x1x1024, .f32⟩
  | 35 => ⟨S4x8448x1024, .i1⟩
  | 36 => ⟨S4x8448x1024, .f32⟩
  | 37 => ⟨S4x8448x1024, .f32⟩
  | 38 => ⟨S4x8448x1024, .f32⟩
  | 39 => ⟨S_, .i32⟩
  | 40 => ⟨S8448x1, .i32⟩
  | 41 => ⟨S8448x1, .i1⟩
  | 42 => ⟨S4x1x1024, .f32⟩
  | 43 => ⟨S4x1024, .f32⟩
  | 44 => ⟨S4x1x1024, .f32⟩
  | 45 => ⟨S4x1x1024, .f32⟩
  | 46 => ⟨S4x1024, .f32⟩
  | 47 => ⟨S4x1x1024, .f32⟩
  | 48 => ⟨S4x8448x1024, .i1⟩
  | 49 => ⟨S4x8448x1024, .f32⟩
  | 50 => ⟨S4x8448x1024, .f32⟩
  | 51 => ⟨S4x8448x1024, .f32⟩
  | 52 => ⟨S_, .i32⟩
  | 53 => ⟨S8448x1, .i32⟩
  | 54 => ⟨S8448x1, .i1⟩
  | 55 => ⟨S4x1x1024, .f32⟩
  | 56 => ⟨S4x1024, .f32⟩
  | 57 => ⟨S4x1x1024, .f32⟩
  | 58 => ⟨S4x1x1024, .f32⟩
  | 59 => ⟨S4x1024, .f32⟩
  | 60 => ⟨S4x1x1024, .f32⟩
  | 61 => ⟨S4x8448x1024, .i1⟩
  | 62 => ⟨S4x8448x1024, .f32⟩
  | 63 => ⟨S4x8448x1024, .f32⟩
  | 64 => ⟨S4x8448x1024, .f32⟩
  | 65 => ⟨S_, .i32⟩
  | 66 => ⟨S8448x1, .i32⟩
  | 67 => ⟨S8448x1, .i1⟩
  | 68 => ⟨S4x1x1024, .f32⟩
  | 69 => ⟨S4x1024, .f32⟩
  | 70 => ⟨S4x1x1024, .f32⟩
  | 71 => ⟨S4x1x1024, .f32⟩
  | 72 => ⟨S4x1024, .f32⟩
  | 73 => ⟨S4x1x1024, .f32⟩
  | 74 => ⟨S4x8448x1024, .i1⟩
  | 75 => ⟨S4x8448x1024, .f32⟩
  | 76 => ⟨S4x8448x1024, .f32⟩
  | 77 => ⟨S4x8448x1024, .f32⟩
  | 78 => ⟨S_, .i32⟩
  | 79 => ⟨S8448x1, .i32⟩
  | 80 => ⟨S8448x1, .i1⟩
  | 81 => ⟨S4x1x1024, .f32⟩
  | 82 => ⟨S4x1024, .f32⟩
  | 83 => ⟨S4x1x1024, .f32⟩
  | 84 => ⟨S4x1x1024, .f32⟩
  | 85 => ⟨S4x1024, .f32⟩
  | 86 => ⟨S4x1x1024, .f32⟩
  | 87 => ⟨S4x8448x1024, .i1⟩
  | 88 => ⟨S4x8448x1024, .f32⟩
  | 89 => ⟨S4x8448x1024, .f32⟩
  | 90 => ⟨S4x8448x1024, .f32⟩
  | 91 => ⟨S4x33x512x256, .f32⟩
  | 92 => ⟨S4x33x256x512, .f32⟩
  | 93 => ⟨S4x8448x512, .f32⟩
  | 94 => ⟨S4x8448x1024, .f32⟩
  | 95 => ⟨S4x8448x1024, .f32⟩
  | 96 => ⟨S1x1024, .f32⟩
  | 97 => ⟨S1024, .f32⟩
  | 98 => ⟨S4x8448x1024, .f32⟩
  | 99 => ⟨S_, .f32⟩
  | 100 => ⟨S4x8448, .f32⟩
  | 101 => ⟨S4x8448x1, .f32⟩
  | 102 => ⟨S_, .f32⟩
  | 103 => ⟨S4x8448x1, .f32⟩
  | 104 => ⟨S4x8448x1, .f32⟩
  | 105 => ⟨S_, .f32⟩
  | 106 => ⟨S4x8448x1, .f32⟩
  | 107 => ⟨S4x8448x1, .f32⟩
  | 108 => ⟨S4x8448x1, .f32⟩
  | 109 => ⟨S4x8448x1024, .f32⟩
  | 110 => ⟨S4x8448x1024, .f32⟩
  | 111 => ⟨S1x1x1024, .f32⟩
  | 112 => ⟨S4x8448x1024, .f32⟩
  | 113 => ⟨S4x8448x1024, .f32⟩
  | 114 => ⟨S4x8448x1024, .f32⟩
  | 115 => ⟨S4x8448x1024, .f32⟩
  | 116 => ⟨S1x1024, .f32⟩
  | 117 => ⟨S1024, .f32⟩
  | 118 => ⟨S4x8448x1024, .f32⟩
  | 119 => ⟨S_, .f32⟩
  | 120 => ⟨S4x8448, .f32⟩
  | 121 => ⟨S4x8448x1, .f32⟩
  | 122 => ⟨S_, .f32⟩
  | 123 => ⟨S4x8448x1, .f32⟩
  | 124 => ⟨S4x8448x1, .f32⟩
  | 125 => ⟨S_, .f32⟩
  | 126 => ⟨S4x8448x1, .f32⟩
  | 127 => ⟨S4x8448x1, .f32⟩
  | _ => ⟨S4x8448x1024, .f32⟩

abbrev hbmTy0_1 (i : Nat) : BufTy := match i % 128 with
  | 0 => ⟨S4x8448x1, .f32⟩
  | 1 => ⟨S4x8448x1024, .f32⟩
  | 2 => ⟨S4x8448x1024, .f32⟩
  | 3 => ⟨S1x1x1024, .f32⟩
  | 4 => ⟨S4x8448x1024, .f32⟩
  | 5 => ⟨S4x8448x1024, .f32⟩
  | 6 => ⟨S_, .f32⟩
  | 7 => ⟨S4x8448x1024, .f32⟩
  | 8 => ⟨S4x8448x1024, .f32⟩
  | 9 => ⟨S4x8448x1024, .f32⟩
  | 10 => ⟨S4x8448x1024, .f32⟩
  | 11 => ⟨S4x8448x4096, .f32⟩
  | 12 => ⟨S_, .f32⟩
  | 13 => ⟨S4x8448x4096, .f32⟩
  | 14 => ⟨S4x8448x4096, .f32⟩
  | 15 => ⟨S4x8448x4096, .f32⟩
  | 16 => ⟨S4x8448x1024, .f32⟩
  | 17 => ⟨S1x1024, .f32⟩
  | 18 => ⟨S1024, .f32⟩
  | 19 => ⟨S4x8448x1024, .f32⟩
  | 20 => ⟨S_, .f32⟩
  | 21 => ⟨S4x8448, .f32⟩
  | 22 => ⟨S4x8448x1, .f32⟩
  | 23 => ⟨S_, .f32⟩
  | 24 => ⟨S4x8448x1, .f32⟩
  | 25 => ⟨S4x8448x1, .f32⟩
  | 26 => ⟨S_, .f32⟩
  | 27 => ⟨S4x8448x1, .f32⟩
  | 28 => ⟨S4x8448x1, .f32⟩
  | 29 => ⟨S4x8448x1, .f32⟩
  | 30 => ⟨S4x8448x1024, .f32⟩
  | 31 => ⟨S4x8448x1024, .f32⟩
  | 32 => ⟨S1x1x1024, .f32⟩
  | 33 => ⟨S4x8448x1024, .f32⟩
  | 34 => ⟨S4x8448x1024, .f32⟩
  | 35 => ⟨S4x8448x1024, .f32⟩
  | 36 => ⟨S4x8448x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v31 : Ref sig .tc := ⟨.hbm, 51, rfl⟩
abbrev main_c_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v40 : Ref sig .tc := ⟨.hbm, 64, rfl⟩
abbrev main_c_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v49 : Ref sig .tc := ⟨.hbm, 77, rfl⟩
abbrev main_c_4 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst : Ref sig .tc := ⟨.hbm, 99, rfl⟩
abbrev main_v67 : Ref sig .tc := ⟨.hbm, 100, rfl⟩
abbrev main_v68 : Ref sig .tc := ⟨.hbm, 101, rfl⟩
abbrev main_cst_5 : Ref sig .tc := ⟨.hbm, 102, rfl⟩
abbrev main_v69 : Ref sig .tc := ⟨.hbm, 103, rfl⟩
abbrev main_v70 : Ref sig .tc := ⟨.hbm, 104, rfl⟩
abbrev main_cst_6 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_7 : Ref sig .tc := ⟨.hbm, 119, rfl⟩
abbrev main_v84 : Ref sig .tc := ⟨.hbm, 120, rfl⟩
abbrev main_v85 : Ref sig .tc := ⟨.hbm, 121, rfl⟩
abbrev main_cst_8 : Ref sig .tc := ⟨.hbm, 122, rfl⟩
abbrev main_v86 : Ref sig .tc := ⟨.hbm, 123, rfl⟩
abbrev main_v87 : Ref sig .tc := ⟨.hbm, 124, rfl⟩
abbrev main_cst_9 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_10 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call6_cst : Ref sig .tc := ⟨.hbm, 140, rfl⟩
abbrev main_call6_v0 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_11 : Ref sig .tc := ⟨.hbm, 148, rfl⟩
abbrev main_v107 : Ref sig .tc := ⟨.hbm, 149, rfl⟩
abbrev main_v108 : Ref sig .tc := ⟨.hbm, 150, rfl⟩
abbrev main_cst_12 : Ref sig .tc := ⟨.hbm, 151, rfl⟩
abbrev main_v109 : Ref sig .tc := ⟨.hbm, 152, rfl⟩
abbrev main_v110 : Ref sig .tc := ⟨.hbm, 153, rfl⟩
abbrev main_cst_13 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]
-- ==== Kernel4.lean ====
abbrev S4x8448x1024 : Shape := ⟨3, ![4, 8448, 1024]⟩
abbrev S4x33x512x256 : Shape := ⟨4, ![4, 33, 512, 256]⟩
abbrev S128 : Shape := ⟨1, ![128]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S128x1 : Shape := ⟨2, ![128, 1]⟩
abbrev S2x256x1024 : Shape := ⟨3, ![2, 256, 1024]⟩
abbrev S2x1x512x256 : Shape := ⟨4, ![2, 1, 512, 256]⟩
abbrev S2x6x1024 : Shape := ⟨3, ![2, 6, 1024]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S512x256 : Shape := ⟨2, ![512, 256]⟩
abbrev S256x512 : Shape := ⟨2, ![256, 512]⟩
abbrev S1x256x1024 : Shape := ⟨3, ![1, 256, 1024]⟩
abbrev S256x1024 : Shape := ⟨2, ![256, 1024]⟩
abbrev S1x6x1024 : Shape := ⟨3, ![1, 6, 1024]⟩
abbrev S6x1024 : Shape := ⟨2, ![6, 1024]⟩
abbrev S1x1x512x256 : Shape := ⟨4, ![1, 1, 512, 256]⟩
abbrev S1x1024 : Shape := ⟨2, ![1, 1024]⟩
abbrev S256x1 : Shape := ⟨2, ![256, 1]⟩

abbrev nBuf : Space → Nat
  | .hbm => 19
  | .vmem => 20
  | .smem => 0
  | _ => 0

abbrev bufTy : (tb : Table) → Fin (tcTables nBuf tb) → BufTy
  | .hbm, ⟨0, _⟩ => ⟨S4x8448x1024, .f32⟩
  | .hbm, ⟨1, _⟩ => ⟨S4x33x512x256, .f32⟩
  | .hbm, ⟨2, _⟩ => ⟨S4x33x512x256, .f32⟩
  | .hbm, ⟨3, _⟩ => ⟨S4x33x512x256, .f32⟩
  | .hbm, ⟨4, _⟩ => ⟨S128, .f32⟩
  | .hbm, ⟨5, _⟩ => ⟨S4x33x512x256, .bf16⟩
  | .hbm, ⟨6, _⟩ => ⟨S8x6x1024, .f32⟩
  | .hbm, ⟨7, _⟩ => ⟨S4x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x4096, .bf16⟩
  | .hbm, ⟨16, _⟩ => ⟨S4096x1024, .bf16⟩
  | .hbm, ⟨17, _⟩ => ⟨S128x1, .f32⟩
  | .hbm, ⟨18, _⟩ => ⟨S4x8448x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x1x512x256, .f32⟩
  | .local _ .vmem, ⟨3, _⟩ => ⟨S2x1x512x256, .f32⟩
  | .local _ .vmem, ⟨4, _⟩ => ⟨S2x1x512x256, .f32⟩
  | .local _ .vmem, ⟨5, _⟩ => ⟨S2x1x512x256, .f32⟩
  | .local _ .vmem, ⟨6, _⟩ => ⟨S2x1x512x256, .f32⟩
  | .local _ .vmem, ⟨7, _⟩ => ⟨S2x1x512x256, .f32⟩
  | .local _ .vmem, ⟨8, _⟩ => ⟨S128x1, .f32⟩
  | .local _ .vmem, ⟨9, _⟩ => ⟨S2x1x512x256, .bf16⟩
  | .local _ .vmem, ⟨10, _⟩ => ⟨S2x1x512x256, .bf16⟩
  | .local _ .vmem, ⟨11, _⟩ => ⟨S2x6x1024, .f32⟩
  | .local _ .vmem, ⟨12, _⟩ => ⟨S2x6x1024, .f32⟩
  | .local _ .vmem, ⟨13, _⟩ => ⟨S4x1024, .f32⟩
  | .local _ .vmem, ⟨14, _⟩ => ⟨S512x1024, .bf16⟩
  | .local _ .vmem, ⟨15, _⟩ => ⟨S512x1024, .bf16⟩
  | .local _ .vmem, ⟨16, _⟩ => ⟨S1024x4096, .bf16⟩
  | .local _ .vmem, ⟨17, _⟩ => ⟨S4096x1024, .bf16⟩
  | .local _ .vmem, ⟨18, _⟩ => ⟨S2x256x1024, .f32⟩
  | .local _ .vmem, ⟨19, _⟩ => ⟨S2x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c2_i32 : BitVec 32 := 2#32
  let v2 : BitVec 32 := Scalar.select v1 c2_i32 arg0
  let c0_i32_1 : BitVec 32 := 0#32
  let c0_i32_2 : BitVec 32 := 0#32
  let c0_i32_3 : BitVec 32 := 0#32
  ![v2.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S4x8448x1024 : Shape := ⟨3, ![4, 8448, 1024]⟩
abbrev S4x33x512x256 : Shape := ⟨4, ![4, 33, 512, 256]⟩
abbrev S128 : Shape := ⟨1, ![128]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S8448 : Shape := ⟨1, ![8448]⟩
abbrev S8448x1 : Shape := ⟨2, ![8448, 1]⟩
abbrev S2x6x1024 : Shape := ⟨3, ![2, 6, 1024]⟩
abbrev S4x6x1024 : Shape := ⟨3, ![4, 6, 1024]⟩
abbrev S_ : Shape := ⟨0, ![]⟩
abbrev S4x1x1024 : Shape := ⟨3, ![4, 1, 1024]⟩
abbrev S4x33x256x512 : Shape := ⟨4, ![4, 33, 256, 512]⟩
abbrev S4x8448x512 : Shape := ⟨3, ![4, 8448, 512]⟩
abbrev S4x8448x4x128 : Shape := ⟨4, ![4, 8448, 4, 128]⟩
abbrev S4x8448x4 : Shape := ⟨3, ![4, 8448, 4]⟩
abbrev S4x8448x4x1 : Shape := ⟨4, ![4, 8448, 4, 1]⟩
abbrev S1x1x1x128 : Shape := ⟨4, ![1, 1, 1, 128]⟩
abbrev S1x1024 : Shape := ⟨2, ![1, 1024]⟩
abbrev S1024 : Shape := ⟨1, ![1024]⟩
abbrev S4x8448 : Shape := ⟨2, ![4, 8448]⟩
abbrev S4x8448x1 : Shape := ⟨3, ![4, 8448, 1]⟩
abbrev S1x1x1024 : Shape := ⟨3, ![1, 1, 1024]⟩
abbrev S4x8448x4096 : Shape := ⟨3, ![4, 8448, 4096]⟩

abbrev nBuf : Space → Nat
  | .hbm => 204
  | .vmem => 0
  | .smem => 0
  | _ => 0

abbrev hbmTy0_0 (i : Nat) : BufTy := match i % 128 with
  | 0 => ⟨S4x8448x1024, .f32⟩
  | 1 => ⟨S4x33x512x256, .f32⟩
  | 2 => ⟨S4x33x512x256, .f32⟩
  | 3 => ⟨S4x33x512x256, .f32⟩
  | 4 => ⟨S128, .f32⟩
  | 5 => ⟨S4x33x512x256, .bf16⟩
  | 6 => ⟨S8x6x1024, .f32⟩
  | 7 => ⟨S4x1024, .f32⟩
  | 8 => ⟨S1024x1024, .f32⟩
  | 9 => ⟨S1024x4096, .f32⟩
  | 10 => ⟨S4096x1024, .f32⟩
  | 11 => ⟨S8448, .i32⟩
  | 12 => ⟨S8448x1, .i32⟩
  | 13 => ⟨S2x6x1024, .f32⟩
  | 14 => ⟨S2x6x1024, .f32⟩
  | 15 => ⟨S4x6x1024, .f32⟩
  | 16 => ⟨S_, .i32⟩
  | 17 => ⟨S8448x1, .i32⟩
  | 18 => ⟨S8448x1, .i1⟩
  | 19 => ⟨S4x1x1024, .f32⟩
  | 20 => ⟨S4x1024, .f32⟩
  | 21 => ⟨S4x1x1024, .f32⟩
  | 22 => ⟨S4x1x1024, .f32⟩
  | 23 => ⟨S4x1024, .f32⟩
  | 24 => ⟨S4x1x1024, .f32⟩
  | 25 => ⟨S4x8448x1024, .i1⟩
  | 26 => ⟨S4x8448x1024, .f32⟩
  | 27 => ⟨S4x8448x1024, .f32⟩
  | 28 => ⟨S4x8448x1024, .f32⟩
  | 29 => ⟨S_, .i32⟩
  | 30 => ⟨S8448x1, .i32⟩
  | 31 => ⟨S8448x1, .i1⟩
  | 32 => ⟨S4x1x1024, .f32⟩
  | 33 => ⟨S4x1024, .f32⟩
  | 34 => ⟨S4x1x1024, .f32⟩
  | 35 => ⟨S4x1x1024, .f32⟩
  | 36 => ⟨S4x1024, .f32⟩
  | 37 => ⟨S4x1x1024, .f32⟩
  | 38 => ⟨S4x8448x1024, .i1⟩
  | 39 => ⟨S4x8448x1024, .f32⟩
  | 40 => ⟨S4x8448x1024, .f32⟩
  | 41 => ⟨S4x8448x1024, .f32⟩
  | 42 => ⟨S_, .i32⟩
  | 43 => ⟨S8448x1, .i32⟩
  | 44 => ⟨S8448x1, .i1⟩
  | 45 => ⟨S4x1x1024, .f32⟩
  | 46 => ⟨S4x1024, .f32⟩
  | 47 => ⟨S4x1x1024, .f32⟩
  | 48 => ⟨S4x1x1024, .f32⟩
  | 49 => ⟨S4x1024, .f32⟩
  | 50 => ⟨S4x1x1024, .f32⟩
  | 51 => ⟨S4x8448x1024, .i1⟩
  | 52 => ⟨S4x8448x1024, .f32⟩
  | 53 => ⟨S4x8448x1024, .f32⟩
  | 54 => ⟨S4x8448x1024, .f32⟩
  | 55 => ⟨S_, .i32⟩
  | 56 => ⟨S8448x1, .i32⟩
  | 57 => ⟨S8448x1, .i1⟩
  | 58 => ⟨S4x1x1024, .f32⟩
  | 59 => ⟨S4x1024, .f32⟩
  | 60 => ⟨S4x1x1024, .f32⟩
  | 61 => ⟨S4x1x1024, .f32⟩
  | 62 => ⟨S4x1024, .f32⟩
  | 63 => ⟨S4x1x1024, .f32⟩
  | 64 => ⟨S4x8448x1024, .i1⟩
  | 65 => ⟨S4x8448x1024, .f32⟩
  | 66 => ⟨S4x8448x1024, .f32⟩
  | 67 => ⟨S4x8448x1024, .f32⟩
  | 68 => ⟨S_, .i32⟩
  | 69 => ⟨S8448x1, .i32⟩
  | 70 => ⟨S8448x1, .i1⟩
  | 71 => ⟨S4x1x1024, .f32⟩
  | 72 => ⟨S4x1024, .f32⟩
  | 73 => ⟨S4x1x1024, .f32⟩
  | 74 => ⟨S4x1x1024, .f32⟩
  | 75 => ⟨S4x1024, .f32⟩
  | 76 => ⟨S4x1x1024, .f32⟩
  | 77 => ⟨S4x8448x1024, .i1⟩
  | 78 => ⟨S4x8448x1024, .f32⟩
  | 79 => ⟨S4x8448x1024, .f32⟩
  | 80 => ⟨S4x8448x1024, .f32⟩
  | 81 => ⟨S_, .i32⟩
  | 82 => ⟨S8448x1, .i32⟩
  | 83 => ⟨S8448x1, .i1⟩
  | 84 => ⟨S4x1x1024, .f32⟩
  | 85 => ⟨S4x1024, .f32⟩
  | 86 => ⟨S4x1x1024, .f32⟩
  | 87 => ⟨S4x1x1024, .f32⟩
  | 88 => ⟨S4x1024, .f32⟩
  | 89 => ⟨S4x1x1024, .f32⟩
  | 90 => ⟨S4x8448x1024, .i1⟩
  | 91 => ⟨S4x8448x1024, .f32⟩
  | 92 => ⟨S4x8448x1024, .f32⟩
  | 93 => ⟨S4x8448x1024, .f32⟩
  | 94 => ⟨S4x33x256x512, .f32⟩
  | 95 => ⟨S4x8448x512, .f32⟩
  | 96 => ⟨S4x33x256x512, .f32⟩
  | 97 => ⟨S4x8448x512, .f32⟩
  | 98 => ⟨S4x8448x512, .f32⟩
  | 99 => ⟨S4x8448x4x128, .f32⟩
  | 100 => ⟨S4x8448x4x128, .f32⟩
  | 101 => ⟨S_, .f32⟩
  | 102 => ⟨S4x8448x4, .f32⟩
  | 103 => ⟨S4x8448x4x1, .f32⟩
  | 104 => ⟨S_, .f32⟩
  | 105 => ⟨S4x8448x4x1, .f32⟩
  | 106 => ⟨S4x8448x4x1, .f32⟩
  | 107 => ⟨S_, .f32⟩
  | 108 => ⟨S4x8448x4x1, .f32⟩
  | 109 => ⟨S4x8448x4x1, .f32⟩
  | 110 => ⟨S4x8448x4x1, .f32⟩
  | 111 => ⟨S4x8448x4x128, .f32⟩
  | 112 => ⟨S4x8448x4x128, .f32⟩
  | 113 => ⟨S1x1x1x128, .f32⟩
  | 114 => ⟨S4x8448x4x128, .f32⟩
  | 115 => ⟨S4x8448x4x128, .f32⟩
  | 116 => ⟨S4x33x256x512, .f32⟩
  | 117 => ⟨S4x8448x512, .f32⟩
  | 118 => ⟨S4x8448x4x128, .f32⟩
  | 119 => ⟨S4x8448x4x128, .f32⟩
  | 120 => ⟨S4x8448x4x128, .f32⟩
  | 121 => ⟨S_, .f32⟩
  | 122 => ⟨S4x8448x4x128, .f32⟩
  | 123 => ⟨S4x8448x4x128, .f32⟩
  | 124 => ⟨S_, .f32⟩
  | 125 => ⟨S4x8448x4x128, .f32⟩
  | 126 => ⟨S4x8448x4x128, .f32⟩
  | 127 => ⟨S4x8448x4x128, .f32⟩
  | _ => ⟨S4x8448x1024, .f32⟩

abbrev hbmTy0_1 (i : Nat) : BufTy := match i % 128 with
  | 0 => ⟨S4x8448x4x128, .f32⟩
  | 1 => ⟨S4x8448x512, .f32⟩
  | 2 => ⟨S4x33x512x256, .f32⟩
  | 3 => ⟨S4x33x256x512, .f32⟩
  | 4 => ⟨S4x8448x512, .f32⟩
  | 5 => ⟨S4x8448x1024, .f32⟩
  | 6 => ⟨S4x8448x1024, .f32⟩
  | 7 => ⟨S1x1024, .f32⟩
  | 8 => ⟨S1024, .f32⟩
  | 9 => ⟨S4x8448x1024, .f32⟩
  | 10 => ⟨S_, .f32⟩
  | 11 => ⟨S4x8448, .f32⟩
  | 12 => ⟨S4x8448x1, .f32⟩
  | 13 => ⟨S_, .f32⟩
  | 14 => ⟨S4x8448x1, .f32⟩
  | 15 => ⟨S4x8448x1, .f32⟩
  | 16 => ⟨S_, .f32⟩
  | 17 => ⟨S4x8448x1, .f32⟩
  | 18 => ⟨S4x8448x1, .f32⟩
  | 19 => ⟨S4x8448x1, .f32⟩
  | 20 => ⟨S4x8448x1024, .f32⟩
  | 21 => ⟨S4x8448x1024, .f32⟩
  | 22 => ⟨S1x1x1024, .f32⟩
  | 23 => ⟨S4x8448x1024, .f32⟩
  | 24 => ⟨S4x8448x1024, .f32⟩
  | 25 => ⟨S4x8448x1024, .f32⟩
  | 26 => ⟨S4x8448x1024, .f32⟩
  | 27 => ⟨S1x1024, .f32⟩
  | 28 => ⟨S1024, .f32⟩
  | 29 => ⟨S4x8448x1024, .f32⟩
  | 30 => ⟨S_, .f32⟩
  | 31 => ⟨S4x8448, .f32⟩
  | 32 => ⟨S4x8448x1, .f32⟩
  | 33 => ⟨S_, .f32⟩
  | 34 => ⟨S4x8448x1, .f32⟩
  | 35 => ⟨S4x8448x1, .f32⟩
  | 36 => ⟨S_, .f32⟩
  | 37 => ⟨S4x8448x1, .f32⟩
  | 38 => ⟨S4x8448x1, .f32⟩
  | 39 => ⟨S4x8448x1, .f32⟩
  | 40 => ⟨S4x8448x1024, .f32⟩
  | 41 => ⟨S4x8448x1024, .f32⟩
  | 42 => ⟨S1x1x1024, .f32⟩
  | 43 => ⟨S4x8448x1024, .f32⟩
  | 44 => ⟨S4x8448x1024, .f32⟩
  | 45 => ⟨S_, .f32⟩
  | 46 => ⟨S4x8448x1024, .f32⟩
  | 47 => ⟨S4x8448x1024, .f32⟩
  | 48 => ⟨S4x8448x1024, .f32⟩
  | 49 => ⟨S4x8448x1024, .f32⟩
  | 50 => ⟨S4x8448x4096, .f32⟩
  | 51 => ⟨S_, .f32⟩
  | 52 => ⟨S4x8448x4096, .f32⟩
  | 53 => ⟨S4x8448x4096, .f32⟩
  | 54 => ⟨S4x8448x4096, .f32⟩
  | 55 => ⟨S4x8448x1024, .f32⟩
  | 56 => ⟨S1x1024, .f32⟩
  | 57 => ⟨S1024, .f32⟩
  | 58 => ⟨S4x8448x1024, .f32⟩
  | 59 => ⟨S_, .f32⟩
  | 60 => ⟨S4x8448, .f32⟩
  | 61 => ⟨S4x8448x1, .f32⟩
  | 62 => ⟨S_, .f32⟩
  | 63 => ⟨S4x8448x1, .f32⟩
  | 64 => ⟨S4x8448x1, .f32⟩
  | 65 => ⟨S_, .f32⟩
  | 66 => ⟨S4x8448x1, .f32⟩
  | 67 => ⟨S4x8448x1, .f32⟩
  | 68 => ⟨S4x8448x1, .f32⟩
  | 69 => ⟨S4x8448x1024, .f32⟩
  | 70 => ⟨S4x8448x1024, .f32⟩
  | 71 => ⟨S1x1x1024, .f32⟩
  | 72 => ⟨S4x8448x1024, .f32⟩
  | 73 => ⟨S4x8448x1024, .f32⟩
  | 74 => ⟨S4x8448x1024, .f32⟩
  | 75 => ⟨S4x8448x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v40 : Ref sig .tc := ⟨.hbm, 67, rfl⟩
abbrev main_c_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_v49 : Ref sig .tc := ⟨.hbm, 80, rfl⟩
abbrev main_c_4 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst : Ref sig .tc := ⟨.hbm, 101, rfl⟩
abbrev main_v66 : Ref sig .tc := ⟨.hbm, 102, rfl⟩
abbrev main_v67 : Ref sig .tc := ⟨.hbm, 103, rfl⟩
abbrev main_cst_5 : Ref sig .tc := ⟨.hbm, 104, rfl⟩
abbrev main_v68 : Ref sig .tc := ⟨.hbm, 105, rfl⟩
abbrev main_v69 : Ref sig .tc := ⟨.hbm, 106, rfl⟩
abbrev main_cst_6 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call6_v0 : Ref sig .tc := ⟨.hbm, 119, rfl⟩
abbrev main_call6_v1 : Ref sig .tc := ⟨.hbm, 120, rfl⟩
abbrev main_call6_cst : Ref sig .tc := ⟨.hbm, 121, rfl⟩
abbrev main_call6_v2 : Ref sig .tc := ⟨.hbm, 122, rfl⟩
abbrev main_call6_v3 : Ref sig .tc := ⟨.hbm, 123, rfl⟩
abbrev main_call6_cst_0 : Ref sig .tc := ⟨.hbm, 124, rfl⟩
abbrev main_call6_v4 : Ref sig .tc := ⟨.hbm, 125, rfl⟩
abbrev main_call6_v5 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_7 : Ref sig .tc := ⟨.hbm, 138, rfl⟩
abbrev main_v92 : Ref sig .tc := ⟨.hbm, 139, rfl⟩
abbrev main_v93 : Ref sig .tc := ⟨.hbm, 140, rfl⟩
abbrev main_cst_8 : Ref sig .tc := ⟨.hbm, 141, rfl⟩
abbrev main_v94 : Ref sig .tc := ⟨.hbm, 142, rfl⟩
abbrev main_v95 : Ref sig .tc := ⟨.hbm, 143, rfl⟩
abbrev main_cst_9 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_10 : Ref sig .tc := ⟨.hbm, 158, rfl⟩
abbrev main_v109 : Ref sig .tc := ⟨.hbm, 159, rfl⟩
abbrev main_v110 : Ref sig .tc := ⟨.hbm, 160, rfl⟩
abbrev main_cst_11 : Ref sig .tc := ⟨.hbm, 161, rfl⟩
abbrev main_v111 : Ref sig .tc := ⟨.hbm, 162, rfl⟩
abbrev main_v112 : Ref sig .tc := ⟨.hbm, 163, rfl⟩
abbrev main_cst_12 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_13 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_call7_cst : Ref sig .tc := ⟨.hbm, 179, rfl⟩
abbrev main_call7_v0 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_14 : Ref sig .tc := ⟨.hbm, 187, rfl⟩
abbrev main_v132 : Ref sig .tc := ⟨.hbm, 188, rfl⟩
abbrev main_v133 : Ref sig .tc := ⟨.hbm, 189, rfl⟩
abbrev main_cst_15 : Ref sig .tc := ⟨.hbm, 190, rfl⟩
abbrev main_v134 : Ref sig .tc := ⟨.hbm, 191, rfl⟩
abbrev main_v135 : Ref sig .tc := ⟨.hbm, 192, rfl⟩
abbrev main_cst_16 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x256x1024 : Shape := ⟨3, ![4, 256, 1024]⟩
abbrev S4x33x512x256 : Shape := ⟨4, ![4, 33, 512, 256]⟩
abbrev S128 : Shape := ⟨1, ![128]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S128x1 : Shape := ⟨2, ![128, 1]⟩
abbrev S4x8448x1024 : Shape := ⟨3, ![4, 8448, 1024]⟩
abbrev S2x256x1024 : Shape := ⟨3, ![2, 256, 1024]⟩
abbrev S2x1x512x256 : Shape := ⟨4, ![2, 1, 512, 256]⟩
abbrev S2x6x1024 : Shape := ⟨3, ![2, 6, 1024]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S512x256 : Shape := ⟨2, ![512, 256]⟩
abbrev S256x512 : Shape := ⟨2, ![256, 512]⟩
abbrev S1x256x1024 : Shape := ⟨3, ![1, 256, 1024]⟩
abbrev S256x1024 : Shape := ⟨2, ![256, 1024]⟩
abbrev S1x6x1024 : Shape := ⟨3, ![1, 6, 1024]⟩
abbrev S6x1024 : Shape := ⟨2, ![6, 1024]⟩
abbrev S1x1x512x256 : Shape := ⟨4, ![1, 1, 512, 256]⟩
abbrev S1x1024 : Shape := ⟨2, ![1, 1024]⟩
abbrev S256x1 : Shape := ⟨2, ![256, 1]⟩

abbrev nBuf : Space → Nat
  | .hbm => 20
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x33x512x256, .f32⟩
  | .hbm, ⟨3, _⟩ => ⟨S4x33x512x256, .f32⟩
  | .hbm, ⟨4, _⟩ => ⟨S4x33x512x256, .f32⟩
  | .hbm, ⟨5, _⟩ => ⟨S128, .f32⟩
  | .hbm, ⟨6, _⟩ => ⟨S4x33x512x256, .bf16⟩
  | .hbm, ⟨7, _⟩ => ⟨S8x6x1024, .f32⟩
  | .hbm, ⟨8, _⟩ => ⟨S4x1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x4096, .bf16⟩
  | .hbm, ⟨17, _⟩ => ⟨S4096x1024, .bf16⟩
  | .hbm, ⟨18, _⟩ => ⟨S128x1, .f32⟩
  | .hbm, ⟨19, _⟩ => ⟨S4x8448x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x1x512x256, .f32⟩
  | .local _ .vmem, ⟨5, _⟩ => ⟨S2x1x512x256, .f32⟩
  | .local _ .vmem, ⟨6, _⟩ => ⟨S2x1x512x256, .f32⟩
  | .local _ .vmem, ⟨7, _⟩ => ⟨S2x1x512x256, .f32⟩
  | .local _ .vmem, ⟨8, _⟩ => ⟨S2x1x512x256, .f32⟩
  | .local _ .vmem, ⟨9, _⟩ => ⟨S2x1x512x256, .f32⟩
  | .local _ .vmem, ⟨10, _⟩ => ⟨S128x1, .f32⟩
  | .local _ .vmem, ⟨11, _⟩ => ⟨S2x1x512x256, .bf16⟩
  | .local _ .vmem, ⟨12, _⟩ => ⟨S2x1x512x256, .bf16⟩
  | .local _ .vmem, ⟨13, _⟩ => ⟨S2x6x1024, .f32⟩
  | .local _ .vmem, ⟨14, _⟩ => ⟨S2x6x1024, .f32⟩
  | .local _ .vmem, ⟨15, _⟩ => ⟨S4x1024, .f32⟩
  | .local _ .vmem, ⟨16, _⟩ => ⟨S512x1024, .bf16⟩
  | .local _ .vmem, ⟨17, _⟩ => ⟨S512x1024, .bf16⟩
  | .local _ .vmem, ⟨18, _⟩ => ⟨S1024x4096, .bf16⟩
  | .local _ .vmem, ⟨19, _⟩ => ⟨S4096x1024, .bf16⟩
  | .local _ .vmem, ⟨20, _⟩ => ⟨S2x256x1024, .f32⟩
  | .local _ .vmem, ⟨21, _⟩ => ⟨S2x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c2_i32 : BitVec 32 := 2#32
  let v2 : BitVec 32 := Scalar.select v1 c2_i32 arg0
  let c0_i32_1 : BitVec 32 := 0#32
  let c0_i32_2 : BitVec 32 := 0#32
  let c0_i32_3 : BitVec 32 := 0#32
  ![v2.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S4x8192x1024 : Shape := ⟨3, ![4, 8192, 1024]⟩
abbrev S4x256x1024 : Shape := ⟨3, ![4, 256, 1024]⟩
abbrev S4x33x512x256 : Shape := ⟨4, ![4, 33, 512, 256]⟩
abbrev S128 : Shape := ⟨1, ![128]⟩
abbrev S8x6x1024 : Shape := ⟨3, ![8, 6, 1024]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S4x8448x1024 : Shape := ⟨3, ![4, 8448, 1024]⟩
abbrev S8448 : Shape := ⟨1, ![8448]⟩
abbrev S8448x1 : Shape := ⟨2, ![8448, 1]⟩
abbrev S2x6x1024 : Shape := ⟨3, ![2, 6, 1024]⟩
abbrev S4x6x1024 : Shape := ⟨3, ![4, 6, 1024]⟩
abbrev S_ : Shape := ⟨0, ![]⟩
abbrev S4x1x1024 : Shape := ⟨3, ![4, 1, 1024]⟩
abbrev S4x33x256x512 : Shape := ⟨4, ![4, 33, 256, 512]⟩
abbrev S4x8448x512 : Shape := ⟨3, ![4, 8448, 512]⟩
abbrev S4x8448x4x128 : Shape := ⟨4, ![4, 8448, 4, 128]⟩
abbrev S4x8448x4 : Shape := ⟨3, ![4, 8448, 4]⟩
abbrev S4x8448x4x1 : Shape := ⟨4, ![4, 8448, 4, 1]⟩
abbrev S1x1x1x128 : Shape := ⟨4, ![1, 1, 1, 128]⟩
abbrev S1x1024 : Shape := ⟨2, ![1, 1024]⟩
abbrev S1024 : Shape := ⟨1, ![1024]⟩
abbrev S4x8448 : Shape := ⟨2, ![4, 8448]⟩
abbrev S4x8448x1 : Shape := ⟨3, ![4, 8448, 1]⟩
abbrev S1x1x1024 : Shape := ⟨3, ![1, 1, 1024]⟩
abbrev S4x8448x4096 : Shape := ⟨3, ![4, 8448, 4096]⟩

abbrev nBuf : Space → Nat
  | .hbm => 206
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x33x512x256, .f32⟩
  | 3 => ⟨S4x33x512x256, .f32⟩
  | 4 => ⟨S4x33x512x256, .f32⟩
  | 5 => ⟨S128, .f32⟩
  | 6 => ⟨S4x33x512x256, .bf16⟩
  | 7 => ⟨S8x6x1024, .f32⟩
  | 8 => ⟨S4x1024, .f32⟩
  | 9 => ⟨S1024x1024, .f32⟩
  | 10 => ⟨S1024x4096, .f32⟩
  | 11 => ⟨S4096x1024, .f32⟩
  | 12 => ⟨S4x8448x1024, .f32⟩
  | 13 => ⟨S8448, .i32⟩
  | 14 => ⟨S8448x1, .i32⟩
  | 15 => ⟨S2x6x1024, .f32⟩
  | 16 => ⟨S2x6x1024, .f32⟩
  | 17 => ⟨S4x6x1024, .f32⟩
  | 18 => ⟨S_, .i32⟩
  | 19 => ⟨S8448x1, .i32⟩
  | 20 => ⟨S8448x1, .i1⟩
  | 21 => ⟨S4x1x1024, .f32⟩
  | 22 => ⟨S4x1024, .f32⟩
  | 23 => ⟨S4x1x1024, .f32⟩
  | 24 => ⟨S4x1x1024, .f32⟩
  | 25 => ⟨S4x1024, .f32⟩
  | 26 => ⟨S4x1x1024, .f32⟩
  | 27 => ⟨S4x8448x1024, .i1⟩
  | 28 => ⟨S4x8448x1024, .f32⟩
  | 29 => ⟨S4x8448x1024, .f32⟩
  | 30 => ⟨S4x8448x1024, .f32⟩
  | 31 => ⟨S_, .i32⟩
  | 32 => ⟨S8448x1, .i32⟩
  | 33 => ⟨S8448x1, .i1⟩
  | 34 => ⟨S4x1x1024, .f32⟩
  | 35 => ⟨S4x1024, .f32⟩
  | 36 => ⟨S4x1x1024, .f32⟩
  | 37 => ⟨S4x1x1024, .f32⟩
  | 38 => ⟨S4x1024, .f32⟩
  | 39 => ⟨S4x1x1024, .f32⟩
  | 40 => ⟨S4x8448x1024, .i1⟩
  | 41 => ⟨S4x8448x1024, .f32⟩
  | 42 => ⟨S4x8448x1024, .f32⟩
  | 43 => ⟨S4x8448x1024, .f32⟩
  | 44 => ⟨S_, .i32⟩
  | 45 => ⟨S8448x1, .i32⟩
  | 46 => ⟨S8448x1, .i1⟩
  | 47 => ⟨S4x1x1024, .f32⟩
  | 48 => ⟨S4x1024, .f32⟩
  | 49 => ⟨S4x1x1024, .f32⟩
  | 50 => ⟨S4x1x1024, .f32⟩
  | 51 => ⟨S4x1024, .f32⟩
  | 52 => ⟨S4x1x1024, .f32⟩
  | 53 => ⟨S4x8448x1024, .i1⟩
  | 54 => ⟨S4x8448x1024, .f32⟩
  | 55 => ⟨S4x8448x1024, .f32⟩
  | 56 => ⟨S4x8448x1024, .f32⟩
  | 57 => ⟨S_, .i32⟩
  | 58 => ⟨S8448x1, .i32⟩
  | 59 => ⟨S8448x1, .i1⟩
  | 60 => ⟨S4x1x1024, .f32⟩
  | 61 => ⟨S4x1024, .f32⟩
  | 62 => ⟨S4x1x1024, .f32⟩
  | 63 => ⟨S4x1x1024, .f32⟩
  | 64 => ⟨S4x1024, .f32⟩
  | 65 => ⟨S4x1x1024, .f32⟩
  | 66 => ⟨S4x8448x1024, .i1⟩
  | 67 => ⟨S4x8448x1024, .f32⟩
  | 68 => ⟨S4x8448x1024, .f32⟩
  | 69 => ⟨S4x8448x1024, .f32⟩
  | 70 => ⟨S_, .i32⟩
  | 71 => ⟨S8448x1, .i32⟩
  | 72 => ⟨S8448x1, .i1⟩
  | 73 => ⟨S4x1x1024, .f32⟩
  | 74 => ⟨S4x1024, .f32⟩
  | 75 => ⟨S4x1x1024, .f32⟩
  | 76 => ⟨S4x1x1024, .f32⟩
  | 77 => ⟨S4x1024, .f32⟩
  | 78 => ⟨S4x1x1024, .f32⟩
  | 79 => ⟨S4x8448x1024, .i1⟩
  | 80 => ⟨S4x8448x1024, .f32⟩
  | 81 => ⟨S4x8448x1024, .f32⟩
  | 82 => ⟨S4x8448x1024, .f32⟩
  | 83 => ⟨S_, .i32⟩
  | 84 => ⟨S8448x1, .i32⟩
  | 85 => ⟨S8448x1, .i1⟩
  | 86 => ⟨S4x1x1024, .f32⟩
  | 87 => ⟨S4x1024, .f32⟩
  | 88 => ⟨S4x1x1024, .f32⟩
  | 89 => ⟨S4x1x1024, .f32⟩
  | 90 => ⟨S4x1024, .f32⟩
  | 91 => ⟨S4x1x1024, .f32⟩
  | 92 => ⟨S4x8448x1024, .i1⟩
  | 93 => ⟨S4x8448x1024, .f32⟩
  | 94 => ⟨S4x8448x1024, .f32⟩
  | 95 => ⟨S4x8448x1024, .f32⟩
  | 96 => ⟨S4x33x256x512, .f32⟩
  | 97 => ⟨S4x8448x512, .f32⟩
  | 98 => ⟨S4x33x256x512, .f32⟩
  | 99 => ⟨S4x8448x512, .f32⟩
  | 100 => ⟨S4x8448x512, .f32⟩
  | 101 => ⟨S4x8448x4x128, .f32⟩
  | 102 => ⟨S4x8448x4x128, .f32⟩
  | 103 => ⟨S_, .f32⟩
  | 104 => ⟨S4x8448x4, .f32⟩
  | 105 => ⟨S4x8448x4x1, .f32⟩
  | 106 => ⟨S_, .f32⟩
  | 107 => ⟨S4x8448x4x1, .f32⟩
  | 108 => ⟨S4x8448x4x1, .f32⟩
  | 109 => ⟨S_, .f32⟩
  | 110 => ⟨S4x8448x4x1, .f32⟩
  | 111 => ⟨S4x8448x4x1, .f32⟩
  | 112 => ⟨S4x8448x4x1, .f32⟩
  | 113 => ⟨S4x8448x4x128, .f32⟩
  | 114 => ⟨S4x8448x4x128, .f32⟩
  | 115 => ⟨S1x1x1x128, .f32⟩
  | 116 => ⟨S4x8448x4x128, .f32⟩
  | 117 => ⟨S4x8448x4x128, .f32⟩
  | 118 => ⟨S4x33x256x512, .f32⟩
  | 119 => ⟨S4x8448x512, .f32⟩
  | 120 => ⟨S4x8448x4x128, .f32⟩
  | 121 => ⟨S4x8448x4x128, .f32⟩
  | 122 => ⟨S4x8448x4x128, .f32⟩
  | 123 => ⟨S_, .f32⟩
  | 124 => ⟨S4x8448x4x128, .f32⟩
  | 125 => ⟨S4x8448x4x128, .f32⟩
  | 126 => ⟨S_, .f32⟩
  | 127 => ⟨S4x8448x4x128, .f32⟩
  | _ => ⟨S4x8192x1024, .f32⟩

abbrev hbmTy0_1 (i : Nat) : BufTy := match i % 128 with
  | 0 => ⟨S4x8448x4x128, .f32⟩
  | 1 => ⟨S4x8448x4x128, .f32⟩
  | 2 => ⟨S4x8448x4x128, .f32⟩
  | 3 => ⟨S4x8448x512, .f32⟩
  | 4 => ⟨S4x33x512x256, .f32⟩
  | 5 => ⟨S4x33x256x512, .f32⟩
  | 6 => ⟨S4x8448x512, .f32⟩
  | 7 => ⟨S4x8448x1024, .f32⟩
  | 8 => ⟨S4x8448x1024, .f32⟩
  | 9 => ⟨S1x1024, .f32⟩
  | 10 => ⟨S1024, .f32⟩
  | 11 => ⟨S4x8448x1024, .f32⟩
  | 12 => ⟨S_, .f32⟩
  | 13 => ⟨S4x8448, .f32⟩
  | 14 => ⟨S4x8448x1, .f32⟩
  | 15 => ⟨S_, .f32⟩
  | 16 => ⟨S4x8448x1, .f32⟩
  | 17 => ⟨S4x8448x1, .f32⟩
  | 18 => ⟨S_, .f32⟩
  | 19 => ⟨S4x8448x1, .f32⟩
  | 20 => ⟨S4x8448x1, .f32⟩
  | 21 => ⟨S4x8448x1, .f32⟩
  | 22 => ⟨S4x8448x1024, .f32⟩
  | 23 => ⟨S4x8448x1024, .f32⟩
  | 24 => ⟨S1x1x1024, .f32⟩
  | 25 => ⟨S4x8448x1024, .f32⟩
  | 26 => ⟨S4x8448x1024, .f32⟩
  | 27 => ⟨S4x8448x1024, .f32⟩
  | 28 => ⟨S4x8448x1024, .f32⟩
  | 29 => ⟨S1x1024, .f32⟩
  | 30 => ⟨S1024, .f32⟩
  | 31 => ⟨S4x8448x1024, .f32⟩
  | 32 => ⟨S_, .f32⟩
  | 33 => ⟨S4x8448, .f32⟩
  | 34 => ⟨S4x8448x1, .f32⟩
  | 35 => ⟨S_, .f32⟩
  | 36 => ⟨S4x8448x1, .f32⟩
  | 37 => ⟨S4x8448x1, .f32⟩
  | 38 => ⟨S_, .f32⟩
  | 39 => ⟨S4x8448x1, .f32⟩
  | 40 => ⟨S4x8448x1, .f32⟩
  | 41 => ⟨S4x8448x1, .f32⟩
  | 42 => ⟨S4x8448x1024, .f32⟩
  | 43 => ⟨S4x8448x1024, .f32⟩
  | 44 => ⟨S1x1x1024, .f32⟩
  | 45 => ⟨S4x8448x1024, .f32⟩
  | 46 => ⟨S4x8448x1024, .f32⟩
  | 47 => ⟨S_, .f32⟩
  | 48 => ⟨S4x8448x1024, .f32⟩
  | 49 => ⟨S4x8448x1024, .f32⟩
  | 50 => ⟨S4x8448x1024, .f32⟩
  | 51 => ⟨S4x8448x1024, .f32⟩
  | 52 => ⟨S4x8448x4096, .f32⟩
  | 53 => ⟨S_, .f32⟩
  | 54 => ⟨S4x8448x4096, .f32⟩
  | 55 => ⟨S4x8448x4096, .f32⟩
  | 56 => ⟨S4x8448x4096, .f32⟩
  | 57 => ⟨S4x8448x1024, .f32⟩
  | 58 => ⟨S1x1024, .f32⟩
  | 59 => ⟨S1024, .f32⟩
  | 60 => ⟨S4x8448x1024, .f32⟩
  | 61 => ⟨S_, .f32⟩
  | 62 => ⟨S4x8448, .f32⟩
  | 63 => ⟨S4x8448x1, .f32⟩
  | 64 => ⟨S_, .f32⟩
  | 65 => ⟨S4x8448x1, .f32⟩
  | 66 => ⟨S4x8448x1, .f32⟩
  | 67 => ⟨S_, .f32⟩
  | 68 => ⟨S4x8448x1, .f32⟩
  | 69 => ⟨S4x8448x1, .f32⟩
  | 70 => ⟨S4x8448x1, .f32⟩
  | 71 => ⟨S4x8448x1024, .f32⟩
  | 72 => ⟨S4x8448x1024, .f32⟩
  | 73 => ⟨S1x1x1024, .f32⟩
  | 74 => ⟨S4x8448x1024, .f32⟩
  | 75 => ⟨S4x8448x1024, .f32⟩
  | 76 => ⟨S4x8448x1024, .f32⟩
  | 77 => ⟨S4x8448x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_c_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v32 : Ref sig .tc := ⟨.hbm, 56, rfl⟩
abbrev main_c_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v41 : Ref sig .tc := ⟨.hbm, 69, rfl⟩
abbrev main_c_3 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v50 : Ref sig .tc := ⟨.hbm, 82, rfl⟩
abbrev main_c_4 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst : Ref sig .tc := ⟨.hbm, 103, rfl⟩
abbrev main_v67 : Ref sig .tc := ⟨.hbm, 104, rfl⟩
abbrev main_v68 : Ref sig .tc := ⟨.hbm, 105, rfl⟩
abbrev main_cst_5 : Ref sig .tc := ⟨.hbm, 106, rfl⟩
abbrev main_v69 : Ref sig .tc := ⟨.hbm, 107, rfl⟩
abbrev main_v70 : Ref sig .tc := ⟨.hbm, 108, rfl⟩
abbrev main_cst_6 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_7 : Ref sig .tc := ⟨.hbm, 140, rfl⟩
abbrev main_v93 : Ref sig .tc := ⟨.hbm, 141, rfl⟩
abbrev main_v94 : Ref sig .tc := ⟨.hbm, 142, rfl⟩
abbrev main_cst_8 : Ref sig .tc := ⟨.hbm, 143, rfl⟩
abbrev main_v95 : Ref sig .tc := ⟨.hbm, 144, rfl⟩
abbrev main_v96 : Ref sig .tc := ⟨.hbm, 145, rfl⟩
abbrev main_cst_9 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_10 : Ref sig .tc := ⟨.hbm, 160, rfl⟩
abbrev main_v110 : Ref sig .tc := ⟨.hbm, 161, rfl⟩
abbrev main_v111 : Ref sig .tc := ⟨.hbm, 162, rfl⟩
abbrev main_cst_11 : Ref sig .tc := ⟨.hbm, 163, rfl⟩
abbrev main_v112 : Ref sig .tc := ⟨.hbm, 164, rfl⟩
abbrev main_v113 : Ref sig .tc := ⟨.hbm, 165, rfl⟩
abbrev main_cst_12 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_13 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call7_cst : Ref sig .tc := ⟨.hbm, 181, rfl⟩
abbrev main_call7_v0 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_14 : Ref sig .tc := ⟨.hbm, 189, rfl⟩
abbrev main_v133 : Ref sig .tc := ⟨.hbm, 190, rfl⟩
abbrev main_v134 : Ref sig .tc := ⟨.hbm, 191, rfl⟩
abbrev main_cst_15 : Ref sig .tc := ⟨.hbm, 192, rfl⟩
abbrev main_v135 : Ref sig .tc := ⟨.hbm, 193, rfl⟩
abbrev main_v136 : Ref sig .tc := ⟨.hbm, 194, rfl⟩
abbrev main_cst_16 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩

abbrev nD : Nat := 1
abbrev τ : Topo := Topo.v7x

variable {F : FTy → Type} [FloatOps F]
-- ==== Kernel6.lean ====
abbrev S4x8448x1024 : Shape := ⟨3, ![4, 8448, 1024]⟩
abbrev S8x6x1024 : Shape := ⟨3, ![8, 6, 1024]⟩
abbrev S1x1024 : Shape := ⟨2, ![1, 1024]⟩
abbrev S1024x3072 : Shape := ⟨2, ![1024, 3072]⟩
abbrev S3x1536 : Shape := ⟨2, ![3, 1536]⟩
abbrev S1536 : Shape := ⟨1, ![1536]⟩
abbrev S32x8448 : Shape := ⟨2, ![32, 8448]⟩
abbrev S512 : Shape := ⟨1, ![512]⟩
abbrev S1024x1536 : Shape := ⟨2, ![1024, 1536]⟩
abbrev S1024x512 : Shape := ⟨2, ![1024, 512]⟩
abbrev S_ : Shape := ⟨0, ![]⟩
abbrev S512x1 : Shape := ⟨2, ![512, 1]⟩
abbrev S1536x1024 : Shape := ⟨2, ![1536, 1024]⟩
abbrev S1x1536 : Shape := ⟨2, ![1, 1536]⟩
abbrev S4x8448x512 : Shape := ⟨3, ![4, 8448, 512]⟩
abbrev S4x33x512x256 : Shape := ⟨4, ![4, 33, 512, 256]⟩
abbrev S4x33x576x256 : Shape := ⟨4, ![4, 33, 576, 256]⟩
abbrev S4x33x8x128 : Shape := ⟨4, ![4, 33, 8, 128]⟩
abbrev S4x256x1024 : Shape := ⟨3, ![4, 256, 1024]⟩
abbrev S4x8x1024 : Shape := ⟨3, ![4, 8, 1024]⟩
abbrev S4x6x1024 : Shape := ⟨3, ![4, 6, 1024]⟩
abbrev S32x256 : Shape := ⟨2, ![32, 256]⟩
abbrev S4x256x512 : Shape := ⟨3, ![4, 256, 512]⟩
abbrev S4x1x512x256 : Shape := ⟨4, ![4, 1, 512, 256]⟩
abbrev S4x1x576x256 : Shape := ⟨4, ![4, 1, 576, 256]⟩
abbrev S4x1x8x128 : Shape := ⟨4, ![4, 1, 8, 128]⟩
abbrev S1x256x1024 : Shape := ⟨3, ![1, 256, 1024]⟩
abbrev S256x1024 : Shape := ⟨2, ![256, 1024]⟩
abbrev S1x6x1024 : Shape := ⟨3, ![1, 6, 1024]⟩
abbrev S6x1024 : Shape := ⟨2, ![6, 1024]⟩
abbrev S256 : Shape := ⟨1, ![256]⟩
abbrev S256x1 : Shape := ⟨2, ![256, 1]⟩
abbrev S1x8x1024 : Shape := ⟨3, ![1, 8, 1024]⟩
abbrev S8x1024 : Shape := ⟨2, ![8, 1024]⟩
abbrev S8 : Shape := ⟨1, ![8]⟩
abbrev S8x1 : Shape := ⟨2, ![8, 1]⟩
abbrev S272x1024 : Shape := ⟨2, ![272, 1024]⟩
abbrev S272x1536 : Shape := ⟨2, ![272, 1536]⟩
abbrev S1536x256 : Shape := ⟨2, ![1536, 256]⟩
abbrev S16x256 : Shape := ⟨2, ![16, 256]⟩
abbrev S256x1536 : Shape := ⟨2, ![256, 1536]⟩
abbrev S256x512 : Shape := ⟨2, ![256, 512]⟩
abbrev S1x256x512 : Shape := ⟨3, ![1, 256, 512]⟩
abbrev S64x256 : Shape := ⟨2, ![64, 256]⟩
abbrev S1x1x32x256 : Shape := ⟨4, ![1, 1, 32, 256]⟩
abbrev S1x256 : Shape := ⟨2, ![1, 256]⟩
abbrev S1 : Shape := ⟨1, ![1]⟩
abbrev S1x1 : Shape := ⟨2, ![1, 1]⟩
abbrev S1x128 : Shape := ⟨2, ![1, 128]⟩
abbrev S512x256 : Shape := ⟨2, ![512, 256]⟩
abbrev S8x128 : Shape := ⟨2, ![8, 128]⟩
abbrev S1x1x8x128 : Shape := ⟨4, ![1, 1, 8, 128]⟩
abbrev S128x256 : Shape := ⟨2, ![128, 256]⟩
abbrev S1x1x128x256 : Shape := ⟨4, ![1, 1, 128, 256]⟩
abbrev S1x1x16x256 : Shape := ⟨4, ![1, 1, 16, 256]⟩

abbrev nBuf : Space → Nat
  | .hbm => 39
  | .vmem => 31
  | .smem => 0
  | _ => 0

abbrev bufTy : (tb : Table) → Fin (tcTables nBuf tb) → BufTy
  | .hbm, ⟨0, _⟩ => ⟨S4x8448x1024, .f32⟩
  | .hbm, ⟨1, _⟩ => ⟨S8x6x1024, .f32⟩
  | .hbm, ⟨2, _⟩ => ⟨S1x1024, .f32⟩
  | .hbm, ⟨3, _⟩ => ⟨S1024x3072, .f32⟩
  | .hbm, ⟨4, _⟩ => ⟨S3x1536, .f32⟩
  | .hbm, ⟨5, _⟩ => ⟨S1536, .f32⟩
  | .hbm, ⟨6, _⟩ => ⟨S32x8448, .f32⟩
  | .hbm, ⟨7, _⟩ => ⟨S32x8448, .f32⟩
  | .hbm, ⟨8, _⟩ => ⟨S512, .i32⟩
  | .hbm, ⟨9, _⟩ => ⟨S512, .i1⟩
  | .hbm, ⟨10, _⟩ => ⟨S512, .i1⟩
  | .hbm, ⟨11, _⟩ => ⟨S1024x1536, .f32⟩
  | .hbm, ⟨12, _⟩ => ⟨S1024x1536, .bf16⟩
  | .hbm, ⟨13, _⟩ => ⟨S1024x512, .f32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1024x512, .f32⟩
  | .hbm, ⟨20, _⟩ => ⟨S1024x512, .f32⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1024x512, .f32⟩
  | .hbm, ⟨27, _⟩ => ⟨S1024x512, .f32⟩
  | .hbm, ⟨28, _⟩ => ⟨S1024x1536, .f32⟩
  | .hbm, ⟨29, _⟩ => ⟨S1536x1024, .f32⟩
  | .hbm, ⟨30, _⟩ => ⟨S1536x1024, .bf16⟩
  | .hbm, ⟨31, _⟩ => ⟨S1x1536, .f32⟩
  | .hbm, ⟨32, _⟩ => ⟨S4x8448x512, .f32⟩
  | .hbm, ⟨33, _⟩ => ⟨S4x8448x512, .f32⟩
  | .hbm, ⟨34, _⟩ => ⟨S4x8448x512, .f32⟩
  | .hbm, ⟨35, _⟩ => ⟨S4x33x512x256, .bf16⟩
  | .hbm, ⟨36, _⟩ => ⟨S4x8448x512, .bf16⟩
  | .hbm, ⟨37, _⟩ => ⟨S4x33x576x256, .bf16⟩
  | .hbm, ⟨38, _⟩ => ⟨S4x33x8x128, .f32⟩
  | .local _ .vmem, ⟨0, _⟩ => ⟨S4x256x1024, .f32⟩
  | .local _ .vmem, ⟨1, _⟩ => ⟨S4x256x1024, .f32⟩
  | .local _ .vmem, ⟨2, _⟩ => ⟨S4x8x1024, .f32⟩
  | .local _ .vmem, ⟨3, _⟩ => ⟨S4x8x1024, .f32⟩
  | .local _ .vmem, ⟨4, _⟩ => ⟨S4x8x1024, .f32⟩
  | .local _ .vmem, ⟨5, _⟩ => ⟨S4x8x1024, .f32⟩
  | .local _ .vmem, ⟨6, _⟩ => ⟨S4x6x1024, .f32⟩
  | .local _ .vmem, ⟨7, _⟩ => ⟨S4x6x1024, .f32⟩
  | .local _ .vmem, ⟨8, _⟩ => ⟨S1x1024, .f32⟩
  | .local _ .vmem, ⟨9, _⟩ => ⟨S1024x1536, .bf16⟩
  | .local _ .vmem, ⟨10, _⟩ => ⟨S1536x1024, .bf16⟩
  | .local _ .vmem, ⟨11, _⟩ => ⟨S3x1536, .f32⟩
  | .local _ .vmem, ⟨12, _⟩ => ⟨S1x1536, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S4x256x512, .f32⟩
  | .local _ .vmem, ⟨18, _⟩ => ⟨S4x256x512, .f32⟩
  | .local _ .vmem, ⟨19, _⟩ => ⟨S4x256x512, .f32⟩
  | .local _ .vmem, ⟨20, _⟩ => ⟨S4x256x512, .f32⟩
  | .local _ .vmem, ⟨21, _⟩ => ⟨S4x256x512, .f32⟩
  | .local _ .vmem, ⟨22, _⟩ => ⟨S4x256x512, .f32⟩
  | .local _ .vmem, ⟨23, _⟩ => ⟨S4x1x512x256, .bf16⟩
  | .local _ .vmem, ⟨24, _⟩ => ⟨S4x1x512x256, .bf16⟩
  | .local _ .vmem, ⟨25, _⟩ => ⟨S4x256x512, .bf16⟩
  | .local _ .vmem, ⟨26, _⟩ => ⟨S4x256x512, .bf16⟩
  | .local _ .vmem, ⟨27, _⟩ => ⟨S4x1x576x256, .bf16⟩
  | .local _ .vmem, ⟨28, _⟩ => ⟨S4x1x576x256, .bf16⟩
  | .local _ .vmem, ⟨29, _⟩ => ⟨S4x1x8x128, .f32⟩
  | .local _ .vmem, ⟨30, _⟩ => ⟨S4x1x8x128, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev main_v19_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![1, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.select v0 c1_i32 arg0
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x1x576x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4x1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference6Ideal.lean ====
abbrev S4x8448x1024 : Shape := ⟨3, ![4, 8448, 1024]⟩
abbrev S8x6x1024 : Shape := ⟨3, ![8, 6, 1024]⟩
abbrev S1x1024 : Shape := ⟨2, ![1, 1024]⟩
abbrev S1024x3072 : Shape := ⟨2, ![1024, 3072]⟩
abbrev S3x1536 : Shape := ⟨2, ![3, 1536]⟩
abbrev S1536 : Shape := ⟨1, ![1536]⟩
abbrev S32x8448 : Shape := ⟨2, ![32, 8448]⟩
abbrev S8448 : Shape := ⟨1, ![8448]⟩
abbrev S8448x1 : Shape := ⟨2, ![8448, 1]⟩
abbrev S_ : Shape := ⟨0, ![]⟩
abbrev S4x1x1024 : Shape := ⟨3, ![4, 1, 1024]⟩
abbrev S4x1024 : Shape := ⟨2, ![4, 1024]⟩
abbrev S1024 : Shape := ⟨1, ![1024]⟩
abbrev S4x8448 : Shape := ⟨2, ![4, 8448]⟩
abbrev S4x8448x1 : Shape := ⟨3, ![4, 8448, 1]⟩
abbrev S1x1x1024 : Shape := ⟨3, ![1, 1, 1024]⟩
abbrev S4x8448x3072 : Shape := ⟨3, ![4, 8448, 3072]⟩
abbrev S4x8448x1536 : Shape := ⟨3, ![4, 8448, 1536]⟩
abbrev S4x8448x512 : Shape := ⟨3, ![4, 8448, 512]⟩
abbrev S4x8448x8x64 : Shape := ⟨4, ![4, 8448, 8, 64]⟩
abbrev S8448x32 : Shape := ⟨2, ![8448, 32]⟩
abbrev S8448x1x32 : Shape := ⟨3, ![8448, 1, 32]⟩
abbrev S4x8448x8x32x2 : Shape := ⟨5, ![4, 8448, 8, 32, 2]⟩
abbrev S4x8448x8x32x1 : Shape := ⟨5, ![4, 8448, 8, 32, 1]⟩
abbrev S4x8448x8x32 : Shape := ⟨4, ![4, 8448, 8, 32]⟩
abbrev S1x8448x1x32 : Shape := ⟨4, ![1, 8448, 1, 32]⟩
abbrev S4x256x1536 : Shape := ⟨3, ![4, 256, 1536]⟩
abbrev S4x258x1536 : Shape := ⟨3, ![4, 258, 1536]⟩
abbrev S1x1536 : Shape := ⟨2, ![1, 1536]⟩
abbrev S1x1x1536 : Shape := ⟨3, ![1, 1, 1536]⟩
abbrev S4x8192x1536 : Shape := ⟨3, ![4, 8192, 1536]⟩
abbrev S4x8194x1536 : Shape := ⟨3, ![4, 8194, 1536]⟩
abbrev S4x33x256x8x64 : Shape := ⟨5, ![4, 33, 256, 8, 64]⟩
abbrev S4x33x256x8 : Shape := ⟨4, ![4, 33, 256, 8]⟩
abbrev S4x33x8 : Shape := ⟨3, ![4, 33, 8]⟩
abbrev S4x33x256x512 : Shape := ⟨4, ![4, 33, 256, 512]⟩
abbrev S4x33x512x256 : Shape := ⟨4, ![4, 33, 512, 256]⟩
abbrev S4x33x4x128x256 : Shape := ⟨5, ![4, 33, 4, 128, 256]⟩
abbrev S4x33x4x16x256 : Shape := ⟨5, ![4, 33, 4, 16, 256]⟩
abbrev S4x33x4x144x256 : Shape := ⟨5, ![4, 33, 4, 144, 256]⟩
abbrev S4x33x576x256 : Shape := ⟨4, ![4, 33, 576, 256]⟩
abbrev S4x33x8x1 : Shape := ⟨4, ![4, 33, 8, 1]⟩
abbrev S4x33x8x128 : Shape := ⟨4, ![4, 33, 8, 128]⟩

abbrev nBuf : Space → Nat
  | .hbm => 196
  | .vmem => 0
  | .smem => 0
  | _ => 0

abbrev hbmTy0_0 (i : Nat) : BufTy := match i % 128 with
  | 0 => ⟨S4x8448x1024, .f32⟩
  | 1 => ⟨S8x6x1024, .f32⟩
  | 2 => ⟨S1x1024, .f32⟩
  | 3 => ⟨S1024x3072, .f32⟩
  | 4 => ⟨S3x1536, .f32⟩
  | 5 => ⟨S1536, .f32⟩
  | 6 => ⟨S32x8448, .f32⟩
  | 7 => ⟨S32x8448, .f32⟩
  | 8 => ⟨S8448, .i32⟩
  | 9 => ⟨S8448x1, .i32⟩
  | 10 => ⟨S_, .i32⟩
  | 11 => ⟨S8448x1, .i32⟩
  | 12 => ⟨S8448x1, .i1⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x8448x1024, .i1⟩
  | 20 => ⟨S4x8448x1024, .f32⟩
  | 21 => ⟨S4x8448x1024, .f32⟩
  | 22 => ⟨S4x8448x1024, .f32⟩
  | 23 => ⟨S_, .i32⟩
  | 24 => ⟨S8448x1, .i32⟩
  | 25 => ⟨S8448x1, .i1⟩
  | 26 => ⟨S4x1x1024, .f32⟩
  | 27 => ⟨S4x1024, .f32⟩
  | 28 => ⟨S4x1x1024, .f32⟩
  | 29 => ⟨S4x1x1024, .f32⟩
  | 30 => ⟨S4x1024, .f32⟩
  | 31 => ⟨S4x1x1024, .f32⟩
  | 32 => ⟨S4x8448x1024, .i1⟩
  | 33 => ⟨S4x8448x1024, .f32⟩
  | 34 => ⟨S4x8448x1024, .f32⟩
  | 35 => ⟨S4x8448x1024, .f32⟩
  | 36 => ⟨S1024, .f32⟩
  | 37 => ⟨S4x8448x1024, .f32⟩
  | 38 => ⟨S_, .f32⟩
  | 39 => ⟨S4x8448, .f32⟩
  | 40 => ⟨S4x8448x1, .f32⟩
  | 41 => ⟨S_, .f32⟩
  | 42 => ⟨S4x8448x1, .f32⟩
  | 43 => ⟨S4x8448x1, .f32⟩
  | 44 => ⟨S_, .f32⟩
  | 45 => ⟨S4x8448x1, .f32⟩
  | 46 => ⟨S4x8448x1, .f32⟩
  | 47 => ⟨S4x8448x1, .f32⟩
  | 48 => ⟨S4x8448x1024, .f32⟩
  | 49 => ⟨S4x8448x1024, .f32⟩
  | 50 => ⟨S1x1x1024, .f32⟩
  | 51 => ⟨S4x8448x1024, .f32⟩
  | 52 => ⟨S4x8448x1024, .f32⟩
  | 53 => ⟨S_, .f32⟩
  | 54 => ⟨S4x8448x1024, .f32⟩
  | 55 => ⟨S4x8448x1024, .f32⟩
  | 56 => ⟨S4x8448x1024, .f32⟩
  | 57 => ⟨S4x8448x1024, .f32⟩
  | 58 => ⟨S4x8448x3072, .f32⟩
  | 59 => ⟨S4x8448x1536, .f32⟩
  | 60 => ⟨S4x8448x512, .f32⟩
  | 61 => ⟨S4x8448x512, .f32⟩
  | 62 => ⟨S4x8448x512, .f32⟩
  | 63 => ⟨S4x8448x8x64, .f32⟩
  | 64 => ⟨S8448x32, .f32⟩
  | 65 => ⟨S8448x32, .f32⟩
  | 66 => ⟨S8448x1x32, .f32⟩
  | 67 => ⟨S8448x1x32, .f32⟩
  | 68 => ⟨S4x8448x8x32x2, .f32⟩
  | 69 => ⟨S4x8448x8x32x1, .f32⟩
  | 70 => ⟨S4x8448x8x32, .f32⟩
  | 71 => ⟨S4x8448x8x32x1, .f32⟩
  | 72 => ⟨S4x8448x8x32, .f32⟩
  | 73 => ⟨S1x8448x1x32, .f32⟩
  | 74 => ⟨S4x8448x8x32, .f32⟩
  | 75 => ⟨S4x8448x8x32, .f32⟩
  | 76 => ⟨S1x8448x1x32, .f32⟩
  | 77 => ⟨S4x8448x8x32, .f32⟩
  | 78 => ⟨S4x8448x8x32, .f32⟩
  | 79 => ⟨S4x8448x8x32, .f32⟩
  | 80 => ⟨S1x8448x1x32, .f32⟩
  | 81 => ⟨S4x8448x8x32, .f32⟩
  | 82 => ⟨S4x8448x8x32, .f32⟩
  | 83 => ⟨S1x8448x1x32, .f32⟩
  | 84 => ⟨S4x8448x8x32, .f32⟩
  | 85 => ⟨S4x8448x8x32, .f32⟩
  | 86 => ⟨S4x8448x8x32, .f32⟩
  | 87 => ⟨S4x8448x8x64, .f32⟩
  | 88 => ⟨S4x8448x512, .f32⟩
  | 89 => ⟨S_, .f32⟩
  | 90 => ⟨S4x8448x512, .f32⟩
  | 91 => ⟨S4x8448x512, .f32⟩
  | 92 => ⟨S4x256x1536, .f32⟩
  | 93 => ⟨S_, .i32⟩
  | 94 => ⟨S_, .f32⟩
  | 95 => ⟨S4x258x1536, .f32⟩
  | 96 => ⟨S4x256x1536, .f32⟩
  | 97 => ⟨S1x1536, .f32⟩
  | 98 => ⟨S1536, .f32⟩
  | 99 => ⟨S1x1x1536, .f32⟩
  | 100 => ⟨S4x256x1536, .f32⟩
  | 101 => ⟨S4x256x1536, .f32⟩
  | 102 => ⟨S4x256x1536, .f32⟩
  | 103 => ⟨S1x1536, .f32⟩
  | 104 => ⟨S1536, .f32⟩
  | 105 => ⟨S1x1x1536, .f32⟩
  | 106 => ⟨S4x256x1536, .f32⟩
  | 107 => ⟨S4x256x1536, .f32⟩
  | 108 => ⟨S4x256x1536, .f32⟩
  | 109 => ⟨S4x256x1536, .f32⟩
  | 110 => ⟨S1x1536, .f32⟩
  | 111 => ⟨S1536, .f32⟩
  | 112 => ⟨S1x1x1536, .f32⟩
  | 113 => ⟨S4x256x1536, .f32⟩
  | 114 => ⟨S4x256x1536, .f32⟩
  | 115 => ⟨S4x256x1536, .f32⟩
  | 116 => ⟨S1x1x1536, .f32⟩
  | 117 => ⟨S4x256x1536, .f32⟩
  | 118 => ⟨S4x256x1536, .f32⟩
  | 119 => ⟨S4x8448x8x64, .f32⟩
  | 120 => ⟨S8448x32, .f32⟩
  | 121 => ⟨S8448x32, .f32⟩
  | 122 => ⟨S8448x1x32, .f32⟩
  | 123 => ⟨S8448x1x32, .f32⟩
  | 124 => ⟨S4x8448x8x32x2, .f32⟩
  | 125 => ⟨S4x8448x8x32x1, .f32⟩
  | 126 => ⟨S4x8448x8x32, .f32⟩
  | 127 => ⟨S4x8448x8x32x1, .f32⟩
  | _ => ⟨S4x8448x1024, .f32⟩

abbrev hbmTy0_1 (i : Nat) : BufTy := match i % 128 with
  | 0 => ⟨S4x8448x8x32, .f32⟩
  | 1 => ⟨S1x8448x1x32, .f32⟩
  | 2 => ⟨S4x8448x8x32, .f32⟩
  | 3 => ⟨S4x8448x8x32, .f32⟩
  | 4 => ⟨S1x8448x1x32, .f32⟩
  | 5 => ⟨S4x8448x8x32, .f32⟩
  | 6 => ⟨S4x8448x8x32, .f32⟩
  | 7 => ⟨S4x8448x8x32, .f32⟩
  | 8 => ⟨S1x8448x1x32, .f32⟩
  | 9 => ⟨S4x8448x8x32, .f32⟩
  | 10 => ⟨S4x8448x8x32, .f32⟩
  | 11 => ⟨S1x8448x1x32, .f32⟩
  | 12 => ⟨S4x8448x8x32, .f32⟩
  | 13 => ⟨S4x8448x8x32, .f32⟩
  | 14 => ⟨S4x8448x8x32, .f32⟩
  | 15 => ⟨S4x8448x8x64, .f32⟩
  | 16 => ⟨S4x8448x512, .f32⟩
  | 17 => ⟨S4x8192x1536, .f32⟩
  | 18 => ⟨S_, .i32⟩
  | 19 => ⟨S_, .f32⟩
  | 20 => ⟨S4x8194x1536, .f32⟩
  | 21 => ⟨S4x8192x1536, .f32⟩
  | 22 => ⟨S1x1536, .f32⟩
  | 23 => ⟨S1536, .f32⟩
  | 24 => ⟨S1x1x1536, .f32⟩
  | 25 => ⟨S4x8192x1536, .f32⟩
  | 26 => ⟨S4x8192x1536, .f32⟩
  | 27 => ⟨S4x8192x1536, .f32⟩
  | 28 => ⟨S1x1536, .f32⟩
  | 29 => ⟨S1536, .f32⟩
  | 30 => ⟨S1x1x1536, .f32⟩
  | 31 => ⟨S4x8192x1536, .f32⟩
  | 32 => ⟨S4x8192x1536, .f32⟩
  | 33 => ⟨S4x8192x1536, .f32⟩
  | 34 => ⟨S4x8192x1536, .f32⟩
  | 35 => ⟨S1x1536, .f32⟩
  | 36 => ⟨S1536, .f32⟩
  | 37 => ⟨S1x1x1536, .f32⟩
  | 38 => ⟨S4x8192x1536, .f32⟩
  | 39 => ⟨S4x8192x1536, .f32⟩
  | 40 => ⟨S4x8192x1536, .f32⟩
  | 41 => ⟨S1x1x1536, .f32⟩
  | 42 => ⟨S4x8192x1536, .f32⟩
  | 43 => ⟨S4x8192x1536, .f32⟩
  | 44 => ⟨S4x8448x1536, .f32⟩
  | 45 => ⟨S4x8448x512, .f32⟩
  | 46 => ⟨S4x8448x512, .f32⟩
  | 47 => ⟨S4x8448x512, .f32⟩
  | 48 => ⟨S4x33x256x8x64, .f32⟩
  | 49 => ⟨S4x33x256x8x64, .f32⟩
  | 50 => ⟨S_, .f32⟩
  | 51 => ⟨S4x33x256x8, .f32⟩
  | 52 => ⟨S_, .f32⟩
  | 53 => ⟨S4x33x8, .f32⟩
  | 54 => ⟨S4x33x256x512, .f32⟩
  | 55 => ⟨S4x33x512x256, .f32⟩
  | 56 => ⟨S4x33x4x128x256, .f32⟩
  | 57 => ⟨S_, .f32⟩
  | 58 => ⟨S4x33x4x16x256, .f32⟩
  | 59 => ⟨S4x33x4x144x256, .f32⟩
  | 60 => ⟨S4x33x256x512, .f32⟩
  | 61 => ⟨S4x33x512x256, .f32⟩
  | 62 => ⟨S4x33x512x256, .bf16⟩
  | 63 => ⟨S4x8448x512, .bf16⟩
  | 64 => ⟨S4x33x576x256, .f32⟩
  | 65 => ⟨S4x33x576x256, .bf16⟩
  | 66 => ⟨S4x33x8x1, .f32⟩
  | 67 => ⟨S4x33x8x128, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_4 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_5 : Ref sig .tc := ⟨.hbm, 93, rfl⟩
abbrev main_call2_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_c_6 : Ref sig .tc := ⟨.hbm, 146, rfl⟩
abbrev main_call3_v0 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_7 : Ref sig .tc := ⟨.hbm, 178, rfl⟩
abbrev main_v153 : Ref sig .tc := ⟨.hbm, 179, rfl⟩
abbrev main_cst_8 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_cst_9 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩

abbrev nD : Nat := 1
abbrev τ : Topo := Topo.v7x

variable {F : FTy → Type} [FloatOps F]
-- ==== Proof.GlaBody.lean ====
/- The kernel's tile written once for all samples, heads, directions and chunks, over any floats. -/
module

public import proofs.«01_k».proof.Proof.Gen.KernelIdeal.Value
public import Idealize.ShloMosaic.Lib.Pipeline.ValueKit.Acc

@[expose] public section

noncomputable section

namespace Cert.KernelIdeal.Body

open Cert.KernelIdeal Cert.KernelIdeal.Gen Idealize.ShloMosaic Idealize.ShloMosaic.TcCoe Idealize.SL.Sem

/-! ### The masks -/

/-- The number of the 64-block an index lies in, as the kernel divides it. -/
def blockOf {s : Shape} (v : IVec s 32) : IVec s 32 :=
  select (andi (cmpi .ne (subi (extui 32 (cmpi .sgt v (broadcast s 0#32)) natLt_1_32) (extui 32 (cmpi .slt v (broadcast s 0#32)) natLt_1_32))
      (broadcast s (Scalar.subi (Scalar.extui (Scalar.cmpi .sgt 64#32 0#32)) (Scalar.extui (Scalar.cmpi .slt 64#32 0#32)))))
    (cmpi .ne (remsi v (broadcast s 64#32)) (broadcast s 0#32)))
    (subi (divsi v (broadcast s 64#32)) (broadcast s 1#32)) (divsi v (broadcast s 64#32))

def tokRow : IVec S256x256 32 := iota .tc S256x256 32 [0] iota_S256x256_d0_w32
def tokCol : IVec S256x256 32 := iota .tc S256x256 32 [1] iota_S256x256_d1_w32
def laneOf : IVec S256x128 32 := iota .tc S256x128 32 [1] iota_S256x128_d1_w32
def rowOf : IVec S256x128 32 := iota .tc S256x128 32 [0] iota_S256x128_d0_w32

/-- Row and column of one chunk. -/
def sameChunk : IVec S256x256 1 := cmpi .eq (blockOf tokRow) (blockOf tokCol)

/-- The column not after the row, in the direction walked. -/
def seenBy : Bool → IVec S256x256 1
  | false => cmpi .sle tokCol tokRow
  | true => cmpi .sge tokCol tokRow

/-- The row not after the column, in the direction walked. -/
def seesTo : Bool → IVec S256x256 1
  | false => cmpi .sle tokRow tokCol
  | true => cmpi .sge tokRow tokCol

def keepMask (b : Bool) : IVec S256x256 1 := andi sameChunk (seesTo b)

def headLanes (q : Fin 2) : IVec S256x128 1 := cmpi .eq (blockOf laneOf) (broadcast S256x128 (BitVec.ofNat 32 q.val))

def inChunk (ci : Fin 4) : IVec S256x128 1 := cmpi .eq (blockOf rowOf) (broadcast S256x128 (BitVec.ofNat 32 ci.val))

variable {F : FTy → Type} [FloatOps F]

/-- A mask as ones and zeros. -/
def weights (p : IVec S256x256 1) : FVec F S256x256 .bf16 :=
  truncf .bf16 (select p (broadcast S256x256 (Scalar.ofBits .f32 0x3F800000#32 : F .f32)) (broadcast S256x256 (Scalar.ofBits .f32 0x00000000#32 : F .f32))) bitsLt_bf16_f32

def runningMask (b : Bool) : FVec F S256x256 .bf16 := weights (andi sameChunk (seenBy b))
def totalMask : FVec F S256x256 .bf16 := weights sameChunk

/-! ### The decay sums and the scaled queries and keys of one sample -/

def flat (x : Vec F S1x256x256 .f32) : FVec F S256x256 .f32 := shapeCast S256x256 x shapeCasts_S1x256x256_S256x256

/-- A masked sum of the log decays, in two halves. -/
def sumOver (w : FVec F S256x256 .bf16) (la : Vec F S1x256x256 .f32) : FVec F S256x256 .f32 :=
  addf (matmul dot_S256x256_S256x256_S256x256_1_0_0_1_n_n none w (truncf .bf16 (flat la) bitsLt_bf16_f32) (constant S256x256 .f32 0x00000000#32))
    (matmul dot_S256x256_S256x256_S256x256_1_0_0_1_n_n none w
      (truncf .bf16 (subf (flat la) (extf .f32 (truncf .bf16 (flat la) bitsLt_bf16_f32) bitsLt_bf16_f32)) bitsLt_bf16_f32) (constant S256x256 .f32 0x00000000#32))

def cum (b : Bool) (la : Vec F S1x256x256 .f32) : FVec F S256x256 .f32 := sumOver (runningMask b) la
def tot (la : Vec F S1x256x256 .f32) : FVec F S256x256 .f32 := sumOver totalMask la

def qIn (b : Bool) (la q : Vec F S1x256x256 .f32) : FVec F S256x256 .bf16 := truncf .bf16 (mulf (flat q) (exp (cum b la))) bitsLt_bf16_f32
def kIn (b : Bool) (la k : Vec F S1x256x256 .f32) : FVec F S256x256 .f32 :=
  mulf (flat k) (exp (subf (broadcast S256x256 (Scalar.ofBits .f32 0x00000000#32 : F .f32)) (cum b la)))
def kEnd (b : Bool) (la k : Vec F S1x256x256 .f32) : FVec F S256x256 .f32 := mulf (flat k) (exp (subf (tot la) (cum b la)))
def dec (la : Vec F S1x256x256 .f32) : FVec F S256x256 .f32 := exp (tot la)

/-! ### One head -/

theorem slices_pair : ∀ p : Fin 2, S256x256.Slices ![0, 128 * p.val] S256x128 := by decide
theorem slices_row : ∀ (ci : Fin 4) (p : Fin 2), S256x256.Slices ![64 * ci.val, 128 * p.val] S1x128 := by decide

def pairOf {φ : FTy} (p : Fin 2) (x : FVec F S256x256 φ) : FVec F S256x128 φ := extractStridedSlice S256x128 ![0, 128 * p.val] x (slices_pair p)

def onHead (p q : Fin 2) (x : FVec F S256x256 .f32) : FVec F S256x128 .f32 :=
  select (headLanes q) (pairOf p x) (broadcast S256x128 (Scalar.ofBits .f32 0x00000000#32 : F .f32))

def valuesOf (vt : Vec F S1x1x128x256 .bf16) : FVec F S128x256 .bf16 := shapeCast S128x256 vt shapeCasts_S1x1x128x256_S128x256

/-- The output from within the chunk. -/
def inner (b : Bool) (vt : FVec F S128x256 .bf16) (kh qp : FVec F S256x128 .bf16) : FVec F S128x256 .f32 :=
  matmul dot_S128x256_S256x256_S128x256_1_0_0_1_n_n none vt
    (truncf .bf16 (select (keepMask b) (matmul dot_S256x128_S256x128_S256x256_1_1_0_0_n_n none kh qp (constant S256x256 .f32 0x00000000#32))
      (broadcast S256x256 (Scalar.ofBits .f32 0x00000000#32 : F .f32))) bitsLt_bf16_f32)
    (constant S128x256 .f32 0x00000000#32)

/-- One chunk's addition to the output, from the state before it. -/
def outStep (qp : FVec F S256x128 .bf16) (ci : Fin 4) (st : FVec F S128x128 .f32) (o : FVec F S128x256 .f32) : FVec F S128x256 .f32 :=
  addf o (matmul dot_S128x128_S256x128_S128x256_1_1_0_0_n_n none (truncf .bf16 st bitsLt_bf16_f32)
    (select (inChunk ci) qp (broadcast S256x128 (Scalar.ofBits .bf16 0x0000#16 : F .bf16))) (constant S128x256 .f32 0x00000000#32))

/-- The state after one chunk. -/
def stStep (vt : FVec F S128x256 .bf16) (ke : FVec F S256x128 .f32) (dc : FVec F S256x256 .f32) (p : Fin 2) (ci : Fin 4)
    (st : FVec F S128x128 .f32) : FVec F S128x128 .f32 :=
  addf (mulf st (broadcastTo S128x128 (extractStridedSlice S1x128 ![64 * ci.val, 128 * p.val] dc (slices_row ci p)) broadcasts_S1x128_S128x128))
    (matmul dot_S128x256_S256x128_S128x128_1_0_0_1_n_n none vt
      (truncf .bf16 (select (inChunk ci) ke (broadcast S256x128 (Scalar.ofBits .f32 0x00000000#32 : F .f32))) bitsLt_bf16_f32) (constant S128x128 .f32 0x00000000#32))

/-- The chunks in the order walked. -/
def chunk : Bool → Fin 4 → Fin 4
  | false => fun i => i
  | true => fun i => 3 - i

def stOf (b : Bool) (p q : Fin 2) (la k : Vec F S1x256x256 .f32) (vt : Vec F S1x1x128x256 .bf16) (i : Fin 4) (st : FVec F S128x128 .f32) : FVec F S128x128 .f32 :=
  stStep (valuesOf vt) (onHead p q (kEnd b la k)) (dec la) p (chunk b i) st

def outOf (b : Bool) (p : Fin 2) (la q : Vec F S1x256x256 .f32) (i : Fin 4) (st : FVec F S128x128 .f32) (o : FVec F S128x256 .f32) : FVec F S128x256 .f32 :=
  outStep (pairOf p (qIn b la q)) (chunk b i) st o

def loaded (st : Vec F S1x1x128x128 .f32) : FVec F S128x128 .f32 := shapeCast S128x128 st shapeCasts_S1x1x128x128_S128x128

def st1 (b : Bool) (p q : Fin 2) (la k : Vec F S1x256x256 .f32) (vt : Vec F S1x1x128x256 .bf16) (st : Vec F S1x1x128x128 .f32) := stOf b p q la k vt 0 (loaded st)
def st2 (b : Bool) (p q : Fin 2) (la k : Vec F S1x256x256 .f32) (vt : Vec F S1x1x128x256 .bf16) (st : Vec F S1x1x128x128 .f32) := stOf b p q la k vt 1 (st1 b p q la k vt st)
def st3 (b : Bool) (p q : Fin 2) (la k : Vec F S1x256x256 .f32) (vt : Vec F S1x1x128x256 .bf16) (st : Vec F S1x1x128x128 .f32) := stOf b p q la k vt 2 (st2 b p q la k vt st)
def st4 (b : Bool) (p q : Fin 2) (la k : Vec F S1x256x256 .f32) (vt : Vec F S1x1x128x256 .bf16) (st : Vec F S1x1x128x128 .f32) := stOf b p q la k vt 3 (st3 b p q la k vt st)

/-- What is stored as a head's state. -/
def statePiece (b : Bool) (p q : Fin 2) (la k : Vec F S1x256x256 .f32) (vt : Vec F S1x1x128x256 .bf16) (st : Vec F S1x1x128x128 .f32) : Vec F S1x1x128x128 .f32 :=
  shapeCast S1x1x128x128 (st4 b p q la k vt st) shapeCasts_S128x128_S1x1x128x128

/-- What is stored as a head's output. -/
def outPiece (b : Bool) (p r : Fin 2) (la q k : Vec F S1x256x256 .f32) (vt : Vec F S1x1x128x256 .bf16) (st : Vec F S1x1x128x128 .f32) : Vec F S1x1x128x256 .f32 :=
  shapeCast S1x1x128x256
    (outOf b p la q 3 (st3 b p r la k vt st) (outOf b p la q 2 (st2 b p r la k vt st) (outOf b p la q 1 (st1 b p r la k vt st) (outOf b p la q 0 (loaded st)
      (inner b (valuesOf vt) (truncf .bf16 (onHead p r (kIn b la k)) bitsLt_bf16_f32) (pairOf p (qIn b la q))))))) shapeCasts_S128x256_S1x1x128x256

end Cert.KernelIdeal.Body

end
-- ==== Proof.GlaSpec.lean ====
/- One chunk of the gated recurrence over the extended reals, free of tiles and layouts. -/
module

public import Idealize.ShloMosaic.Lib.Pointwise

@[expose] public section

noncomputable section

namespace Cert.GlaSpec

open Idealize.ShloMosaic

/-- Rows of a chunk: positions by features. -/
abbrev Rows := Fin 64 → Fin 64 → EReal
/-- Values of a chunk: positions by value features. -/
abbrev Vals := Fin 64 → Fin 128 → EReal
/-- A head's state: value features by features. -/
abbrev Mem := Fin 128 → Fin 64 → EReal

/-- The log decay summed up to a position. -/
def upTo (g : Rows) (j e : Fin 64) : EReal := ∑ j', if j' ≤ j then g j' e else 0
/-- The log decay summed over the chunk. -/
def whole (g : Rows) (e : Fin 64) : EReal := ∑ j', g j' e
def asked (q g : Rows) (j e : Fin 64) : EReal := q j e * Ideal.exp (upTo g j e)
def given (k g : Rows) (j e : Fin 64) : EReal := k j e * Ideal.exp (-upTo g j e)
def kept (k g : Rows) (j e : Fin 64) : EReal := k j e * Ideal.exp (whole g e - upTo g j e)

/-- The state after a chunk. -/
def next (k : Rows) (v : Vals) (g : Rows) (S : Mem) : Mem := fun d e => S d e * Ideal.exp (whole g e) + ∑ j, v j d * kept k g j e
/-- The output from within the chunk. -/
def within (q k : Rows) (v : Vals) (g : Rows) (j : Fin 64) (d : Fin 128) : EReal :=
  ∑ j', if j' ≤ j then v j' d * ∑ e, given k g j' e * asked q g j e else 0
/-- The output from the state before the chunk. -/
def fromState (q g : Rows) (S : Mem) (j : Fin 64) (d : Fin 128) : EReal := ∑ e, S d e * asked q g j e
def outAt (q k : Rows) (v : Vals) (g : Rows) (S : Mem) (j : Fin 64) (d : Fin 128) : EReal := within q k v g j d + fromState q g S j d

/-- The state before chunk `n`, the chunks' rows given as functions of the chunk. -/
def before (k : ℕ → Rows) (v : ℕ → Vals) (g : ℕ → Rows) : ℕ → Mem
  | 0 => fun _ _ => 0
  | n + 1 => next (k n) (v n) (g n) (before k v g n)

theorem whole_eq (g : Rows) (e : Fin 64) : whole g e = upTo g 63 e :=
  Finset.sum_congr rfl fun j' _ => (if_pos (show j' ≤ 63 by omega)).symm

/-! ### The whole recurrence: two directions, four samples, four heads, 132 chunks of 64 tokens -/

/-- The tile's row at a position of a chunk, both in the order walked. -/
def row (b : Bool) (i : Fin 4) (j : Fin 64) : Fin 256 :=
  match b with
  | false => ⟨64 * i.val + j.val, by omega⟩
  | true => ⟨255 - (64 * i.val + j.val), by omega⟩

/-- The tile of a direction's step. The second direction walks the first tile first and then the others from the last. -/
def tileAt (b : Bool) (t : ℕ) : Fin 33 :=
  match b with
  | false => Fin.ofNat 33 t
  | true => if t = 0 then 0 else Fin.ofNat 33 (33 - t)

/-- The token of a position of a chunk. -/
def tok (b : Bool) (n : ℕ) (j : Fin 64) : Fin 8448 := ⟨256 * (tileAt b (n / 4)).val + (row b (Fin.ofNat 4 n) j).val, by omega⟩

theorem dirCol_lt (b : Bool) (h : Fin 4) (e : Fin 64) : 256 * b.toNat + (64 * h.val + e.val) < 512 := by
  have := Bool.toNat_le b; omega

section Sequence
variable (qk la : Fin 4 → Fin 8448 → Fin 512 → EReal) (vt : Fin 4 → Fin 33 → Fin 512 → Fin 256 → EReal) (b : Bool) (s h : Fin 4) (n : ℕ)

def qRows : Rows := fun j e => qk s (tok b n j) ⟨64 * h.val + e.val, by omega⟩
def kRows : Rows := fun j e => qk s (tok b n j) ⟨256 + (64 * h.val + e.val), by omega⟩
def gRows : Rows := fun j e => la s (tok b n j) ⟨256 * b.toNat + (64 * h.val + e.val), dirCol_lt b h e⟩
def vRows : Vals := fun j d => vt s (tileAt b (n / 4)) ⟨128 * h.val + d.val, by omega⟩ (row b (Fin.ofNat 4 n) j)

/-- The state before a chunk. -/
def mem : Mem := before (kRows qk b s h) (vRows vt b s h) (gRows la b s h) n

/-- The output at a position of a chunk. -/
def outputAt (j : Fin 64) (d : Fin 128) : EReal :=
  outAt (qRows qk b s h n) (kRows qk b s h n) (vRows vt b s h n) (gRows la b s h n) (mem qk la vt b s h n) j d

/-- The chunk and the position of a row of a tile. -/
def chunkOf (t : Fin 33) (r : Fin 256) : ℕ :=
  match b with
  | false => 4 * t.val + r.val / 64
  | true => 4 * (if t.val = 0 then 0 else 33 - t.val) + (255 - r.val) / 64
def posOf (r : Fin 256) : Fin 64 :=
  match b with
  | false => ⟨r.val % 64, by omega⟩
  | true => ⟨(255 - r.val) % 64, by omega⟩

/-- The output array of a direction. -/
def output (t : Fin 33) (a : Fin 512) (r : Fin 256) : EReal :=
  outputAt qk la vt b s ⟨a.val / 128, by omega⟩ (chunkOf b t r) (posOf b r) ⟨a.val % 128, by omega⟩

theorem chunkOf_place (t : ℕ) (ht : t < 33) (i : Fin 4) (j : Fin 64) : chunkOf b (tileAt b t) (row b i j) = 4 * t + i.val := by
  cases b
  · simp only [chunkOf, tileAt, row, Fin.ofNat]; omega
  · simp only [chunkOf, tileAt, row, Fin.ofNat]
    by_cases h : t = 0
    · simp only [h, if_pos, Fin.val_zero]; omega
    · have e : (33 - t) % 33 = 33 - t := Nat.mod_eq_of_lt (by omega)
      simp only [if_neg h, e, if_neg (show ¬(33 - t = 0) by omega)]; omega

theorem posOf_place (i : Fin 4) (j : Fin 64) : posOf b (row b i j) = j := by
  refine Fin.ext ?_
  cases b
  · simp only [posOf, row]; omega
  · simp only [posOf, row]; omega

theorem output_place (t : ℕ) (ht : t < 33) (i : Fin 4) (j : Fin 64) (d : Fin 128) (hb : 128 * h.val + d.val < 512) :
    output qk la vt b s (tileAt b t) ⟨128 * h.val + d.val, hb⟩ (row b i j) = outputAt qk la vt b s h (4 * t + i.val) j d := by
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  unfold output
  rw [chunkOf_place b t ht i j, posOf_place b i j]
  simp only [e1, e2]

/-- Every row of a tile is a position of a chunk. -/
theorem exists_row (r : Fin 256) : ∃ i j, r = row b i j := by
  cases b
  · exact ⟨⟨r.val / 64, by omega⟩, ⟨r.val % 64, by omega⟩, Fin.ext (by simp only [row]; omega)⟩
  · exact ⟨⟨(255 - r.val) / 64, by omega⟩, ⟨(255 - r.val) % 64, by omega⟩, Fin.ext (by simp only [row]; omega)⟩
theorem exists_tile (t : Fin 33) : ∃ k, k < 33 ∧ t = tileAt b k := by
  cases b
  · exact ⟨t.val, t.isLt, Fin.ext (Nat.mod_eq_of_lt t.isLt).symm⟩
  · by_cases h : t.val = 0
    · exact ⟨0, by omega, Fin.ext h⟩
    · refine ⟨33 - t.val, by omega, Fin.ext ?_⟩
      simp only [tileAt, if_neg (show ¬(33 - t.val = 0) by omega), Fin.ofNat]
      omega
theorem exists_head (a : Fin 512) : ∃ (h : Fin 4) (d : Fin 128) (hb : 128 * h.val + d.val < 512), a = ⟨128 * h.val + d.val, hb⟩ :=
  ⟨⟨a.val / 128, by omega⟩, ⟨a.val % 128, by omega⟩, by show 128 * (a.val / 128) + a.val % 128 < 512; omega,
    Fin.ext (by show a.val = 128 * (a.val / 128) + a.val % 128; omega)⟩

end Sequence

end Cert.GlaSpec

end
-- ==== Proof.GlaMasks.lean ====
/- The kernel's masks at a row of a tile, the rows counted by chunk and position in the direction walked. -/
module

public import proofs.«01_k».proof.Proof.GlaBody
public import proofs.«01_k».proof.Proof.GlaSpec
public import Idealize.ShloMosaic.Lib.DynamicIndex

@[expose] public section

noncomputable section

namespace Cert.KernelIdeal.Body

open Cert.KernelIdeal Cert.KernelIdeal.Gen Idealize.ShloMosaic Idealize.ShloMosaic.TcCoe Idealize.SL.Sem Cert.GlaSpec

/-- A lane of a pair of heads. -/
def lane (q : Fin 2) (e : Fin 64) : Fin 128 := ⟨64 * q.val + e.val, by omega⟩

theorem sum_row (b : Bool) (f : Fin 256 → EReal) : ∑ x, f x = ∑ i, ∑ j, f (row b i j) := by
  cases b
  · rw [Fin.sum_univ_tiles 4 64 rfl f]
    refine Finset.sum_congr rfl fun i _ => Finset.sum_congr rfl fun j _ => congrArg f (Fin.ext ?_)
    simp only [row]; omega
  · rw [← Equiv.sum_comp Fin.revPerm f, Fin.sum_univ_tiles 4 64 rfl fun x => f (Fin.revPerm x)]
    refine Finset.sum_congr rfl fun i _ => Finset.sum_congr rfl fun j _ => congrArg f (Fin.ext ?_)
    simp only [Fin.revPerm_apply, Fin.val_rev, row]; omega

theorem sum_lane (f : Fin 128 → EReal) : ∑ x, f x = ∑ q, ∑ e, f (lane q e) := by
  rw [Fin.sum_univ_tiles 2 64 rfl f]
  refine Finset.sum_congr rfl fun i _ => Finset.sum_congr rfl fun j _ => congrArg f (Fin.ext ?_)
  simp only [lane]; omega

theorem select_iff {α : Type} {c : BitVec 1} {P : Prop} [Decidable P] (h : c = 1#1 ↔ P) (x y : α) : Scalar.select c x y = if P then x else y := by
  by_cases hP : P
  · rw [h.mpr hP, if_pos hP]; rfl
  · rw [if_neg hP]; exact if_neg fun e => hP (h.mp e)

/-- The 64-block of a small number, as the kernel divides it. -/
def blockWord (x : BitVec 32) : BitVec 32 :=
  Scalar.select
      (IntOp.andi
        (IntOp.cmpi CmpIPredicate.ne
          (IntOp.subi (BitVec.setWidth 32 (IntOp.cmpi CmpIPredicate.sgt x 0#32)) (BitVec.setWidth 32 (IntOp.cmpi CmpIPredicate.slt x 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector x 64#32) 0#32))
      (IntOp.subi (IntOp.divsi ArithUnit.vector x 64#32) 1#32)
      (IntOp.divsi ArithUnit.vector x 64#32)

theorem blockWord_ofNat : ∀ r : Fin 256, blockWord (BitVec.ofNat 32 r.val) = BitVec.ofNat 32 (r.val / 64) := by decide +kernel

theorem blockOf_tokRow (r c : Fin 256) : blockOf tokRow (ix2 r c) = BitVec.ofNat 32 (r.val / 64) :=
  (show _ = blockWord (BitVec.ofNat 32 r.val) by pointwise [blockOf, tokRow]; rfl).trans (blockWord_ofNat r)
theorem blockOf_tokCol (r c : Fin 256) : blockOf tokCol (ix2 r c) = BitVec.ofNat 32 (c.val / 64) :=
  (show _ = blockWord (BitVec.ofNat 32 c.val) by pointwise [blockOf, tokCol]; rfl).trans (blockWord_ofNat c)
theorem blockOf_rowOf (r : Fin 256) (c : Fin 128) : blockOf rowOf (ix2 r c) = BitVec.ofNat 32 (r.val / 64) :=
  (show _ = blockWord (BitVec.ofNat 32 r.val) by pointwise [blockOf, rowOf]; rfl).trans (blockWord_ofNat r)
theorem blockOf_laneOf (r : Fin 256) (c : Fin 128) : blockOf laneOf (ix2 r c) = BitVec.ofNat 32 (c.val / 64) :=
  (show _ = blockWord (BitVec.ofNat 32 c.val) by pointwise [blockOf, laneOf]; rfl).trans (blockWord_ofNat ⟨c.val, by omega⟩)

theorem eq_word {x y : ℕ} (hx : x < 256) (hy : y < 256) : IntOp.cmpi .eq (BitVec.ofNat 32 x) (BitVec.ofNat 32 y) = 1#1 ↔ x = y := by
  have e : ∀ p : Bool, BitVec.ofBool p = 1#1 ↔ p = true := by decide
  show BitVec.ofBool (BitVec.ofNat 32 x == BitVec.ofNat 32 y) = 1#1 ↔ _
  rw [e, beq_iff_eq]
  refine ⟨fun h => ?_, fun h => by rw [h]⟩
  have := congrArg BitVec.toNat h
  rwa [BitVec.toNat_ofNat, BitVec.toNat_ofNat, Nat.mod_eq_of_lt (by omega), Nat.mod_eq_of_lt (by omega)] at this

theorem le_word {x y : ℕ} (hx : x < 256) (hy : y < 256) : IntOp.cmpi .sle (BitVec.ofNat 32 x) (BitVec.ofNat 32 y) = 1#1 ↔ x ≤ y := by
  have e : ∀ p : Bool, BitVec.ofBool p = 1#1 ↔ p = true := by decide
  show BitVec.ofBool ((BitVec.ofNat 32 x).sle (BitVec.ofNat 32 y)) = 1#1 ↔ _
  rw [e, BitVec.sle, decide_eq_true_iff, toInt_ofNat_of_lt (by omega), toInt_ofNat_of_lt (by omega)]
  omega

theorem ge_word {x y : ℕ} (hx : x < 256) (hy : y < 256) : IntOp.cmpi .sge (BitVec.ofNat 32 x) (BitVec.ofNat 32 y) = 1#1 ↔ y ≤ x :=
  le_word hy hx

theorem and_word : ∀ x y : BitVec 1, IntOp.andi x y = 1#1 ↔ x = 1#1 ∧ y = 1#1 := by decide

theorem sameChunk_at (r c : Fin 256) : sameChunk (ix2 r c) = 1#1 ↔ r.val / 64 = c.val / 64 := by
  have h : sameChunk (ix2 r c) = IntOp.cmpi .eq (blockOf tokRow (ix2 r c)) (blockOf tokCol (ix2 r c)) := rfl
  rw [h, blockOf_tokRow, blockOf_tokCol]
  exact eq_word (by omega) (by omega)

theorem inChunk_at (ci : Fin 4) (r : Fin 256) (c : Fin 128) : inChunk ci (ix2 r c) = 1#1 ↔ r.val / 64 = ci.val := by
  have h : inChunk ci (ix2 r c) = IntOp.cmpi .eq (blockOf rowOf (ix2 r c)) (BitVec.ofNat 32 ci.val) := rfl
  rw [h, blockOf_rowOf]
  exact eq_word (by omega) (by omega)

theorem headLanes_at (q : Fin 2) (r : Fin 256) (c : Fin 128) : headLanes q (ix2 r c) = 1#1 ↔ c.val / 64 = q.val := by
  have h : headLanes q (ix2 r c) = IntOp.cmpi .eq (blockOf laneOf (ix2 r c)) (BitVec.ofNat 32 q.val) := rfl
  rw [h, blockOf_laneOf]
  exact eq_word (by omega) (by omega)

theorem tokRow_at (r c : Fin 256) : tokRow (ix2 r c) = BitVec.ofNat 32 r.val := by pointwise [tokRow]
theorem tokCol_at (r c : Fin 256) : tokCol (ix2 r c) = BitVec.ofNat 32 c.val := by pointwise [tokCol]

theorem sameChunk_row (b : Bool) (i i' : Fin 4) (j j' : Fin 64) : sameChunk (ix2 (row b i j) (row b i' j')) = 1#1 ↔ i' = i := by
  rw [sameChunk_at, Fin.ext_iff]
  cases b <;> simp only [row] <;> omega

theorem seenBy_row (b : Bool) (i : Fin 4) (j j' : Fin 64) : seenBy b (ix2 (row b i j) (row b i j')) = 1#1 ↔ j' ≤ j := by
  rw [Fin.le_def]
  cases b
  · have h : seenBy false (ix2 (row false i j) (row false i j')) = IntOp.cmpi .sle (tokCol (ix2 (row false i j) (row false i j'))) (tokRow (ix2 (row false i j) (row false i j'))) := rfl
    rw [h, tokRow_at, tokCol_at, le_word (by omega) (by omega)]
    simp only [row]; omega
  · have h : seenBy true (ix2 (row true i j) (row true i j')) = IntOp.cmpi .sge (tokCol (ix2 (row true i j) (row true i j'))) (tokRow (ix2 (row true i j) (row true i j'))) := rfl
    rw [h, tokRow_at, tokCol_at, ge_word (by omega) (by omega)]
    simp only [row]; omega

theorem seesTo_row (b : Bool) (i : Fin 4) (j j' : Fin 64) : seesTo b (ix2 (row b i j') (row b i j)) = 1#1 ↔ j' ≤ j := by
  rw [Fin.le_def]
  cases b
  · have h : seesTo false (ix2 (row false i j') (row false i j)) = IntOp.cmpi .sle (tokRow (ix2 (row false i j') (row false i j))) (tokCol (ix2 (row false i j') (row false i j))) := rfl
    rw [h, tokRow_at, tokCol_at, le_word (by omega) (by omega)]
    simp only [row]; omega
  · have h : seesTo true (ix2 (row true i j') (row true i j)) = IntOp.cmpi .sge (tokRow (ix2 (row true i j') (row true i j))) (tokCol (ix2 (row true i j') (row true i j))) := rfl
    rw [h, tokRow_at, tokCol_at, ge_word (by omega) (by omega)]
    simp only [row]; omega

theorem running_row (b : Bool) (i i' : Fin 4) (j j' : Fin 64) :
    andi sameChunk (seenBy b) (ix2 (row b i j) (row b i' j')) = 1#1 ↔ i' = i ∧ j' ≤ j := by
  have h : andi sameChunk (seenBy b) (ix2 (row b i j) (row b i' j'))
    = IntOp.andi (sameChunk (ix2 (row b i j) (row b i' j'))) (seenBy b (ix2 (row b i j) (row b i' j'))) := rfl
  rw [h, and_word, sameChunk_row]
  exact and_congr_right fun e => by rw [e, seenBy_row]

theorem keepMask_row (b : Bool) (i i' : Fin 4) (j j' : Fin 64) :
    keepMask b (ix2 (row b i' j') (row b i j)) = 1#1 ↔ i' = i ∧ j' ≤ j := by
  have h : keepMask b (ix2 (row b i' j') (row b i j))
    = IntOp.andi (sameChunk (ix2 (row b i' j') (row b i j))) (seesTo b (ix2 (row b i' j') (row b i j))) := rfl
  rw [h, and_word, sameChunk_row, eq_comm]
  exact and_congr_right fun e => by rw [e, seesTo_row]

theorem inChunk_row (b : Bool) (i i' : Fin 4) (j : Fin 64) (c : Fin 128) : inChunk (chunk b i) (ix2 (row b i' j) c) = 1#1 ↔ i' = i := by
  rw [inChunk_at, Fin.ext_iff]
  cases b
  · simp only [row, chunk]; omega
  · have e : (chunk true i).val = 3 - i.val := by revert i; decide
    rw [e]; simp only [row]; omega

theorem headLanes_lane (q q' : Fin 2) (r : Fin 256) (e : Fin 64) : headLanes q (ix2 r (lane q' e)) = 1#1 ↔ q' = q := by
  rw [headLanes_at, Fin.ext_iff]
  simp only [lane]; omega

end Cert.KernelIdeal.Body

end
-- ==== Proof.GlaTile.lean ====
/- One chunk of the kernel's tile over the extended reals: what it leaves as state and what it puts out. -/
module

public import proofs.«01_k».proof.Proof.GlaMasks
public import proofs.«01_k».proof.Proof.GlaSpec

@[expose] public section

noncomputable section

namespace Cert.KernelIdeal.Body

open Cert.KernelIdeal Cert.KernelIdeal.Gen Idealize.ShloMosaic Idealize.ShloMosaic.TcCoe Idealize.SL.Sem Cert.GlaSpec

/-- A feature's column among the four heads'. -/
def col (p q : Fin 2) (e : Fin 64) : Fin 256 := ⟨128 * p.val + (lane q e).val, by have := (lane q e).isLt; omega⟩

/-- A chunk's rows for one head of a pair, in the order walked. -/
def rowsOf (b : Bool) (p q : Fin 2) (i : Fin 4) (x : Vec Ideal S1x256x256 .f32) : Rows := fun j e => x (ix3 0 (row b i j) (col p q e))
def valsOf (b : Bool) (i : Fin 4) (x : Vec Ideal S1x1x128x256 .bf16) : Vals := fun j d => x (ix4 0 0 d (row b i j))

theorem weights_at (p : IVec S256x256 1) (r c : Fin 256) : weights (F := Ideal) p (ix2 r c) = Scalar.select (p (ix2 r c)) 1 0 := by
  pointwise [weights]

theorem sumOver_at (w : FVec Ideal S256x256 .bf16) (la : Vec Ideal S1x256x256 .f32) (r c : Fin 256)
    (hla : ∀ x, la x ≠ ⊤ ∧ la x ≠ ⊥) : sumOver w la (ix2 r c) = ∑ x, w (ix2 r x) * la (ix3 0 x c) := by
  have h : sumOver w la (ix2 r c) = ∑ x, w (ix2 r x) * la (ix3 0 x c) + ∑ x, w (ix2 r x) * (la (ix3 0 x c) - la (ix3 0 x c)) := by
    pointwise [sumOver, flat]
  rw [h]
  refine (congrArg _ (Finset.sum_eq_zero fun x _ => ?_)).trans (add_zero _)
  rw [EReal.sub_self (hla _).1 (hla _).2, mul_zero]

/-- Of a sum over the four chunks only the named one is left. -/
theorem sum_chunk (i : Fin 4) (P : Fin 64 → Prop) [DecidablePred P] (f : Fin 4 → Fin 64 → EReal) :
    ∑ i', ∑ j', (if i' = i ∧ P j' then f i' j' else 0) = ∑ j', if P j' then f i j' else 0 := by
  rw [Finset.sum_eq_single i]
  · exact Finset.sum_congr rfl fun j _ => by simp only [true_and]
  · intro i' _ h
    exact Finset.sum_eq_zero fun j _ => if_neg fun e => h e.1
  · exact fun h => absurd (Finset.mem_univ i) h

theorem sum_chunk' (i : Fin 4) (f : Fin 4 → Fin 64 → EReal) : ∑ i', ∑ j', (if i' = i then f i' j' else 0) = ∑ j', f i j' := by
  rw [Finset.sum_eq_single i]
  · exact Finset.sum_congr rfl fun j _ => if_pos rfl
  · intro i' _ h
    exact Finset.sum_eq_zero fun j _ => if_neg h
  · exact fun h => absurd (Finset.mem_univ i) h

section Decay
variable (b : Bool) (p q : Fin 2) (i : Fin 4) (la : Vec Ideal S1x256x256 .f32) (hla : ∀ x, la x ≠ ⊤ ∧ la x ≠ ⊥)
include hla

theorem cum_at (j e : Fin 64) : cum b la (ix2 (row b i j) (col p q e)) = upTo (rowsOf b p q i la) j e := by
  rw [cum, sumOver_at _ _ _ _ hla, sum_row b]
  refine Eq.trans ?_ (sum_chunk i (· ≤ j) fun i' j' => rowsOf b p q i' la j' e)
  refine Finset.sum_congr rfl fun i' _ => Finset.sum_congr rfl fun j' _ => ?_
  rw [runningMask, weights_at, Scalar.select_one_zero_mul, select_iff (running_row b i i' j j')]
  rfl

theorem tot_at (j e : Fin 64) : tot la (ix2 (row b i j) (col p q e)) = whole (rowsOf b p q i la) e := by
  rw [tot, sumOver_at _ _ _ _ hla, sum_row b]
  refine Eq.trans ?_ (sum_chunk' i fun i' j' => rowsOf b p q i' la j' e)
  refine Finset.sum_congr rfl fun i' _ => Finset.sum_congr rfl fun j' _ => ?_
  rw [totalMask, weights_at, Scalar.select_one_zero_mul, select_iff (sameChunk_row b i i' j j')]
  rfl

theorem dec_at (j e : Fin 64) : dec la (ix2 (row b i j) (col p q e)) = Ideal.exp (whole (rowsOf b p q i la) e) :=
  congrArg Ideal.exp (tot_at b p q i la hla j e)

theorem qIn_at (x : Vec Ideal S1x256x256 .f32) (j e : Fin 64) :
    qIn b la x (ix2 (row b i j) (col p q e)) = asked (rowsOf b p q i x) (rowsOf b p q i la) j e := by
  have h : ∀ r c, qIn b la x (ix2 r c) = x (ix3 0 r c) * Ideal.exp (cum b la (ix2 r c)) := fun r c => by pointwise [qIn, flat]
  rw [h, cum_at b p q i la hla]
  rfl

theorem kIn_at (x : Vec Ideal S1x256x256 .f32) (j e : Fin 64) :
    kIn b la x (ix2 (row b i j) (col p q e)) = given (rowsOf b p q i x) (rowsOf b p q i la) j e := by
  have h : ∀ r c, kIn b la x (ix2 r c) = x (ix3 0 r c) * Ideal.exp (0 - cum b la (ix2 r c)) := fun r c => by pointwise [kIn, flat]
  rw [h, cum_at b p q i la hla, zero_sub]
  rfl

theorem kEnd_at (x : Vec Ideal S1x256x256 .f32) (j e : Fin 64) :
    kEnd b la x (ix2 (row b i j) (col p q e)) = kept (rowsOf b p q i x) (rowsOf b p q i la) j e := by
  have h : ∀ r c, kEnd b la x (ix2 r c) = x (ix3 0 r c) * Ideal.exp (tot la (ix2 r c) - cum b la (ix2 r c)) := fun r c => by pointwise [kEnd, flat]
  rw [h, cum_at b p q i la hla, tot_at b p q i la hla]
  rfl

end Decay

theorem pairOf_at (p q : Fin 2) {φ : FTy} (x : FVec Ideal S256x256 φ) (r : Fin 256) (e : Fin 64) :
    pairOf p x (ix2 r (lane q e)) = x (ix2 r (col p q e)) := by
  pointwise [pairOf]
  rfl

theorem onHead_at (p q q' : Fin 2) (x : FVec Ideal S256x256 .f32) (r : Fin 256) (e : Fin 64) :
    onHead p q x (ix2 r (lane q' e)) = if q' = q then x (ix2 r (col p q' e)) else 0 := by
  have h : onHead p q x (ix2 r (lane q' e)) = Scalar.select (headLanes q (ix2 r (lane q' e))) (pairOf p x (ix2 r (lane q' e))) 0 := by
    pointwise [onHead]
  rw [h, select_iff (headLanes_lane q q' r e), pairOf_at]

/-- A head's state in the lanes of its side, the other side's lanes zero. -/
def Holds (q : Fin 2) (S : Mem) (st : FVec Ideal S128x128 .f32) : Prop :=
  ∀ d q' e, st (ix2 d (lane q' e)) = if q' = q then S d e else 0

theorem stStep_at (vt : FVec Ideal S128x256 .bf16) (ke : FVec Ideal S256x128 .f32) (dc : FVec Ideal S256x256 .f32) (p : Fin 2) (ci : Fin 4)
    (st : FVec Ideal S128x128 .f32) (d c : Fin 128) (h : 64 * ci.val < 256) (h' : 128 * p.val + c.val < 256) :
    stStep vt ke dc p ci st (ix2 d c) = st (ix2 d c) * dc (ix2 ⟨64 * ci.val, h⟩ ⟨128 * p.val + c.val, h'⟩)
      + ∑ x, Scalar.select (inChunk ci (ix2 x c)) (vt (ix2 d x) * ke (ix2 x c)) 0 := by
  pointwise [stStep]

/-- The position of a chunk its first row in the tile has. -/
def firstAt : Bool → Fin 64
  | false => 0
  | true => 63

theorem firstAt_row (b : Bool) (i : Fin 4) (h : 64 * (chunk b i).val < 256) : (⟨64 * (chunk b i).val, h⟩ : Fin 256) = row b i (firstAt b) := by
  refine Fin.ext ?_
  cases b
  · simp only [row, chunk, firstAt]; rfl
  · have e : (chunk true i).val = 3 - i.val := by revert i; decide
    have e' : (63 : Fin 64).val = 63 := rfl
    simp only [e, row, firstAt, e']; omega

section Chunk
variable (b : Bool) (p q : Fin 2) (i : Fin 4) (la k : Vec Ideal S1x256x256 .f32) (vt : Vec Ideal S1x1x128x256 .bf16)
  (hla : ∀ x, la x ≠ ⊤ ∧ la x ≠ ⊥)

theorem valuesOf_at (d : Fin 128) (j : Fin 64) : valuesOf vt (ix2 d (row b i j)) = valsOf b i vt j d := by
  have h : ∀ r, valuesOf vt (ix2 d r) = vt (ix4 0 0 d r) := fun r => by pointwise [valuesOf]
  exact h _

include hla in
/-- The state after a chunk. -/
theorem stOf_holds (S : Mem) (st : FVec Ideal S128x128 .f32) (h : Holds q S st) :
    Holds q (next (rowsOf b p q i k) (valsOf b i vt) (rowsOf b p q i la) S) (stOf b p q la k vt i st) := by
  intro d q' e
  have hc : 64 * (chunk b i).val < 256 := by omega
  have hl : 128 * p.val + (lane q' e).val < 256 := (col p q' e).isLt
  rw [stOf, stStep_at _ _ _ _ _ _ _ _ hc hl, h d q' e, firstAt_row]
  have hd : dec la (ix2 (row b i (firstAt b)) ⟨128 * p.val + (lane q' e).val, hl⟩) = Ideal.exp (whole (rowsOf b p q' i la) e) := dec_at b p q' i la hla _ e
  rw [hd, sum_row b]
  have hs : ∑ i', ∑ j', Scalar.select (inChunk (chunk b i) (ix2 (row b i' j') (lane q' e)))
      (valuesOf vt (ix2 d (row b i' j')) * onHead p q (kEnd b la k) (ix2 (row b i' j') (lane q' e))) 0
      = ∑ j', if q' = q then valsOf b i vt j' d * kept (rowsOf b p q' i k) (rowsOf b p q' i la) j' e else 0 := by
    refine Eq.trans (Finset.sum_congr rfl fun i' _ => Finset.sum_congr rfl fun j' _ => ?_)
      (sum_chunk' i fun i' j' => if q' = q then valsOf b i' vt j' d * kept (rowsOf b p q' i' k) (rowsOf b p q' i' la) j' e else 0)
    rw [select_iff (inChunk_row b i i' j' (lane q' e)), valuesOf_at, onHead_at, kEnd_at b p q' i' la hla, mul_ite, mul_zero]
  rw [hs]
  by_cases hq : q' = q
  · subst hq
    simp only [if_pos]
    rfl
  · simp only [if_neg hq, zero_mul, Finset.sum_const_zero, add_zero]

theorem sum_side (q : Fin 2) (f : Fin 2 → Fin 64 → EReal) (h : ∀ q' e, q' ≠ q → f q' e = 0) : ∑ q', ∑ e, f q' e = ∑ e, f q e :=
  Finset.sum_eq_single q (fun q' _ hq => Finset.sum_eq_zero fun e _ => h q' e hq) fun h => absurd (Finset.mem_univ q) h

include hla in
/-- The output from within the chunk. -/
theorem inner_at (x : Vec Ideal S1x256x256 .f32) (j : Fin 64) (d : Fin 128) :
    inner b (valuesOf vt) (truncf .bf16 (onHead p q (kIn b la k)) bitsLt_bf16_f32) (pairOf p (qIn b la x)) (ix2 d (row b i j))
      = within (rowsOf b p q i x) (rowsOf b p q i k) (valsOf b i vt) (rowsOf b p q i la) j d := by
  have h : ∀ (vt : FVec Ideal S128x256 .bf16) (kh qp : FVec Ideal S256x128 .bf16) (c : Fin 256), inner b vt kh qp (ix2 d c)
      = ∑ x, Scalar.select (keepMask b (ix2 x c)) (vt (ix2 d x) * ∑ l, kh (ix2 x l) * qp (ix2 c l)) 0 := fun _ _ _ c => by pointwise [inner]
  rw [h, sum_row b, within]
  refine Eq.trans (Finset.sum_congr rfl fun i' _ => Finset.sum_congr rfl fun j' _ => ?_)
    (sum_chunk i (· ≤ j) fun i' j' => valsOf b i' vt j' d * ∑ e, given (rowsOf b p q i' k) (rowsOf b p q i' la) j' e * asked (rowsOf b p q i x) (rowsOf b p q i la) j e)
  rw [select_iff (keepMask_row b i i' j j'), valuesOf_at, sum_lane, sum_side q]
  · refine if_congr Iff.rfl (congrArg _ (Finset.sum_congr rfl fun e _ => ?_)) rfl
    have ht : truncf .bf16 (onHead p q (kIn b la k)) bitsLt_bf16_f32 (ix2 (row b i' j') (lane q e)) = onHead p q (kIn b la k) (ix2 (row b i' j') (lane q e)) := rfl
    rw [ht, onHead_at, if_pos rfl, kIn_at b p q i' la hla, pairOf_at, qIn_at b p q i la hla]
  · intro q' e hq
    have ht : truncf .bf16 (onHead p q (kIn b la k)) bitsLt_bf16_f32 (ix2 (row b i' j') (lane q' e)) = onHead p q (kIn b la k) (ix2 (row b i' j') (lane q' e)) := rfl
    rw [ht, onHead_at, if_neg hq, zero_mul]

include hla in
/-- A chunk's addition to the output: its own rows take the state's part, the others none. -/
theorem outOf_at (x : Vec Ideal S1x256x256 .f32) (S : Mem) (st : FVec Ideal S128x128 .f32) (h : Holds q S st) (o : FVec Ideal S128x256 .f32)
    (i' : Fin 4) (j : Fin 64) (d : Fin 128) :
    outOf b p la x i st o (ix2 d (row b i' j))
      = o (ix2 d (row b i' j)) + if i' = i then fromState (rowsOf b p q i x) (rowsOf b p q i la) S j d else 0 := by
  have hs : ∀ (qp : FVec Ideal S256x128 .bf16) (c : Fin 256), outStep qp (chunk b i) st o (ix2 d c)
      = o (ix2 d c) + ∑ l, Scalar.select (inChunk (chunk b i) (ix2 c l)) (st (ix2 d l) * qp (ix2 c l)) 0 := fun _ c => by pointwise [outStep]
  rw [outOf, hs]
  refine congrArg _ ?_
  have hc : ∀ l, Scalar.select (inChunk (chunk b i) (ix2 (row b i' j) l)) (st (ix2 d l) * pairOf p (qIn b la x) (ix2 (row b i' j) l)) 0
      = if i' = i then st (ix2 d l) * pairOf p (qIn b la x) (ix2 (row b i' j) l) else 0 := fun l => select_iff (inChunk_row b i i' j l) _ _
  simp only [hc]
  by_cases hi : i' = i
  · subst hi
    simp only [if_pos]
    rw [sum_lane, sum_side q]
    · refine Finset.sum_congr rfl fun e _ => ?_
      rw [h d q e, if_pos rfl, pairOf_at, qIn_at b p q i' la hla]
    · intro q' e hq
      rw [h d q' e, if_neg hq, zero_mul]
  · simp only [if_neg hi, Finset.sum_const_zero]

end Chunk

/-- The state before each chunk of a tile. -/
def along (b : Bool) (p q : Fin 2) (la k : Vec Ideal S1x256x256 .f32) (vt : Vec Ideal S1x1x128x256 .bf16) (S : Mem) : ℕ → Mem
  | 0 => S
  | n + 1 => next (rowsOf b p q (Fin.ofNat 4 n) k) (valsOf b (Fin.ofNat 4 n) vt) (rowsOf b p q (Fin.ofNat 4 n) la) (along b p q la k vt S n)

section Tile
variable (b : Bool) (p q : Fin 2) (la k : Vec Ideal S1x256x256 .f32) (vt : Vec Ideal S1x1x128x256 .bf16)
  (hla : ∀ x, la x ≠ ⊤ ∧ la x ≠ ⊥) (S : Mem) (st : Vec Ideal S1x1x128x128 .f32)
  (h : ∀ d q' e, st (ix4 0 0 d (lane q' e)) = if q' = q then S d e else 0)
include hla h

theorem loaded_holds : Holds q (along b p q la k vt S 0) (loaded st) := by
  have hr : ∀ d l, loaded st (ix2 d l) = st (ix4 0 0 d l) := fun d l => by pointwise [loaded]
  intro d q' e
  rw [hr, h d q' e]; rfl
theorem st1_holds : Holds q (along b p q la k vt S 1) (st1 b p q la k vt st) := stOf_holds b p q 0 la k vt hla _ _ (loaded_holds b p q la k vt hla S st h)
theorem st2_holds : Holds q (along b p q la k vt S 2) (st2 b p q la k vt st) := stOf_holds b p q 1 la k vt hla _ _ (st1_holds b p q la k vt hla S st h)
theorem st3_holds : Holds q (along b p q la k vt S 3) (st3 b p q la k vt st) := stOf_holds b p q 2 la k vt hla _ _ (st2_holds b p q la k vt hla S st h)
theorem st4_holds : Holds q (along b p q la k vt S 4) (st4 b p q la k vt st) := stOf_holds b p q 3 la k vt hla _ _ (st3_holds b p q la k vt hla S st h)

/-- The state a tile leaves. -/
theorem statePiece_at (d : Fin 128) (q' : Fin 2) (e : Fin 64) :
    statePiece b p q la k vt st (ix4 0 0 d (lane q' e)) = if q' = q then along b p q la k vt S 4 d e else 0 := by
  have hr : ∀ l, statePiece b p q la k vt st (ix4 0 0 d l) = st4 b p q la k vt st (ix2 d l) := fun l => by pointwise [statePiece]
  rw [hr]
  exact st4_holds b p q la k vt hla S st h d q' e

/-- The output of a tile. -/
theorem outPiece_at (x : Vec Ideal S1x256x256 .f32) (d : Fin 128) (i : Fin 4) (j : Fin 64) :
    outPiece b p q la x k vt st (ix4 0 0 d (row b i j))
      = outAt (rowsOf b p q i x) (rowsOf b p q i k) (valsOf b i vt) (rowsOf b p q i la) (along b p q la k vt S i.val) j d := by
  have hr : ∀ c, outPiece b p q la x k vt st (ix4 0 0 d c)
      = outOf b p la x 3 (st3 b p q la k vt st) (outOf b p la x 2 (st2 b p q la k vt st) (outOf b p la x 1 (st1 b p q la k vt st) (outOf b p la x 0 (loaded st)
      (inner b (valuesOf vt) (truncf .bf16 (onHead p q (kIn b la k)) bitsLt_bf16_f32) (pairOf p (qIn b la x)))))) (ix2 d c) := fun c => by pointwise [outPiece]
  rw [hr, outOf_at b p q 3 la hla x _ _ (st3_holds b p q la k vt hla S st h), outOf_at b p q 2 la hla x _ _ (st2_holds b p q la k vt hla S st h),
    outOf_at b p q 1 la hla x _ _ (st1_holds b p q la k vt hla S st h), outOf_at b p q 0 la hla x _ _ (loaded_holds b p q la k vt hla S st h),
    inner_at b p q i la k vt hla x, outAt]
  have e : ∀ a c : Fin 4, (a = c) = (a.val = c.val) := fun a c => propext Fin.ext_iff
  match i with
  | 0 => rw [if_pos rfl, if_neg (by decide), if_neg (by decide), if_neg (by decide), add_zero, add_zero, add_zero]; rfl
  | 1 => rw [if_pos rfl, if_neg (by decide), if_neg (by decide), if_neg (by decide), add_zero, add_zero, add_zero]; rfl
  | 2 => rw [if_pos rfl, if_neg (by decide), if_neg (by decide), if_neg (by decide), add_zero, add_zero, add_zero]; rfl
  | 3 => rw [if_pos rfl, if_neg (by decide), if_neg (by decide), if_neg (by decide), add_zero, add_zero, add_zero]; rfl

end Tile

end Cert.KernelIdeal.Body

end
-- ==== Proof.GlaPieces.lean ====
/- What one grid point leaves in the carried states and in the two output blocks, piece by piece. -/
module

public import proofs.«01_k».proof.Proof.GlaBody
public import Idealize.ShloMosaic.Lib.Pipeline.CanonAppend
public import Idealize.ShloMosaic.Lib.Pointwise

@[expose] public section

noncomputable section

namespace Cert.KernelIdeal.Body

open Cert.KernelIdeal Cert.KernelIdeal.Gen Idealize.ShloMosaic Idealize.ShloMosaic.TcCoe Idealize.SL.Sem

variable {F : FTy → Type} [FloatOps F]

theorem fits_decay : ∀ (s : Fin 4) (a : Fin 3), (![s.val, 0, 0] : Fin 3 → ℕ) a + S1x256x256.size a ≤ S4x256x256.size a := by decide
theorem fits_query : ∀ (s : Fin 4) (a : Fin 3), (![s.val, 0, 0] : Fin 3 → ℕ) a + S1x256x256.size a ≤ S4x256x512.size a := by decide
theorem fits_key : ∀ (s : Fin 4) (a : Fin 3), (![s.val, 0, 256] : Fin 3 → ℕ) a + S1x256x256.size a ≤ S4x256x512.size a := by decide
theorem fits_value : ∀ (s h : Fin 4) (a : Fin 4), (![s.val, 0, 128 * h.val, 0] : Fin 4 → ℕ) a + S1x1x128x256.size a ≤ S4x1x512x256.size a := by decide
theorem fits_state : ∀ (s h : Fin 4) (a : Fin 4), (![s.val, h.val, 0, 0] : Fin 4 → ℕ) a + S1x1x128x128.size a ≤ S4x4x128x128.size a := by decide

abbrev decayBox (s : Fin 4) : Rect S4x256x256 := Rect.unit ![s.val, 0, 0] S1x256x256.size (fits_decay s)
abbrev queryBox (s : Fin 4) : Rect S4x256x512 := Rect.unit ![s.val, 0, 0] S1x256x256.size (fits_query s)
abbrev keyBox (s : Fin 4) : Rect S4x256x512 := Rect.unit ![s.val, 0, 256] S1x256x256.size (fits_key s)
abbrev valueBox (s h : Fin 4) : Rect S4x1x512x256 := Rect.unit ![s.val, 0, 128 * h.val, 0] S1x1x128x256.size (fits_value s h)
abbrev stateBox (s h : Fin 4) : Rect S4x4x128x128 := Rect.unit ![s.val, h.val, 0, 0] S1x1x128x128.size (fits_state s h)

/-- A head's pair of heads, and its side in the pair. -/
def pr : Fin 4 → Fin 2 := ![0, 0, 1, 1]
def sd : Fin 4 → Fin 2 := ![0, 1, 0, 1]

/-- The state a grid point leaves, of the blocks it reads and the state it finds. -/
def newState (b : Bool) (x0 : Vec F S4x256x512 .f32) (x1 : Vec F S4x256x256 .f32) (x2 : Vec F S4x1x512x256 .bf16) (xs : Vec F S4x4x128x128 .f32)
    (s h : Fin 4) : Vec F S1x1x128x128 .f32 :=
  statePiece b (pr h) (sd h) (View.ld x1 (decayBox s)) (View.ld x0 (keyBox s)) (View.ld x2 (valueBox s h)) (View.ld xs (stateBox s h))

/-- The output a grid point leaves. -/
def newOut (b : Bool) (x0 : Vec F S4x256x512 .f32) (x1 : Vec F S4x256x256 .f32) (x2 : Vec F S4x1x512x256 .bf16) (xs : Vec F S4x4x128x128 .f32)
    (s h : Fin 4) : Vec F S1x1x128x256 .f32 :=
  outPiece b (pr h) (sd h) (View.ld x1 (decayBox s)) (View.ld x0 (queryBox s)) (View.ld x0 (keyBox s)) (View.ld x2 (valueBox s h)) (View.ld xs (stateBox s h))

abbrev statePieces (P : Fin 4 → Fin 4 → Vec F S1x1x128x128 .f32) : List (View.Piece (Elt F) S4x4x128x128 .f32) :=
  [⟨stateBox 3 3, P 3 3⟩, ⟨stateBox 3 2, P 3 2⟩, ⟨stateBox 3 1, P 3 1⟩, ⟨stateBox 3 0, P 3 0⟩, ⟨stateBox 2 3, P 2 3⟩, ⟨stateBox 2 2, P 2 2⟩, ⟨stateBox 2 1, P 2 1⟩, ⟨stateBox 2 0, P 2 0⟩, ⟨stateBox 1 3, P 1 3⟩, ⟨stateBox 1 2, P 1 2⟩, ⟨stateBox 1 1, P 1 1⟩, ⟨stateBox 1 0, P 1 0⟩, ⟨stateBox 0 3, P 0 3⟩, ⟨stateBox 0 2, P 0 2⟩, ⟨stateBox 0 1, P 0 1⟩, ⟨stateBox 0 0, P 0 0⟩]

abbrev outPieces (P : Fin 4 → Fin 4 → Vec F S1x1x128x256 .f32) : List (View.Piece (Elt F) S4x1x512x256 .f32) :=
  [⟨valueBox 3 3, P 3 3⟩, ⟨valueBox 3 2, P 3 2⟩, ⟨valueBox 3 1, P 3 1⟩, ⟨valueBox 3 0, P 3 0⟩, ⟨valueBox 2 3, P 2 3⟩, ⟨valueBox 2 2, P 2 2⟩, ⟨valueBox 2 1, P 2 1⟩, ⟨valueBox 2 0, P 2 0⟩, ⟨valueBox 1 3, P 1 3⟩, ⟨valueBox 1 2, P 1 2⟩, ⟨valueBox 1 1, P 1 1⟩, ⟨valueBox 1 0, P 1 0⟩, ⟨valueBox 0 3, P 0 3⟩, ⟨valueBox 0 2, P 0 2⟩, ⟨valueBox 0 1, P 0 1⟩, ⟨valueBox 0 0, P 0 0⟩]

theorem mem_statePieces (P : Fin 4 → Fin 4 → Vec F S1x1x128x128 .f32) (s h : Fin 4) : (⟨stateBox s h, P s h⟩ : View.Piece (Elt F) S4x4x128x128 .f32) ∈ statePieces P := by
  fin_cases s <;> fin_cases h <;> simp

theorem mem_outPieces (P : Fin 4 → Fin 4 → Vec F S1x1x128x256 .f32) (s h : Fin 4) : (⟨valueBox s h, P s h⟩ : View.Piece (Elt F) S4x1x512x256 .f32) ∈ outPieces P := by
  fin_cases s <;> fin_cases h <;> simp

theorem of_mem_statePieces (P : Fin 4 → Fin 4 → Vec F S1x1x128x128 .f32) (p : View.Piece (Elt F) S4x4x128x128 .f32) (hp : p ∈ statePieces P) :
    ∃ s h : Fin 4, p = ⟨stateBox s h, P s h⟩ := by
  simp only [statePieces, List.mem_cons, List.not_mem_nil, or_false] at hp
  rcases hp with rfl | rfl | rfl | rfl | rfl | rfl | rfl | rfl | rfl | rfl | rfl | rfl | rfl | rfl | rfl | rfl
  exacts [⟨3, 3, rfl⟩, ⟨3, 2, rfl⟩, ⟨3, 1, rfl⟩, ⟨3, 0, rfl⟩, ⟨2, 3, rfl⟩, ⟨2, 2, rfl⟩, ⟨2, 1, rfl⟩, ⟨2, 0, rfl⟩, ⟨1, 3, rfl⟩, ⟨1, 2, rfl⟩, ⟨1, 1, rfl⟩, ⟨1, 0, rfl⟩, ⟨0, 3, rfl⟩, ⟨0, 2, rfl⟩, ⟨0, 1, rfl⟩, ⟨0, 0, rfl⟩]

theorem of_mem_outPieces (P : Fin 4 → Fin 4 → Vec F S1x1x128x256 .f32) (p : View.Piece (Elt F) S4x1x512x256 .f32) (hp : p ∈ outPieces P) :
    ∃ s h : Fin 4, p = ⟨valueBox s h, P s h⟩ := by
  simp only [outPieces, List.mem_cons, List.not_mem_nil, or_false] at hp
  rcases hp with rfl | rfl | rfl | rfl | rfl | rfl | rfl | rfl | rfl | rfl | rfl | rfl | rfl | rfl | rfl | rfl
  exacts [⟨3, 3, rfl⟩, ⟨3, 2, rfl⟩, ⟨3, 1, rfl⟩, ⟨3, 0, rfl⟩, ⟨2, 3, rfl⟩, ⟨2, 2, rfl⟩, ⟨2, 1, rfl⟩, ⟨2, 0, rfl⟩, ⟨1, 3, rfl⟩, ⟨1, 2, rfl⟩, ⟨1, 1, rfl⟩, ⟨1, 0, rfl⟩, ⟨0, 3, rfl⟩, ⟨0, 2, rfl⟩, ⟨0, 1, rfl⟩, ⟨0, 0, rfl⟩]

theorem emb_stateBox (s h : Fin 4) (v l : Fin 128) : (stateBox s h).emb (ix4 0 0 v l) = ix4 s h v l := by
  funext a; fin_cases a <;> refine Fin.ext ?_
  · show s.val + 1 * 0 = s.val; omega
  · show h.val + 1 * 0 = h.val; omega
  · show 0 + 1 * v.val = v.val; omega
  · show 0 + 1 * l.val = l.val; omega

theorem emb_valueBox (s h : Fin 4) (v : Fin 128) (j : Fin 256) (hb : 128 * h.val + v.val < 512) : (valueBox s h).emb (ix4 0 0 v j)
    = ix4 s 0 (⟨128 * h.val + v.val, hb⟩ : Fin 512) j := by
  funext a; fin_cases a <;> refine Fin.ext ?_
  · show s.val + 1 * 0 = s.val; omega
  · show 0 + 1 * 0 = 0; omega
  · show 128 * h.val + 1 * v.val = 128 * h.val + v.val; omega
  · show 0 + 1 * j.val = j.val; omega

theorem state_agrees (P : Fin 4 → Fin 4 → Vec F S1x1x128x128 .f32) (s h : Fin 4) (x : S1x1x128x128.Idx) :
    P s h x = (fun y : S4x4x128x128.Idx => P (y 0) (y 1) (ix4 0 0 (y 2) (y 3))) ((stateBox s h).emb x) := by
  obtain ⟨v, l, rfl⟩ : ∃ v l : Fin 128, x = ix4 0 0 v l := by
    refine ⟨x 2, x 3, ?_⟩
    funext a; fin_cases a
    · exact Subsingleton.elim (α := Fin 1) _ _
    · exact Subsingleton.elim (α := Fin 1) _ _
    · rfl
    · rfl
  rw [emb_stateBox]
  rfl

theorem canon_statePieces (P : Fin 4 → Fin 4 → Vec F S1x1x128x128 .f32) (L : List (View.Piece (Elt F) S4x4x128x128 .f32)) (s h : Fin 4) (v l : Fin 128) :
    View.canon (statePieces P ++ L) (ix4 s h v l) = P s h (ix4 0 0 v l) := by
  refine View.canon_append_of_pieces (Val := Elt F) (e := .f32) (fun y => P (y 0) (y 1) (ix4 0 0 (y 2) (y 3))) L _ ?_ _
    ⟨_, mem_statePieces P s h, ?_⟩
  · intro p hp x
    obtain ⟨s, h, rfl⟩ := of_mem_statePieces P p hp
    exact state_agrees P s h x
  · rw [← emb_stateBox]; exact (stateBox s h).idx_mem (ix4 0 0 v l)

theorem head_of (h : Fin 4) (v : Fin 128) (hd : (128 * h.val + v.val) / 128 < 4) : (⟨(128 * h.val + v.val) / 128, hd⟩ : Fin 4) = h :=
  Fin.ext (by show (128 * h.val + v.val) / 128 = h.val; have := v.isLt; omega)
theorem lane_of (h : Fin 4) (v : Fin 128) (hm : (128 * h.val + v.val) % 128 < 128) : (⟨(128 * h.val + v.val) % 128, hm⟩ : Fin 128) = v :=
  Fin.ext (by show (128 * h.val + v.val) % 128 = v.val; have := v.isLt; omega)

/-- The block the outputs of all heads make. -/
def outBlock (P : Fin 4 → Fin 4 → Vec F S1x1x128x256 .f32) (y : S4x1x512x256.Idx) : Elt F .f32 :=
  P (y 0) (⟨(y 2 : Fin 512).val / 128, Nat.div_lt_of_lt_mul (y 2 : Fin 512).isLt⟩ : Fin 4)
    (ix4 0 0 (⟨(y 2 : Fin 512).val % 128, Nat.mod_lt _ (by decide)⟩ : Fin 128) (y 3))

theorem outBlock_at (P : Fin 4 → Fin 4 → Vec F S1x1x128x256 .f32) (s h : Fin 4) (v : Fin 128) (j : Fin 256) (hb : 128 * h.val + v.val < 512) :
    outBlock P (ix4 s 0 (⟨128 * h.val + v.val, hb⟩ : Fin 512) j) = P s h (ix4 0 0 v j) := by
  have e : ∀ (a : Fin 4) (b : Fin 128), a = h → b = v → P s a (ix4 0 0 b j) = P s h (ix4 0 0 v j) := by rintro a b rfl rfl; rfl
  exact e _ _ (head_of h v _) (lane_of h v _)

theorem out_agrees (P : Fin 4 → Fin 4 → Vec F S1x1x128x256 .f32) (s h : Fin 4) (x : S1x1x128x256.Idx) :
    P s h x = outBlock P ((valueBox s h).emb x) := by
  obtain ⟨v, j, rfl⟩ : ∃ (v : Fin 128) (j : Fin 256), x = ix4 0 0 v j := by
    refine ⟨x 2, x 3, ?_⟩
    funext a; fin_cases a
    · exact Subsingleton.elim (α := Fin 1) _ _
    · exact Subsingleton.elim (α := Fin 1) _ _
    · rfl
    · rfl
  have hb : 128 * h.val + v.val < 512 := by have := h.isLt; have := v.isLt; omega
  rw [emb_valueBox s h v j hb, outBlock_at]

theorem canon_outPieces (P : Fin 4 → Fin 4 → Vec F S1x1x128x256 .f32) (s h : Fin 4) (v : Fin 128) (j : Fin 256) (hb : 128 * h.val + v.val < 512) :
    View.canon (outPieces P) (ix4 s 0 (⟨128 * h.val + v.val, hb⟩ : Fin 512) j) = P s h (ix4 0 0 v j) := by
  refine (View.canon_apply_of_pieces (Val := Elt F) (e := .f32) (outBlock P) (outPieces P) ?_ _ ⟨_, mem_outPieces P s h, ?_⟩).trans (outBlock_at P s h v j hb)
  · intro p hp x
    obtain ⟨s, h, rfl⟩ := of_mem_outPieces P p hp
    exact out_agrees P s h x
  · rw [← emb_valueBox s h v j hb]; exact (valueBox s h).idx_mem (ix4 0 0 v j)

/-! ### The runs' pieces -/

/-- The states a direction starts from. -/
def zeroState : Vec F S4x4x128x128 .f32 :=
  shapeCast S4x4x128x128 (broadcast S4x4x128x128 (Scalar.ofBits .f32 0x00000000#32 : F .f32)) shapeCasts_S4x4x128x128_S4x4x128x128

theorem readCov_zero (w : View sig .tc .vmem S4x4x128x128 .f32) (s h : Fin 4) :
    w.readCov (Val := Elt F) [⟨Rect.unit ![0, 0, 0, 0] S4x4x128x128.size inb_S4x4x128x128_S4x4x128x128_0_0_0_0, zeroState⟩] (stateBox s h).toLoadRect
      = View.ld zeroState (stateBox s h) := by
  rw [View.readCov_eq_canon_ld]
  · exact congrArg (fun z => View.ld z (stateBox s h)) (View.canon_unit_zero (S := S4x4x128x128) (off := ![0, 0, 0, 0]) (by decide) _ _)
  intro y
  exact ⟨_, List.mem_cons_self, View.mem_set_unit_zero (S := S4x4x128x128) (off := ![0, 0, 0, 0]) (by decide) inb_S4x4x128x128_S4x4x128x128_0_0_0_0 y⟩

variable (c : Dev nD) (i : grid0.Coords) (arg2 : Memref sig .tc .vmem S4x256x512 .f32) (harg2 : arg2.IsWhole) (arg3 : Memref sig .tc .vmem S4x256x256 .f32) (harg3 : arg3.IsWhole) (arg4 : Memref sig .tc .vmem S4x1x512x256 .bf16) (harg4 : arg4.IsWhole) (arg5 : Memref sig .tc .vmem S4x256x512 .f32) (harg5 : arg5.IsWhole) (arg6 : Memref sig .tc .vmem S4x256x256 .f32) (harg6 : arg6.IsWhole) (arg7 : Memref sig .tc .vmem S4x1x512x256 .bf16) (harg7 : arg7.IsWhole) (arg8 : Memref sig .tc .vmem S4x1x512x256 .f32) (harg8 : arg8.IsWhole) (arg9 : Memref sig .tc .vmem S4x1x512x256 .f32) (harg9 : arg9.IsWhole) (arg10 : Memref sig .tc .vmem S4x4x128x128 .f32) (harg10 : arg10.IsWhole) (arg11 : Memref sig .tc .vmem S4x4x128x128 .f32) (harg11 : arg11.IsWhole)
  (x0 : Vec F S4x256x512 .f32) (x1 : Vec F S4x256x256 .f32) (x2 : Vec F S4x1x512x256 .bf16) (x3 : Vec F S4x256x512 .f32) (x4 : Vec F S4x256x256 .f32) (x5 : Vec F S4x1x512x256 .bf16) (xs0 xs1 : Vec F S4x4x128x128 .f32)

theorem state_B0 (hc0 : ¬cond0_0 i) (s h : Fin 4) (v l : Fin 128) :
    sout0_B_0 c i arg2 harg2 arg3 harg3 arg4 harg4 arg5 harg5 arg6 harg6 arg7 harg7 arg8 harg8 arg9 harg9 arg10 harg10 arg11 harg11 hc0 x0 x1 x2 x3 x4 x5 xs0 xs1 (ix4 s h v l) = newState false x0 x1 x2 xs0 s h (ix4 0 0 v l) := by
  unfold sout0_B_0 kernelRun0_B
  dsimp only
  rw [View.read_writes_junk_eq_canon]
  refine (congrFun (f := View.canon _) (g := View.canon (statePieces (fun s h => statePiece false (pr h) (sd h) (View.readAt (Elt F) arg3.view (decayBox s).toLoadRect (harg3.unread x1)) (View.readAt (Elt F) arg2.view (keyBox s).toLoadRect (harg2.unread x0)) (View.readAt (Elt F) arg4.view (valueBox s h).toLoadRect (harg4.unread x2)) (View.readAt (Elt F) arg10.view (stateBox s h).toLoadRect (harg10.unread xs0))) ++ [])) rfl _).trans ?_
  rw [canon_statePieces]
  unfold newState
  simp only [View.readAt_eq_ld, Memref.IsWhole.read_unread]

theorem state_B1 (hc0 : ¬cond0_0 i) (s h : Fin 4) (v l : Fin 128) :
    sout0_B_1 c i arg2 harg2 arg3 harg3 arg4 harg4 arg5 harg5 arg6 harg6 arg7 harg7 arg8 harg8 arg9 harg9 arg10 harg10 arg11 harg11 hc0 x0 x1 x2 x3 x4 x5 xs0 xs1 (ix4 s h v l) = newState true x3 x4 x5 xs1 s h (ix4 0 0 v l) := by
  unfold sout0_B_1 kernelRun0_B
  dsimp only
  rw [View.read_writes_junk_eq_canon]
  refine (congrFun (f := View.canon _) (g := View.canon (statePieces (fun s h => statePiece true (pr h) (sd h) (View.readAt (Elt F) arg6.view (decayBox s).toLoadRect (harg6.unread x4)) (View.readAt (Elt F) arg5.view (keyBox s).toLoadRect (harg5.unread x3)) (View.readAt (Elt F) arg7.view (valueBox s h).toLoadRect (harg7.unread x5)) (View.readAt (Elt F) arg11.view (stateBox s h).toLoadRect (harg11.unread xs1))) ++ [])) rfl _).trans ?_
  rw [canon_statePieces]
  unfold newState
  simp only [View.readAt_eq_ld, Memref.IsWhole.read_unread]

theorem out_B0 (hc0 : ¬cond0_0 i) (s h : Fin 4) (v : Fin 128) (j : Fin 256) (hb : 128 * h.val + v.val < 512) :
    out0_B_6 c i arg2 harg2 arg3 harg3 arg4 harg4 arg5 harg5 arg6 harg6 arg7 harg7 arg8 harg8 arg9 harg9 arg10 harg10 arg11 harg11 hc0 x0 x1 x2 x3 x4 x5 xs0 xs1 (ix4 s 0 (⟨128 * h.val + v.val, hb⟩ : Fin 512) j) = newOut false x0 x1 x2 xs0 s h (ix4 0 0 v j) := by
  unfold out0_B_6 kernelRun0_B
  dsimp only
  rw [View.read_writes_junk_eq_canon]
  refine (congrFun (f := View.canon _) (g := View.canon (outPieces (fun s h => outPiece false (pr h) (sd h) (View.readAt (Elt F) arg3.view (decayBox s).toLoadRect (harg3.unread x1)) (View.readAt (Elt F) arg2.view (queryBox s).toLoadRect (harg2.unread x0)) (View.readAt (Elt F) arg2.view (keyBox s).toLoadRect (harg2.unread x0)) (View.readAt (Elt F) arg4.view (valueBox s h).toLoadRect (harg4.unread x2)) (View.readAt (Elt F) arg10.view (stateBox s h).toLoadRect (harg10.unread xs0))))) rfl _).trans ?_
  rw [canon_outPieces]
  unfold newOut
  simp only [View.readAt_eq_ld, Memref.IsWhole.read_unread]

theorem out_B1 (hc0 : ¬cond0_0 i) (s h : Fin 4) (v : Fin 128) (j : Fin 256) (hb : 128 * h.val + v.val < 512) :
    out0_B_7 c i arg2 harg2 arg3 harg3 arg4 harg4 arg5 harg5 arg6 harg6 arg7 harg7 arg8 harg8 arg9 harg9 arg10 harg10 arg11 harg11 hc0 x0 x1 x2 x3 x4 x5 xs0 xs1 (ix4 s 0 (⟨128 * h.val + v.val, hb⟩ : Fin 512) j) = newOut true x3 x4 x5 xs1 s h (ix4 0 0 v j) := by
  unfold out0_B_7 kernelRun0_B
  dsimp only
  rw [View.read_writes_junk_eq_canon]
  refine (congrFun (f := View.canon _) (g := View.canon (outPieces (fun s h => outPiece true (pr h) (sd h) (View.readAt (Elt F) arg6.view (decayBox s).toLoadRect (harg6.unread x4)) (View.readAt (Elt F) arg5.view (queryBox s).toLoadRect (harg5.unread x3)) (View.readAt (Elt F) arg5.view (keyBox s).toLoadRect (harg5.unread x3)) (View.readAt (Elt F) arg7.view (valueBox s h).toLoadRect (harg7.unread x5)) (View.readAt (Elt F) arg11.view (stateBox s h).toLoadRect (harg11.unread xs1))))) rfl _).trans ?_
  rw [canon_outPieces]
  unfold newOut
  simp only [View.readAt_eq_ld, Memref.IsWhole.read_unread]

theorem state_A0 (hc0 : cond0_0 i) (s h : Fin 4) (v l : Fin 128) :
    sout0_A_0 c i arg2 harg2 arg3 harg3 arg4 harg4 arg5 harg5 arg6 harg6 arg7 harg7 arg8 harg8 arg9 harg9 arg10 harg10 arg11 harg11 hc0 x0 x1 x2 x3 x4 x5 (ix4 s h v l) = newState false x0 x1 x2 zeroState s h (ix4 0 0 v l) := by
  unfold sout0_A_0 kernelRun0_A
  dsimp only
  rw [View.read_writes_junk_eq_canon]
  refine (congrFun (f := View.canon _) (g := View.canon (statePieces (fun s h => statePiece false (pr h) (sd h) (View.readAt (Elt F) arg3.view (decayBox s).toLoadRect (harg3.unread x1)) (View.readAt (Elt F) arg2.view (keyBox s).toLoadRect (harg2.unread x0)) (View.readAt (Elt F) arg4.view (valueBox s h).toLoadRect (harg4.unread x2)) (arg10.view.readCov [⟨Rect.unit ![0, 0, 0, 0] S4x4x128x128.size inb_S4x4x128x128_S4x4x128x128_0_0_0_0, zeroState⟩] (stateBox s h).toLoadRect)) ++ [⟨Rect.unit ![0, 0, 0, 0] S4x4x128x128.size inb_S4x4x128x128_S4x4x128x128_0_0_0_0, zeroState⟩])) rfl _).trans ?_
  rw [canon_statePieces, readCov_zero]
  unfold newState
  simp only [View.readAt_eq_ld, Memref.IsWhole.read_unread]

theorem state_A1 (hc0 : cond0_0 i) (s h : Fin 4) (v l : Fin 128) :
    sout0_A_1 c i arg2 harg2 arg3 harg3 arg4 harg4 arg5 harg5 arg6 harg6 arg7 harg7 arg8 harg8 arg9 harg9 arg10 harg10 arg11 harg11 hc0 x0 x1 x2 x3 x4 x5 (ix4 s h v l) = newState true x3 x4 x5 zeroState s h (ix4 0 0 v l) := by
  unfold sout0_A_1 kernelRun0_A
  dsimp only
  rw [View.read_writes_junk_eq_canon]
  refine (congrFun (f := View.canon _) (g := View.canon (statePieces (fun s h => statePiece true (pr h) (sd h) (View.readAt (Elt F) arg6.view (decayBox s).toLoadRect (harg6.unread x4)) (View.readAt (Elt F) arg5.view (keyBox s).toLoadRect (harg5.unread x3)) (View.readAt (Elt F) arg7.view (valueBox s h).toLoadRect (harg7.unread x5)) (arg11.view.readCov [⟨Rect.unit ![0, 0, 0, 0] S4x4x128x128.size inb_S4x4x128x128_S4x4x128x128_0_0_0_0, zeroState⟩] (stateBox s h).toLoadRect)) ++ [⟨Rect.unit ![0, 0, 0, 0] S4x4x128x128.size inb_S4x4x128x128_S4x4x128x128_0_0_0_0, zeroState⟩])) rfl _).trans ?_
  rw [canon_statePieces, readCov_zero]
  unfold newState
  simp only [View.readAt_eq_ld, Memref.IsWhole.read_unread]

theorem out_A0 (hc0 : cond0_0 i) (s h : Fin 4) (v : Fin 128) (j : Fin 256) (hb : 128 * h.val + v.val < 512) :
    out0_A_6 c i arg2 harg2 arg3 harg3 arg4 harg4 arg5 harg5 arg6 harg6 arg7 harg7 arg8 harg8 arg9 harg9 arg10 harg10 arg11 harg11 hc0 x0 x1 x2 x3 x4 x5 (ix4 s 0 (⟨128 * h.val + v.val, hb⟩ : Fin 512) j) = newOut false x0 x1 x2 zeroState s h (ix4 0 0 v j) := by
  unfold out0_A_6 kernelRun0_A
  dsimp only
  rw [View.read_writes_junk_eq_canon]
  refine (congrFun (f := View.canon _) (g := View.canon (outPieces (fun s h => outPiece false (pr h) (sd h) (View.readAt (Elt F) arg3.view (decayBox s).toLoadRect (harg3.unread x1)) (View.readAt (Elt F) arg2.view (queryBox s).toLoadRect (harg2.unread x0)) (View.readAt (Elt F) arg2.view (keyBox s).toLoadRect (harg2.unread x0)) (View.readAt (Elt F) arg4.view (valueBox s h).toLoadRect (harg4.unread x2)) (arg10.view.readCov [⟨Rect.unit ![0, 0, 0, 0] S4x4x128x128.size inb_S4x4x128x128_S4x4x128x128_0_0_0_0, zeroState⟩] (stateBox s h).toLoadRect)))) rfl _).trans ?_
  rw [canon_outPieces, readCov_zero]
  unfold newOut
  simp only [View.readAt_eq_ld, Memref.IsWhole.read_unread]

theorem out_A1 (hc0 : cond0_0 i) (s h : Fin 4) (v : Fin 128) (j : Fin 256) (hb : 128 * h.val + v.val < 512) :
    out0_A_7 c i arg2 harg2 arg3 harg3 arg4 harg4 arg5 harg5 arg6 harg6 arg7 harg7 arg8 harg8 arg9 harg9 arg10 harg10 arg11 harg11 hc0 x0 x1 x2 x3 x4 x5 (ix4 s 0 (⟨128 * h.val + v.val, hb⟩ : Fin 512) j) = newOut true x3 x4 x5 zeroState s h (ix4 0 0 v j) := by
  unfold out0_A_7 kernelRun0_A
  dsimp only
  rw [View.read_writes_junk_eq_canon]
  refine (congrFun (f := View.canon _) (g := View.canon (outPieces (fun s h => outPiece true (pr h) (sd h) (View.readAt (Elt F) arg6.view (decayBox s).toLoadRect (harg6.unread x4)) (View.readAt (Elt F) arg5.view (queryBox s).toLoadRect (harg5.unread x3)) (View.readAt (Elt F) arg5.view (keyBox s).toLoadRect (harg5.unread x3)) (View.readAt (Elt F) arg7.view (valueBox s h).toLoadRect (harg7.unread x5)) (arg11.view.readCov [⟨Rect.unit ![0, 0, 0, 0] S4x4x128x128.size inb_S4x4x128x128_S4x4x128x128_0_0_0_0, zeroState⟩] (stateBox s h).toLoadRect)))) rfl _).trans ?_
  rw [canon_outPieces, readCov_zero]
  unfold newOut
  simp only [View.readAt_eq_ld, Memref.IsWhole.read_unread]

end Cert.KernelIdeal.Body

end
-- ==== Proof.GlaPoints.lean ====
/- The kernel's grid over the extended reals: the states after each point, and the two result arrays. -/
module

public import proofs.«01_k».proof.Proof.GlaTile
public import proofs.«01_k».proof.Proof.GlaPieces
public import proofs.«01_k».proof.Proof.Gen.KernelIdeal.Value
public import Idealize.ShloMosaic.Lib.Pipeline.ValueKit.Geometry

@[expose] public section

noncomputable section

namespace Cert.KernelIdeal.Body

open Cert.KernelIdeal Cert.KernelIdeal.Gen Idealize.ShloMosaic Idealize.ShloMosaic.TcCoe Idealize.SL.Sem Cert.GlaSpec

abbrev Toks := Fin 4 → Fin 8448 → Fin 512 → EReal
abbrev Tiles := Fin 4 → Fin 33 → Fin 512 → Fin 256 → EReal

/-- The three blocks a direction reads at a point are those of its tile. -/
structure Blocks (qk la : Toks) (vt : Tiles) (b : Bool) (t : ℕ) (x0 : Vec Ideal S4x256x512 .f32) (x1 : Vec Ideal S4x256x256 .f32)
    (x2 : Vec Ideal S4x1x512x256 .bf16) : Prop where
  q : ∀ s (r : Fin 256) k, x0 (ix3 s r k) = qk s ⟨256 * (tileAt b t).val + r.val, by omega⟩ k
  l : ∀ s (r k : Fin 256), x1 (ix3 s r k) = la s ⟨256 * (tileAt b t).val + r.val, by omega⟩ ⟨256 * b.toNat + k.val, by have := Bool.toNat_le b; omega⟩
  v : ∀ s k r, x2 (ix4 s 0 k r) = vt s (tileAt b t) k r

theorem head_col : ∀ h : Fin 4, 128 * (pr h).val + 64 * (sd h).val = 64 * h.val := by decide

theorem col_val (h : Fin 4) (e : Fin 64) : (col (pr h) (sd h) e).val = 64 * h.val + e.val := by
  have := head_col h
  simp only [col, lane]; omega

theorem tok_at (b : Bool) (t : ℕ) (i : Fin 4) (j : Fin 64) : tok b (4 * t + i.val) j = ⟨256 * (tileAt b t).val + (row b i j).val, by omega⟩ := by
  have e1 : (4 * t + i.val) / 4 = t := by omega
  have e2 : Fin.ofNat 4 (4 * t + i.val) = i := Fin.ext (by show (4 * t + i.val) % 4 = i.val; omega)
  unfold tok
  refine Fin.ext ?_
  show 256 * (tileAt b ((4 * t + i.val) / 4)).val + (row b (Fin.ofNat 4 (4 * t + i.val)) j).val = _
  rw [e1, e2]

theorem ld_decay (x : Vec Ideal S4x256x256 .f32) (s : Fin 4) (r k : Fin 256) : View.ld x (decayBox s) (ix3 0 r k) = x (ix3 s r k) :=
  congrArg x (funext fun a => Fin.ext (by
    match a with
    | ⟨0, _⟩ => show s.val + 1 * 0 = s.val; omega
    | ⟨1, _⟩ => show 0 + 1 * r.val = r.val; omega
    | ⟨2, _⟩ => show 0 + 1 * k.val = k.val; omega))
theorem ld_query (x : Vec Ideal S4x256x512 .f32) (s : Fin 4) (r k : Fin 256) : View.ld x (queryBox s) (ix3 0 r k) = x (ix3 s r ⟨k.val, by omega⟩) :=
  congrArg x (funext fun a => Fin.ext (by
    match a with
    | ⟨0, _⟩ => show s.val + 1 * 0 = s.val; omega
    | ⟨1, _⟩ => show 0 + 1 * r.val = r.val; omega
    | ⟨2, _⟩ => show 0 + 1 * k.val = k.val; omega))
theorem ld_key (x : Vec Ideal S4x256x512 .f32) (s : Fin 4) (r k : Fin 256) : View.ld x (keyBox s) (ix3 0 r k) = x (ix3 s r ⟨256 + k.val, by omega⟩) :=
  congrArg x (funext fun a => Fin.ext (by
    match a with
    | ⟨0, _⟩ => show s.val + 1 * 0 = s.val; omega
    | ⟨1, _⟩ => show 0 + 1 * r.val = r.val; omega
    | ⟨2, _⟩ => show 256 + 1 * k.val = 256 + k.val; omega))
theorem ld_value (x : Vec Ideal S4x1x512x256 .bf16) (s h : Fin 4) (d : Fin 128) (r : Fin 256) :
    View.ld x (valueBox s h) (ix4 0 0 d r) = x (ix4 s 0 ⟨128 * h.val + d.val, by omega⟩ r) :=
  congrArg x (emb_valueBox s h d r _)
theorem ld_state (x : Vec Ideal S4x4x128x128 .f32) (s h : Fin 4) (d l : Fin 128) : View.ld x (stateBox s h) (ix4 0 0 d l) = x (ix4 s h d l) :=
  congrArg x (emb_stateBox s h d l)

section Point
variable {qk la : Toks} {vt : Tiles} {b : Bool} {t : ℕ} {x0 : Vec Ideal S4x256x512 .f32} {x1 : Vec Ideal S4x256x256 .f32}
  {x2 : Vec Ideal S4x1x512x256 .bf16} (H : Blocks qk la vt b t x0 x1 x2) (s h : Fin 4) (i : Fin 4)

include H

theorem q_rows : rowsOf b (pr h) (sd h) i (View.ld x0 (queryBox s)) = qRows qk b s h (4 * t + i.val) := by
  funext j e
  unfold rowsOf qRows
  rw [ld_query, H.q, tok_at]
  exact congrArg (qk s _) (Fin.ext (col_val h e))
theorem k_rows : rowsOf b (pr h) (sd h) i (View.ld x0 (keyBox s)) = kRows qk b s h (4 * t + i.val) := by
  funext j e
  unfold rowsOf kRows
  rw [ld_key, H.q, tok_at]
  exact congrArg (qk s _) (Fin.ext (congrArg (256 + ·) (col_val h e)))
theorem g_rows : rowsOf b (pr h) (sd h) i (View.ld x1 (decayBox s)) = gRows la b s h (4 * t + i.val) := by
  funext j e
  unfold rowsOf gRows
  rw [ld_decay, H.l, tok_at]
  exact congrArg (la s _) (Fin.ext (congrArg (256 * b.toNat + ·) (col_val h e)))
theorem v_rows : valsOf b i (View.ld x2 (valueBox s h)) = vRows vt b s h (4 * t + i.val) := by
  funext j d
  have e1 : (4 * t + i.val) / 4 = t := by omega
  have e2 : Fin.ofNat 4 (4 * t + i.val) = i := Fin.ext (by show (4 * t + i.val) % 4 = i.val; omega)
  unfold valsOf vRows
  rw [ld_value, H.v, e1, e2]

theorem along_mem (n : ℕ) (hn : n ≤ 4) :
    along b (pr h) (sd h) (View.ld x1 (decayBox s)) (View.ld x0 (keyBox s)) (View.ld x2 (valueBox s h)) (mem qk la vt b s h (4 * t)) n
      = mem qk la vt b s h (4 * t + n) := by
  induction n with
  | zero => rfl
  | succ n ih =>
    have e : (Fin.ofNat 4 n).val = n := Nat.mod_eq_of_lt (by omega)
    rw [along, ih (by omega), k_rows H s h, v_rows H s h, g_rows H s h, e]
    rfl

variable (hla : ∀ s t k, la s t k ≠ ⊤ ∧ la s t k ≠ ⊥)
include hla

theorem ld_finite (x : S1x256x256.Idx) : View.ld x1 (decayBox s) x ≠ ⊤ ∧ View.ld x1 (decayBox s) x ≠ ⊥ := by
  obtain ⟨r, k, rfl⟩ : ∃ r k : Fin 256, x = ix3 0 r k := by
    refine ⟨x 1, x 2, ?_⟩
    funext a
    match a with
    | ⟨0, _⟩ => exact Subsingleton.elim (α := Fin 1) _ _
    | ⟨1, _⟩ => rfl
    | ⟨2, _⟩ => rfl
  rw [ld_decay, H.l]
  exact hla _ _ _

variable (xs : Vec Ideal S4x4x128x128 .f32)
  (hxs : ∀ s h d q e, xs (ix4 s h d (lane q e)) = if q = sd h then mem qk la vt b s h (4 * t) d e else 0)
include hxs

theorem newState_at (d : Fin 128) (q : Fin 2) (e : Fin 64) :
    newState b x0 x1 x2 xs s h (ix4 0 0 d (lane q e)) = if q = sd h then mem qk la vt b s h (4 * (t + 1)) d e else 0 := by
  unfold newState
  rw [statePiece_at b (pr h) (sd h) _ _ _ (ld_finite H s hla) (mem qk la vt b s h (4 * t)) _
    (fun d q e => (ld_state xs s h d (lane q e)).trans (hxs s h d q e)), along_mem H s h 4 (by omega)]
  rfl

theorem newOut_at (d : Fin 128) (j : Fin 64) :
    newOut b x0 x1 x2 xs s h (ix4 0 0 d (row b i j)) = outputAt qk la vt b s h (4 * t + i.val) j d := by
  unfold newOut
  rw [outPiece_at b (pr h) (sd h) _ _ _ (ld_finite H s hla) (mem qk la vt b s h (4 * t)) _
    (fun d q e => (ld_state xs s h d (lane q e)).trans (hxs s h d q e)), along_mem H s h i.val (by omega), k_rows H s h, v_rows H s h, g_rows H s h, q_rows H s h]
  rfl

end Point

variable (m : (ℓ : Loc nD τ sig) → Buf (Elt Ideal) ℓ)

theorem index_facts : ∀ t : Fin cfg0.N,
    (win0_0.index t 0 = 0 ∧ win0_0.index t 1 = (tileAt false t.val).val ∧ win0_0.index t 2 = 0)
    ∧ (win0_1.index t 0 = 0 ∧ win0_1.index t 1 = (tileAt false t.val).val ∧ win0_1.index t 2 = 0)
    ∧ (win0_2.index t 0 = 0 ∧ win0_2.index t 1 = (tileAt false t.val).val ∧ win0_2.index t 2 = 0 ∧ win0_2.index t 3 = 0)
    ∧ (win0_3.index t 0 = 0 ∧ win0_3.index t 1 = (tileAt true t.val).val ∧ win0_3.index t 2 = 0)
    ∧ (win0_4.index t 0 = 0 ∧ win0_4.index t 1 = (tileAt true t.val).val ∧ win0_4.index t 2 = 1)
    ∧ (win0_5.index t 0 = 0 ∧ win0_5.index t 1 = (tileAt true t.val).val ∧ win0_5.index t 2 = 0 ∧ win0_5.index t 3 = 0)
    ∧ (win0_6.index t 0 = 0 ∧ win0_6.index t 1 = (tileAt false t.val).val ∧ win0_6.index t 2 = 0 ∧ win0_6.index t 3 = 0)
    ∧ (win0_7.index t 0 = 0 ∧ win0_7.index t 1 = (tileAt true t.val).val ∧ win0_7.index t 2 = 0 ∧ win0_7.index t 3 = 0) :=
  (by decide +kernel : ∀ t : Fin grid0.N,
    (win0_0.index t 0 = 0 ∧ win0_0.index t 1 = (tileAt false t.val).val ∧ win0_0.index t 2 = 0)
    ∧ (win0_1.index t 0 = 0 ∧ win0_1.index t 1 = (tileAt false t.val).val ∧ win0_1.index t 2 = 0)
    ∧ (win0_2.index t 0 = 0 ∧ win0_2.index t 1 = (tileAt false t.val).val ∧ win0_2.index t 2 = 0 ∧ win0_2.index t 3 = 0)
    ∧ (win0_3.index t 0 = 0 ∧ win0_3.index t 1 = (tileAt true t.val).val ∧ win0_3.index t 2 = 0)
    ∧ (win0_4.index t 0 = 0 ∧ win0_4.index t 1 = (tileAt true t.val).val ∧ win0_4.index t 2 = 1)
    ∧ (win0_5.index t 0 = 0 ∧ win0_5.index t 1 = (tileAt true t.val).val ∧ win0_5.index t 2 = 0 ∧ win0_5.index t 3 = 0)
    ∧ (win0_6.index t 0 = 0 ∧ win0_6.index t 1 = (tileAt false t.val).val ∧ win0_6.index t 2 = 0 ∧ win0_6.index t 3 = 0)
    ∧ (win0_7.index t 0 = 0 ∧ win0_7.index t 1 = (tileAt true t.val).val ∧ win0_7.index t 2 = 0 ∧ win0_7.index t 3 = 0))

theorem tlt (t : Fin cfg0.N) : t.val < 33 := lt_of_lt_of_eq t.isLt N_0

/-- The arguments by coordinates. -/
def qkOf (c : Dev nD) : Toks := fun s t k => m ((c : Thread nD τ).loc main_arg0) (ix3 s t k)
def laOf (c : Dev nD) : Toks := fun s t k => m ((c : Thread nD τ).loc main_arg1) (ix3 s t k)
def vtOf (c : Dev nD) : Tiles := fun s t k r => m ((c : Thread nD τ).loc main_arg2) (ix4 s t k r)

theorem blocks_forward (c : Dev nD) (t : Fin cfg0.N) :
    Blocks (qkOf m c) (laOf m c) (vtOf m c) false t.val (iblk m c 0 t) (iblk m c 1 t) (iblk m c 2 t) := by
  obtain ⟨⟨a0, a1, a2⟩, ⟨b0, b1, b2⟩, ⟨c0, c1, c2, c3⟩, -⟩ := index_facts t
  refine ⟨fun s r k => ?_, fun s r k => ?_, fun s k r => ?_⟩
  · unfold iblk
    rw [View.read_apply]
    show V m c main_arg0 _ = _
    rw [V_main_arg0]
    refine congrArg (m _) (funext fun a => Fin.ext ?_)
    match a with
    | ⟨0, _⟩ => show win0_0.index t 0 * 4 + 1 * s.val = s.val; rw [a0]; omega
    | ⟨1, _⟩ => show win0_0.index t 1 * 256 + 1 * r.val = 256 * (tileAt false t.val).val + r.val; rw [a1]; omega
    | ⟨2, _⟩ => show win0_0.index t 2 * 512 + 1 * k.val = k.val; rw [a2]; omega
  · unfold iblk
    rw [View.read_apply]
    show V m c main_arg1 _ = _
    rw [V_main_arg1]
    refine congrArg (m _) (funext fun a => Fin.ext ?_)
    match a with
    | ⟨0, _⟩ => show win0_1.index t 0 * 4 + 1 * s.val = s.val; rw [b0]; omega
    | ⟨1, _⟩ => show win0_1.index t 1 * 256 + 1 * r.val = 256 * (tileAt false t.val).val + r.val; rw [b1]; omega
    | ⟨2, _⟩ => show win0_1.index t 2 * 256 + 1 * k.val = 256 * 0 + k.val; rw [b2]; omega
  · unfold iblk
    rw [View.read_apply]
    show V m c main_arg2 _ = _
    rw [V_main_arg2]
    refine congrArg (m _) (funext fun a => Fin.ext ?_)
    match a with
    | ⟨0, _⟩ => show win0_2.index t 0 * 4 + 1 * s.val = s.val; rw [c0]; omega
    | ⟨1, _⟩ => show win0_2.index t 1 * 1 + 1 * 0 = (tileAt false t.val).val; rw [c1]; omega
    | ⟨2, _⟩ => show win0_2.index t 2 * 512 + 1 * k.val = k.val; rw [c2]; omega
    | ⟨3, _⟩ => show win0_2.index t 3 * 256 + 1 * r.val = r.val; rw [c3]; omega

theorem blocks_backward (c : Dev nD) (t : Fin cfg0.N) :
    Blocks (qkOf m c) (laOf m c) (vtOf m c) true t.val (iblk m c 3 t) (iblk m c 4 t) (iblk m c 5 t) := by
  obtain ⟨-, -, -, ⟨a0, a1, a2⟩, ⟨b0, b1, b2⟩, ⟨c0, c1, c2, c3⟩, -⟩ := index_facts t
  refine ⟨fun s r k => ?_, fun s r k => ?_, fun s k r => ?_⟩
  · unfold iblk
    rw [View.read_apply]
    show V m c main_arg0 _ = _
    rw [V_main_arg0]
    refine congrArg (m _) (funext fun a => Fin.ext ?_)
    match a with
    | ⟨0, _⟩ => show win0_3.index t 0 * 4 + 1 * s.val = s.val; rw [a0]; omega
    | ⟨1, _⟩ => show win0_3.index t 1 * 256 + 1 * r.val = 256 * (tileAt true t.val).val + r.val; rw [a1]; omega
    | ⟨2, _⟩ => show win0_3.index t 2 * 512 + 1 * k.val = k.val; rw [a2]; omega
  · unfold iblk
    rw [View.read_apply]
    show V m c main_arg1 _ = _
    rw [V_main_arg1]
    refine congrArg (m _) (funext fun a => Fin.ext ?_)
    match a with
    | ⟨0, _⟩ => show win0_4.index t 0 * 4 + 1 * s.val = s.val; rw [b0]; omega
    | ⟨1, _⟩ => show win0_4.index t 1 * 256 + 1 * r.val = 256 * (tileAt true t.val).val + r.val; rw [b1]; omega
    | ⟨2, _⟩ => show win0_4.index t 2 * 256 + 1 * k.val = 256 * 1 + k.val; rw [b2]; omega
  · unfold iblk
    rw [View.read_apply]
    show V m c main_arg2 _ = _
    rw [V_main_arg2]
    refine congrArg (m _) (funext fun a => Fin.ext ?_)
    match a with
    | ⟨0, _⟩ => show win0_5.index t 0 * 4 + 1 * s.val = s.val; rw [c0]; omega
    | ⟨1, _⟩ => show win0_5.index t 1 * 1 + 1 * 0 = (tileAt true t.val).val; rw [c1]; omega
    | ⟨2, _⟩ => show win0_5.index t 2 * 512 + 1 * k.val = k.val; rw [c2]; omega
    | ⟨3, _⟩ => show win0_5.index t 3 * 256 + 1 * r.val = r.val; rw [c3]; omega

/-- The two carried states hold the recurrence's before chunk `4 t`. -/
def Carried (c : Dev nD) (b : Bool) (t : ℕ) (xs : Vec Ideal S4x4x128x128 .f32) : Prop :=
  ∀ s h d q e, xs (ix4 s h d (lane q e)) = if q = sd h then mem (qkOf m c) (laOf m c) (vtOf m c) b s h (4 * t) d e else 0

theorem carried_zero (c : Dev nD) (b : Bool) : Carried m c b 0 (zeroState (F := Ideal)) := by
  intro s h d q e
  have hz : zeroState (F := Ideal) (ix4 s h d (lane q e)) = 0 := Ideal.ofBits_zero_f32
  rw [hz]
  exact (ite_self _).symm

section Points
variable (c : Dev nD) (hla : ∀ s t k, laOf m c s t k ≠ ⊤ ∧ laOf m c s t k ≠ ⊥)
include hla

/-- The states after a point. -/
theorem carried_after : ∀ (n : ℕ) (hn : n < cfg0.N),
    Carried m c false (n + 1) (outsAt0 m c n hn).2.2.1 ∧ Carried m c true (n + 1) (outsAt0 m c n hn).2.2.2
  | 0, hn => by
    have e := outsAt0_A m c ⟨0, hn⟩ rfl
    dsimp only at e
    rw [e]
    dsimp only
    exact ⟨fun s h d q k => (state_A0 ..).trans (newState_at (blocks_forward m c ⟨0, hn⟩) s h hla _ (carried_zero m c false) d q k),
      fun s h d q k => (state_A1 ..).trans (newState_at (blocks_backward m c ⟨0, hn⟩) s h hla _ (carried_zero m c true) d q k)⟩
  | n + 1, hn => by
    have ih := carried_after n (by omega)
    have e := outsAt0_B m c ⟨n + 1, hn⟩ (by have := tlt ⟨n + 1, hn⟩; dsimp only at this ⊢; omega)
    dsimp only at e
    rw [e]
    dsimp only
    exact ⟨fun s h d q k => (state_B0 ..).trans (newState_at (blocks_forward m c ⟨n + 1, hn⟩) s h hla _ ih.1 d q k),
      fun s h d q k => (state_B1 ..).trans (newState_at (blocks_backward m c ⟨n + 1, hn⟩) s h hla _ ih.2 d q k)⟩

/-- The outputs of a point. -/
theorem outs_at : ∀ (n : ℕ) (hn : n < cfg0.N) (s h : Fin 4) (d : Fin 128) (i : Fin 4) (j : Fin 64) (hb : 128 * h.val + d.val < 512),
    (outsAt0 m c n hn).1 (ix4 s 0 ⟨128 * h.val + d.val, hb⟩ (row false i j)) = outputAt (qkOf m c) (laOf m c) (vtOf m c) false s h (4 * n + i.val) j d
    ∧ (outsAt0 m c n hn).2.1 (ix4 s 0 ⟨128 * h.val + d.val, hb⟩ (row true i j)) = outputAt (qkOf m c) (laOf m c) (vtOf m c) true s h (4 * n + i.val) j d
  | 0, hn, s, h, d, i, j, hb => by
    have e := outsAt0_A m c ⟨0, hn⟩ rfl
    dsimp only at e
    rw [e]
    dsimp only
    exact ⟨(out_A0 ..).trans (newOut_at (blocks_forward m c ⟨0, hn⟩) s h i hla _ (carried_zero m c false) d j),
      (out_A1 ..).trans (newOut_at (blocks_backward m c ⟨0, hn⟩) s h i hla _ (carried_zero m c true) d j)⟩
  | n + 1, hn, s, h, d, i, j, hb => by
    have ih := carried_after m c hla n (by omega)
    have e := outsAt0_B m c ⟨n + 1, hn⟩ (by have := tlt ⟨n + 1, hn⟩; dsimp only at this ⊢; omega)
    dsimp only at e
    rw [e]
    dsimp only
    exact ⟨(out_B0 ..).trans (newOut_at (blocks_forward m c ⟨n + 1, hn⟩) s h i hla _ ih.1 d j),
      (out_B1 ..).trans (newOut_at (blocks_backward m c ⟨n + 1, hn⟩) s h i hla _ ih.2 d j)⟩

end Points

/-- A direction's result array of the arguments in memory `m`. -/
def result (c : Dev nD) (b : Bool) : S4x33x512x256.Idx → EReal := fun y =>
  output (qkOf m c) (laOf m c) (vtOf m c) b (y 0) (y 1) (y 2) (y 3)

theorem exists_place (b : Bool) (x : S4x1x512x256.Idx) : ∃ (s h : Fin 4) (d : Fin 128) (i : Fin 4) (j : Fin 64) (hb : 128 * h.val + d.val < 512),
    x = ix4 s 0 ⟨128 * h.val + d.val, hb⟩ (row b i j) := by
  obtain ⟨h, d, hb, e2⟩ := exists_head (x 2)
  obtain ⟨i, j, e3⟩ := exists_row b (x 3)
  refine ⟨x 0, h, d, i, j, hb, ?_⟩
  rw [← e2, ← e3]
  funext a
  match a with
  | ⟨0, _⟩ => rfl
  | ⟨1, _⟩ => exact Subsingleton.elim (α := Fin 1) _ _
  | ⟨2, _⟩ => rfl
  | ⟨3, _⟩ => rfl

theorem place6 (t : Fin cfg0.N) (s : Fin 4) (a : Fin 512) (r : Fin 256) :
    ((cfg0.win 6).blk t).view.emb (ix4 s 0 a r) = ix4 s (tileAt false t.val) a r := by
  obtain ⟨-, -, -, -, -, -, ⟨a0, a1, a2, a3⟩, -⟩ := index_facts t
  funext x
  refine Fin.ext ?_
  match x with
  | ⟨0, _⟩ => show win0_6.index t 0 * 4 + 1 * s.val = s.val; rw [a0]; omega
  | ⟨1, _⟩ => show win0_6.index t 1 * 1 + 1 * 0 = (tileAt false t.val).val; rw [a1]; omega
  | ⟨2, _⟩ => show win0_6.index t 2 * 512 + 1 * a.val = a.val; rw [a2]; omega
  | ⟨3, _⟩ => show win0_6.index t 3 * 256 + 1 * r.val = r.val; rw [a3]; omega

theorem place7 (t : Fin cfg0.N) (s : Fin 4) (a : Fin 512) (r : Fin 256) :
    ((cfg0.win 7).blk t).view.emb (ix4 s 0 a r) = ix4 s (tileAt true t.val) a r := by
  obtain ⟨-, -, -, -, -, -, -, ⟨a0, a1, a2, a3⟩⟩ := index_facts t
  funext x
  refine Fin.ext ?_
  match x with
  | ⟨0, _⟩ => show win0_7.index t 0 * 4 + 1 * s.val = s.val; rw [a0]; omega
  | ⟨1, _⟩ => show win0_7.index t 1 * 1 + 1 * 0 = (tileAt true t.val).val; rw [a1]; omega
  | ⟨2, _⟩ => show win0_7.index t 2 * 512 + 1 * a.val = a.val; rw [a2]; omega
  | ⟨3, _⟩ => show win0_7.index t 3 * 256 + 1 * r.val = r.val; rw [a3]; omega

section Arrays
variable (c : Dev nD) (hla : ∀ s t k, laOf m c s t k ≠ ⊤ ∧ laOf m c s t k ≠ ⊥)
include hla

theorem block6 (t : Fin cfg0.N) (y : S4x1x512x256.Idx) : (outsAt0 m c t.val t.isLt).1 y = result m c false (((cfg0.win 6).blk t).view.emb y) := by
  obtain ⟨s, h, d, i, j, hb, rfl⟩ := exists_place false y
  rw [place6, (outs_at m c hla t.val t.isLt s h d i j hb).1]
  exact (output_place _ _ _ false s h t.val (tlt t) i j d hb).symm

theorem block7 (t : Fin cfg0.N) (y : S4x1x512x256.Idx) : (outsAt0 m c t.val t.isLt).2.1 y = result m c true (((cfg0.win 7).blk t).view.emb y) := by
  obtain ⟨s, h, d, i, j, hb, rfl⟩ := exists_place true y
  rw [place7, (outs_at m c hla t.val t.isLt s h d i j hb).2]
  exact (output_place _ _ _ true s h t.val (tlt t) i j d hb).symm

theorem array6 : (dats m 0 c).arrAt 6 cfg0.N = result m c false :=
  (dats m 0 c).arrAt_eq_of_covers 6 _ (by decide +kernel) fun t hf y => by
    show (dats m 0 c).after 6 t y = _
    rw [after0_6]
    exact block6 m c hla t y

theorem array7 : (dats m 0 c).arrAt 7 cfg0.N = result m c true :=
  (dats m 0 c).arrAt_eq_of_covers 7 _ (by decide +kernel) fun t hf y => by
    show (dats m 0 c).after 7 t y = _
    rw [after0_7]
    exact block7 m c hla t y

end Arrays

end Cert.KernelIdeal.Body

end
-- ==== Proof.GlaLoop.lean ====
/- The reference's loop over the 132 chunks, as a state stepped 132 times. -/
module

public import proofs.«01_k».proof.Proof.Gen.ReferenceIdeal.Run
public import proofs.«01_k».proof.Proof.Gen.ReferenceIdeal.Step

@[expose] public section

noncomputable section

namespace Cert.GlaLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What a loop valuation says at the loop's reference number `n`. -/
structure At (V : Valuation τ sig (Elt F)) (s : State F) (n : ℕ) : Prop where
  carry : V (Proc.devRef .tc main_v64_6) = s.main_v64_6
  outs : V (Proc.devRef .tc main_v64_7) = s.main_v64_7
  queries : V (Proc.devRef .tc main_v64_0) = s.main_v64_0
  keys : V (Proc.devRef .tc main_v64_1) = s.main_v64_1
  values : V (Proc.devRef .tc main_v64_2) = s.main_v64_2
  decay : V (Proc.devRef .tc main_v64_3) = s.main_v64_3
  inner : V (Proc.devRef .tc main_v64_4) = s.main_v64_4
  count : V (Proc.devRef .tc main_v64_5) = constantI S_ 32 (BitVec.ofNat 32 n)

variable {V : Valuation τ sig (Elt F)} {s : State F} {n : ℕ}

set_option maxRecDepth 65536 in
set_option maxHeartbeats 2000000 in
theorem carry_next (h : At V s n) : step_main_v64_6 V = (step n s).main_v64_6 := by
  unfold step_main_v64_6
  rw [h.carry, h.keys, h.values, h.decay, h.count]
  rfl

set_option maxRecDepth 65536 in
set_option maxHeartbeats 2000000 in
theorem outs_next (h : At V s n) : step_main_v64_7 V = (step n s).main_v64_7 := by
  unfold step_main_v64_7
  rw [h.outs, h.carry, h.queries, h.inner, h.count]
  rfl

theorem count_next (h : At V s n) : step_main_v64_5 V = constantI S_ 32 (BitVec.ofNat 32 (n + 1)) := by
  unfold step_main_v64_5
  rw [h.count]
  funext i
  exact (BitVec.ofNat_add n 1).symm

theorem next (h : At V s n) : At (STEP V) (step n s) (n + 1) where
  carry := (STEP_main_v64_6 V).trans (carry_next h)
  outs := (STEP_main_v64_7 V).trans (outs_next h)
  queries := (STEP_main_v64_0 V).trans h.queries
  keys := (STEP_main_v64_1 V).trans h.keys
  values := (STEP_main_v64_2 V).trans h.values
  decay := (STEP_main_v64_3 V).trans h.decay
  inner := (STEP_main_v64_4 V).trans h.inner
  count := (STEP_main_v64_5 V).trans (count_next h)

end Cert.GlaLoop

end
-- ==== Proof.GlaEntry.lean ====
/- What the reference's operations before its loop leave at each of the loop's buffers. -/
module

public import proofs.«01_k».proof.Proof.Gen.ReferenceIdeal.Run
public import proofs.«01_k».proof.Proof.Gen.ReferenceIdeal.Step

@[expose] public section

noncomputable section

namespace Cert.GlaLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state before the first trip, of the arguments as launched. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 6000000 in
theorem carry_start : entryContents preI m c (Proc.devRef .tc main_v64_6) = (start m c).main_v64_6 := by
  simp only [entryContents, afterL_cons, afterL_nil]
  after_reads_simp
  rfl

set_option maxRecDepth 65536 in
set_option maxHeartbeats 6000000 in
theorem outs_start : entryContents preI m c (Proc.devRef .tc main_v64_7) = (start m c).main_v64_7 := by
  simp only [entryContents, afterL_cons, afterL_nil]
  after_reads_simp
  rfl

set_option maxRecDepth 65536 in
set_option maxHeartbeats 6000000 in
theorem queries_start : entryContents preI m c (Proc.devRef .tc main_v64_0) = (start m c).main_v64_0 := by
  simp only [entryContents, afterL_cons, afterL_nil]
  after_reads_simp
  rfl

set_option maxRecDepth 65536 in
set_option maxHeartbeats 6000000 in
theorem keys_start : entryContents preI m c (Proc.devRef .tc main_v64_1) = (start m c).main_v64_1 := by
  simp only [entryContents, afterL_cons, afterL_nil]
  after_reads_simp
  rfl

set_option maxRecDepth 65536 in
set_option maxHeartbeats 6000000 in
theorem values_start : entryContents preI m c (Proc.devRef .tc main_v64_2) = (start m c).main_v64_2 := by
  simp only [entryContents, afterL_cons, afterL_nil]
  after_reads_simp
  rfl

set_option maxRecDepth 65536 in
set_option maxHeartbeats 6000000 in
theorem decay_start : entryContents preI m c (Proc.devRef .tc main_v64_3) = (start m c).main_v64_3 := by
  simp only [entryContents, afterL_cons, afterL_nil]
  after_reads_simp
  rfl

set_option maxRecDepth 65536 in
set_option maxHeartbeats 6000000 in
theorem inner_start : entryContents preI m c (Proc.devRef .tc main_v64_4) = (start m c).main_v64_4 := by
  simp only [entryContents, afterL_cons, afterL_nil]
  after_reads_simp
  rfl

set_option maxRecDepth 65536 in
set_option maxHeartbeats 6000000 in
theorem count_start : entryContents preI m c (Proc.devRef .tc main_v64_5) = constantI S_ 32 (BitVec.ofNat 32 0) := by
  simp only [entryContents, afterL_cons, afterL_nil]
  after_reads_simp
  rfl

end Cert.GlaLoop

end
-- ==== Proof.GlaLayout.lean ====
/- The reference's layouts read at an index: both directions as one batch, cut into chunks. -/
module

public import proofs.«01_k».proof.Proof.Gen.ReferenceIdeal.Step
public import proofs.«01_k».proof.Proof.GlaSpec
public import Idealize.ShloMosaic.Lib.Pointwise
public import Idealize.ShloMosaic.Lib.DynamicIndex

@[expose] public section
noncomputable section
namespace Cert.GlaLoop
open Idealize.ShloMosaic Idealize.ShloMosaic.TcCoe Idealize.SL.Sem Cert.GlaSpec
open Cert.ReferenceIdeal Cert.ReferenceIdeal.Gen
open Cert.ReferenceIdeal.Step

theorem blocks64 {α : Type} (x : S8x8448x4x64.Idx → α) (n : Fin 132) (B : Fin 8) (h : Fin 4) (j e : Fin 64) :
    transpose S132x8x4x64x64 [1, 0, 3, 2, 4] (shapeCast S8x132x64x4x64 x shapeCasts_S8x8448x4x64_S8x132x64x4x64) transposes_S8x132x64x4x64_S132x8x4x64x64_1_0_3_2_4
      (ix5 n B h j e) = x (ix4 B ⟨n.val * 64 + j.val, by omega⟩ h e) := by
  pointwise

theorem pair64 {α : Type} (x y : S4x8448x4x64.Idx → α) (B : Fin 8) (t : Fin 8448) (h : Fin 4) (e : Fin 64) :
    concatenate S8x8448x4x64 0 [⟨S4x8448x4x64, x⟩, ⟨S4x8448x4x64, y⟩] concatenates_S4x8448x4x64_S4x8448x4x64_S8x8448x4x64_d0 (ix4 B t h e)
      = if hB : B.val < 4 then x (ix4 ⟨B.val, hB⟩ t h e) else y (ix4 ⟨B.val - 4, by omega⟩ t h e) := by
  pointwise

theorem join64 {α : Type} (x : S4x256x4x64.Idx → α) (y : S4x8192x4x64.Idx → α) (s : Fin 4) (t : Fin 8448) (h : Fin 4) (e : Fin 64) :
    concatenate S4x8448x4x64 1 [⟨S4x256x4x64, x⟩, ⟨S4x8192x4x64, y⟩] concatenates_S4x256x4x64_S4x8192x4x64_S4x8448x4x64_d1 (ix4 s t h e)
      = if ht : t.val < 256 then x (ix4 s ⟨t.val, ht⟩ h e) else y (ix4 s ⟨t.val - 256, by omega⟩ h e) := by
  pointwise
theorem rev256 {α : Type} (y : S4x256x4x64.Idx → α) (s : Fin 4) (t : Fin 256) (h : Fin 4) (e : Fin 64) :
    Host.reverse [1] y (ix4 s t h e) = y (ix4 s t.rev h e) := by
  rw [Host.reverse_apply]
  refine congrArg y (funext fun a => ?_)
  match a with
  | ⟨0, _⟩ => rfl
  | ⟨1, _⟩ => rfl
  | ⟨2, _⟩ => rfl
  | ⟨3, _⟩ => rfl
theorem rev8192 {α : Type} (y : S4x8192x4x64.Idx → α) (s : Fin 4) (t : Fin 8192) (h : Fin 4) (e : Fin 64) :
    Host.reverse [1] y (ix4 s t h e) = y (ix4 s t.rev h e) := by
  rw [Host.reverse_apply]
  refine congrArg y (funext fun a => ?_)
  match a with
  | ⟨0, _⟩ => rfl
  | ⟨1, _⟩ => rfl
  | ⟨2, _⟩ => rfl
  | ⟨3, _⟩ => rfl
theorem first64 {α : Type} (x : S4x8448x4x64.Idx → α) (s : Fin 4) (t : Fin 256) (h : Fin 4) (e : Fin 64) :
    extractStridedSlice S4x256x4x64 ![0, 0, 0, 0] x slices_S4x8448x4x64_S4x256x4x64_0_0_0_0 (ix4 s t h e) = x (ix4 s ⟨t.val, by omega⟩ h e) := by
  pointwise
theorem rest64 {α : Type} (x : S4x8448x4x64.Idx → α) (s : Fin 4) (t : Fin 8192) (h : Fin 4) (e : Fin 64) :
    extractStridedSlice S4x8192x4x64 ![0, 256, 0, 0] x slices_S4x8448x4x64_S4x8192x4x64_0_256_0_0 (ix4 s t h e) = x (ix4 s ⟨256 + t.val, by omega⟩ h e) := by
  pointwise
theorem blocks128 {α : Type} (x : S8x8448x4x128.Idx → α) (n : Fin 132) (B : Fin 8) (h : Fin 4) (j : Fin 64) (e : Fin 128) :
    transpose S132x8x4x64x128 [1, 0, 3, 2, 4] (shapeCast S8x132x64x4x128 x shapeCasts_S8x8448x4x128_S8x132x64x4x128) transposes_S8x132x64x4x128_S132x8x4x64x128_1_0_3_2_4
      (ix5 n B h j e) = x (ix4 B ⟨n.val * 64 + j.val, by omega⟩ h e) := by
  pointwise

theorem pair128 {α : Type} (x y : S4x8448x4x128.Idx → α) (B : Fin 8) (t : Fin 8448) (h : Fin 4) (e : Fin 128) :
    concatenate S8x8448x4x128 0 [⟨S4x8448x4x128, x⟩, ⟨S4x8448x4x128, y⟩] concatenates_S4x8448x4x128_S4x8448x4x128_S8x8448x4x128_d0 (ix4 B t h e)
      = if hB : B.val < 4 then x (ix4 ⟨B.val, hB⟩ t h e) else y (ix4 ⟨B.val - 4, by omega⟩ t h e) := by
  pointwise

theorem join128 {α : Type} (x : S4x256x4x128.Idx → α) (y : S4x8192x4x128.Idx → α) (s : Fin 4) (t : Fin 8448) (h : Fin 4) (e : Fin 128) :
    concatenate S4x8448x4x128 1 [⟨S4x256x4x128, x⟩, ⟨S4x8192x4x128, y⟩] concatenates_S4x256x4x128_S4x8192x4x128_S4x8448x4x128_d1 (ix4 s t h e)
      = if ht : t.val < 256 then x (ix4 s ⟨t.val, ht⟩ h e) else y (ix4 s ⟨t.val - 256, by omega⟩ h e) := by
  pointwise
theorem rev256v {α : Type} (y : S4x256x4x128.Idx → α) (s : Fin 4) (t : Fin 256) (h : Fin 4) (e : Fin 128) :
    Host.reverse [1] y (ix4 s t h e) = y (ix4 s t.rev h e) := by
  rw [Host.reverse_apply]
  refine congrArg y (funext fun a => ?_)
  match a with
  | ⟨0, _⟩ => rfl
  | ⟨1, _⟩ => rfl
  | ⟨2, _⟩ => rfl
  | ⟨3, _⟩ => rfl
theorem rev8192v {α : Type} (y : S4x8192x4x128.Idx → α) (s : Fin 4) (t : Fin 8192) (h : Fin 4) (e : Fin 128) :
    Host.reverse [1] y (ix4 s t h e) = y (ix4 s t.rev h e) := by
  rw [Host.reverse_apply]
  refine congrArg y (funext fun a => ?_)
  match a with
  | ⟨0, _⟩ => rfl
  | ⟨1, _⟩ => rfl
  | ⟨2, _⟩ => rfl
  | ⟨3, _⟩ => rfl
theorem first128 {α : Type} (x : S4x8448x4x128.Idx → α) (s : Fin 4) (t : Fin 256) (h : Fin 4) (e : Fin 128) :
    extractStridedSlice S4x256x4x128 ![0, 0, 0, 0] x slices_S4x8448x4x128_S4x256x4x128_0_0_0_0 (ix4 s t h e) = x (ix4 s ⟨t.val, by omega⟩ h e) := by
  pointwise
theorem rest128 {α : Type} (x : S4x8448x4x128.Idx → α) (s : Fin 4) (t : Fin 8192) (h : Fin 4) (e : Fin 128) :
    extractStridedSlice S4x8192x4x128 ![0, 256, 0, 0] x slices_S4x8448x4x128_S4x8192x4x128_0_256_0_0 (ix4 s t h e) = x (ix4 s ⟨256 + t.val, by omega⟩ h e) := by
  pointwise

/-- The batch of a direction and a sample. -/
def batch (b : Bool) (s : Fin 4) : Fin 8 := ⟨4 * b.toNat + s.val, by have := Bool.toNat_le b; omega⟩

/-- The token a walked position holds in the second direction. -/
def back (t : Fin 8448) : Fin 8448 := if h : t.val < 256 then ⟨255 - t.val, by omega⟩ else ⟨8703 - t.val, by omega⟩

theorem tok_false (n : Fin 132) (j : Fin 64) : tok false n.val j = ⟨n.val * 64 + j.val, by omega⟩ := by
  refine Fin.ext ?_
  have e : (n.val / 4) % 33 = n.val / 4 := Nat.mod_eq_of_lt (by omega)
  simp only [tok, tileAt, row, Fin.ofNat, e]
  omega
theorem tok_true (n : Fin 132) (j : Fin 64) : tok true n.val j = back ⟨n.val * 64 + j.val, by omega⟩ := by
  refine Fin.ext ?_
  unfold back
  by_cases h : n.val < 4
  · have e : n.val / 4 = 0 := by omega
    rw [dif_pos (show n.val * 64 + j.val < 256 by omega)]
    simp only [tok, tileAt, row, Fin.ofNat, e, if_pos, Fin.val_zero]
    omega
  · have e : (33 - n.val / 4) % 33 = 33 - n.val / 4 := Nat.mod_eq_of_lt (by omega)
    rw [dif_neg (show ¬(n.val * 64 + j.val < 256) by omega)]
    simp only [tok, tileAt, row, Fin.ofNat, e, if_neg (show ¬(n.val / 4 = 0) by omega)]
    omega

/-- The second direction's order: the first tile backwards, then the rest backwards. -/
def walked64 {α : Type} (y : S4x8448x4x64.Idx → α) : S4x8448x4x64.Idx → α :=
  concatenate S4x8448x4x64 1 [⟨S4x256x4x64, Host.reverse [1] (extractStridedSlice S4x256x4x64 ![0, 0, 0, 0] y slices_S4x8448x4x64_S4x256x4x64_0_0_0_0)⟩, ⟨S4x8192x4x64, Host.reverse [1] (extractStridedSlice S4x8192x4x64 ![0, 256, 0, 0] y slices_S4x8448x4x64_S4x8192x4x64_0_256_0_0)⟩] concatenates_S4x256x4x64_S4x8192x4x64_S4x8448x4x64_d1

theorem walked64_at {α : Type} (y : S4x8448x4x64.Idx → α) (s : Fin 4) (t : Fin 8448) (h : Fin 4) (e : Fin 64) :
    walked64 y (ix4 s t h e) = y (ix4 s (back t) h e) := by
  unfold walked64 back
  rw [join64]
  by_cases ht : t.val < 256
  · rw [dif_pos ht, dif_pos ht, rev256, first64]
    refine congrArg (fun t' => y (ix4 s t' h e)) (Fin.ext ?_)
    simp only [Fin.val_rev]; omega
  · rw [dif_neg ht, dif_neg ht, rev8192, rest64]
    refine congrArg (fun t' => y (ix4 s t' h e)) (Fin.ext ?_)
    simp only [Fin.val_rev]; omega

theorem chunks64 {α : Type} (x y : S4x8448x4x64.Idx → α) (n : Fin 132) (b : Bool) (s h : Fin 4) (j : Fin 64) (e : Fin 64) :
    transpose S132x8x4x64x64 [1, 0, 3, 2, 4] (shapeCast S8x132x64x4x64
        (concatenate S8x8448x4x64 0 [⟨S4x8448x4x64, x⟩, ⟨S4x8448x4x64, walked64 y⟩] concatenates_S4x8448x4x64_S4x8448x4x64_S8x8448x4x64_d0)
        shapeCasts_S8x8448x4x64_S8x132x64x4x64) transposes_S8x132x64x4x64_S132x8x4x64x64_1_0_3_2_4 (ix5 n (batch b s) h j e)
      = (if b then y else x) (ix4 s (tok b n.val j) h e) := by
  rw [blocks64, pair64]
  cases b
  · rw [dif_pos (show (batch false s).val < 4 by simp only [batch, Bool.toNat_false]; omega), tok_false]
    exact congrArg (fun s' => x (ix4 s' _ h e)) (Fin.ext (by simp only [batch, Bool.toNat_false]; omega))
  · rw [dif_neg (show ¬(batch true s).val < 4 by simp only [batch, Bool.toNat_true]; omega), tok_true, walked64_at]
    exact congrArg (fun s' => y (ix4 s' _ h e)) (Fin.ext (by simp only [batch, Bool.toNat_true]; omega))

/-- The second direction's order: the first tile backwards, then the rest backwards. -/
def walked128 {α : Type} (y : S4x8448x4x128.Idx → α) : S4x8448x4x128.Idx → α :=
  concatenate S4x8448x4x128 1 [⟨S4x256x4x128, Host.reverse [1] (extractStridedSlice S4x256x4x128 ![0, 0, 0, 0] y slices_S4x8448x4x128_S4x256x4x128_0_0_0_0)⟩, ⟨S4x8192x4x128, Host.reverse [1] (extractStridedSlice S4x8192x4x128 ![0, 256, 0, 0] y slices_S4x8448x4x128_S4x8192x4x128_0_256_0_0)⟩] concatenates_S4x256x4x128_S4x8192x4x128_S4x8448x4x128_d1

theorem walked128_at {α : Type} (y : S4x8448x4x128.Idx → α) (s : Fin 4) (t : Fin 8448) (h : Fin 4) (e : Fin 128) :
    walked128 y (ix4 s t h e) = y (ix4 s (back t) h e) := by
  unfold walked128 back
  rw [join128]
  by_cases ht : t.val < 256
  · rw [dif_pos ht, dif_pos ht, rev256v, first128]
    refine congrArg (fun t' => y (ix4 s t' h e)) (Fin.ext ?_)
    simp only [Fin.val_rev]; omega
  · rw [dif_neg ht, dif_neg ht, rev8192v, rest128]
    refine congrArg (fun t' => y (ix4 s t' h e)) (Fin.ext ?_)
    simp only [Fin.val_rev]; omega

theorem chunks128 {α : Type} (x y : S4x8448x4x128.Idx → α) (n : Fin 132) (b : Bool) (s h : Fin 4) (j : Fin 64) (e : Fin 128) :
    transpose S132x8x4x64x128 [1, 0, 3, 2, 4] (shapeCast S8x132x64x4x128
        (concatenate S8x8448x4x128 0 [⟨S4x8448x4x128, x⟩, ⟨S4x8448x4x128, walked128 y⟩] concatenates_S4x8448x4x128_S4x8448x4x128_S8x8448x4x128_d0)
        shapeCasts_S8x8448x4x128_S8x132x64x4x128) transposes_S8x132x64x4x128_S132x8x4x64x128_1_0_3_2_4 (ix5 n (batch b s) h j e)
      = (if b then y else x) (ix4 s (tok b n.val j) h e) := by
  rw [blocks128, pair128]
  cases b
  · rw [dif_pos (show (batch false s).val < 4 by simp only [batch, Bool.toNat_false]; omega), tok_false]
    exact congrArg (fun s' => x (ix4 s' _ h e)) (Fin.ext (by simp only [batch, Bool.toNat_false]; omega))
  · rw [dif_neg (show ¬(batch true s).val < 4 by simp only [batch, Bool.toNat_true]; omega), tok_true, walked128_at]
    exact congrArg (fun s' => y (ix4 s' _ h e)) (Fin.ext (by simp only [batch, Bool.toNat_true]; omega))

end Cert.GlaLoop

end
-- ==== Proof.GlaCumsum.lean ====
/- The reference's running sum over a chunk, a window of 64 with 63 rows of padding. -/
module

public import proofs.«01_k».proof.Proof.Gen.ReferenceIdeal.Step
public import proofs.«01_k».proof.Proof.GlaSpec
public import Idealize.ShloMosaic.Lib.Pointwise
public import Idealize.ShloMosaic.Lib.DynamicIndex

@[expose] public section
noncomputable section
namespace Cert.GlaLoop
open Idealize.ShloMosaic Idealize.ShloMosaic.TcCoe Idealize.SL.Sem Cert.GlaSpec
open Cert.ReferenceIdeal Cert.ReferenceIdeal.Gen
open Cert.ReferenceIdeal.Step
theorem lastRow {α : Type} (x : S132x8x4x64x64.Idx → α) (n : Fin 132) (B : Fin 8) (h : Fin 4) (e : Fin 64) :
    extractStridedSlice S132x8x4x1x64 ![0, 0, 0, 63, 0] x slices_S132x8x4x64x64_S132x8x4x1x64_0_0_0_63_0 (ix5 n B h 0 e) = x (ix5 n B h 63 e) := by
  refine congrArg x (funext fun a => Fin.ext ?_)
  match a with
  | ⟨0, _⟩ => show 0 + n.val = n.val; omega
  | ⟨1, _⟩ => show 0 + B.val = B.val; omega
  | ⟨2, _⟩ => show 0 + h.val = h.val; omega
  | ⟨3, _⟩ => rfl
  | ⟨4, _⟩ => show 0 + e.val = e.val; omega

theorem spreadRow {α : Type} (x : S132x8x4x1x64.Idx → α) (n : Fin 132) (B : Fin 8) (h : Fin 4) (j e : Fin 64) :
    broadcastInDim S132x8x4x64x64 ![0, 1, 2, 3, 4] bcast_S132x8x4x1x64_S132x8x4x64x64_0_1_2_3_4 x (ix5 n B h j e) = x (ix5 n B h 0 e) := by
  pointwise
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The positions of a window of 64 along one axis. -/
def windowEquiv : (⟨5, ![1, 1, 1, 64, 1]⟩ : Shape).Idx ≃ Fin 64 where
  toFun w := w 3
  invFun k := ix5 0 0 0 k 0
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv k := rfl

theorem sum_upTo (f : Fin 64 → EReal) (j : Fin 64) :
    ∑ k : Fin 64, (if h : 63 ≤ j.val + k.val then f ⟨j.val + k.val - 63, by omega⟩ else 0) = ∑ j', if j' ≤ j then f j' else 0 := by
  rw [← Equiv.sum_comp (Equiv.addRight (j + 1)) fun j' => if j' ≤ j then f j' else 0]
  refine Finset.sum_congr rfl fun k _ => ?_
  have e : ((Equiv.addRight (j + 1)) k).val = (j.val + k.val + 1) % 64 := by
    show (k + (j + 1)).val = _
    rw [Fin.val_add, Fin.val_add]
    have : (1 : Fin 64).val = 1 := rfl
    omega
  by_cases h : 63 ≤ j.val + k.val
  · rw [dif_pos h, if_pos (by rw [Fin.le_def, e]; omega)]
    exact congrArg f (Fin.ext (by rw [e]; show j.val + k.val - 63 = _; omega))
  · rw [dif_neg h, if_neg (by rw [Fin.le_def, e]; omega)]

theorem cumsum_term (x : S132x8x4x64x64.Idx → EReal) (n : Fin 132) (B : Fin 8) (h : Fin 4) (j e : Fin 64)
    (w : (⟨5, ![1, 1, 1, 64, 1]⟩ : Shape).Idx) (k : Fin 64) (hk : w = windowEquiv.symm k) :
    (if hin : ∀ a : Fin 5, (![0, 0, 0, 63, 0] : Fin 5 → ℕ) a ≤ ((ix5 n B h j e : S132x8x4x64x64.Idx) (Fin.cast rfl a)).val * (![1, 1, 1, 1, 1] : Fin 5 → ℕ) a + (w a).val
        ∧ ((ix5 n B h j e : S132x8x4x64x64.Idx) (Fin.cast rfl a)).val * (![1, 1, 1, 1, 1] : Fin 5 → ℕ) a + (w a).val - (![0, 0, 0, 63, 0] : Fin 5 → ℕ) a < (![132, 8, 4, 64, 64] : Fin 5 → ℕ) a
      then x fun a => ⟨((ix5 n B h j e : S132x8x4x64x64.Idx) (Fin.cast rfl a)).val * (![1, 1, 1, 1, 1] : Fin 5 → ℕ) a + (w a).val - (![0, 0, 0, 63, 0] : Fin 5 → ℕ) a, (hin a).2⟩ else 0)
      = if h63 : 63 ≤ j.val + k.val then x (ix5 n B h ⟨j.val + k.val - 63, by omega⟩ e) else 0 := by
  subst hk
  by_cases h63 : 63 ≤ j.val + k.val
  · rw [dif_pos h63, dif_pos]
    · refine congrArg x (funext fun a => Fin.ext ?_)
      match a with
      | ⟨0, _⟩ => show n.val * 1 + 0 - 0 = n.val; omega
      | ⟨1, _⟩ => show B.val * 1 + 0 - 0 = B.val; omega
      | ⟨2, _⟩ => show h.val * 1 + 0 - 0 = h.val; omega
      | ⟨3, _⟩ => show j.val * 1 + k.val - 63 = j.val + k.val - 63; omega
      | ⟨4, _⟩ => show e.val * 1 + 0 - 0 = e.val; omega
    · intro a
      match a with
      | ⟨0, _⟩ => show 0 ≤ n.val * 1 + 0 ∧ n.val * 1 + 0 - 0 < 132; omega
      | ⟨1, _⟩ => show 0 ≤ B.val * 1 + 0 ∧ B.val * 1 + 0 - 0 < 8; omega
      | ⟨2, _⟩ => show 0 ≤ h.val * 1 + 0 ∧ h.val * 1 + 0 - 0 < 4; omega
      | ⟨3, _⟩ => show 63 ≤ j.val * 1 + k.val ∧ j.val * 1 + k.val - 63 < 64; omega
      | ⟨4, _⟩ => show 0 ≤ e.val * 1 + 0 ∧ e.val * 1 + 0 - 0 < 64; omega
  · rw [dif_neg h63, dif_neg]
    intro hin
    have h3 : 63 ≤ j.val * 1 + k.val := (hin 3).1
    omega

theorem cumsum_at (x : S132x8x4x64x64.Idx → EReal) (init : S_.Idx → EReal) (hz : ∀ i, init i = 0) (n : Fin 132) (B : Fin 8) (h : Fin 4) (j e : Fin 64) :
    Host.reduceWindowAdd (F := Ideal) (φ := .f32) ![1, 1, 1, 64, 1] ![1, 1, 1, 1, 1] ![0, 0, 0, 63, 0] ![0, 0, 0, 0, 0] x init
      reduceWindows_S132x8x4x64x64_S132x8x4x64x64_w1s1p0_0_w1s1p0_0_w1s1p0_0_w64s1p63_0_w1s1p0_0 h_S_ (ix5 n B h j e)
      = ∑ j', if j' ≤ j then x (ix5 n B h j' e) else 0 := by
  unfold Host.reduceWindowAdd
  rw [Ideal.hostReduceWindowAdd_def]
  unfold Ideal.hostReduceWindowAdd Host.reduceWindow
  dsimp only
  rw [foldl_add, hz, zero_add, ← List.ofFn_eq_map, List.sum_ofFn]
  refine Eq.trans (Fintype.sum_equiv ((⟨5, ![1, 1, 1, 64, 1]⟩ : Shape).rowMajor.symm.trans windowEquiv) _
    (fun k => if h63 : 63 ≤ j.val + k.val then x (ix5 n B h ⟨j.val + k.val - 63, by omega⟩ e) else 0) fun i => ?_) (sum_upTo (fun j' => x (ix5 n B h j' e)) j)
  refine Eq.trans (dite_congr rfl (fun _ => rfl) (fun _ => rfl)) (cumsum_term x n B h j e ((⟨5, ![1, 1, 1, 64, 1]⟩ : Shape).rowMajor.symm i) _ (Equiv.symm_apply_apply _ _).symm)
end Cert.GlaLoop
end
-- ==== Proof.GlaInputs.lean ====
/- What the reference computes before its loop, at a direction, a sample, a chunk and a head. -/
module

public import proofs.«01_k».proof.Proof.GlaLayout
public import proofs.«01_k».proof.Proof.GlaCumsum

@[expose] public section

noncomputable section

namespace Cert.GlaLoop

open Idealize.ShloMosaic Idealize.ShloMosaic.TcCoe Idealize.SL.Sem Cert.GlaSpec
open Cert.ReferenceIdeal Cert.ReferenceIdeal.Gen
open Cert.ReferenceIdeal.Step

/-! ### Single operations, of any operands -/

section Operations

theorem heads_low (x : S4x8448x512.Idx → EReal) (s : Fin 4) (t : Fin 8448) (h : Fin 4) (e : Fin 64) :
    shapeCast S4x8448x4x64 (extractStridedSlice S4x8448x256 ![0, 0, 0] x slices_S4x8448x512_S4x8448x256_0_0_0) shapeCasts_S4x8448x256_S4x8448x4x64 (ix4 s t h e)
      = x (ix3 s t ⟨h.val * 64 + e.val, by omega⟩) := by
  pointwise
theorem heads_high (x : S4x8448x512.Idx → EReal) (s : Fin 4) (t : Fin 8448) (h : Fin 4) (e : Fin 64) :
    shapeCast S4x8448x4x64 (extractStridedSlice S4x8448x256 ![0, 0, 256] x slices_S4x8448x512_S4x8448x256_0_0_256) shapeCasts_S4x8448x256_S4x8448x4x64 (ix4 s t h e)
      = x (ix3 s t ⟨256 + (h.val * 64 + e.val), by omega⟩) := by
  pointwise
theorem direction_low (x : S4x8448x512.Idx → EReal) (s : Fin 4) (t : Fin 8448) (h : Fin 4) (e : Fin 64) :
    shapeCast S4x8448x4x64 (extractStridedSlice S4x8448x1x4x64 ![0, 0, 0, 0, 0] (shapeCast S4x8448x2x4x64 x shapeCasts_S4x8448x512_S4x8448x2x4x64) slices_S4x8448x2x4x64_S4x8448x1x4x64_0_0_0_0_0) shapeCasts_S4x8448x1x4x64_S4x8448x4x64 (ix4 s t h e)
      = x (ix3 s t ⟨h.val * 64 + e.val, by omega⟩) := by
  pointwise
theorem direction_high (x : S4x8448x512.Idx → EReal) (s : Fin 4) (t : Fin 8448) (h : Fin 4) (e : Fin 64) :
    shapeCast S4x8448x4x64 (extractStridedSlice S4x8448x1x4x64 ![0, 0, 1, 0, 0] (shapeCast S4x8448x2x4x64 x shapeCasts_S4x8448x512_S4x8448x2x4x64) slices_S4x8448x2x4x64_S4x8448x1x4x64_0_0_1_0_0) shapeCasts_S4x8448x1x4x64_S4x8448x4x64 (ix4 s t h e)
      = x (ix3 s t ⟨256 + h.val * 64 + e.val, by omega⟩) := by
  pointwise
theorem value_heads (x : S4x33x512x256.Idx → EReal) (s : Fin 4) (t : Fin 8448) (h : Fin 4) (e : Fin 128) :
    shapeCast S4x8448x4x128 (transpose S4x33x256x512 [0, 1, 3, 2] (extf (F := Ideal) (φ := .bf16) .f32 x bitsLt_bf16_f32) transposes_S4x33x512x256_S4x33x256x512_0_1_3_2) shapeCasts_S4x33x256x512_S4x8448x4x128 (ix4 s t h e)
      = x (ix4 s ⟨t.val / 256, by omega⟩ ⟨h.val * 128 + e.val, by omega⟩ ⟨t.val % 256, by omega⟩) := by
  pointwise

theorem asked_op (x y : S132x8x4x64x64.Idx → EReal) (i : S132x8x4x64x64.Idx) :
    mulf (F := Ideal) (φ := .f32) x (Host.exp (F := Ideal) (φ := .f32) y) i = x i * Ideal.exp (y i) := rfl
theorem given_op (x y : S132x8x4x64x64.Idx → EReal) (i : S132x8x4x64x64.Idx) :
    mulf (F := Ideal) (φ := .f32) x (Host.exp (F := Ideal) (φ := .f32) (Host.negf (F := Ideal) (φ := .f32) y)) i = x i * Ideal.exp (-y i) := rfl
theorem kept_op (x z y : S132x8x4x64x64.Idx → EReal) (i : S132x8x4x64x64.Idx) :
    mulf (F := Ideal) (φ := .f32) x (Host.exp (F := Ideal) (φ := .f32) (subf (F := Ideal) (φ := .f32) z y)) i = x i * Ideal.exp (z i - y i) := rfl
theorem dropRow (x : S132x8x4x1x64.Idx → EReal) (n : Fin 132) (B : Fin 8) (h : Fin 4) (e : Fin 64) :
    Host.exp (F := Ideal) (φ := .f32) (shapeCast S132x8x4x64 x shapeCasts_S132x8x4x1x64_S132x8x4x64) (ix4 n B h e) = Ideal.exp (x (ix5 n B h 0 e)) := by
  pointwise
theorem scores_op (x y : S132x8x4x64x64.Idx → EReal) (n : Fin 132) (B : Fin 8) (h : Fin 4) (j j' : Fin 64) :
    Host.dotGeneral (F := Ideal) (φ₁ := .f32) (φ₂ := .f32) dot_S132x8x4x64x64_S132x8x4x64x64_S132x8x4x64x64_4_4_3_3_012_012 none x y (ix5 n B h j j')
      = ∑ e, x (ix5 n B h j e) * y (ix5 n B h j' e) := by
  pointwise
theorem weighed_op (x : S132x8x4x64x64.Idx → EReal) (y : S132x8x4x64x128.Idx → EReal) (n : Fin 132) (B : Fin 8) (h : Fin 4) (j : Fin 64) (d : Fin 128) :
    Host.dotGeneral (F := Ideal) (φ₁ := .f32) (φ₂ := .f32) dot_S132x8x4x64x64_S132x8x4x64x128_S132x8x4x64x128_4_3_3_4_012_012 none x y (ix5 n B h j d)
      = ∑ j', x (ix5 n B h j j') * y (ix5 n B h j' d) := by
  pointwise

theorem sge_iff : ∀ j j' : Fin 64, IntOp.cmpi CmpIPredicate.sge (BitVec.ofNat 32 j.val + 0#32) (BitVec.ofNat 32 j'.val) = 1#1 ↔ j' ≤ j := by
  decide +kernel
theorem mask_at (n : Fin 132) (B : Fin 8) (h : Fin 4) (j j' : Fin 64) :
    (K_main_call2_v1 (F := Ideal)) (ix5 n B h j j') = if j' ≤ j then 1#1 else 0#1 := by
  have e : (K_main_call2_v1 (F := Ideal)) (ix5 n B h j j') = Scalar.select (IntOp.cmpi CmpIPredicate.sge (BitVec.ofNat 32 j.val + 0#32) (BitVec.ofNat 32 j'.val)) 1#1 0#1 := by
    pointwise [K_main_call2_v1, K_main_v57, K_main_call1_v4, K_main_call1_v2, K_main_call1_v0, K_main_call1_v1, K_main_call1_c, K_main_call1_v3, K_main_v56, K_main_c, K_main_call1_v5, K_main_call1_c_0]
    rfl
  rw [e]
  by_cases hj : j' ≤ j
  · rw [if_pos hj, (sge_iff j j').mpr hj]; rfl
  · rw [if_neg hj]; exact if_neg fun c => hj ((sge_iff j j').mp c)
theorem blank_at (i : S132x8x4x64x64.Idx) : (K_main_call2_v2 (F := Ideal)) i = (0 : EReal) := Ideal.ofBits_zero_f32
theorem zero_at (i : S_.Idx) : (K_main_call0_call0_v0 (F := Ideal)) i = (0 : EReal) := Ideal.ofBits_zero_f32

end Operations

section Arrays

variable (a0 a1 : S4x8448x512.Idx → EReal) (a2 : S4x33x512x256.Idx → EReal)

/-- The arguments by coordinates. -/
def qk : Fin 4 → Fin 8448 → Fin 512 → EReal := fun s t k => a0 (ix3 s t k)
def la : Fin 4 → Fin 8448 → Fin 512 → EReal := fun s t k => a1 (ix3 s t k)
def vt : Fin 4 → Fin 33 → Fin 512 → Fin 256 → EReal := fun s t k r => a2 (ix4 s t k r)

variable (n : Fin 132) (b : Bool) (s h : Fin 4)

theorem queries_at (j e : Fin 64) : (A_main_v38 (F := Ideal) a0 a1 a2) (ix5 n (batch b s) h j e) = qRows (qk a0) b s h n.val j e := by
  refine (chunks64 (A_main_v1 (F := Ideal) a0 a1 a2) (A_main_v1 (F := Ideal) a0 a1 a2) n b s h j e).trans ?_
  rw [ite_self]
  refine (heads_low a0 s _ h e).trans ?_
  exact congrArg (fun k => a0 (ix3 s _ k)) (Fin.ext (by show h.val * 64 + e.val = 64 * h.val + e.val; omega))
theorem keys_at (j e : Fin 64) : (A_main_v40 (F := Ideal) a0 a1 a2) (ix5 n (batch b s) h j e) = kRows (qk a0) b s h n.val j e := by
  refine (chunks64 (A_main_v3 (F := Ideal) a0 a1 a2) (A_main_v3 (F := Ideal) a0 a1 a2) n b s h j e).trans ?_
  rw [ite_self]
  refine (heads_high a0 s _ h e).trans ?_
  exact congrArg (fun k => a0 (ix3 s _ k)) (Fin.ext (by show 256 + (h.val * 64 + e.val) = 256 + (64 * h.val + e.val); omega))
theorem decays_at (j e : Fin 64) : (A_main_v44 (F := Ideal) a0 a1 a2) (ix5 n (batch b s) h j e) = gRows (la a1) b s h n.val j e := by
  refine (chunks64 (A_main_v28 (F := Ideal) a0 a1 a2) (A_main_v30 (F := Ideal) a0 a1 a2) n b s h j e).trans ?_
  cases b
  · refine (direction_low a1 s _ h e).trans ?_
    exact congrArg (fun k => a1 (ix3 s _ k)) (Fin.ext (by show h.val * 64 + e.val = 256 * false.toNat + (64 * h.val + e.val); simp only [Bool.toNat_false]; omega))
  · refine (direction_high a1 s _ h e).trans ?_
    exact congrArg (fun k => a1 (ix3 s _ k)) (Fin.ext (by show 256 + h.val * 64 + e.val = 256 * true.toNat + (64 * h.val + e.val); simp only [Bool.toNat_true]; omega))
theorem tok_div (j : Fin 64) : (⟨(tok b n.val j).val / 256, by omega⟩ : Fin 33) = tileAt b (n.val / 4) := by
  refine Fin.ext ?_
  simp only [tok]; omega
theorem tok_mod (j : Fin 64) : (⟨(tok b n.val j).val % 256, by omega⟩ : Fin 256) = row b (Fin.ofNat 4 n.val) j := by
  refine Fin.ext ?_
  simp only [tok]; omega
theorem values_at (j : Fin 64) (d : Fin 128) : (A_main_v42 (F := Ideal) a0 a1 a2) (ix5 n (batch b s) h j d) = vRows (vt a2) b s h n.val j d := by
  refine (chunks128 (A_main_v6 (F := Ideal) a0 a1 a2) (A_main_v6 (F := Ideal) a0 a1 a2) n b s h j d).trans ?_
  rw [ite_self]
  refine (value_heads a2 s _ h d).trans ?_
  rw [tok_div, tok_mod]
  exact congrArg (fun k => a2 (ix4 s _ k _)) (Fin.ext (by show h.val * 128 + d.val = 128 * h.val + d.val; omega))

theorem sums_at (j e : Fin 64) : (A_main_v45 (F := Ideal) a0 a1 a2) (ix5 n (batch b s) h j e) = upTo (gRows (la a1) b s h n.val) j e := by
  refine (cumsum_at (A_main_v44 (F := Ideal) a0 a1 a2) (K_main_call0_call0_v0 (F := Ideal)) zero_at n (batch b s) h j e).trans ?_
  refine Finset.sum_congr rfl fun j' _ => ?_
  rw [decays_at]
theorem total_at (e : Fin 64) : (A_main_v46 (F := Ideal) a0 a1 a2) (ix5 n (batch b s) h 0 e) = whole (gRows (la a1) b s h n.val) e := by
  refine (lastRow (A_main_v45 (F := Ideal) a0 a1 a2) n (batch b s) h e).trans ?_
  rw [sums_at, whole_eq]
theorem asked_at (j e : Fin 64) :
    (A_main_v48 (F := Ideal) a0 a1 a2) (ix5 n (batch b s) h j e) = asked (qRows (qk a0) b s h n.val) (gRows (la a1) b s h n.val) j e := by
  refine (asked_op (A_main_v38 (F := Ideal) a0 a1 a2) (A_main_v45 (F := Ideal) a0 a1 a2) _).trans ?_
  rw [queries_at, sums_at]; rfl
theorem given_at (j e : Fin 64) :
    (A_main_v51 (F := Ideal) a0 a1 a2) (ix5 n (batch b s) h j e) = given (kRows (qk a0) b s h n.val) (gRows (la a1) b s h n.val) j e := by
  refine (given_op (A_main_v40 (F := Ideal) a0 a1 a2) (A_main_v45 (F := Ideal) a0 a1 a2) _).trans ?_
  rw [keys_at, sums_at]; rfl
theorem kept_at (j e : Fin 64) :
    (A_main_v55 (F := Ideal) a0 a1 a2) (ix5 n (batch b s) h j e) = kept (kRows (qk a0) b s h n.val) (gRows (la a1) b s h n.val) j e := by
  refine (kept_op (A_main_v40 (F := Ideal) a0 a1 a2) (A_main_v52 (F := Ideal) a0 a1 a2) (A_main_v45 (F := Ideal) a0 a1 a2) _).trans ?_
  rw [keys_at, sums_at, show (A_main_v52 (F := Ideal) a0 a1 a2) (ix5 n (batch b s) h j e) = whole (gRows (la a1) b s h n.val) e from
    (spreadRow (A_main_v46 (F := Ideal) a0 a1 a2) n (batch b s) h j e).trans (total_at a0 a1 a2 n b s h e)]
  rfl
theorem decay_at (e : Fin 64) : (A_main_v62 (F := Ideal) a0 a1 a2) (ix4 n (batch b s) h e) = Ideal.exp (whole (gRows (la a1) b s h n.val) e) := by
  refine (dropRow (A_main_v46 (F := Ideal) a0 a1 a2) n (batch b s) h e).trans ?_
  rw [total_at]
theorem scores_at (j j' : Fin 64) : (A_main_v59 (F := Ideal) a0 a1 a2) (ix5 n (batch b s) h j j')
    = if j' ≤ j then ∑ e, given (kRows (qk a0) b s h n.val) (gRows (la a1) b s h n.val) j' e * asked (qRows (qk a0) b s h n.val) (gRows (la a1) b s h n.val) j e else 0 := by
  have e1 : (A_main_v59 (F := Ideal) a0 a1 a2) (ix5 n (batch b s) h j j') = Scalar.select ((K_main_call2_v1 (F := Ideal)) (ix5 n (batch b s) h j j'))
      ((A_main_v58 (F := Ideal) a0 a1 a2) (ix5 n (batch b s) h j j')) ((K_main_call2_v2 (F := Ideal)) (ix5 n (batch b s) h j j')) := rfl
  rw [e1, mask_at, blank_at]
  by_cases hj : j' ≤ j
  · rw [if_pos hj, if_pos hj]
    refine (scores_op (A_main_v48 (F := Ideal) a0 a1 a2) (A_main_v51 (F := Ideal) a0 a1 a2) n (batch b s) h j j').trans (Finset.sum_congr rfl fun e _ => ?_)
    rw [asked_at, given_at, mul_comm]
  · rw [if_neg hj, if_neg hj]; rfl
theorem within_at (j : Fin 64) (d : Fin 128) : (A_main_v60 (F := Ideal) a0 a1 a2) (ix5 n (batch b s) h j d)
    = within (qRows (qk a0) b s h n.val) (kRows (qk a0) b s h n.val) (vRows (vt a2) b s h n.val) (gRows (la a1) b s h n.val) j d := by
  refine (weighed_op (A_main_v59 (F := Ideal) a0 a1 a2) (A_main_v42 (F := Ideal) a0 a1 a2) n (batch b s) h j d).trans (Finset.sum_congr rfl fun j' _ => ?_)
  rw [scores_at, values_at]
  by_cases hj : j' ≤ j
  · rw [if_pos hj, if_pos hj, mul_comm]
  · rw [if_neg hj, if_neg hj, zero_mul]

end Arrays

end Cert.GlaLoop

end
-- ==== Proof.GlaScan.lean ====
/- The reference's loop: the state after `k` trips, and what it leaves. -/
module

public import proofs.«01_k».proof.Proof.GlaInputs

@[expose] public section

noncomputable section

namespace Cert.GlaLoop

open Idealize.ShloMosaic Idealize.ShloMosaic.TcCoe Idealize.SL.Sem Cert.GlaSpec
open Cert.ReferenceIdeal Cert.ReferenceIdeal.Gen
open Cert.ReferenceIdeal.Step

/-! ### A trip's operations, of any operands -/

section Cuts

variable (k : ℕ) (hk : k < 132)

theorem fits64 (hk : k < 132) : S132x8x4x64x64.Slices ![k, 0, 0, 0, 0] S1x8x4x64x64 := ⟨rfl, fun a => by
  match a with
  | ⟨0, _⟩ => show k + 1 ≤ 132; omega
  | ⟨1, _⟩ => show 0 + 8 ≤ 8; omega
  | ⟨2, _⟩ => show 0 + 4 ≤ 4; omega
  | ⟨3, _⟩ => show 0 + 64 ≤ 64; omega
  | ⟨4, _⟩ => show 0 + 64 ≤ 64; omega⟩
theorem fits128 (hk : k < 132) : S132x8x4x64x128.Slices ![k, 0, 0, 0, 0] S1x8x4x64x128 := ⟨rfl, fun a => by
  match a with
  | ⟨0, _⟩ => show k + 1 ≤ 132; omega
  | ⟨1, _⟩ => show 0 + 8 ≤ 8; omega
  | ⟨2, _⟩ => show 0 + 4 ≤ 4; omega
  | ⟨3, _⟩ => show 0 + 64 ≤ 64; omega
  | ⟨4, _⟩ => show 0 + 128 ≤ 128; omega⟩
theorem fitsDecay (hk : k < 132) : S132x8x4x64.Slices ![k, 0, 0, 0] S1x8x4x64 := ⟨rfl, fun a => by
  match a with
  | ⟨0, _⟩ => show k + 1 ≤ 132; omega
  | ⟨1, _⟩ => show 0 + 8 ≤ 8; omega
  | ⟨2, _⟩ => show 0 + 4 ≤ 4; omega
  | ⟨3, _⟩ => show 0 + 64 ≤ 64; omega⟩

theorem cut64 (x : S132x8x4x64x64.Idx → EReal) (start : Fin 5 → Int) (hs : ∀ a, start a = ((![k, 0, 0, 0, 0] : Fin 5 → ℕ) a : Int)) (B : Fin 8) (h : Fin 4) (j e : Fin 64) :
    Host.dynamicSlice S1x8x4x64x64 x start sliceFits_S132x8x4x64x64_S1x8x4x64x64 (ix5 0 B h j e) = x (ix5 ⟨k, hk⟩ B h j e) := by
  rw [Host.dynamicSlice_eq_extractStridedSlice S1x8x4x64x64 x start ![k, 0, 0, 0, 0] sliceFits_S132x8x4x64x64_S1x8x4x64x64 (fits64 k hk) hs]
  refine congrArg x (funext fun a => Fin.ext ?_)
  match a with
  | ⟨0, _⟩ => show k + 0 = k; omega
  | ⟨1, _⟩ => show 0 + B.val = B.val; omega
  | ⟨2, _⟩ => show 0 + h.val = h.val; omega
  | ⟨3, _⟩ => show 0 + j.val = j.val; omega
  | ⟨4, _⟩ => show 0 + e.val = e.val; omega
theorem cut128 (x : S132x8x4x64x128.Idx → EReal) (start : Fin 5 → Int) (hs : ∀ a, start a = ((![k, 0, 0, 0, 0] : Fin 5 → ℕ) a : Int)) (B : Fin 8) (h : Fin 4) (j : Fin 64) (d : Fin 128) :
    Host.dynamicSlice S1x8x4x64x128 x start sliceFits_S132x8x4x64x128_S1x8x4x64x128 (ix5 0 B h j d) = x (ix5 ⟨k, hk⟩ B h j d) := by
  rw [Host.dynamicSlice_eq_extractStridedSlice S1x8x4x64x128 x start ![k, 0, 0, 0, 0] sliceFits_S132x8x4x64x128_S1x8x4x64x128 (fits128 k hk) hs]
  refine congrArg x (funext fun a => Fin.ext ?_)
  match a with
  | ⟨0, _⟩ => show k + 0 = k; omega
  | ⟨1, _⟩ => show 0 + B.val = B.val; omega
  | ⟨2, _⟩ => show 0 + h.val = h.val; omega
  | ⟨3, _⟩ => show 0 + j.val = j.val; omega
  | ⟨4, _⟩ => show 0 + d.val = d.val; omega
theorem cutDecay (x : S132x8x4x64.Idx → EReal) (start : Fin 4 → Int) (hs : ∀ a, start a = ((![k, 0, 0, 0] : Fin 4 → ℕ) a : Int)) (B : Fin 8) (h : Fin 4) (e : Fin 64) :
    Host.dynamicSlice S1x8x4x64 x start sliceFits_S132x8x4x64_S1x8x4x64 (ix4 0 B h e) = x (ix4 ⟨k, hk⟩ B h e) := by
  rw [Host.dynamicSlice_eq_extractStridedSlice S1x8x4x64 x start ![k, 0, 0, 0] sliceFits_S132x8x4x64_S1x8x4x64 (fitsDecay k hk) hs]
  refine congrArg x (funext fun a => Fin.ext ?_)
  match a with
  | ⟨0, _⟩ => show k + 0 = k; omega
  | ⟨1, _⟩ => show 0 + B.val = B.val; omega
  | ⟨2, _⟩ => show 0 + h.val = h.val; omega
  | ⟨3, _⟩ => show 0 + e.val = e.val; omega
theorem put_at (x : S132x8x4x64x128.Idx → EReal) (y : S1x8x4x64x128.Idx → EReal) (start : Fin 5 → Int) (hk : k < 132)
    (hs : ∀ a, start a = ((![k, 0, 0, 0, 0] : Fin 5 → ℕ) a : Int)) (n : Fin 132) (B : Fin 8) (h : Fin 4) (j : Fin 64) (d : Fin 128) :
    Host.dynamicUpdateSlice x y start updateFits_S132x8x4x64x128_S1x8x4x64x128 (ix5 n B h j d) = if n.val = k then y (ix5 0 B h j d) else x (ix5 n B h j d) := by
  rw [Host.dynamicUpdateSlice_eq_updateSlice x y start _ ![k, 0, 0, 0, 0] (fun a => by have := (fits128 k hk).2 a; rw [hs a]; omega) (fits128 k hk), updateSlice_apply]
  by_cases hn : n.val = k
  · rw [if_pos hn, dif_pos]
    · refine congrArg y (funext fun a => Fin.ext ?_)
      match a with
      | ⟨0, _⟩ => show n.val - k = 0; omega
      | ⟨1, _⟩ => show B.val - 0 = B.val; omega
      | ⟨2, _⟩ => show h.val - 0 = h.val; omega
      | ⟨3, _⟩ => show j.val - 0 = j.val; omega
      | ⟨4, _⟩ => show d.val - 0 = d.val; omega
    · intro a
      match a with
      | ⟨0, _⟩ => show k ≤ n.val ∧ n.val < k + 1; omega
      | ⟨1, _⟩ => show 0 ≤ B.val ∧ B.val < 0 + 8; omega
      | ⟨2, _⟩ => show 0 ≤ h.val ∧ h.val < 0 + 4; omega
      | ⟨3, _⟩ => show 0 ≤ j.val ∧ j.val < 0 + 64; omega
      | ⟨4, _⟩ => show 0 ≤ d.val ∧ d.val < 0 + 128; omega
  · rw [if_neg hn, dif_neg]
    intro hin
    have h0 : k ≤ n.val ∧ n.val < k + 1 := hin 0
    omega

theorem five (hk : k < 132) : ∀ a : Fin 5, ((![(constantI S_ 32 (BitVec.ofNat 32 k) : S_.Idx → BitVec 32), constantI S_ 32 0#32, constantI S_ 32 0#32, constantI S_ 32 0#32, constantI S_ 32 0#32] :
    Fin 5 → S_.Idx → BitVec 32) a (Shape.Idx.first h_S_)).toInt = ((![k, 0, 0, 0, 0] : Fin 5 → ℕ) a : Int) := fun a => by
  match a with
  | ⟨0, _⟩ => exact toInt_ofNat_of_lt (show k < 2 ^ 31 by omega)
  | ⟨1, _⟩ => rfl
  | ⟨2, _⟩ => rfl
  | ⟨3, _⟩ => rfl
  | ⟨4, _⟩ => rfl
theorem four (hk : k < 132) : ∀ a : Fin 4, ((![(constantI S_ 32 (BitVec.ofNat 32 k) : S_.Idx → BitVec 32), constantI S_ 32 0#32, constantI S_ 32 0#32, constantI S_ 32 0#32] :
    Fin 4 → S_.Idx → BitVec 32) a (Shape.Idx.first h_S_)).toInt = ((![k, 0, 0, 0] : Fin 4 → ℕ) a : Int) := fun a => by
  match a with
  | ⟨0, _⟩ => exact toInt_ofNat_of_lt (show k < 2 ^ 31 by omega)
  | ⟨1, _⟩ => rfl
  | ⟨2, _⟩ => rfl
  | ⟨3, _⟩ => rfl

variable (st : State Ideal)

theorem b34_at (B : Fin 8) (h : Fin 4) (e : Fin 64) (d : Fin 128) :
    b34 k st (ix4 B h e d) = (∑ j, st.main_v64_1 (ix5 ⟨k, hk⟩ B h j e) * st.main_v64_2 (ix5 ⟨k, hk⟩ B h j d) : EReal) := by
  refine Eq.trans (b := (∑ j, b10 k st (ix5 0 B h j e) * b16 k st (ix5 0 B h j d) : EReal)) (by pointwise [b34, b11, b17]) (Finset.sum_congr rfl fun j _ => ?_)
  exact congrArg₂ (· * ·) (cut64 k hk st.main_v64_1 _ (five k hk) B h j e) (cut128 k hk st.main_v64_2 _ (five k hk) B h j d)
theorem b33_at (B : Fin 8) (h : Fin 4) (e : Fin 64) (d : Fin 128) :
    b33 k st (ix4 B h e d) = (st.main_v64_6 (ix4 B h e d) * st.main_v64_3 (ix4 ⟨k, hk⟩ B h e) : EReal) := by
  refine Eq.trans (b := (st.main_v64_6 (ix4 B h e d) * b21 k st (ix4 0 B h e) : EReal)) (by pointwise [b33, b32, b31, b22]) ?_
  exact congrArg (fun z : EReal => (st.main_v64_6 (ix4 B h e d) * z : EReal)) (cutDecay k hk st.main_v64_3 _ (four k hk) B h e)
theorem b30_at (B : Fin 8) (h : Fin 4) (j : Fin 64) (d : Fin 128) :
    b30 k st (ix4 B h j d) = (st.main_v64_4 (ix5 ⟨k, hk⟩ B h j d) + ∑ e, st.main_v64_0 (ix5 ⟨k, hk⟩ B h j e) * st.main_v64_6 (ix4 B h e d) : EReal) := by
  refine Eq.trans (b := (b27 k st (ix5 0 B h j d) + ∑ e, b4 k st (ix5 0 B h j e) * st.main_v64_6 (ix4 B h e d) : EReal)) (by pointwise [b30, b29, b28, b5]) ?_
  refine congrArg₂ (· + ·) (cut128 k hk st.main_v64_4 _ (five k hk) B h j d) (Finset.sum_congr rfl fun e _ => ?_)
  exact congrArg (fun z : EReal => (z * st.main_v64_6 (ix4 B h e d) : EReal)) (cut64 k hk st.main_v64_0 _ (five k hk) B h j e)
theorem b41_at (hk : k < 132) (n : Fin 132) (B : Fin 8) (h : Fin 4) (j : Fin 64) (d : Fin 128) :
    b41 k st (ix5 n B h j d) = if n.val = k then b30 k st (ix4 B h j d) else st.main_v64_7 (ix5 n B h j d) := by
  refine (put_at k st.main_v64_7 (b36 k st) _ hk (five k hk) n B h j d).trans ?_
  rw [show b36 k st (ix5 0 B h j d) = b30 k st (ix4 B h j d) by pointwise [b36]]

end Cuts

/-! ### The trips -/

section Trips

variable (a0 a1 : S4x8448x512.Idx → EReal) (a2 : S4x33x512x256.Idx → EReal)

/-- The state after `k` trips. -/
def it : ℕ → State Ideal
  | 0 => init (F := Ideal) a0 a1 a2
  | k + 1 => step k (it k)

theorem it_queries (k : ℕ) : (it a0 a1 a2 k).main_v64_0 = A_main_v48 (F := Ideal) a0 a1 a2 := by
  induction k with
  | zero => rfl
  | succ k ih => exact ih
theorem it_keys (k : ℕ) : (it a0 a1 a2 k).main_v64_1 = A_main_v55 (F := Ideal) a0 a1 a2 := by
  induction k with
  | zero => rfl
  | succ k ih => exact ih
theorem it_values (k : ℕ) : (it a0 a1 a2 k).main_v64_2 = A_main_v42 (F := Ideal) a0 a1 a2 := by
  induction k with
  | zero => rfl
  | succ k ih => exact ih
theorem it_decay (k : ℕ) : (it a0 a1 a2 k).main_v64_3 = A_main_v62 (F := Ideal) a0 a1 a2 := by
  induction k with
  | zero => rfl
  | succ k ih => exact ih
theorem it_inner (k : ℕ) : (it a0 a1 a2 k).main_v64_4 = A_main_v60 (F := Ideal) a0 a1 a2 := by
  induction k with
  | zero => rfl
  | succ k ih => exact ih

variable (b : Bool) (s h : Fin 4)

theorem carry_at (k : ℕ) (hk : k ≤ 132) (e : Fin 64) (d : Fin 128) :
    (it a0 a1 a2 k).main_v64_6 (ix4 (batch b s) h e d) = mem (qk a0) (la a1) (vt a2) b s h k d e := by
  induction k with
  | zero => exact Ideal.ofBits_zero_f32
  | succ k ih =>
    have hk' : k < 132 := hk
    have e33 := b33_at k hk' (it a0 a1 a2 k) (batch b s) h e d
    have e34 := b34_at k hk' (it a0 a1 a2 k) (batch b s) h e d
    rw [ih (by omega), it_decay, decay_at] at e33
    rw [it_keys, it_values] at e34
    refine Eq.trans (b := (b33 k (it a0 a1 a2 k) (ix4 (batch b s) h e d) + b34 k (it a0 a1 a2 k) (ix4 (batch b s) h e d) : EReal)) rfl ?_
    rw [e33, e34]
    refine congrArg₂ (· + ·) rfl (Finset.sum_congr rfl fun j _ => ?_)
    rw [kept_at, values_at, mul_comm]

theorem trip_at (k : ℕ) (hk : k < 132) (j : Fin 64) (d : Fin 128) :
    b30 k (it a0 a1 a2 k) (ix4 (batch b s) h j d) = outputAt (qk a0) (la a1) (vt a2) b s h k j d := by
  rw [b30_at k hk, it_inner, within_at]
  refine congrArg₂ (· + ·) rfl (Finset.sum_congr rfl fun e _ => ?_)
  rw [it_queries, asked_at, carry_at a0 a1 a2 b s h k (by omega), mul_comm]

theorem outs_at (k : ℕ) (hk : k ≤ 132) (n : Fin 132) (hn : n.val < k) (j : Fin 64) (d : Fin 128) :
    (it a0 a1 a2 k).main_v64_7 (ix5 n (batch b s) h j d) = outputAt (qk a0) (la a1) (vt a2) b s h n.val j d := by
  induction k with
  | zero => omega
  | succ k ih =>
    refine (b41_at k (it a0 a1 a2 k) hk n (batch b s) h j d).trans ?_
    by_cases e : n.val = k
    · rw [if_pos e, trip_at a0 a1 a2 b s h k hk, e]
    · rw [if_neg e]; exact ih (by omega) (by omega)

end Trips

end Cert.GlaLoop

end
-- ==== Proof.GlaResults.lean ====
/- What the reference makes of its loop's outputs: the two arrays of results. -/
module

public import proofs.«01_k».proof.Proof.GlaScan

@[expose] public section

noncomputable section

namespace Cert.GlaLoop

open Idealize.ShloMosaic Idealize.ShloMosaic.TcCoe Idealize.SL.Sem Cert.GlaSpec
open Cert.ReferenceIdeal Cert.ReferenceIdeal.Gen
open Cert.ReferenceIdeal.Step

section Operations

/-- The chunks back in one row of tokens. -/
def rows (x : S132x8x4x64x128.Idx → EReal) : S8x8448x4x128.Idx → EReal :=
  shapeCast S8x8448x4x128 (transpose S8x132x64x4x128 [1, 0, 3, 2, 4] x transposes_S132x8x4x64x128_S8x132x64x4x128_1_0_3_2_4) shapeCasts_S8x132x64x4x128_S8x8448x4x128

theorem rows_at (x : S132x8x4x64x128.Idx → EReal) (B : Fin 8) (t : Fin 8448) (h : Fin 4) (d : Fin 128) :
    rows x (ix4 B t h d) = x (ix5 ⟨t.val / 64, by omega⟩ B h ⟨t.val % 64, by omega⟩ d) := by
  pointwise [rows]
theorem low_at (x : S8x8448x4x128.Idx → EReal) (s : Fin 4) (t : Fin 8448) (h : Fin 4) (d : Fin 128) :
    extractStridedSlice S4x8448x4x128 ![0, 0, 0, 0] x slices_S8x8448x4x128_S4x8448x4x128_0_0_0_0 (ix4 s t h d) = x (ix4 (batch false s) t h d) := by
  refine congrArg x (funext fun a => Fin.ext ?_)
  match a with
  | ⟨0, _⟩ => show 0 + s.val = 4 * false.toNat + s.val; simp only [Bool.toNat_false]
  | ⟨1, _⟩ => show 0 + t.val = t.val; omega
  | ⟨2, _⟩ => show 0 + h.val = h.val; omega
  | ⟨3, _⟩ => show 0 + d.val = d.val; omega
theorem high_at (x : S8x8448x4x128.Idx → EReal) (s : Fin 4) (t : Fin 8448) (h : Fin 4) (d : Fin 128) :
    extractStridedSlice S4x8448x4x128 ![4, 0, 0, 0] x slices_S8x8448x4x128_S4x8448x4x128_4_0_0_0 (ix4 s t h d) = x (ix4 (batch true s) t h d) := by
  refine congrArg x (funext fun a => Fin.ext ?_)
  match a with
  | ⟨0, _⟩ => show 4 + s.val = 4 * true.toNat + s.val; simp only [Bool.toNat_true]
  | ⟨1, _⟩ => show 0 + t.val = t.val; omega
  | ⟨2, _⟩ => show 0 + h.val = h.val; omega
  | ⟨3, _⟩ => show 0 + d.val = d.val; omega
theorem tiles_at (x : S4x8448x4x128.Idx → EReal) (s : Fin 4) (t : Fin 33) (a : Fin 512) (r : Fin 256) :
    transpose S4x33x512x256 [0, 1, 3, 2] (shapeCast S4x33x256x512 x shapeCasts_S4x8448x4x128_S4x33x256x512) transposes_S4x33x256x512_S4x33x512x256_0_1_3_2 (ix4 s t a r)
      = x (ix4 s ⟨t.val * 256 + r.val, by omega⟩ ⟨a.val / 128, by omega⟩ ⟨a.val % 128, by omega⟩) := by
  pointwise

theorem first_eq (st : State Ideal) : R_main_v69 st =
    transpose S4x33x512x256 [0, 1, 3, 2] (shapeCast S4x33x256x512 (extractStridedSlice S4x8448x4x128 ![0, 0, 0, 0] (rows st.main_v64_7) slices_S8x8448x4x128_S4x8448x4x128_0_0_0_0)
      shapeCasts_S4x8448x4x128_S4x33x256x512) transposes_S4x33x256x512_S4x33x512x256_0_1_3_2 := rfl
theorem second_eq (st : State Ideal) : R_main_v77 st =
    transpose S4x33x512x256 [0, 1, 3, 2] (shapeCast S4x33x256x512 (walked128 (extractStridedSlice S4x8448x4x128 ![4, 0, 0, 0] (rows st.main_v64_7) slices_S8x8448x4x128_S4x8448x4x128_4_0_0_0))
      shapeCasts_S4x8448x4x128_S4x33x256x512) transposes_S4x33x256x512_S4x33x512x256_0_1_3_2 := rfl
theorem first_at (st : State Ideal) (s : Fin 4) (t : Fin 33) (a : Fin 512) (r : Fin 256) :
    R_main_v69 st (ix4 s t a r) = rows st.main_v64_7 (ix4 (batch false s) ⟨t.val * 256 + r.val, by omega⟩ ⟨a.val / 128, by omega⟩ ⟨a.val % 128, by omega⟩) := by
  rw [first_eq, tiles_at, low_at]
theorem second_at (st : State Ideal) (s : Fin 4) (t : Fin 33) (a : Fin 512) (r : Fin 256) :
    R_main_v77 st (ix4 s t a r) = rows st.main_v64_7 (ix4 (batch true s) (back ⟨t.val * 256 + r.val, by omega⟩) ⟨a.val / 128, by omega⟩ ⟨a.val % 128, by omega⟩) := by
  rw [second_eq, tiles_at, walked128_at, high_at]

end Operations

section Results

variable (a0 a1 : S4x8448x512.Idx → EReal) (a2 : S4x33x512x256.Idx → EReal)

theorem rows_outs (b : Bool) (s h : Fin 4) (t : Fin 8448) (d : Fin 128) (m : ℕ) (j : Fin 64) (hm : t.val / 64 = m) (hj : t.val % 64 = j.val) :
    rows (it a0 a1 a2 132).main_v64_7 (ix4 (batch b s) t h d) = outputAt (qk a0) (la a1) (vt a2) b s h m j d := by
  subst hm
  rw [rows_at, show (⟨t.val % 64, by omega⟩ : Fin 64) = j from Fin.ext hj]
  exact outs_at a0 a1 a2 b s h 132 (le_refl _) ⟨t.val / 64, by omega⟩ (by show t.val / 64 < 132; omega) j d

theorem first_result (s : Fin 4) (t : Fin 33) (a : Fin 512) (r : Fin 256) :
    R_main_v69 (it a0 a1 a2 132) (ix4 s t a r) = output (qk a0) (la a1) (vt a2) false s t a r := by
  rw [first_at]
  refine rows_outs a0 a1 a2 false s _ _ _ _ _ ?_ ?_
  · show (t.val * 256 + r.val) / 64 = 4 * t.val + r.val / 64; omega
  · show (t.val * 256 + r.val) % 64 = r.val % 64; omega

theorem second_result (s : Fin 4) (t : Fin 33) (a : Fin 512) (r : Fin 256) :
    R_main_v77 (it a0 a1 a2 132) (ix4 s t a r) = output (qk a0) (la a1) (vt a2) true s t a r := by
  rw [second_at]
  refine rows_outs a0 a1 a2 true s _ _ _ _ _ ?_ ?_
  · show (back _).val / 64 = 4 * (if t.val = 0 then 0 else 33 - t.val) + (255 - r.val) / 64
    unfold back
    by_cases h : t.val = 0
    · rw [dif_pos (show t.val * 256 + r.val < 256 by omega), if_pos h]
      show (255 - (t.val * 256 + r.val)) / 64 = _
      omega
    · rw [dif_neg (show ¬(t.val * 256 + r.val < 256) by omega), if_neg h]
      show (8703 - (t.val * 256 + r.val)) / 64 = _
      omega
  · show (back _).val % 64 = (255 - r.val) % 64
    unfold back
    by_cases h : t.val = 0
    · rw [dif_pos (show t.val * 256 + r.val < 256 by omega)]
      show (255 - (t.val * 256 + r.val)) % 64 = _
      omega
    · rw [dif_neg (show ¬(t.val * 256 + r.val < 256) by omega)]
      show (8703 - (t.val * 256 + r.val)) % 64 = _
      omega

end Results

end Cert.GlaLoop

end
-- ==== Proof.GlaReference.lean ====
/- The reference's run: 132 trips from its arguments, and the two arrays it ends with. -/
module

public import proofs.«01_k».proof.Proof.GlaLoop
public import proofs.«01_k».proof.Proof.GlaEntry
public import proofs.«01_k».proof.Proof.GlaResults

@[expose] public section

noncomputable section

namespace Cert.GlaLoop

open Idealize.ShloMosaic Idealize.ShloMosaic.TcCoe Idealize.SL.Sem Idealize.ShloMosaic.StableHlo Cert.GlaSpec
open Cert.ReferenceIdeal Cert.ReferenceIdeal.Gen Cert.ReferenceIdeal.Value
open Cert.ReferenceIdeal.Step (State step init R_main_v69 R_main_v77)

variable (m : (ℓ : Loc nD τ sig) → Buf (Elt Ideal) ℓ) (c : Dev nD)

/-- The state after `k` trips from the arguments as launched. -/
def state (k : ℕ) : State Ideal :=
  it (m ((c.tc : Thread nD τ).loc main_arg0)) (m ((c.tc : Thread nD τ).loc main_arg1)) (m ((c.tc : Thread nD τ).loc main_arg2)) k

theorem trips (k : ℕ) : At (STEP^[k] (entryContents preI m c)) (state m c k) k := by
  induction k with
  | zero =>
    exact ⟨carry_start m c, outs_start m c, queries_start m c, keys_start m c, values_start m c, decay_start m c, inner_start m c, count_start m c⟩
  | succ k ih =>
    rw [Function.iterate_succ_apply']
    exact next ih

theorem out_first {V : Valuation τ sig (Elt Ideal)} {st : State Ideal} {n : ℕ} (h : At V st n) : out_main_v69 V = R_main_v69 st := by
  unfold out_main_v69 R_main_v69
  rw [h.outs]
theorem out_second {V : Valuation τ sig (Elt Ideal)} {st : State Ideal} {n : ℕ} (h : At V st n) : out_main_v77 V = R_main_v77 st := by
  unfold out_main_v77 R_main_v77
  rw [h.outs]

variable (ρ : Dev nD → PrngReg)

theorem run_states : θ_run (defs (F := Ideal)) (onTc (τ := τ) (main (F := Ideal))) ⟨m, fun _ => 0, ρ⟩ fun r => ∀ c : Dev nD,
    r.2.mem ((c.tc : Thread nD τ).loc main_v69) = R_main_v69 (state m c 132)
    ∧ r.2.mem ((c.tc : Thread nD τ).loc main_v77) = R_main_v77 (state m c 132)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (out_first (trips m c 132)), (h c).2.1.trans (out_second (trips m c 132)), (h c).2.2⟩)
    (Value.run (F := Ideal) m ρ)

end Cert.GlaLoop

end
-- ==== Proof.GlaClaims.lean ====
/- The claims about the gated recurrence: the frames of the programs, and that over the extended reals the kernel and the
   reference end with equal arrays where the log decays are finite. -/
module

public import proofs.«01_k».proof.Defs
public import proofs.«01_k».proof.Proof.GlaPoints
public import proofs.«01_k».proof.Proof.GlaReference
public import proofs.«01_k».proof.Proof.Gen.Kernel.Frame
public import proofs.«01_k».proof.Proof.Gen.Pre_finite_decay
public import Idealize.ShloMosaic.Lib.Quiescent
public import Idealize.ShloMosaic.Lib.ReduceAll

@[expose] public section

noncomputable section

namespace Cert.Proof.Gla

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite_decay := fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_finite : Cert.quiescent_ReferenceIdeal_pre_finite_decay := fun m ρ _ => frame_reference m ρ trivial

theorem preserves : Cert.preserves_Kernel_KernelIdeal := trivial

theorem finite_of_abs (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  refine ⟨?_, ?_⟩ <;> rintro rfl <;> simp [Ideal.cmp] at h

/-- The precondition says every log decay is finite. -/
theorem finite_decays (a0 a1 : Cert.Pre_finite_decay.S4x8448x512.Idx → EReal) (a2 : Cert.Pre_finite_decay.S4x33x512x256.Idx → EReal)
    (h : Cert.Pre_finite_decay.fn (F := Ideal) a0 a1 a2 = fun _ => 1#1) (i : Cert.Pre_finite_decay.S4x8448x512.Idx) : a1 i ≠ ⊤ ∧ a1 i ≠ ⊥ := by
  haveI : Subsingleton Cert.Pre_finite_decay.S_.Idx := ⟨fun x y => funext fun a => a.elim0⟩
  exact finite_of_abs (a1 i) (Host.reduce_andi_all _ _ _ _ (Shape.Idx.first Cert.Pre_finite_decay.Facts.h_S_) (congrFun h _) i)

/-- The two arrays of each program are one function of the arguments, position by position. -/
theorem algebraic : Cert.algebraic_KernelIdeal_ReferenceIdeal_pre_finite_decay := by
  intro m ρ m' ρ' hpre hagree
  have hla : ∀ c s t k, Cert.KernelIdeal.Body.laOf m c s t k ≠ ⊤ ∧ Cert.KernelIdeal.Body.laOf m c s t k ≠ ⊥ := fun c s t k =>
    finite_decays _ _ _ (hpre c) (ix3 s t k)
  refine ⟨fun c => Cert.KernelIdeal.Body.result m c false, fun c => Cert.KernelIdeal.Body.result m c true, ?_, ?_⟩
  · exact (θ_run Cert.KernelIdeal.defs _ _).mono (fun _ h c => ⟨(h c).1.trans (Cert.KernelIdeal.Body.array6 m c (hla c)),
      (h c).2.1.trans (Cert.KernelIdeal.Body.array7 m c (hla c)), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.GlaLoop.run_states m' ρ')
    · obtain ⟨h0, h1, h2⟩ := hagree c
      funext i
      obtain ⟨s, t, a, r, rfl⟩ : ∃ s t a r, i = ix4 s t a r := ⟨i 0, i 1, i 2, i 3, eq_ix4 i⟩
      unfold Cert.GlaLoop.state
      rw [h0, h1, h2]
      exact Cert.GlaLoop.first_result _ _ _ s t a r
    · obtain ⟨h0, h1, h2⟩ := hagree c
      funext i
      obtain ⟨s, t, a, r, rfl⟩ : ∃ s t a r, i = ix4 s t a r := ⟨i 0, i 1, i 2, i 3, eq_ix4 i⟩
      unfold Cert.GlaLoop.state
      rw [h0, h1, h2]
      exact Cert.GlaLoop.second_result _ _ _ s t a r

end Cert.Proof.Gla

end
-- ==== Proof.PostSpec.lean ====
/- One token's row of the output projection, the modulated residual and the squared-ReLU feed-forward layer, written
   once over the extended reals. Both programs are read as this function: the kernel tile by tile, the reference on
   the whole array. -/
module

public import Idealize.ShloMosaic.Lib.IdealHost
public import Idealize.ShloMosaic.PureOps.Ideal.Laws

@[expose] public section

noncomputable section

namespace Cert.PostSpec

open Idealize.ShloMosaic

/-- The root-mean-square normalization of a row of 1024, scaled by `g`. -/
def rms (y g : Fin 1024 → EReal) (c : Fin 1024) : EReal :=
  y c * Ideal.rsqrt (Ideal.div (∑ k, y k * y k) (Ideal.ofBits .f32 0x44800000#32) + Ideal.ofBits .f32 0x358637BD#32) * g c

/-- The residual stream plus the modulated, normalized update. -/
def resid (x md y g : Fin 1024 → EReal) (c : Fin 1024) : EReal := x c + md c * rms y g c

/-- The feed-forward layer's input: normalized, scaled by `1 + sc`, shifted by `sh`. -/
def hid (x g sc sh : Fin 1024 → EReal) (c : Fin 1024) : EReal :=
  rms x g c * (Ideal.ofBits .f32 0x3F800000#32 + sc c) + sh c

/-- One hidden unit: the square of the positive part of a product with one column. -/
def act (h w : Fin 1024 → EReal) : EReal := max (∑ k, h k * w k) 0 * max (∑ k, h k * w k) 0

/-- The feed-forward layer without its residual: 4096 hidden units. -/
def mlp (h : Fin 1024 → EReal) (w1 : Fin 1024 → Fin 4096 → EReal) (w2 : Fin 4096 → Fin 1024 → EReal) (c : Fin 1024) : EReal :=
  ∑ f, act h (fun k => w1 k f) * w2 f c

/-- The output projection of the two mixers' rows, laid side by side. -/
def proj (ya yb : Fin 512 → EReal) (wo : Fin 1024 → Fin 1024 → EReal) (c : Fin 1024) : EReal :=
  (∑ k : Fin 512, ya k * wo (Fin.castAdd 512 k) c) + ∑ k : Fin 512, yb k * wo (Fin.natAdd 512 k) c

/-- The whole row: projection into the residual stream, then the feed-forward layer into it. -/
def row (x : Fin 1024 → EReal) (md : Fin 6 → Fin 1024 → EReal) (g : Fin 4 → Fin 1024 → EReal) (ya yb : Fin 512 → EReal)
    (wo : Fin 1024 → Fin 1024 → EReal) (w1 : Fin 1024 → Fin 4096 → EReal) (w2 : Fin 4096 → Fin 1024 → EReal) : Fin 1024 → EReal :=
  let x1 := resid x (md 2) (proj ya yb wo) (g 1)
  resid x1 (md 5) (mlp (hid x1 (g 2) (md 4) (md 3)) w1 w2) (g 3)

/-- A token's modulations in the table of eight rows: a latent token's are its sample's, a context token's are the
    context's row kept for its sample's place in the pair. -/
def tokRow (b : Fin 4) (t : Fin 8448) : Fin 8 := if t.val < 256 then ⟨4 + b.val % 2, by omega⟩ else ⟨b.val, by omega⟩

/-- Every token's row, from the stream, the two mixers' rows and the table of modulations. -/
def stream (x : Fin 4 → Fin 8448 → Fin 1024 → EReal) (ya yb : Fin 4 → Fin 8448 → Fin 512 → EReal) (md : Fin 8 → Fin 6 → Fin 1024 → EReal)
    (g : Fin 4 → Fin 1024 → EReal) (wo : Fin 1024 → Fin 1024 → EReal) (w1 : Fin 1024 → Fin 4096 → EReal) (w2 : Fin 4096 → Fin 1024 → EReal)
    (b : Fin 4) (t : Fin 8448) : Fin 1024 → EReal :=
  row (x b t) (md (tokRow b t)) g (ya b t) (yb b t) wo w1 w2

/-- The gate `x / (1 + e⁻ˣ)`. -/
def gate (x : EReal) : EReal := Ideal.div x (Ideal.ofBits .f32 0x3F800000#32 + Ideal.exp (-x))

/-- One head of the linear attention: normalized over its 128 channels, scaled and gated. -/
def head (o g gn : Fin 128 → EReal) (c : Fin 128) : EReal :=
  o c * Ideal.rsqrt (Ideal.div (∑ k, o k * o k) (Ideal.ofBits .f32 0x43000000#32) + Ideal.ofBits .f32 0x358637BD#32) * gn c * gate (g c)

/-- The four heads of a token side by side. -/
def heads (o g : Fin 512 → EReal) (gn : Fin 128 → EReal) (k : Fin 512) : EReal :=
  head (fun c => o ⟨k.val / 128 * 128 + c.val, by omega⟩) (fun c => g ⟨k.val / 128 * 128 + c.val, by omega⟩) gn ⟨k.val % 128, by omega⟩

/-- An array held by tiles of 256 tokens, with the tokens last, read token by token. -/
def tiled (X : Fin 4 → Fin 33 → Fin 512 → Fin 256 → EReal) (b : Fin 4) (t : Fin 8448) (k : Fin 512) : EReal :=
  X b ⟨t.val / 256, by omega⟩ k ⟨t.val % 256, by omega⟩

theorem tiled_tile (X : Fin 4 → Fin 33 → Fin 512 → Fin 256 → EReal) (b : Fin 4) (j : Fin 33) (r : Fin 256) (h : j.val * 256 + r.val < 8448) (k : Fin 512) :
    tiled X b ⟨j.val * 256 + r.val, h⟩ k = X b j k r := by
  have e1 : (⟨(j.val * 256 + r.val) / 256, by omega⟩ : Fin 33) = j := Fin.ext (by show (j.val * 256 + r.val) / 256 = j.val; omega)
  have e2 : (⟨(j.val * 256 + r.val) % 256, by omega⟩ : Fin 256) = r := Fin.ext (by show (j.val * 256 + r.val) % 256 = r.val; omega)
  unfold tiled
  dsimp only
  rw [e1, e2]

/-- The context's tokens followed by the latents'. -/
def joined (x : Fin 4 → Fin 256 → Fin 1024 → EReal) (y : Fin 4 → Fin 8192 → Fin 1024 → EReal) (b : Fin 4) (t : Fin 8448) (k : Fin 1024) : EReal :=
  if h : t.val < 256 then x b ⟨t.val, h⟩ k else y b ⟨t.val - 256, by omega⟩ k

/-- A quotient is a product with a reciprocal, where the divisor is not zero. -/
theorem div_eq_mul (x y : EReal) (hy : y ≠ 0) : x * Ideal.div 1 y = Ideal.div x y := by
  rw [Ideal.div, if_neg hy, Ideal.div, if_neg hy, one_mul]

theorem exp_nonneg (x : EReal) : 0 ≤ Ideal.exp x := by
  induction x with
  | bot => simp
  | top => simp
  | coe r => rw [Ideal.exp_coe]; exact_mod_cast (Real.exp_pos r).le

/-- The gate as the reference writes it. -/
theorem gate_eq (x : EReal) : x * Ideal.div (Ideal.ofBits .f32 0x3F800000#32) (Ideal.ofBits .f32 0x3F800000#32 + Ideal.exp (-x)) = gate x := by
  unfold gate
  have h1 : Ideal.ofBits .f32 0x3F800000#32 = 1 := Ideal.ofBits_one_f32
  rw [h1]
  refine div_eq_mul x _ (ne_of_gt ?_)
  exact lt_of_lt_of_le zero_lt_one (le_add_of_nonneg_right (exp_nonneg _))

end Cert.PostSpec

end
-- ==== Proof.PostBody.lean ====
/- What one grid point of the projection and feed-forward kernel leaves in its output block: the same function of each
   of the block's two samples, and that function read at an element over the extended reals. -/
module

public import proofs.«01_k».proof.Proof.PostSpec
public import proofs.«01_k».proof.Proof.Gen.Kernel2Ideal.Frame
public import Idealize.ShloMosaic.Lib.Pointwise
public import Idealize.ShloMosaic.Lib.ValueIdx

@[expose] public section

noncomputable section

namespace Cert.Kernel2Ideal.Body

open Cert.Kernel2Ideal Cert.Kernel2Ideal.Gen Idealize.ShloMosaic Idealize.ShloMosaic.TcCoe Idealize.SL.Sem

variable {F : FTy → Type} [FloatOps F]

/-- The normalization of 256 rows. -/
def norm (y : FVec F S256x1024 .f32) (g : FVec F S1x1024 .f32) : FVec F S256x1024 .f32 :=
  mulf (mulf y (broadcastTo S256x1024 (rsqrt (addf (divf
    (shapeCast S256x1 (multiReduction .add [1] S256 (mulf y y) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024)

/-- The modulated residual of 256 rows. -/
def resid (x : FVec F S256x1024 .f32) (md : FVec F S1x1024 .f32) (y : FVec F S256x1024 .f32) (g : FVec F S1x1024 .f32) :
    FVec F S256x1024 .f32 :=
  addf x (mulf (broadcastTo S256x1024 md broadcasts_S1x1024_S256x1024) (norm y g))

/-- The feed-forward layer's input for 256 rows. -/
def hid (x : FVec F S256x1024 .f32) (g sc sh : FVec F S1x1024 .f32) : FVec F S256x1024 .bf16 :=
  truncf .bf16 (addf (mulf (norm x g) (broadcastTo S256x1024 (addf (broadcast S1x1024 (Scalar.ofBits .f32 0x3F800000#32)) sc)
    broadcasts_S1x1024_S256x1024)) (broadcastTo S256x1024 sh broadcasts_S1x1024_S256x1024)) bitsLt_bf16_f32

/-- The projection of the two mixers' rows. -/
def proj (ya : FVec F S256x512 .bf16) (yb : Vec F S1x1x512x256 .bf16) (wa wb : Vec F S512x1024 .bf16) : FVec F S256x1024 .f32 :=
  addf (matmul dot_S256x512_S512x1024_S256x1024_1_0_0_1_n_n none ya
      (shapeCast S512x1024 wa shapeCasts_S512x1024_S512x1024) (constant S256x1024 .f32 0x00000000#32))
    (matmul dot_S256x512_S512x1024_S256x1024_1_0_0_1_n_n none
      (transpose S256x512 [1, 0] (shapeCast S512x256 yb shapeCasts_S1x1x512x256_S512x256) transposes_S512x256_p1_0_S256x512)
      (shapeCast S512x1024 wb shapeCasts_S512x1024_S512x1024) (constant S256x1024 .f32 0x00000000#32))

/-- A quarter of the hidden units, for 256 rows. -/
def act (h : FVec F S256x1024 .bf16) (w : Vec F S1024x1024 .bf16) : FVec F S256x1024 .bf16 :=
  truncf .bf16 (mulf
    (maximumf (matmul dot_S256x1024_S1024x1024_S256x1024_1_0_0_1_n_n none h (shapeCast S1024x1024 w shapeCasts_S1024x1024_S1024x1024)
      (constant S256x1024 .f32 0x00000000#32)) (broadcast S256x1024 (Scalar.ofBits .f32 0x00000000#32)))
    (maximumf (matmul dot_S256x1024_S1024x1024_S256x1024_1_0_0_1_n_n none h (shapeCast S1024x1024 w shapeCasts_S1024x1024_S1024x1024)
      (constant S256x1024 .f32 0x00000000#32)) (broadcast S256x1024 (Scalar.ofBits .f32 0x00000000#32)))) bitsLt_bf16_f32

/-- That quarter's part of the layer's output. -/
def part (h : FVec F S256x1024 .bf16) (w v : Vec F S1024x1024 .bf16) : FVec F S256x1024 .f32 :=
  matmul dot_S256x1024_S1024x1024_S256x1024_1_0_0_1_n_n none (act h w) (shapeCast S1024x1024 v shapeCasts_S1024x1024_S1024x1024)
    (constant S256x1024 .f32 0x00000000#32)

/-- The four quarters added in order. -/
def mlp (h : FVec F S256x1024 .bf16) (w0 v0 w1 v1 w2 v2 w3 v3 : Vec F S1024x1024 .bf16) : FVec F S256x1024 .f32 :=
  addf (addf (addf (addf (broadcast S256x1024 (Scalar.ofBits .f32 0x00000000#32)) (part h w0 v0)) (part h w1 v1)) (part h w2 v2)) (part h w3 v3)

/-- Row `k` of the modulations. -/
def modRow (off : Fin 2 → Nat) (h : S6x1024.Slices off S1x1024) (md : Vec F S1x6x1024 .f32) : FVec F S1x1024 .f32 :=
  extractStridedSlice S1x1024 off (shapeCast S6x1024 md shapeCasts_S1x6x1024_S6x1024) h

/-- A sample's rows of the stream. -/
def strm (x : Vec F S1x256x1024 .f32) : FVec F S256x1024 .f32 := shapeCast S256x1024 x shapeCasts_S1x256x1024_S256x1024

/-- A sample's rows of a mixer that is stored token by token. -/
def toks (ya : Vec F S1x256x512 .f32) : FVec F S256x512 .bf16 :=
  truncf .bf16 (shapeCast S256x512 ya shapeCasts_S1x256x512_S256x512) bitsLt_bf16_f32

/-- The residual stream after the projection. -/
def mid (x : FVec F S256x1024 .f32) (md : Vec F S1x6x1024 .f32) (g : Vec F S4x1024 .f32) (ya : FVec F S256x512 .bf16)
    (yb : Vec F S1x1x512x256 .bf16) (wa wb : Vec F S512x1024 .bf16) : FVec F S256x1024 .f32 :=
  resid x (modRow ![2, 0] slices_S6x1024_o2_0_S1x1024 md)
    (proj ya yb wa wb) (extractStridedSlice S1x1024 ![1, 0] g slices_S4x1024_o1_0_S1x1024)

/-- The feed-forward residual on top of it. -/
def top (x : FVec F S256x1024 .f32) (md : Vec F S1x6x1024 .f32) (g : Vec F S4x1024 .f32)
    (w0 v0 w1 v1 w2 v2 w3 v3 : Vec F S1024x1024 .bf16) : FVec F S256x1024 .f32 :=
  resid x (modRow ![5, 0] slices_S6x1024_o5_0_S1x1024 md)
    (mlp (hid x (extractStridedSlice S1x1024 ![2, 0] g slices_S4x1024_o2_0_S1x1024)
      (modRow ![4, 0] slices_S6x1024_o4_0_S1x1024 md) (modRow ![3, 0] slices_S6x1024_o3_0_S1x1024 md)) w0 v0 w1 v1 w2 v2 w3 v3)
    (extractStridedSlice S1x1024 ![3, 0] g slices_S4x1024_o3_0_S1x1024)

/-- One sample's 256 rows, as stored. -/
def unit (x : FVec F S256x1024 .f32) (md : Vec F S1x6x1024 .f32) (g : Vec F S4x1024 .f32) (ya : FVec F S256x512 .bf16)
    (yb : Vec F S1x1x512x256 .bf16) (wa wb : Vec F S512x1024 .bf16) (w0 v0 w1 v1 w2 v2 w3 v3 : Vec F S1024x1024 .bf16) :
    FVec F S1x256x1024 .f32 :=
  shapeCast S1x256x1024 (top (mid x md g ya yb wa wb) md g w0 v0 w1 v1 w2 v2 w3 v3) shapeCasts_S256x1024_S1x256x1024

/-- The output block: the two samples' rows. -/
theorem out_eq (x0 : Vec F S2x256x1024 .f32) (x1 : Vec F S2x256x512 .f32) (x2 : Vec F S2x1x512x256 .bf16) (x3 : Vec F S2x6x1024 .f32)
    (x4 : Vec F S4x1024 .f32) (x5 x6 : Vec F S512x1024 .bf16) (x7 : Vec F S1024x4096 .bf16) (x8 : Vec F S4096x1024 .bf16) :
    out0_9 x0 x1 x2 x3 x4 x5 x6 x7 x8 = View.canon [
      ⟨r0_1, unit (strm (View.ld x0 r0_1)) (View.ld x3 r0_3) (View.ld x4 r0_4) (toks (View.ld x1 r0_6)) (View.ld x2 r0_8) (View.ld x5 r0_9) (View.ld x6 r0_9)
        (View.ld x7 r0_10) (View.ld x8 r0_11) (View.ld x7 r0_12) (View.ld x8 r0_13) (View.ld x7 r0_14) (View.ld x8 r0_15) (View.ld x7 r0_16) (View.ld x8 r0_17)⟩,
      ⟨r0_0, unit (strm (View.ld x0 r0_0)) (View.ld x3 r0_2) (View.ld x4 r0_4) (toks (View.ld x1 r0_5)) (View.ld x2 r0_7) (View.ld x5 r0_9) (View.ld x6 r0_9)
        (View.ld x7 r0_10) (View.ld x8 r0_11) (View.ld x7 r0_12) (View.ld x8 r0_13) (View.ld x7 r0_14) (View.ld x8 r0_15) (View.ld x7 r0_16) (View.ld x8 r0_17)⟩] := by
  unfold_out out0_9
  rfl

end Cert.Kernel2Ideal.Body

end
-- ==== Proof.PostBodyAt.lean ====
/- The projection and feed-forward kernel's block function read at an element, over the extended reals. -/
module

public import proofs.«01_k».proof.Proof.PostBody

@[expose] public section

noncomputable section

namespace Cert.Kernel2Ideal.Body

open Cert.Kernel2Ideal Cert.Kernel2Ideal.Gen Idealize.ShloMosaic Idealize.ShloMosaic.TcCoe Idealize.SL.Sem

theorem norm_at (y : FVec Ideal S256x1024 .f32) (g : FVec Ideal S1x1024 .f32) (r : Fin 256) (c : Fin 1024) :
    norm y g (ix2 r c) = PostSpec.rms (fun k => y (ix2 r k)) (fun k => g (ix2 0 k)) c := by
  unfold PostSpec.rms
  pointwise [norm]

theorem strm_at (x : Vec Ideal S1x256x1024 .f32) (r : Fin 256) (k : Fin 1024) : strm x (ix2 r k) = x (ix3 0 r k) := by
  pointwise [strm]

theorem toks_at (ya : Vec Ideal S1x256x512 .f32) (r : Fin 256) (k : Fin 512) : toks ya (ix2 r k) = ya (ix3 0 r k) := by
  pointwise [toks]

theorem proj_at (ya : FVec Ideal S256x512 .bf16) (yb : Vec Ideal S1x1x512x256 .bf16) (wa wb : Vec Ideal S512x1024 .bf16) (r : Fin 256) (c : Fin 1024) :
    proj ya yb wa wb (ix2 r c) = (∑ k : Fin 512, ya (ix2 r k) * wa (ix2 k c)) + ∑ k : Fin 512, yb (ix4 0 0 k r) * wb (ix2 k c) := by
  pointwise [proj]

theorem part_at (h : FVec Ideal S256x1024 .bf16) (w v : Vec Ideal S1024x1024 .bf16) (r : Fin 256) (c : Fin 1024) :
    part h w v (ix2 r c) = ∑ f : Fin 1024, PostSpec.act (fun k => h (ix2 r k)) (fun k => w (ix2 k f)) * v (ix2 f c) := by
  unfold PostSpec.act
  pointwise [part, act]

/-- The four quarters in order are the sum over all 4096 hidden units. -/
theorem mlp_at (h : FVec Ideal S256x1024 .bf16) (W : Fin 1024 → Fin 4096 → EReal) (V : Fin 4096 → Fin 1024 → EReal)
    (w v : Fin 4 → Vec Ideal S1024x1024 .bf16)
    (hw : ∀ q k f, w q (ix2 k f) = W k ⟨q.val * 1024 + f.val, by omega⟩)
    (hv : ∀ q f c, v q (ix2 f c) = V ⟨q.val * 1024 + f.val, by omega⟩ c) (r : Fin 256) (c : Fin 1024) :
    mlp h (w 0) (v 0) (w 1) (v 1) (w 2) (v 2) (w 3) (v 3) (ix2 r c) = PostSpec.mlp (fun k => h (ix2 r k)) W V c := by
  unfold mlp PostSpec.mlp
  show (((Ideal.ofBits .f32 0x00000000#32 + part h (w 0) (v 0) (ix2 r c)) + part h (w 1) (v 1) (ix2 r c)) + part h (w 2) (v 2) (ix2 r c))
    + part h (w 3) (v 3) (ix2 r c) = _
  rw [Fin.sum_univ_tiles 4 1024 rfl, Fin.sum_univ_four, Ideal.ofBits_zero_f32, zero_add]
  simp only [part_at, hw, hv]

theorem resid_at (x y : FVec Ideal S256x1024 .f32) (md g : FVec Ideal S1x1024 .f32) (r : Fin 256) (c : Fin 1024) :
    resid x md y g (ix2 r c)
      = PostSpec.resid (fun k => x (ix2 r k)) (fun k => md (ix2 0 k)) (fun k => y (ix2 r k)) (fun k => g (ix2 0 k)) c := by
  unfold PostSpec.resid
  rw [← norm_at]
  unfold resid
  generalize norm y g = n
  pointwise []

theorem hid_at (x : FVec Ideal S256x1024 .f32) (g sc sh : FVec Ideal S1x1024 .f32) (r : Fin 256) (c : Fin 1024) :
    hid x g sc sh (ix2 r c)
      = PostSpec.hid (fun k => x (ix2 r k)) (fun k => g (ix2 0 k)) (fun k => sc (ix2 0 k)) (fun k => sh (ix2 0 k)) c := by
  unfold PostSpec.hid
  rw [← norm_at]
  unfold hid
  generalize norm x g = n
  pointwise []

/-- One sample's stored rows are the row function of the sample's rows. -/
theorem unit_at (x : FVec Ideal S256x1024 .f32) (md : Vec Ideal S1x6x1024 .f32) (g : Vec Ideal S4x1024 .f32) (ya : FVec Ideal S256x512 .bf16)
    (yb : Vec Ideal S1x1x512x256 .bf16) (wa wb : Vec Ideal S512x1024 .bf16) (w v : Fin 4 → Vec Ideal S1024x1024 .bf16)
    (W : Fin 1024 → Fin 4096 → EReal) (V : Fin 4096 → Fin 1024 → EReal) (O : Fin 1024 → Fin 1024 → EReal)
    (hw : ∀ q k f, w q (ix2 k f) = W k ⟨q.val * 1024 + f.val, by omega⟩)
    (hv : ∀ q f c, v q (ix2 f c) = V ⟨q.val * 1024 + f.val, by omega⟩ c)
    (ha : ∀ k c, wa (ix2 k c) = O (Fin.castAdd 512 k) c) (hb : ∀ k c, wb (ix2 k c) = O (Fin.natAdd 512 k) c) (r : Fin 256) (c : Fin 1024) :
    unit x md g ya yb wa wb (w 0) (v 0) (w 1) (v 1) (w 2) (v 2) (w 3) (v 3) (ix3 0 r c)
      = PostSpec.row (fun k => x (ix2 r k)) (fun i k => md (ix3 0 i k)) (fun i k => g (ix2 i k)) (fun k => ya (ix2 r k))
          (fun k => yb (ix4 0 0 k r)) O W V c := by
  have e : ∀ t : FVec Ideal S256x1024 .f32, shapeCast S1x256x1024 t shapeCasts_S256x1024_S1x256x1024 (ix3 0 r c) = t (ix2 r c) := fun t => by
    pointwise []
  have em : ∀ (off : Fin 2 → Nat) (h : S6x1024.Slices off S1x1024) (i : Fin 6) (hi : off = ![i.val, 0]) (k : Fin 1024),
      modRow off h md (ix2 0 k) = md (ix3 0 i k) := fun off h i hi k => by
    subst hi
    unfold modRow
    rw [extractStridedSlice_apply _ _ _ _ (ix2 i k) (fun a => by fin_cases a <;> simp [ix2])]
    pointwise []
  have eg : ∀ (off : Fin 2 → Nat) (h : S4x1024.Slices off S1x1024) (i : Fin 4) (hi : off = ![i.val, 0]) (k : Fin 1024),
      extractStridedSlice S1x1024 off g h (ix2 0 k) = g (ix2 i k) := fun off h i hi k => by
    subst hi
    exact extractStridedSlice_apply _ _ _ _ (ix2 i k) (fun a => by fin_cases a <;> simp [ix2])
  have emid : ∀ k, mid x md g ya yb wa wb (ix2 r k) = PostSpec.resid (fun k => x (ix2 r k)) (fun k => md (ix3 0 2 k))
      (PostSpec.proj (fun k => ya (ix2 r k)) (fun k => yb (ix4 0 0 k r)) O) (fun k => g (ix2 1 k)) k := fun k => by
    unfold mid
    rw [resid_at]
    congr 1
    · funext j; exact em _ _ 2 rfl j
    · funext j; rw [proj_at]; unfold PostSpec.proj; simp only [ha, hb]
    · funext j; exact eg _ _ 1 rfl j
  unfold unit PostSpec.row
  rw [e]
  unfold top
  rw [resid_at]
  dsimp only
  congr 1
  · funext j; exact emid j
  · funext j; exact em _ _ 5 rfl j
  · funext j
    rw [mlp_at _ W V w v hw hv]
    congr 1
    funext k
    rw [hid_at]
    congr 1
    · funext j; exact emid j
    · funext j; exact eg _ _ 2 rfl j
    · funext j; exact em _ _ 4 rfl j
    · funext j; exact em _ _ 3 rfl j
  · funext j; exact eg _ _ 3 rfl j

end Cert.Kernel2Ideal.Body

end
-- ==== Proof.PostLoads.lean ====
/- The projection and feed-forward kernel's loads read at an element, and one sample's stored rows from the rows it loads. -/
module

public import proofs.«01_k».proof.Proof.PostBodyAt

@[expose] public section

noncomputable section

namespace Cert.Kernel2Ideal.Body

open Cert.Kernel2Ideal Cert.Kernel2Ideal.Gen Idealize.ShloMosaic Idealize.ShloMosaic.TcCoe Idealize.SL.Sem

/-- The four column quarters of the first feed-forward matrix, as the kernel reads them. -/
def colq (x : Vec Ideal S1024x4096 .bf16) : Fin 4 → Vec Ideal S1024x1024 .bf16 :=
  ![View.ld x r0_10, View.ld x r0_12, View.ld x r0_14, View.ld x r0_16]

/-- The four row quarters of the second feed-forward matrix, as the kernel reads them. -/
def rowq (x : Vec Ideal S4096x1024 .bf16) : Fin 4 → Vec Ideal S1024x1024 .bf16 :=
  ![View.ld x r0_11, View.ld x r0_13, View.ld x r0_15, View.ld x r0_17]

theorem colq_at (x : Vec Ideal S1024x4096 .bf16) (q : Fin 4) (k f : Fin 1024) :
    colq x q (ix2 k f) = x (ix2 k ⟨q.val * 1024 + f.val, by omega⟩) := by
  fin_cases q <;> refine congrArg x (funext fun a => Fin.ext ?_) <;> fin_cases a
  · show 0 + 1 * k.val = k.val; omega
  · show 0 + 1 * f.val = 0 * 1024 + f.val; omega
  · show 0 + 1 * k.val = k.val; omega
  · show 1024 + 1 * f.val = 1 * 1024 + f.val; omega
  · show 0 + 1 * k.val = k.val; omega
  · show 2048 + 1 * f.val = 2 * 1024 + f.val; omega
  · show 0 + 1 * k.val = k.val; omega
  · show 3072 + 1 * f.val = 3 * 1024 + f.val; omega

theorem rowq_at (x : Vec Ideal S4096x1024 .bf16) (q : Fin 4) (f k : Fin 1024) :
    rowq x q (ix2 f k) = x (ix2 ⟨q.val * 1024 + f.val, by omega⟩ k) := by
  fin_cases q <;> refine congrArg x (funext fun a => Fin.ext ?_) <;> fin_cases a
  · show 0 + 1 * f.val = 0 * 1024 + f.val; omega
  · show 0 + 1 * k.val = k.val; omega
  · show 1024 + 1 * f.val = 1 * 1024 + f.val; omega
  · show 0 + 1 * k.val = k.val; omega
  · show 2048 + 1 * f.val = 2 * 1024 + f.val; omega
  · show 0 + 1 * k.val = k.val; omega
  · show 3072 + 1 * f.val = 3 * 1024 + f.val; omega
  · show 0 + 1 * k.val = k.val; omega

theorem ld_x0 (X : Vec Ideal S2x256x1024 .f32) (r : Fin 256) (k : Fin 1024) : View.ld X r0_0 (ix3 0 r k) = X (ix3 0 r k) :=
  congrArg X (funext fun a => Fin.ext (by
    match a with
    | ⟨0, _⟩ => show 0 + 1 * 0 = 0; omega
    | ⟨1, _⟩ => show 0 + 1 * r.val = r.val; omega
    | ⟨2, _⟩ => show 0 + 1 * k.val = k.val; omega))

theorem ld_md0 (X : Vec Ideal S2x6x1024 .f32) (i : Fin 6) (k : Fin 1024) : View.ld X r0_2 (ix3 0 i k) = X (ix3 0 i k) :=
  congrArg X (funext fun a => Fin.ext (by
    match a with
    | ⟨0, _⟩ => show 0 + 1 * 0 = 0; omega
    | ⟨1, _⟩ => show 0 + 1 * i.val = i.val; omega
    | ⟨2, _⟩ => show 0 + 1 * k.val = k.val; omega))

theorem ld_ya0 (X : Vec Ideal S2x256x512 .f32) (r : Fin 256) (k : Fin 512) : View.ld X r0_5 (ix3 0 r k) = X (ix3 0 r k) :=
  congrArg X (funext fun a => Fin.ext (by
    match a with
    | ⟨0, _⟩ => show 0 + 1 * 0 = 0; omega
    | ⟨1, _⟩ => show 0 + 1 * r.val = r.val; omega
    | ⟨2, _⟩ => show 0 + 1 * k.val = k.val; omega))

theorem ld_yb0 (X : Vec Ideal S2x1x512x256 .bf16) (k : Fin 512) (r : Fin 256) : View.ld X r0_7 (ix4 0 0 k r) = X (ix4 0 0 k r) :=
  congrArg X (funext fun a => Fin.ext (by
    match a with
    | ⟨0, _⟩ => show 0 + 1 * 0 = 0; omega
    | ⟨1, _⟩ => show 0 + 1 * 0 = 0; omega
    | ⟨2, _⟩ => show 0 + 1 * k.val = k.val; omega
    | ⟨3, _⟩ => show 0 + 1 * r.val = r.val; omega))

theorem ld_x1 (X : Vec Ideal S2x256x1024 .f32) (r : Fin 256) (k : Fin 1024) : View.ld X r0_1 (ix3 0 r k) = X (ix3 1 r k) :=
  congrArg X (funext fun a => Fin.ext (by
    match a with
    | ⟨0, _⟩ => show 1 + 1 * 0 = 1; omega
    | ⟨1, _⟩ => show 0 + 1 * r.val = r.val; omega
    | ⟨2, _⟩ => show 0 + 1 * k.val = k.val; omega))

theorem ld_md1 (X : Vec Ideal S2x6x1024 .f32) (i : Fin 6) (k : Fin 1024) : View.ld X r0_3 (ix3 0 i k) = X (ix3 1 i k) :=
  congrArg X (funext fun a => Fin.ext (by
    match a with
    | ⟨0, _⟩ => show 1 + 1 * 0 = 1; omega
    | ⟨1, _⟩ => show 0 + 1 * i.val = i.val; omega
    | ⟨2, _⟩ => show 0 + 1 * k.val = k.val; omega))

theorem ld_ya1 (X : Vec Ideal S2x256x512 .f32) (r : Fin 256) (k : Fin 512) : View.ld X r0_6 (ix3 0 r k) = X (ix3 1 r k) :=
  congrArg X (funext fun a => Fin.ext (by
    match a with
    | ⟨0, _⟩ => show 1 + 1 * 0 = 1; omega
    | ⟨1, _⟩ => show 0 + 1 * r.val = r.val; omega
    | ⟨2, _⟩ => show 0 + 1 * k.val = k.val; omega))

theorem ld_yb1 (X : Vec Ideal S2x1x512x256 .bf16) (k : Fin 512) (r : Fin 256) : View.ld X r0_8 (ix4 0 0 k r) = X (ix4 1 0 k r) :=
  congrArg X (funext fun a => Fin.ext (by
    match a with
    | ⟨0, _⟩ => show 1 + 1 * 0 = 1; omega
    | ⟨1, _⟩ => show 0 + 1 * 0 = 0; omega
    | ⟨2, _⟩ => show 0 + 1 * k.val = k.val; omega
    | ⟨3, _⟩ => show 0 + 1 * r.val = r.val; omega))

theorem ld_g (X : Vec Ideal S4x1024 .f32) (i : Fin 4) (k : Fin 1024) : View.ld X r0_4 (ix2 i k) = X (ix2 i k) :=
  congrArg X (funext fun a => Fin.ext (by
    match a with
    | ⟨0, _⟩ => show 0 + 1 * i.val = i.val; omega
    | ⟨1, _⟩ => show 0 + 1 * k.val = k.val; omega))

theorem ld_wo (X : Vec Ideal S512x1024 .bf16) (k : Fin 512) (n : Fin 1024) : View.ld X r0_9 (ix2 k n) = X (ix2 k n) :=
  congrArg X (funext fun a => Fin.ext (by
    match a with
    | ⟨0, _⟩ => show 0 + 1 * k.val = k.val; omega
    | ⟨1, _⟩ => show 0 + 1 * n.val = n.val; omega))

theorem emb_0 (r : Fin 256) (k : Fin 1024) : (ix3 0 r k : S2x256x1024.Idx) = r0_0.emb (ix3 0 r k) :=
  funext fun a => Fin.ext (by
    match a with
    | ⟨0, _⟩ => show 0 = 0 + 1 * 0; omega
    | ⟨1, _⟩ => show r.val = 0 + 1 * r.val; omega
    | ⟨2, _⟩ => show k.val = 0 + 1 * k.val; omega)

theorem emb_1 (r : Fin 256) (k : Fin 1024) : (ix3 1 r k : S2x256x1024.Idx) = r0_1.emb (ix3 0 r k) :=
  funext fun a => Fin.ext (by
    match a with
    | ⟨0, _⟩ => show 1 = 1 + 1 * 0; omega
    | ⟨1, _⟩ => show r.val = 0 + 1 * r.val; omega
    | ⟨2, _⟩ => show k.val = 0 + 1 * k.val; omega)

/-- One sample's stored row is the row function of whatever rows its loads hold. -/
theorem unit_row (r : Fin 256) (x : FVec Ideal S256x1024 .f32) (md : Vec Ideal S1x6x1024 .f32) (g : Vec Ideal S4x1024 .f32)
    (ya : FVec Ideal S256x512 .bf16) (yb : Vec Ideal S1x1x512x256 .bf16) (wa wb : Vec Ideal S512x1024 .bf16)
    (X : Vec Ideal S1024x4096 .bf16) (Y : Vec Ideal S4096x1024 .bf16)
    {fx : Fin 1024 → EReal} {fm : Fin 6 → Fin 1024 → EReal} {fg : Fin 4 → Fin 1024 → EReal} {fa fb : Fin 512 → EReal}
    {O : Fin 1024 → Fin 1024 → EReal} {W : Fin 1024 → Fin 4096 → EReal} {V : Fin 4096 → Fin 1024 → EReal}
    (hx : ∀ k, x (ix2 r k) = fx k) (hm : ∀ i k, md (ix3 0 i k) = fm i k) (hg : ∀ i k, g (ix2 i k) = fg i k)
    (ha : ∀ k, ya (ix2 r k) = fa k) (hb : ∀ k, yb (ix4 0 0 k r) = fb k)
    (hwa : ∀ k c, wa (ix2 k c) = O (Fin.castAdd 512 k) c) (hwb : ∀ k c, wb (ix2 k c) = O (Fin.natAdd 512 k) c)
    (hX : ∀ k f, X (ix2 k f) = W k f) (hY : ∀ f k, Y (ix2 f k) = V f k) (k : Fin 1024) :
    unit x md g ya yb wa wb (View.ld X r0_10) (View.ld Y r0_11) (View.ld X r0_12) (View.ld Y r0_13) (View.ld X r0_14) (View.ld Y r0_15)
        (View.ld X r0_16) (View.ld Y r0_17) (ix3 0 r k) = PostSpec.row fx fm fg fa fb O W V k := by
  show unit x md g ya yb wa wb (colq X 0) (rowq Y 0) (colq X 1) (rowq Y 1) (colq X 2) (rowq Y 2) (colq X 3) (rowq Y 3) (ix3 0 r k) = _
  rw [unit_at x md g ya yb wa wb (colq X) (rowq Y) W V O (fun q k f => (colq_at _ q k f).trans (hX _ _))
    (fun q f k => (rowq_at _ q f k).trans (hY _ _)) hwa hwb]
  simp only [hx, hm, hg, ha, hb]

end Cert.Kernel2Ideal.Body

end
-- ==== Proof.PostArray.lean ====
/- The projection and feed-forward kernel's result array over the extended reals: every token's row is the row function
   of that token's rows of the arguments. -/
module

public import proofs.«01_k».proof.Proof.PostLoads
public import proofs.«01_k».proof.Proof.Gen.Kernel2Ideal.Value
public import Idealize.ShloMosaic.Lib.StableHlo.Run
public import Idealize.ShloMosaic.Lib.Tactic
public import Idealize.ShloMosaic.Lib.Pipeline.ValueKit.Geometry

@[expose] public section

noncomputable section

namespace Cert.Kernel2Ideal.Body

open Cert.Kernel2Ideal Cert.Kernel2Ideal.Gen Idealize.ShloMosaic Idealize.ShloMosaic.TcCoe Idealize.SL.Sem
open Idealize.ShloMosaic.StableHlo

/-- The result as one function of the arguments: token `t` of the latents is token `256 + t` of the stream. -/
def rows (xs : S4x8448x1024.Idx → EReal) (ya : S4x8448x512.Idx → EReal) (yb : S4x33x512x256.Idx → EReal) (md : S8x6x1024.Idx → EReal)
    (g : S4x1024.Idx → EReal) (wo : S1024x1024.Idx → EReal) (w1 : S1024x4096.Idx → EReal) (w2 : S4096x1024.Idx → EReal)
    (b : Fin 4) (t : Fin 8192) (c : Fin 1024) : EReal :=
  PostSpec.row (fun k => xs (ix3 b ⟨256 + t.val, by omega⟩ k)) (fun i k => md (ix3 ⟨b.val, by omega⟩ i k)) (fun i k => g (ix2 i k))
    (fun k => ya (ix3 b ⟨256 + t.val, by omega⟩ k))
    (fun k => yb (ix4 b ⟨t.val / 256 + 1, by omega⟩ k ⟨t.val % 256, by omega⟩))
    (fun k c => wo (ix2 k c)) (fun k f => w1 (ix2 k f)) (fun f c => w2 (ix2 f c)) c

variable (m : (ℓ : Loc nD τ sig) → Buf (Elt Ideal) ℓ)

/-- The grid's index maps, decided over its 64 points. -/
theorem index_facts : ∀ t : Fin cfg0.N,
    (win0_0.index t 0 = t.val / 32 ∧ win0_0.index t 1 = t.val % 32 + 1 ∧ win0_0.index t 2 = 0)
    ∧ (win0_1.index t 0 = t.val / 32 ∧ win0_1.index t 1 = t.val % 32 + 1 ∧ win0_1.index t 2 = 0)
    ∧ (win0_2.index t 0 = t.val / 32 ∧ win0_2.index t 1 = t.val % 32 + 1 ∧ win0_2.index t 2 = 0 ∧ win0_2.index t 3 = 0)
    ∧ (win0_3.index t 0 = t.val / 32 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0)
    ∧ (win0_9.index t 0 = t.val / 32 ∧ win0_9.index t 1 = t.val % 32 ∧ win0_9.index t 2 = 0) :=
  (by decide +kernel : ∀ t : Fin grid0.N,
    (win0_0.index t 0 = t.val / 32 ∧ win0_0.index t 1 = t.val % 32 + 1 ∧ win0_0.index t 2 = 0)
    ∧ (win0_1.index t 0 = t.val / 32 ∧ win0_1.index t 1 = t.val % 32 + 1 ∧ win0_1.index t 2 = 0)
    ∧ (win0_2.index t 0 = t.val / 32 ∧ win0_2.index t 1 = t.val % 32 + 1 ∧ win0_2.index t 2 = 0 ∧ win0_2.index t 3 = 0)
    ∧ (win0_3.index t 0 = t.val / 32 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0)
    ∧ (win0_9.index t 0 = t.val / 32 ∧ win0_9.index t 1 = t.val % 32 ∧ win0_9.index t 2 = 0))

theorem tlt (t : Fin cfg0.N) : t.val < 64 := lt_of_lt_of_eq t.isLt N_0

/-- The weights the host prepares: the output projection's two halves, and the feed-forward matrices. -/
theorem V_v1 (c : Dev nD) : (V m c main_v1 : S512x1024.Idx → EReal)
    = extractStridedSlice S512x1024 ![0, 0] (m ((c : Thread nD τ).loc main_arg5)) slices_S1024x1024_S512x1024_0_0 := by
  unfold V
  after_results_simp
  rfl
theorem V_v3 (c : Dev nD) : (V m c main_v3 : S512x1024.Idx → EReal)
    = extractStridedSlice S512x1024 ![512, 0] (m ((c : Thread nD τ).loc main_arg5)) slices_S1024x1024_S512x1024_512_0 := by
  unfold V
  after_results_simp
  rfl
theorem V_v4 (c : Dev nD) : (V m c main_v4 : S1024x4096.Idx → EReal) = m ((c : Thread nD τ).loc main_arg6) := by
  unfold V
  after_results_simp
  rfl
theorem V_v5 (c : Dev nD) : (V m c main_v5 : S4096x1024.Idx → EReal) = m ((c : Thread nD τ).loc main_arg7) := by
  unfold V
  after_results_simp
  rfl

section Blocks
variable (c : Dev nD) (t : Fin cfg0.N)

theorem blk0 (s : Fin 2) (r : Fin 256) (k : Fin 1024) : iblk m c 0 t (ix3 s r k)
    = m ((c : Thread nD τ).loc main_arg0) (ix3 ⟨t.val / 32 * 2 + s.val, by have := tlt t; omega⟩ ⟨(t.val % 32 + 1) * 256 + r.val, by omega⟩ k) := by
  obtain ⟨⟨h0, h1, h2⟩, -⟩ := index_facts t
  unfold iblk
  rw [View.read_apply]
  show V m c main_arg0 _ = _
  rw [V_main_arg0]
  refine congrArg (m _) (funext fun a => Fin.ext ?_)
  match a with
  | ⟨0, _⟩ => show win0_0.index t 0 * 2 + 1 * s.val = t.val / 32 * 2 + s.val; rw [h0]; omega
  | ⟨1, _⟩ => show win0_0.index t 1 * 256 + 1 * r.val = (t.val % 32 + 1) * 256 + r.val; rw [h1]; omega
  | ⟨2, _⟩ => show win0_0.index t 2 * 1024 + 1 * k.val = k.val; rw [h2]; omega

theorem blk1 (s : Fin 2) (r : Fin 256) (k : Fin 512) : iblk m c 1 t (ix3 s r k)
    = m ((c : Thread nD τ).loc main_arg1) (ix3 ⟨t.val / 32 * 2 + s.val, by have := tlt t; omega⟩ ⟨(t.val % 32 + 1) * 256 + r.val, by omega⟩ k) := by
  obtain ⟨-, ⟨h0, h1, h2⟩, -⟩ := index_facts t
  unfold iblk
  rw [View.read_apply]
  show V m c main_arg1 _ = _
  rw [V_main_arg1]
  refine congrArg (m _) (funext fun a => Fin.ext ?_)
  match a with
  | ⟨0, _⟩ => show win0_1.index t 0 * 2 + 1 * s.val = t.val / 32 * 2 + s.val; rw [h0]; omega
  | ⟨1, _⟩ => show win0_1.index t 1 * 256 + 1 * r.val = (t.val % 32 + 1) * 256 + r.val; rw [h1]; omega
  | ⟨2, _⟩ => show win0_1.index t 2 * 512 + 1 * k.val = k.val; rw [h2]; omega

theorem blk2 (s : Fin 2) (z : Fin 1) (k : Fin 512) (r : Fin 256) : iblk m c 2 t (ix4 s z k r)
    = m ((c : Thread nD τ).loc main_arg2) (ix4 ⟨t.val / 32 * 2 + s.val, by have := tlt t; omega⟩ ⟨t.val % 32 + 1, by omega⟩ k r) := by
  obtain ⟨-, -, ⟨h0, h1, h2, h3⟩, -⟩ := index_facts t
  unfold iblk
  rw [View.read_apply]
  show V m c main_arg2 _ = _
  rw [V_main_arg2]
  refine congrArg (m _) (funext fun a => Fin.ext ?_)
  match a with
  | ⟨0, _⟩ => show win0_2.index t 0 * 2 + 1 * s.val = t.val / 32 * 2 + s.val; rw [h0]; omega
  | ⟨1, _⟩ => show win0_2.index t 1 * 1 + 1 * z.val = t.val % 32 + 1; rw [h1]; omega
  | ⟨2, _⟩ => show win0_2.index t 2 * 512 + 1 * k.val = k.val; rw [h2]; omega
  | ⟨3, _⟩ => show win0_2.index t 3 * 256 + 1 * r.val = r.val; rw [h3]; omega

theorem blk3 (s : Fin 2) (i : Fin 6) (k : Fin 1024) : iblk m c 3 t (ix3 s i k)
    = m ((c : Thread nD τ).loc main_arg3) (ix3 ⟨t.val / 32 * 2 + s.val, by have := tlt t; omega⟩ i k) := by
  obtain ⟨-, -, -, ⟨h0, h1, h2⟩, -⟩ := index_facts t
  unfold iblk
  rw [View.read_apply]
  show V m c main_arg3 _ = _
  rw [V_main_arg3]
  refine congrArg (m _) (funext fun a => Fin.ext ?_)
  match a with
  | ⟨0, _⟩ => show win0_3.index t 0 * 2 + 1 * s.val = t.val / 32 * 2 + s.val; rw [h0]; omega
  | ⟨1, _⟩ => show win0_3.index t 1 * 6 + 1 * i.val = i.val; rw [h1]; omega
  | ⟨2, _⟩ => show win0_3.index t 2 * 1024 + 1 * k.val = k.val; rw [h2]; omega

theorem blk4 (i : Fin 4) (k : Fin 1024) : iblk m c 4 t (ix2 i k)
    = m ((c : Thread nD τ).loc main_arg4) (ix2 i k) := by
  obtain ⟨-, -, -, -, ⟨h0, h1⟩, -⟩ := index_facts t
  unfold iblk
  rw [View.read_apply]
  show V m c main_arg4 _ = _
  rw [V_main_arg4]
  refine congrArg (m _) (funext fun a => Fin.ext ?_)
  match a with
  | ⟨0, _⟩ => show win0_4.index t 0 * 4 + 1 * i.val = i.val; rw [h0]; omega
  | ⟨1, _⟩ => show win0_4.index t 1 * 1024 + 1 * k.val = k.val; rw [h1]; omega

theorem blk7 (k : Fin 1024) (f : Fin 4096) : iblk m c 7 t (ix2 k f)
    = m ((c : Thread nD τ).loc main_arg6) (ix2 k f) := by
  obtain ⟨-, -, -, -, -, -, -, ⟨h0, h1⟩, -⟩ := index_facts t
  unfold iblk
  rw [View.read_apply]
  show V m c main_v4 _ = _
  rw [V_v4]
  refine congrArg (m _) (funext fun a => Fin.ext ?_)
  match a with
  | ⟨0, _⟩ => show win0_7.index t 0 * 1024 + 1 * k.val = k.val; rw [h0]; omega
  | ⟨1, _⟩ => show win0_7.index t 1 * 4096 + 1 * f.val = f.val; rw [h1]; omega

theorem blk8 (f : Fin 4096) (k : Fin 1024) : iblk m c 8 t (ix2 f k)
    = m ((c : Thread nD τ).loc main_arg7) (ix2 f k) := by
  obtain ⟨-, -, -, -, -, -, -, -, ⟨h0, h1⟩, -⟩ := index_facts t
  unfold iblk
  rw [View.read_apply]
  show V m c main_v5 _ = _
  rw [V_v5]
  refine congrArg (m _) (funext fun a => Fin.ext ?_)
  match a with
  | ⟨0, _⟩ => show win0_8.index t 0 * 4096 + 1 * f.val = f.val; rw [h0]; omega
  | ⟨1, _⟩ => show win0_8.index t 1 * 1024 + 1 * k.val = k.val; rw [h1]; omega

theorem blk5 (k : Fin 512) (n : Fin 1024) : iblk m c 5 t (ix2 k n)
    = m ((c : Thread nD τ).loc main_arg5) (ix2 (Fin.castAdd 512 k : Fin (512 + 512)) n) := by
  obtain ⟨-, -, -, -, -, ⟨h0, h1⟩, -⟩ := index_facts t
  unfold iblk
  rw [View.read_apply]
  show V m c main_v1 _ = _
  rw [V_v1]
  refine extractStridedSlice_apply _ _ _ _ _ (fun a => ?_)
  match a with
  | ⟨0, _⟩ => show k.val = 0 + (win0_5.index t 0 * 512 + 1 * k.val); rw [h0]; omega
  | ⟨1, _⟩ => show n.val = 0 + (win0_5.index t 1 * 1024 + 1 * n.val); rw [h1]; omega

theorem blk6 (k : Fin 512) (n : Fin 1024) : iblk m c 6 t (ix2 k n)
    = m ((c : Thread nD τ).loc main_arg5) (ix2 (Fin.natAdd 512 k : Fin (512 + 512)) n) := by
  obtain ⟨-, -, -, -, -, -, ⟨h0, h1⟩, -⟩ := index_facts t
  unfold iblk
  rw [View.read_apply]
  show V m c main_v3 _ = _
  rw [V_v3]
  refine extractStridedSlice_apply _ _ _ _ _ (fun a => ?_)
  match a with
  | ⟨0, _⟩ => show 512 + k.val = 512 + (win0_6.index t 0 * 512 + 1 * k.val); rw [h0]; omega
  | ⟨1, _⟩ => show n.val = 0 + (win0_6.index t 1 * 1024 + 1 * n.val); rw [h1]; omega

end Blocks

/-- The place of an output block's element in the array. -/
theorem place (t : Fin cfg0.N) (s : Fin 2) (r : Fin 256) (k : Fin 1024) : ((cfg0.win 9).blk t).view.emb (ix3 s r k)
    = (ix3 ⟨t.val / 32 * 2 + s.val, by have := tlt t; omega⟩ ⟨t.val % 32 * 256 + r.val, by omega⟩ k : S4x8192x1024.Idx) := by
  obtain ⟨-, -, -, -, -, -, -, -, -, h0, h1, h2⟩ := index_facts t
  refine funext fun a => Fin.ext ?_
  match a with
  | ⟨0, _⟩ => show win0_9.index t 0 * 2 + 1 * s.val = t.val / 32 * 2 + s.val; rw [h0]; omega
  | ⟨1, _⟩ => show win0_9.index t 1 * 256 + 1 * r.val = t.val % 32 * 256 + r.val; rw [h1]; omega
  | ⟨2, _⟩ => show win0_9.index t 2 * 1024 + 1 * k.val = k.val; rw [h2]; omega

/-- The result array of the arguments in memory `m`. -/
def result (c : Dev nD) : S4x8192x1024.Idx → EReal := fun i =>
  rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- One sample of what a grid point leaves in its block is that sample's rows of the result. -/
theorem piece_at (c : Dev nD) (t : Fin cfg0.N) (s : Fin 2) (r : Fin 256) (k : Fin 1024)
    (x : Vec Ideal S1x256x1024 .f32) (md : Vec Ideal S1x6x1024 .f32) (g : Vec Ideal S4x1024 .f32) (ya : Vec Ideal S1x256x512 .f32)
    (yb : Vec Ideal S1x1x512x256 .bf16) (wa wb : Vec Ideal S512x1024 .bf16)
    (hx : ∀ r k, x (ix3 0 r k) = iblk m c 0 t (ix3 s r k)) (hm : ∀ i k, md (ix3 0 i k) = iblk m c 3 t (ix3 s i k))
    (hg : ∀ i k, g (ix2 i k) = iblk m c 4 t (ix2 i k)) (ha : ∀ r k, ya (ix3 0 r k) = iblk m c 1 t (ix3 s r k))
    (hb : ∀ k r, yb (ix4 0 0 k r) = iblk m c 2 t (ix4 s 0 k r)) (hwa : ∀ k n, wa (ix2 k n) = iblk m c 5 t (ix2 k n))
    (hwb : ∀ k n, wb (ix2 k n) = iblk m c 6 t (ix2 k n)) :
    unit (strm x) md g (toks ya) yb wa wb (View.ld (iblk m c 7 t) r0_10) (View.ld (iblk m c 8 t) r0_11) (View.ld (iblk m c 7 t) r0_12)
        (View.ld (iblk m c 8 t) r0_13) (View.ld (iblk m c 7 t) r0_14) (View.ld (iblk m c 8 t) r0_15) (View.ld (iblk m c 7 t) r0_16)
        (View.ld (iblk m c 8 t) r0_17) (ix3 0 r k)
      = result m c (((cfg0.win 9).blk t).view.emb (ix3 s r k)) := by
  have ht := tlt t
  rw [place]
  unfold result rows
  simp only [ix3_0, ix3_1, ix3_2]
  have e1 : (⟨(t.val % 32 + 1) * 256 + r.val, by omega⟩ : Fin 8448) = ⟨256 + (t.val % 32 * 256 + r.val), by omega⟩ := Fin.ext (by show (t.val % 32 + 1) * 256 + r.val = 256 + (t.val % 32 * 256 + r.val); omega)
  have e2 : (⟨t.val % 32 + 1, by omega⟩ : Fin 33) = ⟨(t.val % 32 * 256 + r.val) / 256 + 1, by omega⟩ := Fin.ext (by show t.val % 32 + 1 = (t.val % 32 * 256 + r.val) / 256 + 1; omega)
  have e3 : r = ⟨(t.val % 32 * 256 + r.val) % 256, by omega⟩ := Fin.ext (by show r.val = (t.val % 32 * 256 + r.val) % 256; omega)
  refine unit_row r (strm x) md g (toks ya) yb wa wb (iblk m c 7 t) (iblk m c 8 t) (fun k => ?_) (fun i k => ?_) (fun i k => ?_) (fun k => ?_)
    (fun k => ?_) (fun k n => (hwa k n).trans (blk5 m c t k n)) (fun k n => (hwb k n).trans (blk6 m c t k n)) (fun k f => blk7 m c t k f)
    (fun f k => blk8 m c t f k) k
  · rw [strm_at, hx, blk0, e1]
  · rw [hm, blk3]
  · rw [hg, blk4]
  · rw [toks_at, ha, blk1, e1]
  · rw [hb, blk2, e2]
    exact congrArg (fun r' => m ((c : Thread nD τ).loc main_arg2) (ix4 _ _ k r')) e3

/-- The array the kernel leaves is the result of its arguments. -/
theorem final (c : Dev nD) : (dats m 0 c).arrAt 9 cfg0.N = result m c := by
  refine (dats m 0 c).arrAt_eq_of_covers 9 _ (by decide +kernel) fun t hf y => ?_
  show (dats m 0 c).after 9 t y = _
  rw [after0_9, out_eq]
  refine View.canon_apply_of_pieces (Val := Elt Ideal) (e := .f32) (fun y => result m c (((cfg0.win 9).blk t).view.emb y)) _ ?_ y (cover0_9 _ _ y)
  intro p hp x
  simp only [List.mem_cons, List.not_mem_nil, or_false] at hp
  rcases hp with rfl | rfl
  · obtain ⟨z, r, k, rfl⟩ : ∃ z r k, x = ix3 z r k := ⟨x 0, x 1, x 2, eq_ix3 x⟩
    obtain rfl : z = 0 := Subsingleton.elim _ _
    dsimp only
    rw [← emb_1 r k]
    exact piece_at m c t 1 r k _ _ _ _ _ _ _ (ld_x1 _) (ld_md1 _) (ld_g _) (ld_ya1 _) (ld_yb1 _) (ld_wo _) (ld_wo _)
  · obtain ⟨z, r, k, rfl⟩ : ∃ z r k, x = ix3 z r k := ⟨x 0, x 1, x 2, eq_ix3 x⟩
    obtain rfl : z = 0 := Subsingleton.elim _ _
    dsimp only
    rw [← emb_0 r k]
    exact piece_at m c t 0 r k _ _ _ _ _ _ _ (ld_x0 _) (ld_md0 _) (ld_g _) (ld_ya0 _) (ld_yb0 _) (ld_wo _) (ld_wo _)

end Cert.Kernel2Ideal.Body

end
-- ==== Proof.PostReference.lean ====
/- The reference's result at an element: the row function of the token's rows. -/
module

public import proofs.«01_k».proof.Proof.PostSpec
public import proofs.«01_k».proof.Proof.Gen.Reference2Ideal.Read
public import Idealize.ShloMosaic.Lib.Pointwise

@[expose] public section

noncomputable section

namespace Cert.Reference2Ideal.Rows

open Cert.Reference2Ideal Cert.Reference2Ideal.Gen Cert.Reference2Ideal.Read Idealize.ShloMosaic Idealize.ShloMosaic.TcCoe Idealize.SL.Sem
open Idealize.ShloMosaic.StableHlo Cert

variable (x0 : (⟨S4x8448x1024, .f32⟩ : BufTy).Contents (Elt Ideal)) (x1 : (⟨S4x8448x512, .f32⟩ : BufTy).Contents (Elt Ideal))
  (x2 : (⟨S4x33x512x256, .bf16⟩ : BufTy).Contents (Elt Ideal)) (x3 : (⟨S8x6x1024, .f32⟩ : BufTy).Contents (Elt Ideal))
  (x4 : (⟨S4x1024, .f32⟩ : BufTy).Contents (Elt Ideal)) (x5 : (⟨S1024x1024, .f32⟩ : BufTy).Contents (Elt Ideal))
  (x6 : (⟨S1024x4096, .f32⟩ : BufTy).Contents (Elt Ideal)) (x7 : (⟨S4096x1024, .f32⟩ : BufTy).Contents (Elt Ideal))

/-- The two mixers' rows side by side, times the output projection. -/
theorem proj_at (b : Fin 4) (t : Fin 8192) (c : Fin 1024) : val_main_v25 (F := Ideal) x1 x2 x5 (ix3 b t c)
    = PostSpec.proj (fun k => x1 (ix3 b ⟨256 + t.val, by omega⟩ k))
        (fun k => x2 (ix4 b ⟨t.val / 256 + 1, by omega⟩ k ⟨t.val % 256, by omega⟩)) (fun k c => x5 (ix2 k c)) c := by
  unfold PostSpec.proj
  pointwise [val_main_v25]
  rw [Fin.sum_univ_two_halves 512 512 rfl]
  refine congrArg₂ (· + ·) (Finset.sum_congr rfl fun k _ => ?_) (Finset.sum_congr rfl fun k _ => ?_)
  · pointwise [val_main_v24, val_main_v22]
    rfl
  · pointwise [val_main_v24, val_main_v23, val_main_v21, val_main_v20, val_main_v19]
    have e1 : (⟨(256 + t.val) / 256, by omega⟩ : Fin 33) = ⟨t.val / 256 + 1, by omega⟩ := Fin.ext (by show (256 + t.val) / 256 = t.val / 256 + 1; omega)
    have e2 : (⟨(256 + t.val) % 256, by omega⟩ : Fin 256) = ⟨t.val % 256, by omega⟩ := Fin.ext (by show (256 + t.val) % 256 = t.val % 256; omega)
    rw [e1, e2]
    rfl

theorem norm_at (b : Fin 4) (t : Fin 8192) (c : Fin 1024) : val_main_v40 (F := Ideal) x1 x2 x4 x5 (ix3 b t c)
    = PostSpec.rms (fun k => val_main_v25 (F := Ideal) x1 x2 x5 (ix3 b t k)) (fun k => x4 (ix2 1 k)) c := by
  unfold PostSpec.rms
  pointwise [val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1]

theorem resid_at (b : Fin 4) (t : Fin 8192) (c : Fin 1024) : val_main_v43 (F := Ideal) x0 x1 x2 x3 x4 x5 (ix3 b t c)
    = PostSpec.resid (fun k => x0 (ix3 b ⟨256 + t.val, by omega⟩ k)) (fun k => x3 (ix3 ⟨b.val, by omega⟩ 2 k))
        (fun k => val_main_v25 (F := Ideal) x1 x2 x5 (ix3 b t k)) (fun k => x4 (ix2 1 k)) c := by
  unfold PostSpec.resid
  rw [← norm_at]
  pointwise [val_main_v43, val_main_v42, val_main_v41, val_main_v0, val_main_v7, val_main_v8, val_main_v9]

theorem norm2_at (b : Fin 4) (t : Fin 8192) (c : Fin 1024) : val_main_v58 (F := Ideal) x0 x1 x2 x3 x4 x5 (ix3 b t c)
    = PostSpec.rms (fun k => val_main_v43 (F := Ideal) x0 x1 x2 x3 x4 x5 (ix3 b t k)) (fun k => x4 (ix2 2 k)) c := by
  unfold PostSpec.rms
  pointwise [val_main_v44, val_main_v45, val_main_v46, val_main_v47, val_main_v48, val_main_v49, val_main_v50, val_main_v51, val_main_v52, val_main_v53, val_main_v54, val_main_v55, val_main_v56, val_main_v57, val_main_v58, val_main_cst_2, val_main_cst_3, val_main_cst_4]

theorem hid_at (b : Fin 4) (t : Fin 8192) (c : Fin 1024) : val_main_v64 (F := Ideal) x0 x1 x2 x3 x4 x5 (ix3 b t c)
    = PostSpec.hid (fun k => val_main_v43 (F := Ideal) x0 x1 x2 x3 x4 x5 (ix3 b t k)) (fun k => x4 (ix2 2 k))
        (fun k => x3 (ix3 ⟨b.val, by omega⟩ 4 k)) (fun k => x3 (ix3 ⟨b.val, by omega⟩ 3 k)) c := by
  unfold PostSpec.hid
  rw [← norm2_at]
  pointwise [val_main_v59, val_main_v60, val_main_v61, val_main_v62, val_main_v63, val_main_v64, val_main_v10, val_main_v11, val_main_v12, val_main_v13, val_main_v14, val_main_v15, val_main_cst_5]

theorem mlp_at (b : Fin 4) (t : Fin 8192) (c : Fin 1024) : val_main_v68 (F := Ideal) x0 x1 x2 x3 x4 x5 x6 x7 (ix3 b t c)
    = PostSpec.mlp (fun k => val_main_v64 (F := Ideal) x0 x1 x2 x3 x4 x5 (ix3 b t k)) (fun k f => x6 (ix2 k f)) (fun f c => x7 (ix2 f c)) c := by
  unfold PostSpec.mlp PostSpec.act
  pointwise [val_main_v65, val_main_v66, val_main_v67, val_main_v68, val_main_call0_v0, val_main_call0_cst]

theorem norm3_at (b : Fin 4) (t : Fin 8192) (c : Fin 1024) : val_main_v83 (F := Ideal) x0 x1 x2 x3 x4 x5 x6 x7 (ix3 b t c)
    = PostSpec.rms (fun k => val_main_v68 (F := Ideal) x0 x1 x2 x3 x4 x5 x6 x7 (ix3 b t k)) (fun k => x4 (ix2 3 k)) c := by
  unfold PostSpec.rms
  pointwise [val_main_v69, val_main_v70, val_main_v71, val_main_v72, val_main_v73, val_main_v74, val_main_v75, val_main_v76, val_main_v77, val_main_v78, val_main_v79, val_main_v80, val_main_v81, val_main_v82, val_main_v83, val_main_cst_6, val_main_cst_7, val_main_cst_8]

theorem top_at (b : Fin 4) (t : Fin 8192) (c : Fin 1024) : val_main_v86 (F := Ideal) x0 x1 x2 x3 x4 x5 x6 x7 (ix3 b t c)
    = PostSpec.resid (fun k => val_main_v43 (F := Ideal) x0 x1 x2 x3 x4 x5 (ix3 b t k)) (fun k => x3 (ix3 ⟨b.val, by omega⟩ 5 k))
        (fun k => val_main_v68 (F := Ideal) x0 x1 x2 x3 x4 x5 x6 x7 (ix3 b t k)) (fun k => x4 (ix2 3 k)) c := by
  unfold PostSpec.resid
  rw [← norm3_at]
  pointwise [val_main_v86, val_main_v85, val_main_v84, val_main_v16, val_main_v17, val_main_v18]

/-- The reference's row is the row function. -/
theorem row_at (b : Fin 4) (t : Fin 8192) (c : Fin 1024) : val_main_v86 (F := Ideal) x0 x1 x2 x3 x4 x5 x6 x7 (ix3 b t c)
    = PostSpec.row (fun k => x0 (ix3 b ⟨256 + t.val, by omega⟩ k)) (fun i k => x3 (ix3 ⟨b.val, by omega⟩ i k)) (fun i k => x4 (ix2 i k))
        (fun k => x1 (ix3 b ⟨256 + t.val, by omega⟩ k)) (fun k => x2 (ix4 b ⟨t.val / 256 + 1, by omega⟩ k ⟨t.val % 256, by omega⟩))
        (fun k c => x5 (ix2 k c)) (fun k f => x6 (ix2 k f)) (fun f c => x7 (ix2 f c)) c := by
  rw [top_at]
  unfold PostSpec.row
  simp only [mlp_at, hid_at, resid_at, proj_at]

end Cert.Reference2Ideal.Rows

end
-- ==== Proof.PostClaims.lean ====
/- The claims about the projection and feed-forward kernel: the frames of the three programs, and that over the extended
   reals the kernel and the reference end with equal arrays. -/
module

public import proofs.«01_k».proof.Defs
public import proofs.«01_k».proof.Proof.PostArray
public import proofs.«01_k».proof.Proof.PostReference
public import proofs.«01_k».proof.Proof.Gen.Kernel2.Frame
public import Idealize.ShloMosaic.Lib.Quiescent

@[expose] public section

noncomputable section

namespace Cert.Proof.Post

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- The two arrays are one function of the arguments, row by row. -/
theorem algebraic : Cert.algebraic_Kernel2Ideal_Reference2Ideal := by
  intro m ρ m' ρ' _ hagree
  refine ⟨fun c => Cert.Kernel2Ideal.Body.result m c, ?_, ?_⟩
  · exact (θ_run Cert.Kernel2Ideal.defs _ _).mono (fun _ h c => ⟨(h c).1.trans (Cert.Kernel2Ideal.Body.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5, h6, h7⟩ := hagree c
    rw [Cert.Reference2Ideal.Read.val_main_v86_eq, h0, h1, h2, h3, h4, h5, h6, h7]
    funext i
    obtain ⟨b, t, k, rfl⟩ : ∃ b t k, i = ix3 b t k := ⟨i 0, i 1, i 2, eq_ix3 i⟩
    rw [Cert.Reference2Ideal.Rows.row_at]
    rfl

end Cert.Proof.Post

end
-- ==== Proof.Post3Array.lean ====
/- The projection and feed-forward kernel's result array where the step keeps the context's tokens (layer 1). -/
module

public import proofs.«01_k».proof.Proof.PostLoads
public import proofs.«01_k».proof.Proof.Gen.Kernel3Ideal.Frame
public import proofs.«01_k».proof.Proof.Gen.Kernel3Ideal.Value
public import Idealize.ShloMosaic.Lib.StableHlo.Run
public import Idealize.ShloMosaic.Lib.Tactic
public import Idealize.ShloMosaic.Lib.Pipeline.ValueKit.Geometry

@[expose] public section

noncomputable section

namespace Cert.Kernel3Ideal.Body

open Cert.Kernel3Ideal Cert.Kernel3Ideal.Gen Idealize.ShloMosaic Idealize.ShloMosaic.TcCoe Idealize.SL.Sem
open Idealize.ShloMosaic.StableHlo

variable (m : (ℓ : Loc nD τ sig) → Buf (Elt Ideal) ℓ)

/-- The grid's index maps, decided over its 66 points. -/
theorem index_facts : ∀ t : Fin cfg0.N,
    (win0_0.index t 0 = t.val / 33 ∧ win0_0.index t 1 = t.val % 33 ∧ win0_0.index t 2 = 0)
    ∧ (win0_1.index t 0 = t.val / 33 ∧ win0_1.index t 1 = t.val % 33 ∧ win0_1.index t 2 = 0)
    ∧ (win0_2.index t 0 = t.val / 33 ∧ win0_2.index t 1 = t.val % 33 ∧ win0_2.index t 2 = 0 ∧ win0_2.index t 3 = 0)
    ∧ (win0_3.index t 0 = (if t.val % 33 = 0 then 2 else t.val / 33) ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val / 33 ∧ win0_9.index t 1 = t.val % 33 ∧ win0_9.index t 2 = 0) :=
  (by decide +kernel : ∀ t : Fin grid0.N,
    (win0_0.index t 0 = t.val / 33 ∧ win0_0.index t 1 = t.val % 33 ∧ win0_0.index t 2 = 0)
    ∧ (win0_1.index t 0 = t.val / 33 ∧ win0_1.index t 1 = t.val % 33 ∧ win0_1.index t 2 = 0)
    ∧ (win0_2.index t 0 = t.val / 33 ∧ win0_2.index t 1 = t.val % 33 ∧ win0_2.index t 2 = 0 ∧ win0_2.index t 3 = 0)
    ∧ (win0_3.index t 0 = (if t.val % 33 = 0 then 2 else t.val / 33) ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val / 33 ∧ win0_9.index t 1 = t.val % 33 ∧ win0_9.index t 2 = 0))

theorem tlt (t : Fin cfg0.N) : t.val < 66 := lt_of_lt_of_eq t.isLt N_0

/-- The sample and the token an element of a grid point's block stands for. -/
def smp (t : Fin cfg0.N) (s : Fin 2) : Fin 4 := ⟨t.val / 33 * 2 + s.val, by have := tlt t; omega⟩
def tok (t : Fin cfg0.N) (r : Fin 256) : Fin 8448 := ⟨t.val % 33 * 256 + r.val, by omega⟩

/-- The weights the host prepares: the output projection's two halves, and the feed-forward matrices. -/
theorem V_v1 (c : Dev nD) : (V m c main_v1 : S512x1024.Idx → EReal)
    = extractStridedSlice S512x1024 ![0, 0] (m ((c : Thread nD τ).loc main_arg5)) slices_S1024x1024_S512x1024_0_0 := by
  unfold V
  after_results_simp
  rfl
theorem V_v3 (c : Dev nD) : (V m c main_v3 : S512x1024.Idx → EReal)
    = extractStridedSlice S512x1024 ![512, 0] (m ((c : Thread nD τ).loc main_arg5)) slices_S1024x1024_S512x1024_512_0 := by
  unfold V
  after_results_simp
  rfl
theorem V_v4 (c : Dev nD) : (V m c main_v4 : S1024x4096.Idx → EReal) = m ((c : Thread nD τ).loc main_arg6) := by
  unfold V
  after_results_simp
  rfl
theorem V_v5 (c : Dev nD) : (V m c main_v5 : S4096x1024.Idx → EReal) = m ((c : Thread nD τ).loc main_arg7) := by
  unfold V
  after_results_simp
  rfl

section Blocks
variable (c : Dev nD) (t : Fin cfg0.N)

theorem blk0 (s : Fin 2) (r : Fin 256) (k : Fin 1024) : iblk m c 0 t (ix3 s r k) = m ((c : Thread nD τ).loc main_arg0) (ix3 (smp t s) (tok t r) k) := by
  obtain ⟨⟨h0, h1, h2⟩, -⟩ := index_facts t
  unfold iblk
  rw [View.read_apply]
  show V m c main_arg0 _ = _
  rw [V_main_arg0]
  refine congrArg (m _) (funext fun a => Fin.ext ?_)
  match a with
  | ⟨0, _⟩ => show win0_0.index t 0 * 2 + 1 * s.val = t.val / 33 * 2 + s.val; rw [h0]; omega
  | ⟨1, _⟩ => show win0_0.index t 1 * 256 + 1 * r.val = t.val % 33 * 256 + r.val; rw [h1]; omega
  | ⟨2, _⟩ => show win0_0.index t 2 * 1024 + 1 * k.val = k.val; rw [h2]; omega

theorem blk1 (s : Fin 2) (r : Fin 256) (k : Fin 512) : iblk m c 1 t (ix3 s r k) = m ((c : Thread nD τ).loc main_arg1) (ix3 (smp t s) (tok t r) k) := by
  obtain ⟨-, ⟨h0, h1, h2⟩, -⟩ := index_facts t
  unfold iblk
  rw [View.read_apply]
  show V m c main_arg1 _ = _
  rw [V_main_arg1]
  refine congrArg (m _) (funext fun a => Fin.ext ?_)
  match a with
  | ⟨0, _⟩ => show win0_1.index t 0 * 2 + 1 * s.val = t.val / 33 * 2 + s.val; rw [h0]; omega
  | ⟨1, _⟩ => show win0_1.index t 1 * 256 + 1 * r.val = t.val % 33 * 256 + r.val; rw [h1]; omega
  | ⟨2, _⟩ => show win0_1.index t 2 * 512 + 1 * k.val = k.val; rw [h2]; omega

theorem blk2 (s : Fin 2) (z : Fin 1) (k : Fin 512) (r : Fin 256) : iblk m c 2 t (ix4 s z k r)
    = PostSpec.tiled (fun b j k r => m ((c : Thread nD τ).loc main_arg2) (ix4 b j k r)) (smp t s) (tok t r) k := by
  obtain ⟨-, -, ⟨h0, h1, h2, h3⟩, -⟩ := index_facts t
  unfold tok
  rw [PostSpec.tiled_tile _ _ ⟨t.val % 33, by omega⟩]
  unfold iblk
  rw [View.read_apply]
  show V m c main_arg2 _ = _
  rw [V_main_arg2]
  refine congrArg (m _) (funext fun a => Fin.ext ?_)
  match a with
  | ⟨0, _⟩ => show win0_2.index t 0 * 2 + 1 * s.val = t.val / 33 * 2 + s.val; rw [h0]; omega
  | ⟨1, _⟩ => show win0_2.index t 1 * 1 + 1 * z.val = t.val % 33; rw [h1]; omega
  | ⟨2, _⟩ => show win0_2.index t 2 * 512 + 1 * k.val = k.val; rw [h2]; omega
  | ⟨3, _⟩ => show win0_2.index t 3 * 256 + 1 * r.val = r.val; rw [h3]; omega

theorem blk3 (s : Fin 2) (r : Fin 256) (i : Fin 6) (k : Fin 1024) : iblk m c 3 t (ix3 s i k)
    = m ((c : Thread nD τ).loc main_arg3) (ix3 (PostSpec.tokRow (smp t s) (tok t r)) i k) := by
  obtain ⟨-, -, -, ⟨h0, h1, h2⟩, -⟩ := index_facts t
  have e : PostSpec.tokRow (smp t s) (tok t r) = ⟨(if t.val % 33 = 0 then 2 else t.val / 33) * 2 + s.val, by have := tlt t; split <;> omega⟩ := by
    unfold PostSpec.tokRow smp tok
    dsimp only
    by_cases hz : t.val % 33 = 0
    · rw [if_pos (by omega)]
      refine Fin.ext ?_
      show 4 + (t.val / 33 * 2 + s.val) % 2 = (if t.val % 33 = 0 then 2 else t.val / 33) * 2 + s.val
      rw [if_pos hz]; omega
    · rw [if_neg (by omega)]
      refine Fin.ext ?_
      show t.val / 33 * 2 + s.val = (if t.val % 33 = 0 then 2 else t.val / 33) * 2 + s.val
      rw [if_neg hz]
  rw [e]
  unfold iblk
  rw [View.read_apply]
  show V m c main_arg3 _ = _
  rw [V_main_arg3]
  refine congrArg (m _) (funext fun a => Fin.ext ?_)
  match a with
  | ⟨0, _⟩ => show win0_3.index t 0 * 2 + 1 * s.val = (if t.val % 33 = 0 then 2 else t.val / 33) * 2 + s.val; rw [h0, one_mul]
  | ⟨1, _⟩ => show win0_3.index t 1 * 6 + 1 * i.val = i.val; rw [h1]; omega
  | ⟨2, _⟩ => show win0_3.index t 2 * 1024 + 1 * k.val = k.val; rw [h2]; omega

theorem blk4 (i : Fin 4) (k : Fin 1024) : iblk m c 4 t (ix2 i k) = m ((c : Thread nD τ).loc main_arg4) (ix2 i k) := by
  obtain ⟨-, -, -, -, ⟨h0, h1⟩, -⟩ := index_facts t
  unfold iblk
  rw [View.read_apply]
  show V m c main_arg4 _ = _
  rw [V_main_arg4]
  refine congrArg (m _) (funext fun a => Fin.ext ?_)
  match a with
  | ⟨0, _⟩ => show win0_4.index t 0 * 4 + 1 * i.val = i.val; rw [h0]; omega
  | ⟨1, _⟩ => show win0_4.index t 1 * 1024 + 1 * k.val = k.val; rw [h1]; omega

theorem blk5 (k : Fin 512) (n : Fin 1024) : iblk m c 5 t (ix2 k n) = m ((c : Thread nD τ).loc main_arg5) (ix2 (Fin.castAdd 512 k : Fin (512 + 512)) n) := by
  obtain ⟨-, -, -, -, -, ⟨h0, h1⟩, -⟩ := index_facts t
  unfold iblk
  rw [View.read_apply]
  show V m c main_v1 _ = _
  rw [V_v1]
  refine extractStridedSlice_apply _ _ _ _ _ (fun a => ?_)
  match a with
  | ⟨0, _⟩ => show k.val = 0 + (win0_5.index t 0 * 512 + 1 * k.val); rw [h0]; omega
  | ⟨1, _⟩ => show n.val = 0 + (win0_5.index t 1 * 1024 + 1 * n.val); rw [h1]; omega

theorem blk6 (k : Fin 512) (n : Fin 1024) : iblk m c 6 t (ix2 k n) = m ((c : Thread nD τ).loc main_arg5) (ix2 (Fin.natAdd 512 k : Fin (512 + 512)) n) := by
  obtain ⟨-, -, -, -, -, -, ⟨h0, h1⟩, -⟩ := index_facts t
  unfold iblk
  rw [View.read_apply]
  show V m c main_v3 _ = _
  rw [V_v3]
  refine extractStridedSlice_apply _ _ _ _ _ (fun a => ?_)
  match a with
  | ⟨0, _⟩ => show 512 + k.val = 512 + (win0_6.index t 0 * 512 + 1 * k.val); rw [h0]; omega
  | ⟨1, _⟩ => show n.val = 0 + (win0_6.index t 1 * 1024 + 1 * n.val); rw [h1]; omega

theorem blk7 (i : Fin 1024) (k : Fin 4096) : iblk m c 7 t (ix2 i k) = m ((c : Thread nD τ).loc main_arg6) (ix2 i k) := by
  obtain ⟨-, -, -, -, -, -, -, ⟨h0, h1⟩, -⟩ := index_facts t
  unfold iblk
  rw [View.read_apply]
  show V m c main_v4 _ = _
  rw [V_v4]
  refine congrArg (m _) (funext fun a => Fin.ext ?_)
  match a with
  | ⟨0, _⟩ => show win0_7.index t 0 * 1024 + 1 * i.val = i.val; rw [h0]; omega
  | ⟨1, _⟩ => show win0_7.index t 1 * 4096 + 1 * k.val = k.val; rw [h1]; omega

theorem blk8 (i : Fin 4096) (k : Fin 1024) : iblk m c 8 t (ix2 i k) = m ((c : Thread nD τ).loc main_arg7) (ix2 i k) := by
  obtain ⟨-, -, -, -, -, -, -, -, ⟨h0, h1⟩, -⟩ := index_facts t
  unfold iblk
  rw [View.read_apply]
  show V m c main_v5 _ = _
  rw [V_v5]
  refine congrArg (m _) (funext fun a => Fin.ext ?_)
  match a with
  | ⟨0, _⟩ => show win0_8.index t 0 * 4096 + 1 * i.val = i.val; rw [h0]; omega
  | ⟨1, _⟩ => show win0_8.index t 1 * 1024 + 1 * k.val = k.val; rw [h1]; omega

end Blocks

/-- The place of an output block's element in the array. -/
theorem place (t : Fin cfg0.N) (s : Fin 2) (r : Fin 256) (k : Fin 1024) : ((cfg0.win 9).blk t).view.emb (ix3 s r k)
    = (ix3 (smp t s) (tok t r) k : S4x8448x1024.Idx) := by
  obtain ⟨-, -, -, -, -, -, -, -, -, h0, h1, h2⟩ := index_facts t
  refine funext fun a => Fin.ext ?_
  match a with
  | ⟨0, _⟩ => show win0_9.index t 0 * 2 + 1 * s.val = t.val / 33 * 2 + s.val; rw [h0]; omega
  | ⟨1, _⟩ => show win0_9.index t 1 * 256 + 1 * r.val = t.val % 33 * 256 + r.val; rw [h1]; omega
  | ⟨2, _⟩ => show win0_9.index t 2 * 1024 + 1 * k.val = k.val; rw [h2]; omega

/-- The result array of the arguments in memory `m`. -/
def result (c : Dev nD) : S4x8448x1024.Idx → EReal := fun i =>
  PostSpec.stream (fun b t k => m ((c : Thread nD τ).loc main_arg0) (ix3 b t k))
    (fun b t k => m ((c : Thread nD τ).loc main_arg1) (ix3 b t k))
    (PostSpec.tiled fun b j k r => m ((c : Thread nD τ).loc main_arg2) (ix4 b j k r))
    (fun a i k => m ((c : Thread nD τ).loc main_arg3) (ix3 a i k)) (fun i k => m ((c : Thread nD τ).loc main_arg4) (ix2 i k)) (fun k n => m ((c : Thread nD τ).loc main_arg5) (ix2 k n))
    (fun k f => m ((c : Thread nD τ).loc main_arg6) (ix2 k f)) (fun f k => m ((c : Thread nD τ).loc main_arg7) (ix2 f k)) (i 0) (i 1) (i 2)

/-- The output block: the two samples' rows. -/
theorem out_eq {F : FTy → Type} [FloatOps F] (x0 : Vec F S2x256x1024 .f32) (x1 : Vec F S2x256x512 .f32) (x2 : Vec F S2x1x512x256 .bf16) (x3 : Vec F S2x6x1024 .f32) (x4 : Vec F S4x1024 .f32) (x5 : Vec F S512x1024 .bf16) (x6 : Vec F S512x1024 .bf16) (x7 : Vec F S1024x4096 .bf16) (x8 : Vec F S4096x1024 .bf16) :
    out0_9 x0 x1 x2 x3 x4 x5 x6 x7 x8 = View.canon [
      ⟨r0_1, Kernel2Ideal.Body.unit (Kernel2Ideal.Body.strm (View.ld x0 r0_1)) (View.ld x3 r0_3) (View.ld x4 r0_4) (Kernel2Ideal.Body.toks (View.ld x1 r0_6)) (View.ld x2 r0_8)
        (View.ld x5 r0_9) (View.ld x6 r0_9) (View.ld x7 r0_10) (View.ld x8 r0_11) (View.ld x7 r0_12) (View.ld x8 r0_13) (View.ld x7 r0_14) (View.ld x8 r0_15) (View.ld x7 r0_16) (View.ld x8 r0_17)⟩,
      ⟨r0_0, Kernel2Ideal.Body.unit (Kernel2Ideal.Body.strm (View.ld x0 r0_0)) (View.ld x3 r0_2) (View.ld x4 r0_4) (Kernel2Ideal.Body.toks (View.ld x1 r0_5)) (View.ld x2 r0_7)
        (View.ld x5 r0_9) (View.ld x6 r0_9) (View.ld x7 r0_10) (View.ld x8 r0_11) (View.ld x7 r0_12) (View.ld x8 r0_13) (View.ld x7 r0_14) (View.ld x8 r0_15) (View.ld x7 r0_16) (View.ld x8 r0_17)⟩] := by
  unfold_out out0_9
  rfl

/-- Sample 0 of what a grid point leaves in its block is that sample's rows of the result. -/
theorem piece0 (c : Dev nD) (t : Fin cfg0.N) (r : Fin 256) (k : Fin 1024) :
    Kernel2Ideal.Body.unit (Kernel2Ideal.Body.strm (View.ld (iblk m c 0 t) r0_0)) (View.ld (iblk m c 3 t) r0_2) (View.ld (iblk m c 4 t) r0_4) (Kernel2Ideal.Body.toks (View.ld (iblk m c 1 t) r0_5)) (View.ld (iblk m c 2 t) r0_7)
        (View.ld (iblk m c 5 t) r0_9) (View.ld (iblk m c 6 t) r0_9) (View.ld (iblk m c 7 t) r0_10) (View.ld (iblk m c 8 t) r0_11) (View.ld (iblk m c 7 t) r0_12) (View.ld (iblk m c 8 t) r0_13) (View.ld (iblk m c 7 t) r0_14) (View.ld (iblk m c 8 t) r0_15) (View.ld (iblk m c 7 t) r0_16) (View.ld (iblk m c 8 t) r0_17) (ix3 0 r k) = result m c (((cfg0.win 9).blk t).view.emb (ix3 0 r k)) := by
  rw [place]
  unfold result PostSpec.stream
  simp only [ix3_0, ix3_1, ix3_2]
  exact Kernel2Ideal.Body.unit_row r _ _ _ _ _ _ _ (iblk m c 7 t) (iblk m c 8 t)
    (fun k => (Kernel2Ideal.Body.strm_at _ r k).trans ((Kernel2Ideal.Body.ld_x0 _ r k).trans (blk0 m c t 0 r k)))
    (fun i k => (Kernel2Ideal.Body.ld_md0 _ i k).trans (blk3 m c t 0 r i k)) (fun i k => (Kernel2Ideal.Body.ld_g _ i k).trans (blk4 m c t i k))
    (fun k => (Kernel2Ideal.Body.toks_at _ r k).trans ((Kernel2Ideal.Body.ld_ya0 _ r k).trans (blk1 m c t 0 r k)))
    (fun k => (Kernel2Ideal.Body.ld_yb0 _ k r).trans (blk2 m c t 0 0 k r))
    (fun k n => (Kernel2Ideal.Body.ld_wo _ k n).trans (blk5 m c t k n)) (fun k n => (Kernel2Ideal.Body.ld_wo _ k n).trans (blk6 m c t k n))
    (fun k f => blk7 m c t k f) (fun f k => blk8 m c t f k) k

/-- Sample 1 of what a grid point leaves in its block is that sample's rows of the result. -/
theorem piece1 (c : Dev nD) (t : Fin cfg0.N) (r : Fin 256) (k : Fin 1024) :
    Kernel2Ideal.Body.unit (Kernel2Ideal.Body.strm (View.ld (iblk m c 0 t) r0_1)) (View.ld (iblk m c 3 t) r0_3) (View.ld (iblk m c 4 t) r0_4) (Kernel2Ideal.Body.toks (View.ld (iblk m c 1 t) r0_6)) (View.ld (iblk m c 2 t) r0_8)
        (View.ld (iblk m c 5 t) r0_9) (View.ld (iblk m c 6 t) r0_9) (View.ld (iblk m c 7 t) r0_10) (View.ld (iblk m c 8 t) r0_11) (View.ld (iblk m c 7 t) r0_12) (View.ld (iblk m c 8 t) r0_13) (View.ld (iblk m c 7 t) r0_14) (View.ld (iblk m c 8 t) r0_15) (View.ld (iblk m c 7 t) r0_16) (View.ld (iblk m c 8 t) r0_17) (ix3 0 r k) = result m c (((cfg0.win 9).blk t).view.emb (ix3 1 r k)) := by
  rw [place]
  unfold result PostSpec.stream
  simp only [ix3_0, ix3_1, ix3_2]
  exact Kernel2Ideal.Body.unit_row r _ _ _ _ _ _ _ (iblk m c 7 t) (iblk m c 8 t)
    (fun k => (Kernel2Ideal.Body.strm_at _ r k).trans ((Kernel2Ideal.Body.ld_x1 _ r k).trans (blk0 m c t 1 r k)))
    (fun i k => (Kernel2Ideal.Body.ld_md1 _ i k).trans (blk3 m c t 1 r i k)) (fun i k => (Kernel2Ideal.Body.ld_g _ i k).trans (blk4 m c t i k))
    (fun k => (Kernel2Ideal.Body.toks_at _ r k).trans ((Kernel2Ideal.Body.ld_ya1 _ r k).trans (blk1 m c t 1 r k)))
    (fun k => (Kernel2Ideal.Body.ld_yb1 _ k r).trans (blk2 m c t 1 0 k r))
    (fun k n => (Kernel2Ideal.Body.ld_wo _ k n).trans (blk5 m c t k n)) (fun k n => (Kernel2Ideal.Body.ld_wo _ k n).trans (blk6 m c t k n))
    (fun k f => blk7 m c t k f) (fun f k => blk8 m c t f k) k

/-- The array the kernel leaves is the result of its arguments. -/
theorem final (c : Dev nD) : (dats m 0 c).arrAt 9 cfg0.N = result m c := by
  refine (dats m 0 c).arrAt_eq_of_covers 9 _ (by decide +kernel) fun t hf y => ?_
  show (dats m 0 c).after 9 t y = _
  rw [after0_9, out_eq]
  refine View.canon_apply_of_pieces (Val := Elt Ideal) (e := .f32) (fun y => result m c (((cfg0.win 9).blk t).view.emb y)) _ ?_ y (cover0_9 _ _ y)
  intro p hp x
  simp only [List.mem_cons, List.not_mem_nil, or_false] at hp
  rcases hp with rfl | rfl
  · obtain ⟨z, r, k, rfl⟩ : ∃ z r k, x = ix3 z r k := ⟨x 0, x 1, x 2, eq_ix3 x⟩
    obtain rfl : z = 0 := Subsingleton.elim _ _
    dsimp only
    rw [← Kernel2Ideal.Body.emb_1 r k]
    exact piece1 m c t r k
  · obtain ⟨z, r, k, rfl⟩ : ∃ z r k, x = ix3 z r k := ⟨x 0, x 1, x 2, eq_ix3 x⟩
    obtain rfl : z = 0 := Subsingleton.elim _ _
    dsimp only
    rw [← Kernel2Ideal.Body.emb_0 r k]
    exact piece0 m c t r k

end Cert.Kernel3Ideal.Body

end
-- ==== Proof.Post3Reference.lean ====
/- The reference's result where the context's tokens are kept: the row function of each token's rows. -/
module

public import proofs.«01_k».proof.Proof.PostSpec
public import proofs.«01_k».proof.Proof.Gen.Reference3Ideal.Read
public import Idealize.ShloMosaic.Lib.Pointwise

@[expose] public section

noncomputable section

namespace Cert.Reference3Ideal.Rows

open Cert.Reference3Ideal Cert.Reference3Ideal.Gen Cert.Reference3Ideal.Read Idealize.ShloMosaic Idealize.ShloMosaic.TcCoe Idealize.SL.Sem
open Idealize.ShloMosaic.StableHlo Cert

variable (x0 : (⟨S4x8448x1024, .f32⟩ : BufTy).Contents (Elt Ideal)) (x1 : (⟨S4x8448x512, .f32⟩ : BufTy).Contents (Elt Ideal))
  (x2 : (⟨S4x33x512x256, .bf16⟩ : BufTy).Contents (Elt Ideal)) (x3 : (⟨S8x6x1024, .f32⟩ : BufTy).Contents (Elt Ideal))
  (x4 : (⟨S4x1024, .f32⟩ : BufTy).Contents (Elt Ideal)) (x5 : (⟨S1024x1024, .f32⟩ : BufTy).Contents (Elt Ideal))
  (x6 : (⟨S1024x4096, .f32⟩ : BufTy).Contents (Elt Ideal)) (x7 : (⟨S4096x1024, .f32⟩ : BufTy).Contents (Elt Ideal))

/-- Whether a token is one of the context's. -/
theorem lt_at (t : Fin 8448) : IntOp.cmpi CmpIPredicate.slt (BitVec.ofNat 32 t.val) 256#32 = if t.val < 256 then 1#1 else 0#1 := by
  have e : (BitVec.ofNat 32 t.val).slt 256#32 = decide (t.val < 256) := by
    have h : t.val < 8448 := t.isLt
    rw [BitVec.slt_eq_decide, BitVec.toInt_eq_toNat_of_lt (by rw [BitVec.toNat_ofNat]; omega), BitVec.toNat_ofNat, Nat.mod_eq_of_lt (by omega)]
    exact decide_eq_decide.mpr (by show ((t.val : Int) < 256) ↔ _; omega)
  unfold IntOp.cmpi
  simp only [e]
  by_cases h : t.val < 256 <;> simp [h]

/-- The choice between the context's row and the sample's. -/
theorem pick_at (g : Fin 8 → EReal) (b : Fin 4) (t : Fin 8448) :
    Scalar.select (IntOp.cmpi CmpIPredicate.slt (BitVec.ofNat 32 t.val) 256#32)
      (if h : b.val < 2 then g ⟨4 + b.val, by omega⟩ else g ⟨4 + (b.val - 2), by omega⟩) (g ⟨b.val, by omega⟩) = g (PostSpec.tokRow b t) := by
  rw [lt_at]
  unfold PostSpec.tokRow
  by_cases ht : t.val < 256
  · rw [if_pos ht, if_pos ht]
    show (if h : b.val < 2 then g ⟨4 + b.val, by omega⟩ else g ⟨4 + (b.val - 2), by omega⟩) = _
    by_cases hb : b.val < 2
    · rw [dif_pos hb]; exact congrArg g (Fin.ext (by show 4 + b.val = 4 + b.val % 2; omega))
    · rw [dif_neg hb]; exact congrArg g (Fin.ext (by show 4 + (b.val - 2) = 4 + b.val % 2; omega))
  · rw [if_neg ht, if_neg ht]
    rfl

theorem mod2_at (b : Fin 4) (t : Fin 8448) (c : Fin 1024) : val_main_v31 (F := Ideal) x3 (ix3 b t c) = x3 (ix3 (PostSpec.tokRow b t) 2 c) := by
  pointwise [val_main_v23, val_main_v24, val_main_v25, val_main_v26, val_main_v27, val_main_v28, val_main_v29, val_main_v30, val_main_v31, val_main_call2_v0, val_main_call2_v1, val_main_call2_v2, val_main_c_1, val_main_v0, val_main_v1, val_main_v2, val_main_v3, val_main_v4]
  exact pick_at (fun r => x3 (ix3 r 2 c)) b t

theorem mod3_at (b : Fin 4) (t : Fin 8448) (c : Fin 1024) : val_main_v40 (F := Ideal) x3 (ix3 b t c) = x3 (ix3 (PostSpec.tokRow b t) 3 c) := by
  pointwise [val_main_v32, val_main_v33, val_main_v34, val_main_v35, val_main_v36, val_main_v37, val_main_v38, val_main_v39, val_main_v40, val_main_call3_v0, val_main_call3_v1, val_main_call3_v2, val_main_c_2, val_main_v0, val_main_v1, val_main_v2, val_main_v3, val_main_v4]
  exact pick_at (fun r => x3 (ix3 r 3 c)) b t

theorem mod4_at (b : Fin 4) (t : Fin 8448) (c : Fin 1024) : val_main_v49 (F := Ideal) x3 (ix3 b t c) = x3 (ix3 (PostSpec.tokRow b t) 4 c) := by
  pointwise [val_main_v41, val_main_v42, val_main_v43, val_main_v44, val_main_v45, val_main_v46, val_main_v47, val_main_v48, val_main_v49, val_main_call4_v0, val_main_call4_v1, val_main_call4_v2, val_main_c_3, val_main_v0, val_main_v1, val_main_v2, val_main_v3, val_main_v4]
  exact pick_at (fun r => x3 (ix3 r 4 c)) b t

theorem mod5_at (b : Fin 4) (t : Fin 8448) (c : Fin 1024) : val_main_v58 (F := Ideal) x3 (ix3 b t c) = x3 (ix3 (PostSpec.tokRow b t) 5 c) := by
  pointwise [val_main_v50, val_main_v51, val_main_v52, val_main_v53, val_main_v54, val_main_v55, val_main_v56, val_main_v57, val_main_v58, val_main_call5_v0, val_main_call5_v1, val_main_call5_v2, val_main_c_4, val_main_v0, val_main_v1, val_main_v2, val_main_v3, val_main_v4]
  exact pick_at (fun r => x3 (ix3 r 5 c)) b t

/-- The two mixers' rows side by side, times the output projection. -/
theorem proj_at (b : Fin 4) (t : Fin 8448) (c : Fin 1024) : val_main_v63 (F := Ideal) x1 x2 x5 (ix3 b t c)
    = PostSpec.proj (fun k => x1 (ix3 b t k))
        (PostSpec.tiled (fun b j k r => x2 (ix4 b j k r)) b t) (fun k c => x5 (ix2 k c)) c := by
  unfold PostSpec.proj
  pointwise [val_main_v63]
  rw [Fin.sum_univ_two_halves 512 512 rfl]
  refine congrArg₂ (· + ·) (Finset.sum_congr rfl fun k _ => ?_) (Finset.sum_congr rfl fun k _ => ?_)
  · pointwise [val_main_v62]
    rfl
  · pointwise [val_main_v62, val_main_v61, val_main_v60, val_main_v59]
    rfl

theorem norm_at (b : Fin 4) (t : Fin 8448) (c : Fin 1024) : val_main_v78 (F := Ideal) x1 x2 x4 x5 (ix3 b t c)
    = PostSpec.rms (fun k => val_main_v63 (F := Ideal) x1 x2 x5 (ix3 b t k)) (fun k => x4 (ix2 1 k)) c := by
  unfold PostSpec.rms
  pointwise [val_main_v64, val_main_v65, val_main_v66, val_main_v67, val_main_v68, val_main_v69, val_main_v70, val_main_v71, val_main_v72, val_main_v73, val_main_v74, val_main_v75, val_main_v76, val_main_v77, val_main_v78, val_main_cst, val_main_cst_5, val_main_cst_6]

theorem resid_at (b : Fin 4) (t : Fin 8448) (c : Fin 1024) : val_main_v80 (F := Ideal) x0 x1 x2 x3 x4 x5 (ix3 b t c)
    = PostSpec.resid (fun k => x0 (ix3 b t k)) (fun k => x3 (ix3 (PostSpec.tokRow b t) 2 k))
        (fun k => val_main_v63 (F := Ideal) x1 x2 x5 (ix3 b t k)) (fun k => x4 (ix2 1 k)) c := by
  unfold PostSpec.resid
  rw [← norm_at]
  simp only [← mod2_at]
  pointwise [val_main_v80, val_main_v79]

theorem norm2_at (b : Fin 4) (t : Fin 8448) (c : Fin 1024) : val_main_v95 (F := Ideal) x0 x1 x2 x3 x4 x5 (ix3 b t c)
    = PostSpec.rms (fun k => val_main_v80 (F := Ideal) x0 x1 x2 x3 x4 x5 (ix3 b t k)) (fun k => x4 (ix2 2 k)) c := by
  unfold PostSpec.rms
  pointwise [val_main_v81, val_main_v82, val_main_v83, val_main_v84, val_main_v85, val_main_v86, val_main_v87, val_main_v88, val_main_v89, val_main_v90, val_main_v91, val_main_v92, val_main_v93, val_main_v94, val_main_v95, val_main_cst_7, val_main_cst_8, val_main_cst_9]

theorem hid_at (b : Fin 4) (t : Fin 8448) (c : Fin 1024) : val_main_v99 (F := Ideal) x0 x1 x2 x3 x4 x5 (ix3 b t c)
    = PostSpec.hid (fun k => val_main_v80 (F := Ideal) x0 x1 x2 x3 x4 x5 (ix3 b t k)) (fun k => x4 (ix2 2 k))
        (fun k => x3 (ix3 (PostSpec.tokRow b t) 4 k)) (fun k => x3 (ix3 (PostSpec.tokRow b t) 3 k)) c := by
  unfold PostSpec.hid
  rw [← norm2_at]
  simp only [← mod3_at, ← mod4_at]
  pointwise [val_main_v96, val_main_v97, val_main_v98, val_main_v99, val_main_cst_10]

theorem mlp_at (b : Fin 4) (t : Fin 8448) (c : Fin 1024) : val_main_v103 (F := Ideal) x0 x1 x2 x3 x4 x5 x6 x7 (ix3 b t c)
    = PostSpec.mlp (fun k => val_main_v99 (F := Ideal) x0 x1 x2 x3 x4 x5 (ix3 b t k)) (fun k f => x6 (ix2 k f)) (fun f c => x7 (ix2 f c)) c := by
  unfold PostSpec.mlp PostSpec.act
  pointwise [val_main_v100, val_main_v101, val_main_v102, val_main_v103, val_main_call6_v0, val_main_call6_cst]

theorem norm3_at (b : Fin 4) (t : Fin 8448) (c : Fin 1024) : val_main_v118 (F := Ideal) x0 x1 x2 x3 x4 x5 x6 x7 (ix3 b t c)
    = PostSpec.rms (fun k => val_main_v103 (F := Ideal) x0 x1 x2 x3 x4 x5 x6 x7 (ix3 b t k)) (fun k => x4 (ix2 3 k)) c := by
  unfold PostSpec.rms
  pointwise [val_main_v104, val_main_v105, val_main_v106, val_main_v107, val_main_v108, val_main_v109, val_main_v110, val_main_v111, val_main_v112, val_main_v113, val_main_v114, val_main_v115, val_main_v116, val_main_v117, val_main_v118, val_main_cst_11, val_main_cst_12, val_main_cst_13]

theorem top_at (b : Fin 4) (t : Fin 8448) (c : Fin 1024) : val_main_v120 (F := Ideal) x0 x1 x2 x3 x4 x5 x6 x7 (ix3 b t c)
    = PostSpec.resid (fun k => val_main_v80 (F := Ideal) x0 x1 x2 x3 x4 x5 (ix3 b t k)) (fun k => x3 (ix3 (PostSpec.tokRow b t) 5 k))
        (fun k => val_main_v103 (F := Ideal) x0 x1 x2 x3 x4 x5 x6 x7 (ix3 b t k)) (fun k => x4 (ix2 3 k)) c := by
  unfold PostSpec.resid
  rw [← norm3_at]
  simp only [← mod5_at]
  pointwise [val_main_v120, val_main_v119]

/-- The reference's row is the row function. -/
theorem row_at (b : Fin 4) (t : Fin 8448) (c : Fin 1024) : val_main_v120 (F := Ideal) x0 x1 x2 x3 x4 x5 x6 x7 (ix3 b t c)
    = PostSpec.stream (fun b t k => x0 (ix3 b t k)) (fun b t k => x1 (ix3 b t k)) (PostSpec.tiled fun b j k r => x2 (ix4 b j k r))
        (fun a i k => x3 (ix3 a i k)) (fun i k => x4 (ix2 i k)) (fun k c => x5 (ix2 k c)) (fun k f => x6 (ix2 k f)) (fun f c => x7 (ix2 f c)) b t c := by
  rw [top_at]
  unfold PostSpec.stream PostSpec.row
  simp only [mlp_at, hid_at, resid_at, proj_at]

end Cert.Reference3Ideal.Rows

end
-- ==== Proof.Post3Claims.lean ====
/- The claims about the projection and feed-forward kernel where the context's tokens are kept: the frames of the
   three programs, and that over the extended reals the kernel and the reference end with equal arrays. -/
module

public import proofs.«01_k».proof.Defs
public import proofs.«01_k».proof.Proof.Post3Array
public import proofs.«01_k».proof.Proof.Post3Reference
public import proofs.«01_k».proof.Proof.Gen.Kernel3.Frame
public import Idealize.ShloMosaic.Lib.Quiescent

@[expose] public section

noncomputable section

namespace Cert.Proof.Post3

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- The two arrays are one function of the arguments, row by row. -/
theorem algebraic : Cert.algebraic_Kernel3Ideal_Reference3Ideal := by
  intro m ρ m' ρ' _ hagree
  refine ⟨fun c => Cert.Kernel3Ideal.Body.result m c, ?_, ?_⟩
  · exact (θ_run Cert.Kernel3Ideal.defs _ _).mono (fun _ h c => ⟨(h c).1.trans (Cert.Kernel3Ideal.Body.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7⟩ := hagree c
    rw [Cert.Reference3Ideal.Read.val_main_v120_eq, h0, h1, h2, h3, h4, h5, h6, h7]
    funext i
    obtain ⟨b, t, k, rfl⟩ : ∃ b t k, i = ix3 b t k := ⟨i 0, i 1, i 2, eq_ix3 i⟩
    rw [Cert.Reference3Ideal.Rows.row_at]
    rfl

end Cert.Proof.Post3

end
-- ==== Proof.PostGlaBody.lean ====
/- The tile of the linear attention's rows the kernel forms before its projection: four heads normalized over their
   channels, scaled and gated, then laid side by side with the tokens first. -/
module

public import proofs.«01_k».proof.Proof.PostLoads
public import proofs.«01_k».proof.Proof.Gen.Kernel4Ideal.Frame

@[expose] public section

noncomputable section

namespace Cert.PostGla

open Cert Cert.Kernel4Ideal Cert.Kernel4Ideal.Gen Idealize.ShloMosaic Idealize.ShloMosaic.TcCoe Idealize.SL.Sem

section
variable {F : FTy → Type} [FloatOps F]

/-- The sum of the two directions for one head. -/
def both (o p : Vec F S1x1x128x256 .f32) : FVec F S128x256 .f32 :=
  addf (shapeCast S128x256 o shapeCasts_S1x1x128x256_S128x256) (shapeCast S128x256 p shapeCasts_S1x1x128x256_S128x256)

/-- The normalization over the head's channels, scaled. -/
def norm (o : FVec F S128x256 .f32) (gn : Vec F S128x1 .f32) : FVec F S128x256 .f32 :=
  mulf (mulf o (broadcastTo S128x256 (rsqrt (addf (divf
    (shapeCast S1x256 (multiReduction .add [0] S256 (mulf o o) 0x00000000#32 reduces_S128x256_S256 (.inl rfl) rfl) shapeCasts_S256_S1x256)
    (broadcast S1x256 (Scalar.ofBits .f32 0x43000000#32))) (broadcast S1x256 (Scalar.ofBits .f32 0x358637BD#32))))
    broadcasts_S1x256_S128x256)) (broadcastTo S128x256 (shapeCast S128x1 gn shapeCasts_S128x1_S128x1) broadcasts_S128x1_S128x256)

/-- The gate. -/
def gate (g : Vec F S1x1x128x256 .f32) : FVec F S128x256 .f32 :=
  divf (shapeCast S128x256 g shapeCasts_S1x1x128x256_S128x256) (addf (broadcast S128x256 (Scalar.ofBits .f32 0x3F800000#32))
    (exp (subf (broadcast S128x256 (Scalar.ofBits .f32 0x00000000#32)) (shapeCast S128x256 g shapeCasts_S1x1x128x256_S128x256))))

/-- One head. -/
def head (o p g : Vec F S1x1x128x256 .f32) (gn : Vec F S128x1 .f32) : FVec F S128x256 .f32 := mulf (norm (both o p) gn) (gate g)

/-- Four heads laid side by side, the tokens first. -/
def side (a b c d : FVec F S128x256 .f32) : FVec F S256x512 .bf16 :=
  transpose S256x512 [1, 0] (truncf .bf16 (concatenate S512x256 0 [⟨S128x256, a⟩, ⟨S128x256, b⟩, ⟨S128x256, c⟩, ⟨S128x256, d⟩]
    concatenates_S128x256_S128x256_S128x256_S128x256_S512x256_d0) bitsLt_bf16_f32) transposes_S512x256_p1_0_S256x512

/-- The first sample's rows. -/
def mat0 (o p g : Vec F S2x1x512x256 .f32) (gn : Vec F S128x1 .f32) : FVec F S256x512 .bf16 :=
  side (head (View.ld o r0_1) (View.ld p r0_1) (View.ld g r0_1) gn) (head (View.ld o r0_2) (View.ld p r0_2) (View.ld g r0_2) gn)
    (head (View.ld o r0_3) (View.ld p r0_3) (View.ld g r0_3) gn) (head (View.ld o r0_4) (View.ld p r0_4) (View.ld g r0_4) gn)

/-- The second sample's rows. -/
def mat1 (o p g : Vec F S2x1x512x256 .f32) (gn : Vec F S128x1 .f32) : FVec F S256x512 .bf16 :=
  side (head (View.ld o r0_5) (View.ld p r0_5) (View.ld g r0_5) gn) (head (View.ld o r0_6) (View.ld p r0_6) (View.ld g r0_6) gn)
    (head (View.ld o r0_7) (View.ld p r0_7) (View.ld g r0_7) gn) (head (View.ld o r0_8) (View.ld p r0_8) (View.ld g r0_8) gn)

end

theorem norm_at (o : FVec Ideal S128x256 .f32) (gn : Vec Ideal S128x1 .f32) (c : Fin 128) (r : Fin 256) :
    norm o gn (ix2 c r) = o (ix2 c r) * Ideal.rsqrt (Ideal.div (∑ k : Fin 128, o (ix2 k r) * o (ix2 k r)) (Ideal.ofBits .f32 0x43000000#32)
      + Ideal.ofBits .f32 0x358637BD#32) * gn (ix2 c 0) := by
  pointwise [norm]

theorem gate_at (g : Vec Ideal S1x1x128x256 .f32) (c : Fin 128) (r : Fin 256) : gate g (ix2 c r) = PostSpec.gate (g (ix4 0 0 c r)) := by
  unfold PostSpec.gate
  have h0 : Ideal.ofBits .f32 0x00000000#32 - g (ix4 0 0 c r) = -g (ix4 0 0 c r) := by rw [Ideal.ofBits_zero_f32, zero_sub]
  rw [← h0]
  pointwise [gate]

theorem both_at (o p : Vec Ideal S1x1x128x256 .f32) (c : Fin 128) (r : Fin 256) : both o p (ix2 c r) = o (ix4 0 0 c r) + p (ix4 0 0 c r) := by
  pointwise [both]

/-- One head at a channel and a token. -/
theorem head_at (o p g : Vec Ideal S1x1x128x256 .f32) (gn : Vec Ideal S128x1 .f32) (c : Fin 128) (r : Fin 256) :
    head o p g gn (ix2 c r) = PostSpec.head (fun k => o (ix4 0 0 k r) + p (ix4 0 0 k r)) (fun k => g (ix4 0 0 k r)) (fun k => gn (ix2 k 0)) c := by
  show norm (both o p) gn (ix2 c r) * gate g (ix2 c r) = _
  rw [norm_at, gate_at]
  simp only [both_at]
  rfl

/-! The four heads side by side, head by head. -/

theorem side_at0 (a b c d : FVec Ideal S128x256 .f32) (r : Fin 256) (k : Fin 128) :
    side a b c d (ix2 r ⟨0 * 128 + k.val, by omega⟩) = a (ix2 k r) := by
  pointwise [side]

theorem side_at1 (a b c d : FVec Ideal S128x256 .f32) (r : Fin 256) (k : Fin 128) :
    side a b c d (ix2 r ⟨1 * 128 + k.val, by omega⟩) = b (ix2 k r) := by
  pointwise [side]

theorem side_at2 (a b c d : FVec Ideal S128x256 .f32) (r : Fin 256) (k : Fin 128) :
    side a b c d (ix2 r ⟨2 * 128 + k.val, by omega⟩) = c (ix2 k r) := by
  pointwise [side]
  rw [dif_neg (by omega)]
  rw [dif_neg (by omega)]
  rw [dif_pos (by omega)]
  exact congrArg c (congrArg (fun k' => ix2 k' r) (Fin.ext (by show 2 * 128 + k.val - 128 - 128 = k.val; omega)))

theorem side_at3 (a b c d : FVec Ideal S128x256 .f32) (r : Fin 256) (k : Fin 128) :
    side a b c d (ix2 r ⟨3 * 128 + k.val, by omega⟩) = d (ix2 k r) := by
  pointwise [side]
  rw [dif_neg (by omega)]
  rw [dif_neg (by omega)]
  rw [dif_neg (by omega)]
  exact congrArg d (congrArg (fun k' => ix2 k' r) (Fin.ext (by show 3 * 128 + k.val - 128 - 128 - 128 = k.val; omega)))

/-- A head is a function of its rows. -/
theorem head_congr {o o' g g' gn gn' : Fin 128 → EReal} (ho : ∀ k, o k = o' k) (hg : ∀ k, g k = g' k) (hn : ∀ k, gn k = gn' k) (c : Fin 128) :
    PostSpec.head o g gn c = PostSpec.head o' g' gn' c := by
  rw [funext ho, funext hg, funext hn]

/-- The row of heads at a head and a channel. -/
theorem heads_at (o g : Fin 512 → EReal) (gn : Fin 128 → EReal) (q : Fin 4) (c : Fin 128) :
    PostSpec.heads o g gn ⟨q.val * 128 + c.val, by omega⟩
      = PostSpec.head (fun k => o ⟨q.val * 128 + k.val, by omega⟩) (fun k => g ⟨q.val * 128 + k.val, by omega⟩) gn c := by
  have e1 : (q.val * 128 + c.val) / 128 = q.val := by omega
  have e2 : (⟨(q.val * 128 + c.val) % 128, by omega⟩ : Fin 128) = c := Fin.ext (by show (q.val * 128 + c.val) % 128 = c.val; omega)
  unfold PostSpec.heads
  dsimp only
  rw [e2]
  simp only [e1]

/-! The loads, at an element. -/

theorem ld_gain (X : Vec Ideal S128x1 .f32) (k : Fin 128) : View.ld X r0_0 (ix2 k 0) = X (ix2 k 0) :=
  congrArg X (funext fun a => Fin.ext (by
    match a with
    | ⟨0, _⟩ => show 0 + 1 * k.val = k.val; omega
    | ⟨1, _⟩ => rfl))

theorem ld_0_0 (X : Vec Ideal S2x1x512x256 .f32) (c : Fin 128) (r : Fin 256) :
    View.ld X r0_1 (ix4 0 0 c r) = X (ix4 0 0 ⟨0 * 128 + c.val, by omega⟩ r) :=
  congrArg X (funext fun a => Fin.ext (by
    match a with
    | ⟨0, _⟩ => show 0 + 1 * 0 = 0; omega
    | ⟨1, _⟩ => show 0 + 1 * 0 = 0; omega
    | ⟨2, _⟩ => show 0 + 1 * c.val = 0 * 128 + c.val; omega
    | ⟨3, _⟩ => show 0 + 1 * r.val = r.val; omega))

theorem ld_0_1 (X : Vec Ideal S2x1x512x256 .f32) (c : Fin 128) (r : Fin 256) :
    View.ld X r0_2 (ix4 0 0 c r) = X (ix4 0 0 ⟨1 * 128 + c.val, by omega⟩ r) :=
  congrArg X (funext fun a => Fin.ext (by
    match a with
    | ⟨0, _⟩ => show 0 + 1 * 0 = 0; omega
    | ⟨1, _⟩ => show 0 + 1 * 0 = 0; omega
    | ⟨2, _⟩ => show 128 + 1 * c.val = 1 * 128 + c.val; omega
    | ⟨3, _⟩ => show 0 + 1 * r.val = r.val; omega))

theorem ld_0_2 (X : Vec Ideal S2x1x512x256 .f32) (c : Fin 128) (r : Fin 256) :
    View.ld X r0_3 (ix4 0 0 c r) = X (ix4 0 0 ⟨2 * 128 + c.val, by omega⟩ r) :=
  congrArg X (funext fun a => Fin.ext (by
    match a with
    | ⟨0, _⟩ => show 0 + 1 * 0 = 0; omega
    | ⟨1, _⟩ => show 0 + 1 * 0 = 0; omega
    | ⟨2, _⟩ => show 256 + 1 * c.val = 2 * 128 + c.val; omega
    | ⟨3, _⟩ => show 0 + 1 * r.val = r.val; omega))

theorem ld_0_3 (X : Vec Ideal S2x1x512x256 .f32) (c : Fin 128) (r : Fin 256) :
    View.ld X r0_4 (ix4 0 0 c r) = X (ix4 0 0 ⟨3 * 128 + c.val, by omega⟩ r) :=
  congrArg X (funext fun a => Fin.ext (by
    match a with
    | ⟨0, _⟩ => show 0 + 1 * 0 = 0; omega
    | ⟨1, _⟩ => show 0 + 1 * 0 = 0; omega
    | ⟨2, _⟩ => show 384 + 1 * c.val = 3 * 128 + c.val; omega
    | ⟨3, _⟩ => show 0 + 1 * r.val = r.val; omega))

theorem ld_1_0 (X : Vec Ideal S2x1x512x256 .f32) (c : Fin 128) (r : Fin 256) :
    View.ld X r0_5 (ix4 0 0 c r) = X (ix4 1 0 ⟨0 * 128 + c.val, by omega⟩ r) :=
  congrArg X (funext fun a => Fin.ext (by
    match a with
    | ⟨0, _⟩ => show 1 + 1 * 0 = 1; omega
    | ⟨1, _⟩ => show 0 + 1 * 0 = 0; omega
    | ⟨2, _⟩ => show 0 + 1 * c.val = 0 * 128 + c.val; omega
    | ⟨3, _⟩ => show 0 + 1 * r.val = r.val; omega))

theorem ld_1_1 (X : Vec Ideal S2x1x512x256 .f32) (c : Fin 128) (r : Fin 256) :
    View.ld X r0_6 (ix4 0 0 c r) = X (ix4 1 0 ⟨1 * 128 + c.val, by omega⟩ r) :=
  congrArg X (funext fun a => Fin.ext (by
    match a with
    | ⟨0, _⟩ => show 1 + 1 * 0 = 1; omega
    | ⟨1, _⟩ => show 0 + 1 * 0 = 0; omega
    | ⟨2, _⟩ => show 128 + 1 * c.val = 1 * 128 + c.val; omega
    | ⟨3, _⟩ => show 0 + 1 * r.val = r.val; omega))

theorem ld_1_2 (X : Vec Ideal S2x1x512x256 .f32) (c : Fin 128) (r : Fin 256) :
    View.ld X r0_7 (ix4 0 0 c r) = X (ix4 1 0 ⟨2 * 128 + c.val, by omega⟩ r) :=
  congrArg X (funext fun a => Fin.ext (by
    match a with
    | ⟨0, _⟩ => show 1 + 1 * 0 = 1; omega
    | ⟨1, _⟩ => show 0 + 1 * 0 = 0; omega
    | ⟨2, _⟩ => show 256 + 1 * c.val = 2 * 128 + c.val; omega
    | ⟨3, _⟩ => show 0 + 1 * r.val = r.val; omega))

theorem ld_1_3 (X : Vec Ideal S2x1x512x256 .f32) (c : Fin 128) (r : Fin 256) :
    View.ld X r0_8 (ix4 0 0 c r) = X (ix4 1 0 ⟨3 * 128 + c.val, by omega⟩ r) :=
  congrArg X (funext fun a => Fin.ext (by
    match a with
    | ⟨0, _⟩ => show 1 + 1 * 0 = 1; omega
    | ⟨1, _⟩ => show 0 + 1 * 0 = 0; omega
    | ⟨2, _⟩ => show 384 + 1 * c.val = 3 * 128 + c.val; omega
    | ⟨3, _⟩ => show 0 + 1 * r.val = r.val; omega))

/-- Sample 0's rows at a token and a channel. -/
theorem mat0_at (o p g : Vec Ideal S2x1x512x256 .f32) (gn : Vec Ideal S128x1 .f32) (r : Fin 256) {fo fp fg : Fin 512 → EReal} {fn : Fin 128 → EReal}
    (ho : ∀ k, o (ix4 0 0 k r) = fo k) (hp : ∀ k, p (ix4 0 0 k r) = fp k) (hg : ∀ k, g (ix4 0 0 k r) = fg k)
    (hn : ∀ k, gn (ix2 k 0) = fn k) (k : Fin 512) :
    mat0 o p g gn (ix2 r k) = PostSpec.heads (fun k => fo k + fp k) fg fn k := by
  obtain ⟨q, c, rfl⟩ : ∃ (q : Fin 4) (c : Fin 128), k = ⟨q.val * 128 + c.val, by omega⟩ :=
    ⟨⟨k.val / 128, by omega⟩, ⟨k.val % 128, by omega⟩, Fin.ext (by show k.val = k.val / 128 * 128 + k.val % 128; omega)⟩
  rw [heads_at]
  match q with
  | ⟨0, _⟩ =>
    refine (side_at0 _ _ _ _ r c).trans ((head_at _ _ _ _ c r).trans ?_)
    refine head_congr (fun k => ?_) (fun k => ?_) hn c
    · rw [ld_0_0, ld_0_0, ho, hp]
    · rw [ld_0_0, hg]
  | ⟨1, _⟩ =>
    refine (side_at1 _ _ _ _ r c).trans ((head_at _ _ _ _ c r).trans ?_)
    refine head_congr (fun k => ?_) (fun k => ?_) hn c
    · rw [ld_0_1, ld_0_1, ho, hp]
    · rw [ld_0_1, hg]
  | ⟨2, _⟩ =>
    refine (side_at2 _ _ _ _ r c).trans ((head_at _ _ _ _ c r).trans ?_)
    refine head_congr (fun k => ?_) (fun k => ?_) hn c
    · rw [ld_0_2, ld_0_2, ho, hp]
    · rw [ld_0_2, hg]
  | ⟨3, _⟩ =>
    refine (side_at3 _ _ _ _ r c).trans ((head_at _ _ _ _ c r).trans ?_)
    refine head_congr (fun k => ?_) (fun k => ?_) hn c
    · rw [ld_0_3, ld_0_3, ho, hp]
    · rw [ld_0_3, hg]

/-- Sample 1's rows at a token and a channel. -/
theorem mat1_at (o p g : Vec Ideal S2x1x512x256 .f32) (gn : Vec Ideal S128x1 .f32) (r : Fin 256) {fo fp fg : Fin 512 → EReal} {fn : Fin 128 → EReal}
    (ho : ∀ k, o (ix4 1 0 k r) = fo k) (hp : ∀ k, p (ix4 1 0 k r) = fp k) (hg : ∀ k, g (ix4 1 0 k r) = fg k)
    (hn : ∀ k, gn (ix2 k 0) = fn k) (k : Fin 512) :
    mat1 o p g gn (ix2 r k) = PostSpec.heads (fun k => fo k + fp k) fg fn k := by
  obtain ⟨q, c, rfl⟩ : ∃ (q : Fin 4) (c : Fin 128), k = ⟨q.val * 128 + c.val, by omega⟩ :=
    ⟨⟨k.val / 128, by omega⟩, ⟨k.val % 128, by omega⟩, Fin.ext (by show k.val = k.val / 128 * 128 + k.val % 128; omega)⟩
  rw [heads_at]
  match q with
  | ⟨0, _⟩ =>
    refine (side_at0 _ _ _ _ r c).trans ((head_at _ _ _ _ c r).trans ?_)
    refine head_congr (fun k => ?_) (fun k => ?_) hn c
    · rw [ld_1_0, ld_1_0, ho, hp]
    · rw [ld_1_0, hg]
  | ⟨1, _⟩ =>
    refine (side_at1 _ _ _ _ r c).trans ((head_at _ _ _ _ c r).trans ?_)
    refine head_congr (fun k => ?_) (fun k => ?_) hn c
    · rw [ld_1_1, ld_1_1, ho, hp]
    · rw [ld_1_1, hg]
  | ⟨2, _⟩ =>
    refine (side_at2 _ _ _ _ r c).trans ((head_at _ _ _ _ c r).trans ?_)
    refine head_congr (fun k => ?_) (fun k => ?_) hn c
    · rw [ld_1_2, ld_1_2, ho, hp]
    · rw [ld_1_2, hg]
  | ⟨3, _⟩ =>
    refine (side_at3 _ _ _ _ r c).trans ((head_at _ _ _ _ c r).trans ?_)
    refine head_congr (fun k => ?_) (fun k => ?_) hn c
    · rw [ld_1_3, ld_1_3, ho, hp]
    · rw [ld_1_3, hg]

end Cert.PostGla

end
-- ==== Proof.Post4Array.lean ====
/- The result array of the kernel that also closes the linear attention, on a stream held as one array (layer 2). -/
module

public import proofs.«01_k».proof.Proof.PostGlaBody
public import proofs.«01_k».proof.Proof.Gen.Kernel4Ideal.Frame
public import proofs.«01_k».proof.Proof.Gen.Kernel4Ideal.Value
public import Idealize.ShloMosaic.Lib.StableHlo.Run
public import Idealize.ShloMosaic.Lib.Tactic
public import Idealize.ShloMosaic.Lib.Pipeline.ValueKit.Geometry

@[expose] public section

noncomputable section

namespace Cert.Kernel4Ideal.Body

open Cert.Kernel4Ideal Cert.Kernel4Ideal.Gen Idealize.ShloMosaic Idealize.ShloMosaic.TcCoe Idealize.SL.Sem
open Idealize.ShloMosaic.StableHlo

variable (m : (ℓ : Loc nD τ sig) → Buf (Elt Ideal) ℓ)

/-- The grid's index maps, decided over its 66 points. -/
theorem index_facts : ∀ t : Fin cfg0.N,
    (win0_0.index t 0 = t.val / 33 ∧ win0_0.index t 1 = t.val % 33 ∧ win0_0.index t 2 = 0)
    ∧ (win0_1.index t 0 = t.val / 33 ∧ win0_1.index t 1 = t.val % 33 ∧ win0_1.index t 2 = 0 ∧ win0_1.index t 3 = 0)
    ∧ (win0_2.index t 0 = t.val / 33 ∧ win0_2.index t 1 = t.val % 33 ∧ win0_2.index t 2 = 0 ∧ win0_2.index t 3 = 0)
    ∧ (win0_3.index t 0 = t.val / 33 ∧ win0_3.index t 1 = t.val % 33 ∧ win0_3.index t 2 = 0 ∧ win0_3.index t 3 = 0)
    ∧ (win0_4.index t 0 = 0 ∧ win0_4.index t 1 = 0)
    ∧ (win0_5.index t 0 = t.val / 33 ∧ win0_5.index t 1 = t.val % 33 ∧ win0_5.index t 2 = 0 ∧ win0_5.index t 3 = 0)
    ∧ (win0_6.index t 0 = (if t.val % 33 = 0 then 2 else t.val / 33) ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = t.val / 33 ∧ win0_12.index t 1 = t.val % 33 ∧ win0_12.index t 2 = 0) :=
  (by decide +kernel : ∀ t : Fin grid0.N,
    (win0_0.index t 0 = t.val / 33 ∧ win0_0.index t 1 = t.val % 33 ∧ win0_0.index t 2 = 0)
    ∧ (win0_1.index t 0 = t.val / 33 ∧ win0_1.index t 1 = t.val % 33 ∧ win0_1.index t 2 = 0 ∧ win0_1.index t 3 = 0)
    ∧ (win0_2.index t 0 = t.val / 33 ∧ win0_2.index t 1 = t.val % 33 ∧ win0_2.index t 2 = 0 ∧ win0_2.index t 3 = 0)
    ∧ (win0_3.index t 0 = t.val / 33 ∧ win0_3.index t 1 = t.val % 33 ∧ win0_3.index t 2 = 0 ∧ win0_3.index t 3 = 0)
    ∧ (win0_4.index t 0 = 0 ∧ win0_4.index t 1 = 0)
    ∧ (win0_5.index t 0 = t.val / 33 ∧ win0_5.index t 1 = t.val % 33 ∧ win0_5.index t 2 = 0 ∧ win0_5.index t 3 = 0)
    ∧ (win0_6.index t 0 = (if t.val % 33 = 0 then 2 else t.val / 33) ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = t.val / 33 ∧ win0_12.index t 1 = t.val % 33 ∧ win0_12.index t 2 = 0))

theorem tlt (t : Fin cfg0.N) : t.val < 66 := lt_of_lt_of_eq t.isLt N_0

/-- The sample and the token an element of a grid point's block stands for. -/
def smp (t : Fin cfg0.N) (s : Fin 2) : Fin 4 := ⟨t.val / 33 * 2 + s.val, by have := tlt t; omega⟩
def tok (t : Fin cfg0.N) (r : Fin 256) : Fin 8448 := ⟨t.val % 33 * 256 + r.val, by omega⟩

/-- The weights the host prepares: the output projection's two halves, and the feed-forward matrices. -/
theorem V_v1 (c : Dev nD) : (V m c main_v1 : S512x1024.Idx → EReal)
    = extractStridedSlice S512x1024 ![0, 0] (m ((c : Thread nD τ).loc main_arg8)) slices_S1024x1024_S512x1024_0_0 := by
  unfold V
  after_results_simp
  rfl
theorem V_v3 (c : Dev nD) : (V m c main_v3 : S512x1024.Idx → EReal)
    = extractStridedSlice S512x1024 ![512, 0] (m ((c : Thread nD τ).loc main_arg8)) slices_S1024x1024_S512x1024_512_0 := by
  unfold V
  after_results_simp
  rfl
theorem V_v4 (c : Dev nD) : (V m c main_v4 : S1024x4096.Idx → EReal) = m ((c : Thread nD τ).loc main_arg9) := by
  unfold V
  after_results_simp
  rfl
theorem V_v5 (c : Dev nD) : (V m c main_v5 : S4096x1024.Idx → EReal) = m ((c : Thread nD τ).loc main_arg10) := by
  unfold V
  after_results_simp
  rfl
theorem V_v6 (c : Dev nD) : (V m c main_v6 : S128x1.Idx → EReal) = shapeCast S128x1 (m ((c : Thread nD τ).loc main_arg4)) shapeCasts_S128_S128x1 := by
  unfold V
  after_results_simp
  rfl

section Blocks
variable (c : Dev nD) (t : Fin cfg0.N)

theorem blk0 (s : Fin 2) (r : Fin 256) (k : Fin 1024) : iblk m c 0 t (ix3 s r k) = m ((c : Thread nD τ).loc main_arg0) (ix3 (smp t s) (tok t r) k) := by
  obtain ⟨⟨h0, h1, h2⟩, -⟩ := index_facts t
  unfold iblk
  rw [View.read_apply]
  show V m c main_arg0 _ = _
  rw [V_main_arg0]
  refine congrArg (m _) (funext fun a => Fin.ext ?_)
  match a with
  | ⟨0, _⟩ => show win0_0.index t 0 * 2 + 1 * s.val = t.val / 33 * 2 + s.val; rw [h0]; omega
  | ⟨1, _⟩ => show win0_0.index t 1 * 256 + 1 * r.val = t.val % 33 * 256 + r.val; rw [h1]; omega
  | ⟨2, _⟩ => show win0_0.index t 2 * 1024 + 1 * k.val = k.val; rw [h2]; omega

theorem blk1 (s : Fin 2) (z : Fin 1) (k : Fin 512) (r : Fin 256) : iblk m c 1 t (ix4 s z k r)
    = PostSpec.tiled (fun b j k r => m ((c : Thread nD τ).loc main_arg1) (ix4 b j k r)) (smp t s) (tok t r) k := by
  obtain ⟨-, ⟨h0, h1, h2, h3⟩, -⟩ := index_facts t
  unfold tok
  rw [PostSpec.tiled_tile _ _ ⟨t.val % 33, by omega⟩]
  unfold iblk
  rw [View.read_apply]
  show V m c main_arg1 _ = _
  rw [V_main_arg1]
  refine congrArg (m _) (funext fun a => Fin.ext ?_)
  match a with
  | ⟨0, _⟩ => show win0_1.index t 0 * 2 + 1 * s.val = t.val / 33 * 2 + s.val; rw [h0]; omega
  | ⟨1, _⟩ => show win0_1.index t 1 * 1 + 1 * z.val = t.val % 33; rw [h1]; omega
  | ⟨2, _⟩ => show win0_1.index t 2 * 512 + 1 * k.val = k.val; rw [h2]; omega
  | ⟨3, _⟩ => show win0_1.index t 3 * 256 + 1 * r.val = r.val; rw [h3]; omega

theorem blk2 (s : Fin 2) (z : Fin 1) (k : Fin 512) (r : Fin 256) : iblk m c 2 t (ix4 s z k r)
    = PostSpec.tiled (fun b j k r => m ((c : Thread nD τ).loc main_arg2) (ix4 b j k r)) (smp t s) (tok t r) k := by
  obtain ⟨-, -, ⟨h0, h1, h2, h3⟩, -⟩ := index_facts t
  unfold tok
  rw [PostSpec.tiled_tile _ _ ⟨t.val % 33, by omega⟩]
  unfold iblk
  rw [View.read_apply]
  show V m c main_arg2 _ = _
  rw [V_main_arg2]
  refine congrArg (m _) (funext fun a => Fin.ext ?_)
  match a with
  | ⟨0, _⟩ => show win0_2.index t 0 * 2 + 1 * s.val = t.val / 33 * 2 + s.val; rw [h0]; omega
  | ⟨1, _⟩ => show win0_2.index t 1 * 1 + 1 * z.val = t.val % 33; rw [h1]; omega
  | ⟨2, _⟩ => show win0_2.index t 2 * 512 + 1 * k.val = k.val; rw [h2]; omega
  | ⟨3, _⟩ => show win0_2.index t 3 * 256 + 1 * r.val = r.val; rw [h3]; omega

theorem blk3 (s : Fin 2) (z : Fin 1) (k : Fin 512) (r : Fin 256) : iblk m c 3 t (ix4 s z k r)
    = PostSpec.tiled (fun b j k r => m ((c : Thread nD τ).loc main_arg3) (ix4 b j k r)) (smp t s) (tok t r) k := by
  obtain ⟨-, -, -, ⟨h0, h1, h2, h3⟩, -⟩ := index_facts t
  unfold tok
  rw [PostSpec.tiled_tile _ _ ⟨t.val % 33, by omega⟩]
  unfold iblk
  rw [View.read_apply]
  show V m c main_arg3 _ = _
  rw [V_main_arg3]
  refine congrArg (m _) (funext fun a => Fin.ext ?_)
  match a with
  | ⟨0, _⟩ => show win0_3.index t 0 * 2 + 1 * s.val = t.val / 33 * 2 + s.val; rw [h0]; omega
  | ⟨1, _⟩ => show win0_3.index t 1 * 1 + 1 * z.val = t.val % 33; rw [h1]; omega
  | ⟨2, _⟩ => show win0_3.index t 2 * 512 + 1 * k.val = k.val; rw [h2]; omega
  | ⟨3, _⟩ => show win0_3.index t 3 * 256 + 1 * r.val = r.val; rw [h3]; omega

theorem blk4 (i : Fin 128) (z : Fin 1) : iblk m c 4 t (ix2 i z) = m ((c : Thread nD τ).loc main_arg4) (ix1 i) := by
  obtain ⟨-, -, -, -, ⟨h0, h1⟩, -⟩ := index_facts t
  have e : iblk m c 4 t (ix2 i z) = shapeCast S128x1 (m ((c : Thread nD τ).loc main_arg4)) shapeCasts_S128_S128x1 (ix2 i z) := by
    unfold iblk
    rw [View.read_apply]
    show V m c main_v6 _ = _
    rw [V_v6]
    refine congrArg (shapeCast S128x1 (m ((c : Thread nD τ).loc main_arg4)) shapeCasts_S128_S128x1) (funext fun a => Fin.ext ?_)
    match a with
    | ⟨0, _⟩ => show win0_4.index t 0 * 128 + 1 * i.val = i.val; rw [h0]; omega
    | ⟨1, _⟩ => show win0_4.index t 1 * 1 + 1 * z.val = z.val; rw [h1]; omega
  rw [e]
  obtain rfl : z = 0 := Subsingleton.elim _ _
  generalize m ((c : Thread nD τ).loc main_arg4) = x
  pointwise []

theorem blk5 (s : Fin 2) (z : Fin 1) (k : Fin 512) (r : Fin 256) : iblk m c 5 t (ix4 s z k r)
    = PostSpec.tiled (fun b j k r => m ((c : Thread nD τ).loc main_arg5) (ix4 b j k r)) (smp t s) (tok t r) k := by
  obtain ⟨-, -, -, -, -, ⟨h0, h1, h2, h3⟩, -⟩ := index_facts t
  unfold tok
  rw [PostSpec.tiled_tile _ _ ⟨t.val % 33, by omega⟩]
  unfold iblk
  rw [View.read_apply]
  show V m c main_arg5 _ = _
  rw [V_main_arg5]
  refine congrArg (m _) (funext fun a => Fin.ext ?_)
  match a with
  | ⟨0, _⟩ => show win0_5.index t 0 * 2 + 1 * s.val = t.val / 33 * 2 + s.val; rw [h0]; omega
  | ⟨1, _⟩ => show win0_5.index t 1 * 1 + 1 * z.val = t.val % 33; rw [h1]; omega
  | ⟨2, _⟩ => show win0_5.index t 2 * 512 + 1 * k.val = k.val; rw [h2]; omega
  | ⟨3, _⟩ => show win0_5.index t 3 * 256 + 1 * r.val = r.val; rw [h3]; omega

theorem blk6 (s : Fin 2) (r : Fin 256) (i : Fin 6) (k : Fin 1024) : iblk m c 6 t (ix3 s i k)
    = m ((c : Thread nD τ).loc main_arg6) (ix3 (PostSpec.tokRow (smp t s) (tok t r)) i k) := by
  obtain ⟨-, -, -, -, -, -, ⟨h0, h1, h2⟩, -⟩ := index_facts t
  have e : PostSpec.tokRow (smp t s) (tok t r) = ⟨(if t.val % 33 = 0 then 2 else t.val / 33) * 2 + s.val, by have := tlt t; split <;> omega⟩ := by
    unfold PostSpec.tokRow smp tok
    dsimp only
    by_cases hz : t.val % 33 = 0
    · rw [if_pos (by omega)]
      refine Fin.ext ?_
      show 4 + (t.val / 33 * 2 + s.val) % 2 = (if t.val % 33 = 0 then 2 else t.val / 33) * 2 + s.val
      rw [if_pos hz]; omega
    · rw [if_neg (by omega)]
      refine Fin.ext ?_
      show t.val / 33 * 2 + s.val = (if t.val % 33 = 0 then 2 else t.val / 33) * 2 + s.val
      rw [if_neg hz]
  rw [e]
  unfold iblk
  rw [View.read_apply]
  show V m c main_arg6 _ = _
  rw [V_main_arg6]
  refine congrArg (m _) (funext fun a => Fin.ext ?_)
  match a with
  | ⟨0, _⟩ => show win0_6.index t 0 * 2 + 1 * s.val = (if t.val % 33 = 0 then 2 else t.val / 33) * 2 + s.val; rw [h0, one_mul]
  | ⟨1, _⟩ => show win0_6.index t 1 * 6 + 1 * i.val = i.val; rw [h1]; omega
  | ⟨2, _⟩ => show win0_6.index t 2 * 1024 + 1 * k.val = k.val; rw [h2]; omega

theorem blk7 (i : Fin 4) (k : Fin 1024) : iblk m c 7 t (ix2 i k) = m ((c : Thread nD τ).loc main_arg7) (ix2 i k) := by
  obtain ⟨-, -, -, -, -, -, -, ⟨h0, h1⟩, -⟩ := index_facts t
  unfold iblk
  rw [View.read_apply]
  show V m c main_arg7 _ = _
  rw [V_main_arg7]
  refine congrArg (m _) (funext fun a => Fin.ext ?_)
  match a with
  | ⟨0, _⟩ => show win0_7.index t 0 * 4 + 1 * i.val = i.val; rw [h0]; omega
  | ⟨1, _⟩ => show win0_7.index t 1 * 1024 + 1 * k.val = k.val; rw [h1]; omega

theorem blk8 (k : Fin 512) (n : Fin 1024) : iblk m c 8 t (ix2 k n) = m ((c : Thread nD τ).loc main_arg8) (ix2 (Fin.castAdd 512 k : Fin (512 + 512)) n) := by
  obtain ⟨-, -, -, -, -, -, -, -, ⟨h0, h1⟩, -⟩ := index_facts t
  unfold iblk
  rw [View.read_apply]
  show V m c main_v1 _ = _
  rw [V_v1]
  refine extractStridedSlice_apply _ _ _ _ _ (fun a => ?_)
  match a with
  | ⟨0, _⟩ => show k.val = 0 + (win0_8.index t 0 * 512 + 1 * k.val); rw [h0]; omega
  | ⟨1, _⟩ => show n.val = 0 + (win0_8.index t 1 * 1024 + 1 * n.val); rw [h1]; omega

theorem blk9 (k : Fin 512) (n : Fin 1024) : iblk m c 9 t (ix2 k n) = m ((c : Thread nD τ).loc main_arg8) (ix2 (Fin.natAdd 512 k : Fin (512 + 512)) n) := by
  obtain ⟨-, -, -, -, -, -, -, -, -, ⟨h0, h1⟩, -⟩ := index_facts t
  unfold iblk
  rw [View.read_apply]
  show V m c main_v3 _ = _
  rw [V_v3]
  refine extractStridedSlice_apply _ _ _ _ _ (fun a => ?_)
  match a with
  | ⟨0, _⟩ => show 512 + k.val = 512 + (win0_9.index t 0 * 512 + 1 * k.val); rw [h0]; omega
  | ⟨1, _⟩ => show n.val = 0 + (win0_9.index t 1 * 1024 + 1 * n.val); rw [h1]; omega

theorem blk10 (i : Fin 1024) (k : Fin 4096) : iblk m c 10 t (ix2 i k) = m ((c : Thread nD τ).loc main_arg9) (ix2 i k) := by
  obtain ⟨-, -, -, -, -, -, -, -, -, -, ⟨h0, h1⟩, -⟩ := index_facts t
  unfold iblk
  rw [View.read_apply]
  show V m c main_v4 _ = _
  rw [V_v4]
  refine congrArg (m _) (funext fun a => Fin.ext ?_)
  match a with
  | ⟨0, _⟩ => show win0_10.index t 0 * 1024 + 1 * i.val = i.val; rw [h0]; omega
  | ⟨1, _⟩ => show win0_10.index t 1 * 4096 + 1 * k.val = k.val; rw [h1]; omega

theorem blk11 (i : Fin 4096) (k : Fin 1024) : iblk m c 11 t (ix2 i k) = m ((c : Thread nD τ).loc main_arg10) (ix2 i k) := by
  obtain ⟨-, -, -, -, -, -, -, -, -, -, -, ⟨h0, h1⟩, -⟩ := index_facts t
  unfold iblk
  rw [View.read_apply]
  show V m c main_v5 _ = _
  rw [V_v5]
  refine congrArg (m _) (funext fun a => Fin.ext ?_)
  match a with
  | ⟨0, _⟩ => show win0_11.index t 0 * 4096 + 1 * i.val = i.val; rw [h0]; omega
  | ⟨1, _⟩ => show win0_11.index t 1 * 1024 + 1 * k.val = k.val; rw [h1]; omega

end Blocks

/-- The place of an output block's element in the array. -/
theorem place (t : Fin cfg0.N) (s : Fin 2) (r : Fin 256) (k : Fin 1024) : ((cfg0.win 12).blk t).view.emb (ix3 s r k)
    = (ix3 (smp t s) (tok t r) k : S4x8448x1024.Idx) := by
  obtain ⟨-, -, -, -, -, -, -, -, -, -, -, -, h0, h1, h2⟩ := index_facts t
  refine funext fun a => Fin.ext ?_
  match a with
  | ⟨0, _⟩ => show win0_12.index t 0 * 2 + 1 * s.val = t.val / 33 * 2 + s.val; rw [h0]; omega
  | ⟨1, _⟩ => show win0_12.index t 1 * 256 + 1 * r.val = t.val % 33 * 256 + r.val; rw [h1]; omega
  | ⟨2, _⟩ => show win0_12.index t 2 * 1024 + 1 * k.val = k.val; rw [h2]; omega

/-- The result array of the arguments in memory `m`. -/
def result (c : Dev nD) : S4x8448x1024.Idx → EReal := fun i =>
  PostSpec.stream (fun b t k => m ((c : Thread nD τ).loc main_arg0) (ix3 b t k))
    (fun b t => PostSpec.heads (fun k => PostSpec.tiled (fun b j k r => m ((c : Thread nD τ).loc main_arg1) (ix4 b j k r)) b t k
        + PostSpec.tiled (fun b j k r => m ((c : Thread nD τ).loc main_arg2) (ix4 b j k r)) b t k)
      (PostSpec.tiled (fun b j k r => m ((c : Thread nD τ).loc main_arg3) (ix4 b j k r)) b t) (fun k => m ((c : Thread nD τ).loc main_arg4) (ix1 k)))
    (PostSpec.tiled fun b j k r => m ((c : Thread nD τ).loc main_arg5) (ix4 b j k r))
    (fun a i k => m ((c : Thread nD τ).loc main_arg6) (ix3 a i k)) (fun i k => m ((c : Thread nD τ).loc main_arg7) (ix2 i k)) (fun k n => m ((c : Thread nD τ).loc main_arg8) (ix2 k n))
    (fun k f => m ((c : Thread nD τ).loc main_arg9) (ix2 k f)) (fun f k => m ((c : Thread nD τ).loc main_arg10) (ix2 f k)) (i 0) (i 1) (i 2)

/-- The output block: the two samples' rows. -/
theorem out_eq {F : FTy → Type} [FloatOps F] (x0 : Vec F S2x256x1024 .f32) (x1 : Vec F S2x1x512x256 .f32) (x2 : Vec F S2x1x512x256 .f32) (x3 : Vec F S2x1x512x256 .f32) (x4 : Vec F S128x1 .f32) (x5 : Vec F S2x1x512x256 .bf16) (x6 : Vec F S2x6x1024 .f32) (x7 : Vec F S4x1024 .f32) (x8 : Vec F S512x1024 .bf16) (x9 : Vec F S512x1024 .bf16) (x10 : Vec F S1024x4096 .bf16) (x11 : Vec F S4096x1024 .bf16) :
    out0_12 x0 x1 x2 x3 x4 x5 x6 x7 x8 x9 x10 x11 = View.canon [
      ⟨r0_10, Kernel2Ideal.Body.unit (Kernel2Ideal.Body.strm (View.ld x0 r0_10)) (View.ld x6 r0_12) (View.ld x7 r0_13) (PostGla.mat1 x1 x2 x3 (View.ld x4 r0_0)) (View.ld x5 r0_15)
        (View.ld x8 r0_16) (View.ld x9 r0_16) (View.ld x10 r0_17) (View.ld x11 r0_18) (View.ld x10 r0_19) (View.ld x11 r0_20) (View.ld x10 r0_21) (View.ld x11 r0_22) (View.ld x10 r0_23) (View.ld x11 r0_24)⟩,
      ⟨r0_9, Kernel2Ideal.Body.unit (Kernel2Ideal.Body.strm (View.ld x0 r0_9)) (View.ld x6 r0_11) (View.ld x7 r0_13) (PostGla.mat0 x1 x2 x3 (View.ld x4 r0_0)) (View.ld x5 r0_14)
        (View.ld x8 r0_16) (View.ld x9 r0_16) (View.ld x10 r0_17) (View.ld x11 r0_18) (View.ld x10 r0_19) (View.ld x11 r0_20) (View.ld x10 r0_21) (View.ld x11 r0_22) (View.ld x10 r0_23) (View.ld x11 r0_24)⟩] := by
  unfold_out out0_12
  rfl

/-- Sample 0 of what a grid point leaves in its block is that sample's rows of the result. -/
theorem piece0 (c : Dev nD) (t : Fin cfg0.N) (r : Fin 256) (k : Fin 1024) :
    Kernel2Ideal.Body.unit (Kernel2Ideal.Body.strm (View.ld (iblk m c 0 t) r0_9)) (View.ld (iblk m c 6 t) r0_11) (View.ld (iblk m c 7 t) r0_13) (PostGla.mat0 (iblk m c 1 t) (iblk m c 2 t) (iblk m c 3 t) (View.ld (iblk m c 4 t) r0_0)) (View.ld (iblk m c 5 t) r0_14)
        (View.ld (iblk m c 8 t) r0_16) (View.ld (iblk m c 9 t) r0_16) (View.ld (iblk m c 10 t) r0_17) (View.ld (iblk m c 11 t) r0_18) (View.ld (iblk m c 10 t) r0_19) (View.ld (iblk m c 11 t) r0_20) (View.ld (iblk m c 10 t) r0_21) (View.ld (iblk m c 11 t) r0_22) (View.ld (iblk m c 10 t) r0_23) (View.ld (iblk m c 11 t) r0_24) (ix3 0 r k) = result m c (((cfg0.win 12).blk t).view.emb (ix3 0 r k)) := by
  rw [place]
  unfold result PostSpec.stream
  simp only [ix3_0, ix3_1, ix3_2]
  exact Kernel2Ideal.Body.unit_row r _ _ _ _ _ _ _ (iblk m c 10 t) (iblk m c 11 t)
    (fun k => (Kernel2Ideal.Body.strm_at _ r k).trans ((Kernel2Ideal.Body.ld_x0 _ r k).trans (blk0 m c t 0 r k)))
    (fun i k => (Kernel2Ideal.Body.ld_md0 _ i k).trans (blk6 m c t 0 r i k)) (fun i k => (Kernel2Ideal.Body.ld_g _ i k).trans (blk7 m c t i k))
    (fun k => PostGla.mat0_at _ _ _ _ r (fun k => blk1 m c t 0 0 k r) (fun k => blk2 m c t 0 0 k r) (fun k => blk3 m c t 0 0 k r) (fun k => (PostGla.ld_gain _ k).trans (blk4 m c t k 0)) k)
    (fun k => (Kernel2Ideal.Body.ld_yb0 _ k r).trans (blk5 m c t 0 0 k r))
    (fun k n => (Kernel2Ideal.Body.ld_wo _ k n).trans (blk8 m c t k n)) (fun k n => (Kernel2Ideal.Body.ld_wo _ k n).trans (blk9 m c t k n))
    (fun k f => blk10 m c t k f) (fun f k => blk11 m c t f k) k

/-- Sample 1 of what a grid point leaves in its block is that sample's rows of the result. -/
theorem piece1 (c : Dev nD) (t : Fin cfg0.N) (r : Fin 256) (k : Fin 1024) :
    Kernel2Ideal.Body.unit (Kernel2Ideal.Body.strm (View.ld (iblk m c 0 t) r0_10)) (View.ld (iblk m c 6 t) r0_12) (View.ld (iblk m c 7 t) r0_13) (PostGla.mat1 (iblk m c 1 t) (iblk m c 2 t) (iblk m c 3 t) (View.ld (iblk m c 4 t) r0_0)) (View.ld (iblk m c 5 t) r0_15)
        (View.ld (iblk m c 8 t) r0_16) (View.ld (iblk m c 9 t) r0_16) (View.ld (iblk m c 10 t) r0_17) (View.ld (iblk m c 11 t) r0_18) (View.ld (iblk m c 10 t) r0_19) (View.ld (iblk m c 11 t) r0_20) (View.ld (iblk m c 10 t) r0_21) (View.ld (iblk m c 11 t) r0_22) (View.ld (iblk m c 10 t) r0_23) (View.ld (iblk m c 11 t) r0_24) (ix3 0 r k) = result m c (((cfg0.win 12).blk t).view.emb (ix3 1 r k)) := by
  rw [place]
  unfold result PostSpec.stream
  simp only [ix3_0, ix3_1, ix3_2]
  exact Kernel2Ideal.Body.unit_row r _ _ _ _ _ _ _ (iblk m c 10 t) (iblk m c 11 t)
    (fun k => (Kernel2Ideal.Body.strm_at _ r k).trans ((Kernel2Ideal.Body.ld_x1 _ r k).trans (blk0 m c t 1 r k)))
    (fun i k => (Kernel2Ideal.Body.ld_md1 _ i k).trans (blk6 m c t 1 r i k)) (fun i k => (Kernel2Ideal.Body.ld_g _ i k).trans (blk7 m c t i k))
    (fun k => PostGla.mat1_at _ _ _ _ r (fun k => blk1 m c t 1 0 k r) (fun k => blk2 m c t 1 0 k r) (fun k => blk3 m c t 1 0 k r) (fun k => (PostGla.ld_gain _ k).trans (blk4 m c t k 0)) k)
    (fun k => (Kernel2Ideal.Body.ld_yb1 _ k r).trans (blk5 m c t 1 0 k r))
    (fun k n => (Kernel2Ideal.Body.ld_wo _ k n).trans (blk8 m c t k n)) (fun k n => (Kernel2Ideal.Body.ld_wo _ k n).trans (blk9 m c t k n))
    (fun k f => blk10 m c t k f) (fun f k => blk11 m c t f k) k

/-- The array the kernel leaves is the result of its arguments. -/
theorem final (c : Dev nD) : (dats m 0 c).arrAt 12 cfg0.N = result m c := by
  refine (dats m 0 c).arrAt_eq_of_covers 12 _ (by decide +kernel) fun t hf y => ?_
  show (dats m 0 c).after 12 t y = _
  rw [after0_12, out_eq]
  refine View.canon_apply_of_pieces (Val := Elt Ideal) (e := .f32) (fun y => result m c (((cfg0.win 12).blk t).view.emb y)) _ ?_ y (cover0_12 _ _ y)
  intro p hp x
  simp only [List.mem_cons, List.not_mem_nil, or_false] at hp
  rcases hp with rfl | rfl
  · obtain ⟨z, r, k, rfl⟩ : ∃ z r k, x = ix3 z r k := ⟨x 0, x 1, x 2, eq_ix3 x⟩
    obtain rfl : z = 0 := Subsingleton.elim _ _
    dsimp only
    rw [← Kernel2Ideal.Body.emb_1 r k]
    exact piece1 m c t r k
  · obtain ⟨z, r, k, rfl⟩ : ∃ z r k, x = ix3 z r k := ⟨x 0, x 1, x 2, eq_ix3 x⟩
    obtain rfl : z = 0 := Subsingleton.elim _ _
    dsimp only
    rw [← Kernel2Ideal.Body.emb_0 r k]
    exact piece0 m c t r k

end Cert.Kernel4Ideal.Body

end
-- ==== Proof.Post4Reference.lean ====
/- The reference that closes the linear attention, on a stream held as one array: the row function of each token's rows. -/
module

public import proofs.«01_k».proof.Proof.Post3Reference
public import proofs.«01_k».proof.Proof.Gen.Reference4Ideal.Read

@[expose] public section

noncomputable section

namespace Cert.Reference4Ideal.Rows

open Cert.Reference4Ideal Cert.Reference4Ideal.Gen Cert.Reference4Ideal.Read Idealize.ShloMosaic Idealize.ShloMosaic.TcCoe Idealize.SL.Sem
open Idealize.ShloMosaic.StableHlo Cert

variable (x0 : (⟨S4x8448x1024, .f32⟩ : BufTy).Contents (Elt Ideal)) (x1 x2 x3 : (⟨S4x33x512x256, .f32⟩ : BufTy).Contents (Elt Ideal))
  (x4 : (⟨S128, .f32⟩ : BufTy).Contents (Elt Ideal)) (x5 : (⟨S4x33x512x256, .bf16⟩ : BufTy).Contents (Elt Ideal))
  (x6 : (⟨S8x6x1024, .f32⟩ : BufTy).Contents (Elt Ideal)) (x7 : (⟨S4x1024, .f32⟩ : BufTy).Contents (Elt Ideal))
  (x8 : (⟨S1024x1024, .f32⟩ : BufTy).Contents (Elt Ideal)) (x9 : (⟨S1024x4096, .f32⟩ : BufTy).Contents (Elt Ideal))
  (x10 : (⟨S4096x1024, .f32⟩ : BufTy).Contents (Elt Ideal))

/-- The two directions' sum at a head and a channel. -/
theorem both_at (b : Fin 4) (t : Fin 8448) (h : Fin 4) (c : Fin 128) : val_main_v64 (F := Ideal) x1 x2 (ix4 b t h c)
    = PostSpec.tiled (fun b j k r => x1 (ix4 b j k r)) b t ⟨h.val * 128 + c.val, by omega⟩
      + PostSpec.tiled (fun b j k r => x2 (ix4 b j k r)) b t ⟨h.val * 128 + c.val, by omega⟩ := by
  pointwise [val_main_v64, val_main_v63, val_main_v62, val_main_v61, val_main_v60, val_main_v59]
  rfl

theorem gg_at (b : Fin 4) (t : Fin 8448) (h : Fin 4) (c : Fin 128) : val_main_v80 (F := Ideal) x3 (ix4 b t h c)
    = PostSpec.tiled (fun b j k r => x3 (ix4 b j k r)) b t ⟨h.val * 128 + c.val, by omega⟩ := by
  pointwise [val_main_v80, val_main_v79, val_main_v78]
  rfl

theorem norm_at (b : Fin 4) (t : Fin 8448) (h : Fin 4) (c : Fin 128) : val_main_v77 (F := Ideal) x1 x2 x4 (ix4 b t h c)
    = val_main_v64 (F := Ideal) x1 x2 (ix4 b t h c) * Ideal.rsqrt (Ideal.div
        (∑ k : Fin 128, val_main_v64 (F := Ideal) x1 x2 (ix4 b t h k) * val_main_v64 (F := Ideal) x1 x2 (ix4 b t h k)) (Ideal.ofBits .f32 0x43000000#32)
      + Ideal.ofBits .f32 0x358637BD#32) * x4 (ix1 c) := by
  pointwise [val_main_v77, val_main_v76, val_main_v75, val_main_v74, val_main_v73, val_main_v72, val_main_v71, val_main_v70, val_main_v69, val_main_v68, val_main_v67, val_main_v66, val_main_v65, val_main_cst, val_main_cst_5, val_main_cst_6]

theorem gate_at (b : Fin 4) (t : Fin 8448) (h : Fin 4) (c : Fin 128) : val_main_v81 (F := Ideal) x3 (ix4 b t h c)
    = PostSpec.gate (val_main_v80 (F := Ideal) x3 (ix4 b t h c)) := by
  rw [← PostSpec.gate_eq]
  pointwise [val_main_v81, val_main_call6_v0, val_main_call6_v1, val_main_call6_v2, val_main_call6_v3, val_main_call6_v4, val_main_call6_v5, val_main_call6_cst, val_main_call6_cst_0]

/-- One head at a channel. -/
theorem head_at (b : Fin 4) (t : Fin 8448) (h : Fin 4) (c : Fin 128) : val_main_v82 (F := Ideal) x1 x2 x3 x4 (ix4 b t h c)
    = PostSpec.head (fun k => val_main_v64 (F := Ideal) x1 x2 (ix4 b t h k)) (fun k => val_main_v80 (F := Ideal) x3 (ix4 b t h k)) (fun k => x4 (ix1 k)) c := by
  show val_main_v77 (F := Ideal) x1 x2 x4 (ix4 b t h c) * val_main_v81 (F := Ideal) x3 (ix4 b t h c) = _
  rw [norm_at, gate_at]
  rfl

/-- The linear attention's closed rows. -/
theorem heads_at (b : Fin 4) (t : Fin 8448) (k : Fin 512) : val_main_v83 (F := Ideal) x1 x2 x3 x4 (ix3 b t k)
    = PostSpec.heads (fun k => PostSpec.tiled (fun b j k r => x1 (ix4 b j k r)) b t k + PostSpec.tiled (fun b j k r => x2 (ix4 b j k r)) b t k)
        (PostSpec.tiled (fun b j k r => x3 (ix4 b j k r)) b t) (fun k => x4 (ix1 k)) k := by
  have e : val_main_v83 (F := Ideal) x1 x2 x3 x4 (ix3 b t k)
      = val_main_v82 (F := Ideal) x1 x2 x3 x4 (ix4 b t ⟨k.val / 128, by omega⟩ ⟨k.val % 128, by omega⟩) := by
    unfold val_main_v83
    generalize val_main_v82 (F := Ideal) x1 x2 x3 x4 = y
    pointwise []
  rw [e, head_at]
  simp only [both_at, gg_at]
  rfl

/-- After the closing, the reference is the one whose rows are given. -/
theorem resid_eq : val_main_v105 (F := Ideal) x0 x1 x2 x3 x4 x5 x6 x7 x8
    = Reference3Ideal.Read.val_main_v80 (F := Ideal) x0 (val_main_v83 (F := Ideal) x1 x2 x3 x4) x5 x6 x7 x8 := rfl

theorem top_eq : val_main_v145 (F := Ideal) x0 x1 x2 x3 x4 x5 x6 x7 x8 x9 x10
    = Reference3Ideal.Read.val_main_v120 (F := Ideal) x0 (val_main_v83 (F := Ideal) x1 x2 x3 x4) x5 x6 x7 x8 x9 x10 := rfl

/-- The reference's row is the row function. -/
theorem row_at (b : Fin 4) (t : Fin 8448) (c : Fin 1024) : val_main_v145 (F := Ideal) x0 x1 x2 x3 x4 x5 x6 x7 x8 x9 x10 (ix3 b t c)
    = PostSpec.stream (fun b t k => x0 (ix3 b t k))
        (fun b t => PostSpec.heads (fun k => PostSpec.tiled (fun b j k r => x1 (ix4 b j k r)) b t k + PostSpec.tiled (fun b j k r => x2 (ix4 b j k r)) b t k)
          (PostSpec.tiled (fun b j k r => x3 (ix4 b j k r)) b t) (fun k => x4 (ix1 k)))
        (PostSpec.tiled fun b j k r => x5 (ix4 b j k r))
        (fun a i k => x6 (ix3 a i k)) (fun i k => x7 (ix2 i k)) (fun k c => x8 (ix2 k c)) (fun k f => x9 (ix2 k f)) (fun f c => x10 (ix2 f c)) b t c := by
  rw [top_eq, Reference3Ideal.Rows.row_at]
  unfold PostSpec.stream
  simp only [heads_at]

end Cert.Reference4Ideal.Rows

end
-- ==== Proof.Post4Claims.lean ====
/- The claims about the kernel that closes the linear attention, projects and feeds forward, on a stream held as one array: the frames of the
   three programs, and that over the extended reals the kernel and the reference end with equal arrays. -/
module

public import proofs.«01_k».proof.Defs
public import proofs.«01_k».proof.Proof.Post4Array
public import proofs.«01_k».proof.Proof.Post4Reference
public import proofs.«01_k».proof.Proof.Gen.Kernel4.Frame
public import Idealize.ShloMosaic.Lib.Quiescent

@[expose] public section

noncomputable section

namespace Cert.Proof.Post4

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- The two arrays are one function of the arguments, row by row. -/
theorem algebraic : Cert.algebraic_Kernel4Ideal_Reference4Ideal := by
  intro m ρ m' ρ' _ hagree
  refine ⟨fun c => Cert.Kernel4Ideal.Body.result m c, ?_, ?_⟩
  · exact (θ_run Cert.Kernel4Ideal.defs _ _).mono (fun _ h c => ⟨(h c).1.trans (Cert.Kernel4Ideal.Body.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1, h2, h3, h4, h5, h6, h7, h8, h9, h10⟩ := hagree c
    rw [Cert.Reference4Ideal.Read.val_main_v145_eq,
      show StableHlo.launchContents m' c (Proc.tc.devRef Reference4Ideal.main_arg0) = _ from h0,
      show StableHlo.launchContents m' c (Proc.tc.devRef Reference4Ideal.main_arg1) = _ from h1,
      show StableHlo.launchContents m' c (Proc.tc.devRef Reference4Ideal.main_arg2) = _ from h2,
      show StableHlo.launchContents m' c (Proc.tc.devRef Reference4Ideal.main_arg3) = _ from h3,
      show StableHlo.launchContents m' c (Proc.tc.devRef Reference4Ideal.main_arg4) = _ from h4,
      show StableHlo.launchContents m' c (Proc.tc.devRef Reference4Ideal.main_arg5) = _ from h5,
      show StableHlo.launchContents m' c (Proc.tc.devRef Reference4Ideal.main_arg6) = _ from h6,
      show StableHlo.launchContents m' c (Proc.tc.devRef Reference4Ideal.main_arg7) = _ from h7,
      show StableHlo.launchContents m' c (Proc.tc.devRef Reference4Ideal.main_arg8) = _ from h8,
      show StableHlo.launchContents m' c (Proc.tc.devRef Reference4Ideal.main_arg9) = _ from h9,
      show StableHlo.launchContents m' c (Proc.tc.devRef Reference4Ideal.main_arg10) = _ from h10]
    funext i
    obtain ⟨b, t, k, rfl⟩ : ∃ b t k, i = ix3 b t k := ⟨i 0, i 1, i 2, eq_ix3 i⟩
    rw [Cert.Reference4Ideal.Rows.row_at]
    rfl

end Cert.Proof.Post4

end
-- ==== Proof.Post5Array.lean ====
/- The result array of the kernel that also closes the linear attention, on a stream held as latents and context (layer 0). -/
module

public import proofs.«01_k».proof.Proof.PostGlaBody
public import proofs.«01_k».proof.Proof.Gen.Kernel5Ideal.Frame
public import proofs.«01_k».proof.Proof.Gen.Kernel5Ideal.Value
public import Idealize.ShloMosaic.Lib.StableHlo.Run
public import Idealize.ShloMosaic.Lib.Tactic
public import Idealize.ShloMosaic.Lib.Pipeline.ValueKit.Geometry

@[expose] public section

noncomputable section

namespace Cert.Kernel5Ideal.Body

open Cert.Kernel5Ideal Cert.Kernel5Ideal.Gen Idealize.ShloMosaic Idealize.ShloMosaic.TcCoe Idealize.SL.Sem
open Idealize.ShloMosaic.StableHlo

variable (m : (ℓ : Loc nD τ sig) → Buf (Elt Ideal) ℓ)

/-- The grid's index maps, decided over its 66 points. -/
theorem index_facts : ∀ t : Fin cfg0.N,
    (win0_0.index t 0 = t.val / 33 ∧ win0_0.index t 1 = t.val % 33 - 1 ∧ win0_0.index t 2 = 0)
    ∧ (win0_1.index t 0 = t.val / 33 ∧ win0_1.index t 1 = 0 ∧ win0_1.index t 2 = 0)
    ∧ (win0_2.index t 0 = t.val / 33 ∧ win0_2.index t 1 = t.val % 33 ∧ win0_2.index t 2 = 0 ∧ win0_2.index t 3 = 0)
    ∧ (win0_3.index t 0 = t.val / 33 ∧ win0_3.index t 1 = t.val % 33 ∧ win0_3.index t 2 = 0 ∧ win0_3.index t 3 = 0)
    ∧ (win0_4.index t 0 = t.val / 33 ∧ win0_4.index t 1 = t.val % 33 ∧ win0_4.index t 2 = 0 ∧ win0_4.index t 3 = 0)
    ∧ (win0_5.index t 0 = 0 ∧ win0_5.index t 1 = 0)
    ∧ (win0_6.index t 0 = t.val / 33 ∧ win0_6.index t 1 = t.val % 33 ∧ win0_6.index t 2 = 0 ∧ win0_6.index t 3 = 0)
    ∧ (win0_7.index t 0 = (if t.val % 33 = 0 then 2 else t.val / 33) ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = t.val / 33 ∧ win0_13.index t 1 = t.val % 33 ∧ win0_13.index t 2 = 0) :=
  (by decide +kernel : ∀ t : Fin grid0.N,
    (win0_0.index t 0 = t.val / 33 ∧ win0_0.index t 1 = t.val % 33 - 1 ∧ win0_0.index t 2 = 0)
    ∧ (win0_1.index t 0 = t.val / 33 ∧ win0_1.index t 1 = 0 ∧ win0_1.index t 2 = 0)
    ∧ (win0_2.index t 0 = t.val / 33 ∧ win0_2.index t 1 = t.val % 33 ∧ win0_2.index t 2 = 0 ∧ win0_2.index t 3 = 0)
    ∧ (win0_3.index t 0 = t.val / 33 ∧ win0_3.index t 1 = t.val % 33 ∧ win0_3.index t 2 = 0 ∧ win0_3.index t 3 = 0)
    ∧ (win0_4.index t 0 = t.val / 33 ∧ win0_4.index t 1 = t.val % 33 ∧ win0_4.index t 2 = 0 ∧ win0_4.index t 3 = 0)
    ∧ (win0_5.index t 0 = 0 ∧ win0_5.index t 1 = 0)
    ∧ (win0_6.index t 0 = t.val / 33 ∧ win0_6.index t 1 = t.val % 33 ∧ win0_6.index t 2 = 0 ∧ win0_6.index t 3 = 0)
    ∧ (win0_7.index t 0 = (if t.val % 33 = 0 then 2 else t.val / 33) ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = t.val / 33 ∧ win0_13.index t 1 = t.val % 33 ∧ win0_13.index t 2 = 0))

theorem tlt (t : Fin cfg0.N) : t.val < 66 := lt_of_lt_of_eq t.isLt N_0

/-- The sample and the token an element of a grid point's block stands for. -/
def smp (t : Fin cfg0.N) (s : Fin 2) : Fin 4 := ⟨t.val / 33 * 2 + s.val, by have := tlt t; omega⟩
def tok (t : Fin cfg0.N) (r : Fin 256) : Fin 8448 := ⟨t.val % 33 * 256 + r.val, by omega⟩

/-- The weights the host prepares: the output projection's two halves, and the feed-forward matrices. -/
theorem V_v1 (c : Dev nD) : (V m c main_v1 : S512x1024.Idx → EReal)
    = extractStridedSlice S512x1024 ![0, 0] (m ((c : Thread nD τ).loc main_arg9)) slices_S1024x1024_S512x1024_0_0 := by
  unfold V
  after_results_simp
  rfl
theorem V_v3 (c : Dev nD) : (V m c main_v3 : S512x1024.Idx → EReal)
    = extractStridedSlice S512x1024 ![512, 0] (m ((c : Thread nD τ).loc main_arg9)) slices_S1024x1024_S512x1024_512_0 := by
  unfold V
  after_results_simp
  rfl
theorem V_v4 (c : Dev nD) : (V m c main_v4 : S1024x4096.Idx → EReal) = m ((c : Thread nD τ).loc main_arg10) := by
  unfold V
  after_results_simp
  rfl
theorem V_v5 (c : Dev nD) : (V m c main_v5 : S4096x1024.Idx → EReal) = m ((c : Thread nD τ).loc main_arg11) := by
  unfold V
  after_results_simp
  rfl
theorem V_v6 (c : Dev nD) : (V m c main_v6 : S128x1.Idx → EReal) = shapeCast S128x1 (m ((c : Thread nD τ).loc main_arg5)) shapeCasts_S128_S128x1 := by
  unfold V
  after_results_simp
  rfl

section Blocks
variable (c : Dev nD) (t : Fin cfg0.N)

theorem blk0 (s : Fin 2) (r : Fin 256) (k : Fin 1024) : iblk m c 0 t (ix3 s r k) = m ((c : Thread nD τ).loc main_arg0) (ix3 (smp t s) ⟨(t.val % 33 - 1) * 256 + r.val, by omega⟩ k) := by
  obtain ⟨⟨h0, h1, h2⟩, -⟩ := index_facts t
  unfold iblk
  rw [View.read_apply]
  show V m c main_arg0 _ = _
  rw [V_main_arg0]
  refine congrArg (m _) (funext fun a => Fin.ext ?_)
  match a with
  | ⟨0, _⟩ => show win0_0.index t 0 * 2 + 1 * s.val = t.val / 33 * 2 + s.val; rw [h0]; omega
  | ⟨1, _⟩ => show win0_0.index t 1 * 256 + 1 * r.val = (t.val % 33 - 1) * 256 + r.val; rw [h1]; omega
  | ⟨2, _⟩ => show win0_0.index t 2 * 1024 + 1 * k.val = k.val; rw [h2]; omega

theorem blk1 (s : Fin 2) (r : Fin 256) (k : Fin 1024) : iblk m c 1 t (ix3 s r k) = m ((c : Thread nD τ).loc main_arg1) (ix3 (smp t s) r k) := by
  obtain ⟨-, ⟨h0, h1, h2⟩, -⟩ := index_facts t
  unfold iblk
  rw [View.read_apply]
  show V m c main_arg1 _ = _
  rw [V_main_arg1]
  refine congrArg (m _) (funext fun a => Fin.ext ?_)
  match a with
  | ⟨0, _⟩ => show win0_1.index t 0 * 2 + 1 * s.val = t.val / 33 * 2 + s.val; rw [h0]; omega
  | ⟨1, _⟩ => show win0_1.index t 1 * 256 + 1 * r.val = r.val; rw [h1]; omega
  | ⟨2, _⟩ => show win0_1.index t 2 * 1024 + 1 * k.val = k.val; rw [h2]; omega

theorem blk2 (s : Fin 2) (z : Fin 1) (k : Fin 512) (r : Fin 256) : iblk m c 2 t (ix4 s z k r)
    = PostSpec.tiled (fun b j k r => m ((c : Thread nD τ).loc main_arg2) (ix4 b j k r)) (smp t s) (tok t r) k := by
  obtain ⟨-, -, ⟨h0, h1, h2, h3⟩, -⟩ := index_facts t
  unfold tok
  rw [PostSpec.tiled_tile _ _ ⟨t.val % 33, by omega⟩]
  unfold iblk
  rw [View.read_apply]
  show V m c main_arg2 _ = _
  rw [V_main_arg2]
  refine congrArg (m _) (funext fun a => Fin.ext ?_)
  match a with
  | ⟨0, _⟩ => show win0_2.index t 0 * 2 + 1 * s.val = t.val / 33 * 2 + s.val; rw [h0]; omega
  | ⟨1, _⟩ => show win0_2.index t 1 * 1 + 1 * z.val = t.val % 33; rw [h1]; omega
  | ⟨2, _⟩ => show win0_2.index t 2 * 512 + 1 * k.val = k.val; rw [h2]; omega
  | ⟨3, _⟩ => show win0_2.index t 3 * 256 + 1 * r.val = r.val; rw [h3]; omega

theorem blk3 (s : Fin 2) (z : Fin 1) (k : Fin 512) (r : Fin 256) : iblk m c 3 t (ix4 s z k r)
    = PostSpec.tiled (fun b j k r => m ((c : Thread nD τ).loc main_arg3) (ix4 b j k r)) (smp t s) (tok t r) k := by
  obtain ⟨-, -, -, ⟨h0, h1, h2, h3⟩, -⟩ := index_facts t
  unfold tok
  rw [PostSpec.tiled_tile _ _ ⟨t.val % 33, by omega⟩]
  unfold iblk
  rw [View.read_apply]
  show V m c main_arg3 _ = _
  rw [V_main_arg3]
  refine congrArg (m _) (funext fun a => Fin.ext ?_)
  match a with
  | ⟨0, _⟩ => show win0_3.index t 0 * 2 + 1 * s.val = t.val / 33 * 2 + s.val; rw [h0]; omega
  | ⟨1, _⟩ => show win0_3.index t 1 * 1 + 1 * z.val = t.val % 33; rw [h1]; omega
  | ⟨2, _⟩ => show win0_3.index t 2 * 512 + 1 * k.val = k.val; rw [h2]; omega
  | ⟨3, _⟩ => show win0_3.index t 3 * 256 + 1 * r.val = r.val; rw [h3]; omega

theorem blk4 (s : Fin 2) (z : Fin 1) (k : Fin 512) (r : Fin 256) : iblk m c 4 t (ix4 s z k r)
    = PostSpec.tiled (fun b j k r => m ((c : Thread nD τ).loc main_arg4) (ix4 b j k r)) (smp t s) (tok t r) k := by
  obtain ⟨-, -, -, -, ⟨h0, h1, h2, h3⟩, -⟩ := index_facts t
  unfold tok
  rw [PostSpec.tiled_tile _ _ ⟨t.val % 33, by omega⟩]
  unfold iblk
  rw [View.read_apply]
  show V m c main_arg4 _ = _
  rw [V_main_arg4]
  refine congrArg (m _) (funext fun a => Fin.ext ?_)
  match a with
  | ⟨0, _⟩ => show win0_4.index t 0 * 2 + 1 * s.val = t.val / 33 * 2 + s.val; rw [h0]; omega
  | ⟨1, _⟩ => show win0_4.index t 1 * 1 + 1 * z.val = t.val % 33; rw [h1]; omega
  | ⟨2, _⟩ => show win0_4.index t 2 * 512 + 1 * k.val = k.val; rw [h2]; omega
  | ⟨3, _⟩ => show win0_4.index t 3 * 256 + 1 * r.val = r.val; rw [h3]; omega

theorem blk5 (i : Fin 128) (z : Fin 1) : iblk m c 5 t (ix2 i z) = m ((c : Thread nD τ).loc main_arg5) (ix1 i) := by
  obtain ⟨-, -, -, -, -, ⟨h0, h1⟩, -⟩ := index_facts t
  have e : iblk m c 5 t (ix2 i z) = shapeCast S128x1 (m ((c : Thread nD τ).loc main_arg5)) shapeCasts_S128_S128x1 (ix2 i z) := by
    unfold iblk
    rw [View.read_apply]
    show V m c main_v6 _ = _
    rw [V_v6]
    refine congrArg (shapeCast S128x1 (m ((c : Thread nD τ).loc main_arg5)) shapeCasts_S128_S128x1) (funext fun a => Fin.ext ?_)
    match a with
    | ⟨0, _⟩ => show win0_5.index t 0 * 128 + 1 * i.val = i.val; rw [h0]; omega
    | ⟨1, _⟩ => show win0_5.index t 1 * 1 + 1 * z.val = z.val; rw [h1]; omega
  rw [e]
  obtain rfl : z = 0 := Subsingleton.elim _ _
  generalize m ((c : Thread nD τ).loc main_arg5) = x
  pointwise []

theorem blk6 (s : Fin 2) (z : Fin 1) (k : Fin 512) (r : Fin 256) : iblk m c 6 t (ix4 s z k r)
    = PostSpec.tiled (fun b j k r => m ((c : Thread nD τ).loc main_arg6) (ix4 b j k r)) (smp t s) (tok t r) k := by
  obtain ⟨-, -, -, -, -, -, ⟨h0, h1, h2, h3⟩, -⟩ := index_facts t
  unfold tok
  rw [PostSpec.tiled_tile _ _ ⟨t.val % 33, by omega⟩]
  unfold iblk
  rw [View.read_apply]
  show V m c main_arg6 _ = _
  rw [V_main_arg6]
  refine congrArg (m _) (funext fun a => Fin.ext ?_)
  match a with
  | ⟨0, _⟩ => show win0_6.index t 0 * 2 + 1 * s.val = t.val / 33 * 2 + s.val; rw [h0]; omega
  | ⟨1, _⟩ => show win0_6.index t 1 * 1 + 1 * z.val = t.val % 33; rw [h1]; omega
  | ⟨2, _⟩ => show win0_6.index t 2 * 512 + 1 * k.val = k.val; rw [h2]; omega
  | ⟨3, _⟩ => show win0_6.index t 3 * 256 + 1 * r.val = r.val; rw [h3]; omega

theorem blk7 (s : Fin 2) (r : Fin 256) (i : Fin 6) (k : Fin 1024) : iblk m c 7 t (ix3 s i k)
    = m ((c : Thread nD τ).loc main_arg7) (ix3 (PostSpec.tokRow (smp t s) (tok t r)) i k) := by
  obtain ⟨-, -, -, -, -, -, -, ⟨h0, h1, h2⟩, -⟩ := index_facts t
  have e : PostSpec.tokRow (smp t s) (tok t r) = ⟨(if t.val % 33 = 0 then 2 else t.val / 33) * 2 + s.val, by have := tlt t; split <;> omega⟩ := by
    unfold PostSpec.tokRow smp tok
    dsimp only
    by_cases hz : t.val % 33 = 0
    · rw [if_pos (by omega)]
      refine Fin.ext ?_
      show 4 + (t.val / 33 * 2 + s.val) % 2 = (if t.val % 33 = 0 then 2 else t.val / 33) * 2 + s.val
      rw [if_pos hz]; omega
    · rw [if_neg (by omega)]
      refine Fin.ext ?_
      show t.val / 33 * 2 + s.val = (if t.val % 33 = 0 then 2 else t.val / 33) * 2 + s.val
      rw [if_neg hz]
  rw [e]
  unfold iblk
  rw [View.read_apply]
  show V m c main_arg7 _ = _
  rw [V_main_arg7]
  refine congrArg (m _) (funext fun a => Fin.ext ?_)
  match a with
  | ⟨0, _⟩ => show win0_7.index t 0 * 2 + 1 * s.val = (if t.val % 33 = 0 then 2 else t.val / 33) * 2 + s.val; rw [h0, one_mul]
  | ⟨1, _⟩ => show win0_7.index t 1 * 6 + 1 * i.val = i.val; rw [h1]; omega
  | ⟨2, _⟩ => show win0_7.index t 2 * 1024 + 1 * k.val = k.val; rw [h2]; omega

theorem blk8 (i : Fin 4) (k : Fin 1024) : iblk m c 8 t (ix2 i k) = m ((c : Thread nD τ).loc main_arg8) (ix2 i k) := by
  obtain ⟨-, -, -, -, -, -, -, -, ⟨h0, h1⟩, -⟩ := index_facts t
  unfold iblk
  rw [View.read_apply]
  show V m c main_arg8 _ = _
  rw [V_main_arg8]
  refine congrArg (m _) (funext fun a => Fin.ext ?_)
  match a with
  | ⟨0, _⟩ => show win0_8.index t 0 * 4 + 1 * i.val = i.val; rw [h0]; omega
  | ⟨1, _⟩ => show win0_8.index t 1 * 1024 + 1 * k.val = k.val; rw [h1]; omega

theorem blk9 (k : Fin 512) (n : Fin 1024) : iblk m c 9 t (ix2 k n) = m ((c : Thread nD τ).loc main_arg9) (ix2 (Fin.castAdd 512 k : Fin (512 + 512)) n) := by
  obtain ⟨-, -, -, -, -, -, -, -, -, ⟨h0, h1⟩, -⟩ := index_facts t
  unfold iblk
  rw [View.read_apply]
  show V m c main_v1 _ = _
  rw [V_v1]
  refine extractStridedSlice_apply _ _ _ _ _ (fun a => ?_)
  match a with
  | ⟨0, _⟩ => show k.val = 0 + (win0_9.index t 0 * 512 + 1 * k.val); rw [h0]; omega
  | ⟨1, _⟩ => show n.val = 0 + (win0_9.index t 1 * 1024 + 1 * n.val); rw [h1]; omega

theorem blk10 (k : Fin 512) (n : Fin 1024) : iblk m c 10 t (ix2 k n) = m ((c : Thread nD τ).loc main_arg9) (ix2 (Fin.natAdd 512 k : Fin (512 + 512)) n) := by
  obtain ⟨-, -, -, -, -, -, -, -, -, -, ⟨h0, h1⟩, -⟩ := index_facts t
  unfold iblk
  rw [View.read_apply]
  show V m c main_v3 _ = _
  rw [V_v3]
  refine extractStridedSlice_apply _ _ _ _ _ (fun a => ?_)
  match a with
  | ⟨0, _⟩ => show 512 + k.val = 512 + (win0_10.index t 0 * 512 + 1 * k.val); rw [h0]; omega
  | ⟨1, _⟩ => show n.val = 0 + (win0_10.index t 1 * 1024 + 1 * n.val); rw [h1]; omega

theorem blk11 (i : Fin 1024) (k : Fin 4096) : iblk m c 11 t (ix2 i k) = m ((c : Thread nD τ).loc main_arg10) (ix2 i k) := by
  obtain ⟨-, -, -, -, -, -, -, -, -, -, -, ⟨h0, h1⟩, -⟩ := index_facts t
  unfold iblk
  rw [View.read_apply]
  show V m c main_v4 _ = _
  rw [V_v4]
  refine congrArg (m _) (funext fun a => Fin.ext ?_)
  match a with
  | ⟨0, _⟩ => show win0_11.index t 0 * 1024 + 1 * i.val = i.val; rw [h0]; omega
  | ⟨1, _⟩ => show win0_11.index t 1 * 4096 + 1 * k.val = k.val; rw [h1]; omega

theorem blk12 (i : Fin 4096) (k : Fin 1024) : iblk m c 12 t (ix2 i k) = m ((c : Thread nD τ).loc main_arg11) (ix2 i k) := by
  obtain ⟨-, -, -, -, -, -, -, -, -, -, -, -, ⟨h0, h1⟩, -⟩ := index_facts t
  unfold iblk
  rw [View.read_apply]
  show V m c main_v5 _ = _
  rw [V_v5]
  refine congrArg (m _) (funext fun a => Fin.ext ?_)
  match a with
  | ⟨0, _⟩ => show win0_12.index t 0 * 4096 + 1 * i.val = i.val; rw [h0]; omega
  | ⟨1, _⟩ => show win0_12.index t 1 * 1024 + 1 * k.val = k.val; rw [h1]; omega

end Blocks

/-- The place of an output block's element in the array. -/
theorem place (t : Fin cfg0.N) (s : Fin 2) (r : Fin 256) (k : Fin 1024) : ((cfg0.win 13).blk t).view.emb (ix3 s r k)
    = (ix3 (smp t s) (tok t r) k : S4x8448x1024.Idx) := by
  obtain ⟨-, -, -, -, -, -, -, -, -, -, -, -, -, h0, h1, h2⟩ := index_facts t
  refine funext fun a => Fin.ext ?_
  match a with
  | ⟨0, _⟩ => show win0_13.index t 0 * 2 + 1 * s.val = t.val / 33 * 2 + s.val; rw [h0]; omega
  | ⟨1, _⟩ => show win0_13.index t 1 * 256 + 1 * r.val = t.val % 33 * 256 + r.val; rw [h1]; omega
  | ⟨2, _⟩ => show win0_13.index t 2 * 1024 + 1 * k.val = k.val; rw [h2]; omega

/-- The result array of the arguments in memory `m`. -/
def result (c : Dev nD) : S4x8448x1024.Idx → EReal := fun i =>
  PostSpec.stream (PostSpec.joined (fun b t k => m ((c : Thread nD τ).loc main_arg1) (ix3 b t k)) fun b t k => m ((c : Thread nD τ).loc main_arg0) (ix3 b t k))
    (fun b t => PostSpec.heads (fun k => PostSpec.tiled (fun b j k r => m ((c : Thread nD τ).loc main_arg2) (ix4 b j k r)) b t k
        + PostSpec.tiled (fun b j k r => m ((c : Thread nD τ).loc main_arg3) (ix4 b j k r)) b t k)
      (PostSpec.tiled (fun b j k r => m ((c : Thread nD τ).loc main_arg4) (ix4 b j k r)) b t) (fun k => m ((c : Thread nD τ).loc main_arg5) (ix1 k)))
    (PostSpec.tiled fun b j k r => m ((c : Thread nD τ).loc main_arg6) (ix4 b j k r))
    (fun a i k => m ((c : Thread nD τ).loc main_arg7) (ix3 a i k)) (fun i k => m ((c : Thread nD τ).loc main_arg8) (ix2 i k)) (fun k n => m ((c : Thread nD τ).loc main_arg9) (ix2 k n))
    (fun k f => m ((c : Thread nD τ).loc main_arg10) (ix2 k f)) (fun f k => m ((c : Thread nD τ).loc main_arg11) (ix2 f k)) (i 0) (i 1) (i 2)

section
variable {F : FTy → Type} [FloatOps F]

/-- A sample's rows of the stream: the context's at the first tile, the latents' after it. -/
def pick (i : grid0.Coords) (a b : FVec F S256x1024 .f32) : FVec F S256x1024 .f32 :=
  Scalar.select (Scalar.cmpi .eq (Scalar.addi (BitVec.ofNat 32 (i 1).val) 0#32) 0#32) a b

end

theorem coord_1 : ∀ t : Fin cfg0.N, (grid0.coords t 1).val = t.val % 33 := (by decide +kernel : ∀ t : Fin grid0.N, (grid0.coords t 1).val = t.val % 33)

theorem cond_at : ∀ j : Fin 33, Scalar.cmpi .eq (Scalar.addi (BitVec.ofNat 32 j.val) 0#32) 0#32 = if j.val = 0 then 1#1 else 0#1 := by decide

theorem pick_eq (t : Fin cfg0.N) (a b : FVec Ideal S256x1024 .f32) : pick (grid0.coords t) a b = if t.val % 33 = 0 then a else b := by
  have e := cond_at ⟨t.val % 33, by omega⟩
  dsimp only at e
  unfold pick
  rw [coord_1 t, e]
  split <;> rfl

/-- The output block: the two samples' rows. -/
theorem out_eq {F : FTy → Type} [FloatOps F] (i : grid0.Coords) (x0 : Vec F S2x256x1024 .f32) (x1 : Vec F S2x256x1024 .f32) (x2 : Vec F S2x1x512x256 .f32) (x3 : Vec F S2x1x512x256 .f32) (x4 : Vec F S2x1x512x256 .f32) (x5 : Vec F S128x1 .f32) (x6 : Vec F S2x1x512x256 .bf16) (x7 : Vec F S2x6x1024 .f32) (x8 : Vec F S4x1024 .f32) (x9 : Vec F S512x1024 .bf16) (x10 : Vec F S512x1024 .bf16) (x11 : Vec F S1024x4096 .bf16) (x12 : Vec F S4096x1024 .bf16) :
    out0_13 i x0 x1 x2 x3 x4 x5 x6 x7 x8 x9 x10 x11 x12 = View.canon [
      ⟨r0_10, Kernel2Ideal.Body.unit (pick i (Kernel2Ideal.Body.strm (View.ld x1 r0_10)) (Kernel2Ideal.Body.strm (View.ld x0 r0_10))) (View.ld x7 r0_12) (View.ld x8 r0_13) (PostGla.mat1 x2 x3 x4 (View.ld x5 r0_0)) (View.ld x6 r0_15)
        (View.ld x9 r0_16) (View.ld x10 r0_16) (View.ld x11 r0_17) (View.ld x12 r0_18) (View.ld x11 r0_19) (View.ld x12 r0_20) (View.ld x11 r0_21) (View.ld x12 r0_22) (View.ld x11 r0_23) (View.ld x12 r0_24)⟩,
      ⟨r0_9, Kernel2Ideal.Body.unit (pick i (Kernel2Ideal.Body.strm (View.ld x1 r0_9)) (Kernel2Ideal.Body.strm (View.ld x0 r0_9))) (View.ld x7 r0_11) (View.ld x8 r0_13) (PostGla.mat0 x2 x3 x4 (View.ld x5 r0_0)) (View.ld x6 r0_14)
        (View.ld x9 r0_16) (View.ld x10 r0_16) (View.ld x11 r0_17) (View.ld x12 r0_18) (View.ld x11 r0_19) (View.ld x12 r0_20) (View.ld x11 r0_21) (View.ld x12 r0_22) (View.ld x11 r0_23) (View.ld x12 r0_24)⟩] := by
  unfold_out out0_13
  rfl

/-- Sample 0 of what a grid point leaves in its block is that sample's rows of the result. -/
theorem piece0 (c : Dev nD) (t : Fin cfg0.N) (r : Fin 256) (k : Fin 1024) :
    Kernel2Ideal.Body.unit (pick (grid0.coords t) (Kernel2Ideal.Body.strm (View.ld (iblk m c 1 t) r0_9)) (Kernel2Ideal.Body.strm (View.ld (iblk m c 0 t) r0_9))) (View.ld (iblk m c 7 t) r0_11) (View.ld (iblk m c 8 t) r0_13) (PostGla.mat0 (iblk m c 2 t) (iblk m c 3 t) (iblk m c 4 t) (View.ld (iblk m c 5 t) r0_0)) (View.ld (iblk m c 6 t) r0_14)
        (View.ld (iblk m c 9 t) r0_16) (View.ld (iblk m c 10 t) r0_16) (View.ld (iblk m c 11 t) r0_17) (View.ld (iblk m c 12 t) r0_18) (View.ld (iblk m c 11 t) r0_19) (View.ld (iblk m c 12 t) r0_20) (View.ld (iblk m c 11 t) r0_21) (View.ld (iblk m c 12 t) r0_22) (View.ld (iblk m c 11 t) r0_23) (View.ld (iblk m c 12 t) r0_24) (ix3 0 r k) = result m c (((cfg0.win 13).blk t).view.emb (ix3 0 r k)) := by
  rw [place]
  unfold result PostSpec.stream
  simp only [ix3_0, ix3_1, ix3_2]
  exact Kernel2Ideal.Body.unit_row r _ _ _ _ _ _ _ (iblk m c 11 t) (iblk m c 12 t)
    (fun k => by
      rw [pick_eq]
      unfold PostSpec.joined
      by_cases hz : t.val % 33 = 0
      · rw [if_pos hz, dif_pos (by show t.val % 33 * 256 + r.val < 256; omega)]
        refine (Kernel2Ideal.Body.strm_at _ r k).trans (((Kernel2Ideal.Body.ld_x0 _ r k).trans (blk1 m c t 0 r k)).trans ?_)
        exact congrArg (fun r' => m ((c : Thread nD τ).loc main_arg1) (ix3 _ r' k)) (Fin.ext (by show r.val = t.val % 33 * 256 + r.val; omega))
      · rw [if_neg hz, dif_neg (by show ¬ t.val % 33 * 256 + r.val < 256; omega)]
        refine (Kernel2Ideal.Body.strm_at _ r k).trans (((Kernel2Ideal.Body.ld_x0 _ r k).trans (blk0 m c t 0 r k)).trans ?_)
        exact congrArg (fun r' => m ((c : Thread nD τ).loc main_arg0) (ix3 _ r' k)) (Fin.ext (by show (t.val % 33 - 1) * 256 + r.val = t.val % 33 * 256 + r.val - 256; omega)))
    (fun i k => (Kernel2Ideal.Body.ld_md0 _ i k).trans (blk7 m c t 0 r i k)) (fun i k => (Kernel2Ideal.Body.ld_g _ i k).trans (blk8 m c t i k))
    (fun k => PostGla.mat0_at _ _ _ _ r (fun k => blk2 m c t 0 0 k r) (fun k => blk3 m c t 0 0 k r) (fun k => blk4 m c t 0 0 k r) (fun k => (PostGla.ld_gain _ k).trans (blk5 m c t k 0)) k)
    (fun k => (Kernel2Ideal.Body.ld_yb0 _ k r).trans (blk6 m c t 0 0 k r))
    (fun k n => (Kernel2Ideal.Body.ld_wo _ k n).trans (blk9 m c t k n)) (fun k n => (Kernel2Ideal.Body.ld_wo _ k n).trans (blk10 m c t k n))
    (fun k f => blk11 m c t k f) (fun f k => blk12 m c t f k) k

/-- Sample 1 of what a grid point leaves in its block is that sample's rows of the result. -/
theorem piece1 (c : Dev nD) (t : Fin cfg0.N) (r : Fin 256) (k : Fin 1024) :
    Kernel2Ideal.Body.unit (pick (grid0.coords t) (Kernel2Ideal.Body.strm (View.ld (iblk m c 1 t) r0_10)) (Kernel2Ideal.Body.strm (View.ld (iblk m c 0 t) r0_10))) (View.ld (iblk m c 7 t) r0_12) (View.ld (iblk m c 8 t) r0_13) (PostGla.mat1 (iblk m c 2 t) (iblk m c 3 t) (iblk m c 4 t) (View.ld (iblk m c 5 t) r0_0)) (View.ld (iblk m c 6 t) r0_15)
        (View.ld (iblk m c 9 t) r0_16) (View.ld (iblk m c 10 t) r0_16) (View.ld (iblk m c 11 t) r0_17) (View.ld (iblk m c 12 t) r0_18) (View.ld (iblk m c 11 t) r0_19) (View.ld (iblk m c 12 t) r0_20) (View.ld (iblk m c 11 t) r0_21) (View.ld (iblk m c 12 t) r0_22) (View.ld (iblk m c 11 t) r0_23) (View.ld (iblk m c 12 t) r0_24) (ix3 0 r k) = result m c (((cfg0.win 13).blk t).view.emb (ix3 1 r k)) := by
  rw [place]
  unfold result PostSpec.stream
  simp only [ix3_0, ix3_1, ix3_2]
  exact Kernel2Ideal.Body.unit_row r _ _ _ _ _ _ _ (iblk m c 11 t) (iblk m c 12 t)
    (fun k => by
      rw [pick_eq]
      unfold PostSpec.joined
      by_cases hz : t.val % 33 = 0
      · rw [if_pos hz, dif_pos (by show t.val % 33 * 256 + r.val < 256; omega)]
        refine (Kernel2Ideal.Body.strm_at _ r k).trans (((Kernel2Ideal.Body.ld_x1 _ r k).trans (blk1 m c t 1 r k)).trans ?_)
        exact congrArg (fun r' => m ((c : Thread nD τ).loc main_arg1) (ix3 _ r' k)) (Fin.ext (by show r.val = t.val % 33 * 256 + r.val; omega))
      · rw [if_neg hz, dif_neg (by show ¬ t.val % 33 * 256 + r.val < 256; omega)]
        refine (Kernel2Ideal.Body.strm_at _ r k).trans (((Kernel2Ideal.Body.ld_x1 _ r k).trans (blk0 m c t 1 r k)).trans ?_)
        exact congrArg (fun r' => m ((c : Thread nD τ).loc main_arg0) (ix3 _ r' k)) (Fin.ext (by show (t.val % 33 - 1) * 256 + r.val = t.val % 33 * 256 + r.val - 256; omega)))
    (fun i k => (Kernel2Ideal.Body.ld_md1 _ i k).trans (blk7 m c t 1 r i k)) (fun i k => (Kernel2Ideal.Body.ld_g _ i k).trans (blk8 m c t i k))
    (fun k => PostGla.mat1_at _ _ _ _ r (fun k => blk2 m c t 1 0 k r) (fun k => blk3 m c t 1 0 k r) (fun k => blk4 m c t 1 0 k r) (fun k => (PostGla.ld_gain _ k).trans (blk5 m c t k 0)) k)
    (fun k => (Kernel2Ideal.Body.ld_yb1 _ k r).trans (blk6 m c t 1 0 k r))
    (fun k n => (Kernel2Ideal.Body.ld_wo _ k n).trans (blk9 m c t k n)) (fun k n => (Kernel2Ideal.Body.ld_wo _ k n).trans (blk10 m c t k n))
    (fun k f => blk11 m c t k f) (fun f k => blk12 m c t f k) k

/-- The array the kernel leaves is the result of its arguments. -/
theorem final (c : Dev nD) : (dats m 0 c).arrAt 13 cfg0.N = result m c := by
  refine (dats m 0 c).arrAt_eq_of_covers 13 _ (by decide +kernel) fun t hf y => ?_
  show (dats m 0 c).after 13 t y = _
  rw [after0_13, out_eq]
  refine View.canon_apply_of_pieces (Val := Elt Ideal) (e := .f32) (fun y => result m c (((cfg0.win 13).blk t).view.emb y)) _ ?_ y (cover0_13 _ _ y)
  intro p hp x
  simp only [List.mem_cons, List.not_mem_nil, or_false] at hp
  rcases hp with rfl | rfl
  · obtain ⟨z, r, k, rfl⟩ : ∃ z r k, x = ix3 z r k := ⟨x 0, x 1, x 2, eq_ix3 x⟩
    obtain rfl : z = 0 := Subsingleton.elim _ _
    dsimp only
    rw [← Kernel2Ideal.Body.emb_1 r k]
    exact piece1 m c t r k
  · obtain ⟨z, r, k, rfl⟩ : ∃ z r k, x = ix3 z r k := ⟨x 0, x 1, x 2, eq_ix3 x⟩
    obtain rfl : z = 0 := Subsingleton.elim _ _
    dsimp only
    rw [← Kernel2Ideal.Body.emb_0 r k]
    exact piece0 m c t r k

end Cert.Kernel5Ideal.Body

end
-- ==== Proof.Post5Reference.lean ====
/- The reference that closes the linear attention, on a stream held as latents and context: the row function of each token's rows. -/
module

public import proofs.«01_k».proof.Proof.Post4Reference
public import proofs.«01_k».proof.Proof.Gen.Reference5Ideal.Read

@[expose] public section

noncomputable section

namespace Cert.Reference5Ideal.Rows

open Cert.Reference5Ideal Cert.Reference5Ideal.Gen Cert.Reference5Ideal.Read Idealize.ShloMosaic Idealize.ShloMosaic.TcCoe Idealize.SL.Sem
open Idealize.ShloMosaic.StableHlo Cert

variable (x0 : (⟨S4x8192x1024, .f32⟩ : BufTy).Contents (Elt Ideal)) (x1 : (⟨S4x256x1024, .f32⟩ : BufTy).Contents (Elt Ideal))
  (x2 x3 x4 : (⟨S4x33x512x256, .f32⟩ : BufTy).Contents (Elt Ideal))
  (x5 : (⟨S128, .f32⟩ : BufTy).Contents (Elt Ideal)) (x6 : (⟨S4x33x512x256, .bf16⟩ : BufTy).Contents (Elt Ideal))
  (x7 : (⟨S8x6x1024, .f32⟩ : BufTy).Contents (Elt Ideal)) (x8 : (⟨S4x1024, .f32⟩ : BufTy).Contents (Elt Ideal))
  (x9 : (⟨S1024x1024, .f32⟩ : BufTy).Contents (Elt Ideal)) (x10 : (⟨S1024x4096, .f32⟩ : BufTy).Contents (Elt Ideal))
  (x11 : (⟨S4096x1024, .f32⟩ : BufTy).Contents (Elt Ideal))

/-- The stream is the context followed by the latents. -/
theorem stream_at (b : Fin 4) (t : Fin 8448) (k : Fin 1024) : val_main_v0 (F := Ideal) x0 x1 (ix3 b t k)
    = PostSpec.joined (fun b t k => x1 (ix3 b t k)) (fun b t k => x0 (ix3 b t k)) b t k := by
  unfold PostSpec.joined
  pointwise [val_main_v0]

/-- The linear attention is closed as on one array. -/
theorem heads_eq : val_main_v84 (F := Ideal) x2 x3 x4 x5 = Reference4Ideal.Read.val_main_v83 (F := Ideal) x2 x3 x4 x5 := rfl

/-- After the closing, the reference is the one whose rows are given. -/
theorem resid_eq : val_main_v106 (F := Ideal) x0 x1 x2 x3 x4 x5 x6 x7 x8 x9
    = Reference3Ideal.Read.val_main_v80 (F := Ideal) (val_main_v0 (F := Ideal) x0 x1) (val_main_v84 (F := Ideal) x2 x3 x4 x5) x6 x7 x8 x9 := rfl

theorem top_eq : val_main_v146 (F := Ideal) x0 x1 x2 x3 x4 x5 x6 x7 x8 x9 x10 x11
    = Reference3Ideal.Read.val_main_v120 (F := Ideal) (val_main_v0 (F := Ideal) x0 x1) (val_main_v84 (F := Ideal) x2 x3 x4 x5) x6 x7 x8 x9 x10 x11 := rfl

/-- The reference's row is the row function. -/
theorem row_at (b : Fin 4) (t : Fin 8448) (c : Fin 1024) : val_main_v146 (F := Ideal) x0 x1 x2 x3 x4 x5 x6 x7 x8 x9 x10 x11 (ix3 b t c)
    = PostSpec.stream (PostSpec.joined (fun b t k => x1 (ix3 b t k)) fun b t k => x0 (ix3 b t k))
        (fun b t => PostSpec.heads (fun k => PostSpec.tiled (fun b j k r => x2 (ix4 b j k r)) b t k + PostSpec.tiled (fun b j k r => x3 (ix4 b j k r)) b t k)
          (PostSpec.tiled (fun b j k r => x4 (ix4 b j k r)) b t) (fun k => x5 (ix1 k)))
        (PostSpec.tiled fun b j k r => x6 (ix4 b j k r))
        (fun a i k => x7 (ix3 a i k)) (fun i k => x8 (ix2 i k)) (fun k c => x9 (ix2 k c)) (fun k f => x10 (ix2 k f)) (fun f c => x11 (ix2 f c)) b t c := by
  rw [top_eq, heads_eq, Reference3Ideal.Rows.row_at]
  unfold PostSpec.stream
  simp only [stream_at, Reference4Ideal.Rows.heads_at]

end Cert.Reference5Ideal.Rows

end
-- ==== Proof.Post5Claims.lean ====
/- The claims about the kernel that closes the linear attention, projects and feeds forward, on a stream held as latents and context: the frames of the
   three programs, and that over the extended reals the kernel and the reference end with equal arrays. -/
module

public import proofs.«01_k».proof.Defs
public import proofs.«01_k».proof.Proof.Post5Array
public import proofs.«01_k».proof.Proof.Post5Reference
public import proofs.«01_k».proof.Proof.Gen.Kernel5.Frame
public import Idealize.ShloMosaic.Lib.Quiescent

@[expose] public section

noncomputable section

namespace Cert.Proof.Post5

open Idealize.ShloMosaic Idealize.ShloMosaic.TcCoe Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- The two arrays are one function of the arguments, row by row. -/
theorem algebraic : Cert.algebraic_Kernel5Ideal_Reference5Ideal := by
  intro m ρ m' ρ' _ hagree
  refine ⟨fun c => Cert.Kernel5Ideal.Body.result m c, ?_, ?_⟩
  · exact (θ_run Cert.Kernel5Ideal.defs _ _).mono (fun _ h c => ⟨(h c).1.trans (Cert.Kernel5Ideal.Body.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2, h3, h4, h5, h6, h7, h8, h9, h10, h11⟩ := hagree c
    rw [Cert.Reference5Ideal.Read.val_main_v146_eq,
      show StableHlo.launchContents m' c (Proc.tc.devRef Reference5Ideal.main_arg0) = _ from h0,
      show StableHlo.launchContents m' c (Proc.tc.devRef Reference5Ideal.main_arg1) = _ from h1,
      show StableHlo.launchContents m' c (Proc.tc.devRef Reference5Ideal.main_arg2) = _ from h2,
      show StableHlo.launchContents m' c (Proc.tc.devRef Reference5Ideal.main_arg3) = _ from h3,
      show StableHlo.launchContents m' c (Proc.tc.devRef Reference5Ideal.main_arg4) = _ from h4,
      show StableHlo.launchContents m' c (Proc.tc.devRef Reference5Ideal.main_arg5) = _ from h5,
      show StableHlo.launchContents m' c (Proc.tc.devRef Reference5Ideal.main_arg6) = _ from h6,
      show StableHlo.launchContents m' c (Proc.tc.devRef Reference5Ideal.main_arg7) = _ from h7,
      show StableHlo.launchContents m' c (Proc.tc.devRef Reference5Ideal.main_arg8) = _ from h8,
      show StableHlo.launchContents m' c (Proc.tc.devRef Reference5Ideal.main_arg9) = _ from h9,
      show StableHlo.launchContents m' c (Proc.tc.devRef Reference5Ideal.main_arg10) = _ from h10,
      show StableHlo.launchContents m' c (Proc.tc.devRef Reference5Ideal.main_arg11) = _ from h11]
    funext i
    obtain ⟨b, t, k, rfl⟩ : ∃ b t k, i = ix3 b t k := ⟨i 0, i 1, i 2, eq_ix3 i⟩
    rw [Cert.Reference5Ideal.Rows.row_at]
    rfl

end Cert.Proof.Post5

end
-- ==== Proof.OddBody.lean ====
/- The body of the odd layers' entry for one sample and one tile, as named functions of the blocks it reads. -/
module

public import proofs.«01_k».proof.Proof.Gen.Kernel6Ideal.Value

@[expose] public section

noncomputable section

namespace Cert.Kernel6Ideal.Body

open Cert.Kernel6Ideal Cert.Kernel6Ideal.Gen Idealize.ShloMosaic Idealize.ShloMosaic.TcCoe

variable {F : FTy → Type} [FloatOps F]

/-- 256 tokens, normalized and modulated. -/
def hid256 (x : Vec F S1x256x1024 .f32) (md : Vec F S1x6x1024 .f32) (g : Vec F S1x1024 .f32) : FVec F S256x1024 .bf16 :=
  truncf .bf16 (addf (mulf (mulf (mulf (shapeCast S256x1024 x shapeCasts_S1x256x1024_S256x1024) (broadcastTo S256x1024 (rsqrt (addf (divf (shapeCast S256x1
    (multiReduction .add [1] S256 (mulf (shapeCast S256x1024 x shapeCasts_S1x256x1024_S256x1024) (shapeCast S256x1024 x shapeCasts_S1x256x1024_S256x1024)) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 g broadcasts_S1x1024_S256x1024))
    (broadcastTo S256x1024 (addf (broadcast S1x1024 (Scalar.ofBits .f32 0x3F800000#32)) (extractStridedSlice S1x1024 ![1, 0] (shapeCast S6x1024 md shapeCasts_S1x6x1024_S6x1024) slices_S6x1024_o1_0_S1x1024)) broadcasts_S1x1024_S256x1024))
    (broadcastTo S256x1024 (extractStridedSlice S1x1024 ![0, 0] (shapeCast S6x1024 md shapeCasts_S1x6x1024_S6x1024) slices_S6x1024_o0_0_S1x1024) broadcasts_S1x1024_S256x1024)) bitsLt_bf16_f32

/-- 8 tokens, normalized and modulated. -/
def hid8 (x : Vec F S1x8x1024 .f32) (md : Vec F S1x6x1024 .f32) (g : Vec F S1x1024 .f32) : FVec F S8x1024 .bf16 :=
  truncf .bf16 (addf (mulf (mulf (mulf (shapeCast S8x1024 x shapeCasts_S1x8x1024_S8x1024) (broadcastTo S8x1024 (rsqrt (addf (divf (shapeCast S8x1
    (multiReduction .add [1] S8 (mulf (shapeCast S8x1024 x shapeCasts_S1x8x1024_S8x1024) (shapeCast S8x1024 x shapeCasts_S1x8x1024_S8x1024)) 0x00000000#32 reduces_S8x1024_S8 (.inl rfl) rfl) shapeCasts_S8_S8x1)
    (broadcast S8x1 (Scalar.ofBits .f32 0x44800000#32))) (broadcast S8x1 (Scalar.ofBits .f32 0x358637BD#32)))) broadcasts_S8x1_S8x1024))
    (broadcastTo S8x1024 g broadcasts_S1x1024_S8x1024))
    (broadcastTo S8x1024 (addf (broadcast S1x1024 (Scalar.ofBits .f32 0x3F800000#32)) (extractStridedSlice S1x1024 ![1, 0] (shapeCast S6x1024 md shapeCasts_S1x6x1024_S6x1024) slices_S6x1024_o1_0_S1x1024)) broadcasts_S1x1024_S8x1024))
    (broadcastTo S8x1024 (extractStridedSlice S1x1024 ![0, 0] (shapeCast S6x1024 md shapeCasts_S1x6x1024_S6x1024) slices_S6x1024_o0_0_S1x1024) broadcasts_S1x1024_S8x1024)) bitsLt_bf16_f32

/-- The tile's rows with the eight before and the eight after them below. -/
def ext (h : FVec F S256x1024 .bf16) (p n : FVec F S8x1024 .bf16) : FVec F S272x1024 .bf16 :=
  concatenate S272x1024 0 [⟨S256x1024, h⟩, ⟨S8x1024, p⟩, ⟨S8x1024, n⟩] concatenates_S256x1024_S8x1024_S8x1024_S272x1024_d0

/-- The convolution's channels, token by token. -/
def chan (e : FVec F S272x1024 .bf16) (w : Vec F S1024x1536 .bf16) : FVec F S272x1536 .f32 :=
  matmul dot_S272x1024_S1024x1536_S272x1536_1_0_0_1_n_n none e (shapeCast S1024x1536 w shapeCasts_S1024x1536_S1024x1536) (constant S272x1536 .f32 0x00000000#32)

/-- The heads' channels, channel by channel. -/
def heads (h : FVec F S256x1024 .bf16) (w : Vec F S1536x1024 .bf16) : FVec F S1536x256 .f32 :=
  matmul dot_S1536x1024_S256x1024_S1536x256_1_1_0_0_n_n none (shapeCast S1536x1024 w shapeCasts_S1536x1024_S1536x1024) h (constant S1536x256 .f32 0x00000000#32)

/-- The row before the tile, and zero before either sequence. -/
def rowBefore (i : BitVec 32) (u : FVec F S272x1536 .f32) : FVec F S1x1536 .f32 :=
  Scalar.select (Scalar.ori (Scalar.cmpi .eq i 0#32) (Scalar.cmpi .eq i 1#32)) (broadcast S1x1536 (Scalar.ofBits .f32 0x00000000#32))
    (extractStridedSlice S1x1536 ![263, 0] u slices_S272x1536_o263_0_S1x1536)

/-- The row after the tile, and zero after either sequence. -/
def rowAfter (i : BitVec 32) (u : FVec F S272x1536 .f32) : FVec F S1x1536 .f32 :=
  Scalar.select (Scalar.ori (Scalar.cmpi .eq i 0#32) (Scalar.cmpi .eq i 32#32)) (broadcast S1x1536 (Scalar.ofBits .f32 0x00000000#32))
    (extractStridedSlice S1x1536 ![264, 0] u slices_S272x1536_o264_0_S1x1536)

/-- A tile's rows. -/
def mid (u : FVec F S272x1536 .f32) : FVec F S256x1536 .f32 := extractStridedSlice S256x1536 ![0, 0] u slices_S272x1536_o0_0_S256x1536

/-- Each row's neighbour before it. -/
def up (u : FVec F S256x1536 .f32) (r : FVec F S1x1536 .f32) : FVec F S256x1536 .f32 :=
  select (cmpi .eq (iota .tc S256x1536 32 [0]) (broadcast S256x1536 0#32)) (broadcastTo S256x1536 (shapeCast S1x1536 r shapeCasts_S1x1536_S1x1536) broadcasts_S1x1536_S256x1536)
    (dynamicRotate 0 1#32 none u rotates_S256x1536_d0)

/-- Each row's neighbour after it. -/
def down (u : FVec F S256x1536 .f32) (r : FVec F S1x1536 .f32) : FVec F S256x1536 .f32 :=
  select (cmpi .eq (iota .tc S256x1536 32 [0]) (broadcast S256x1536 255#32)) (broadcastTo S256x1536 (shapeCast S1x1536 r shapeCasts_S1x1536_S1x1536) broadcasts_S1x1536_S256x1536)
    (dynamicRotate 0 255#32 none u rotates_S256x1536_d0)

/-- The convolution of the three rows. -/
def mix (a u d : FVec F S256x1536 .f32) (w : Vec F S3x1536 .f32) (v : Vec F S1x1536 .f32) : FVec F S256x1536 .f32 :=
  addf (addf (addf (mulf a (broadcastTo S256x1536 (extractStridedSlice S1x1536 ![0, 0] w slices_S3x1536_o0_0_S1x1536) broadcasts_S1x1536_S256x1536))
    (mulf u (broadcastTo S256x1536 (extractStridedSlice S1x1536 ![1, 0] w slices_S3x1536_o1_0_S1x1536) broadcasts_S1x1536_S256x1536)))
    (mulf d (broadcastTo S256x1536 (extractStridedSlice S1x1536 ![2, 0] w slices_S3x1536_o2_0_S1x1536) broadcasts_S1x1536_S256x1536)))
    (broadcastTo S256x1536 (shapeCast S1x1536 v shapeCasts_S1x1536_S1x1536) broadcasts_S1x1536_S256x1536)

def conv (i : BitVec 32) (u : FVec F S272x1536 .f32) (w : Vec F S3x1536 .f32) (v : Vec F S1x1536 .f32) : FVec F S256x1536 .f32 :=
  mix (up (mid u) (rowBefore i u)) (mid u) (down (mid u) (rowAfter i u)) w v

theorem slices_conv : ∀ (k : Fin 3), S256x1536.Slices ![0, 512 * k.val] S256x512 := by decide
theorem slices_pair : ∀ (k : Fin 16), S1536x256.Slices ![64 * k.val, 0] S64x256 := by decide
theorem slices_vals : ∀ (k : Fin 4), S1536x256.Slices ![1024 + 128 * k.val, 0] S128x256 := by decide

/-- One third of the convolution's channels, as stored. -/
def third (c : FVec F S256x1536 .f32) (k : Fin 3) : FVec F S1x256x512 .f32 :=
  shapeCast S1x256x512 (extractStridedSlice S256x512 ![0, 512 * k.val] c (slices_conv k)) shapeCasts_S256x512_S1x256x512

/-- The two halves of one head's channels: queries' heads are 0 to 7, keys' heads are 8 to 15. -/
def lo (p : FVec F S1536x256 .f32) (k : Fin 16) : FVec F S32x256 .f32 :=
  extractStridedSlice S32x256 ![0, 0] (extractStridedSlice S64x256 ![64 * k.val, 0] p (slices_pair k)) slices_S64x256_o0_0_S32x256
def hi (p : FVec F S1536x256 .f32) (k : Fin 16) : FVec F S32x256 .f32 :=
  extractStridedSlice S32x256 ![32, 0] (extractStridedSlice S64x256 ![64 * k.val, 0] p (slices_pair k)) slices_S64x256_o32_0_S32x256

/-- The rotated halves. -/
def rotA (p : FVec F S1536x256 .f32) (c s : Vec F S32x256 .f32) (k : Fin 16) : FVec F S32x256 .f32 := subf (mulf (lo p k) c) (mulf (hi p k) s)
def rotB (p : FVec F S1536x256 .f32) (c s : Vec F S32x256 .f32) (k : Fin 16) : FVec F S32x256 .f32 := addf (mulf (lo p k) s) (mulf (hi p k) c)

/-- A query's half, scaled, as stored. -/
def query (a : FVec F S32x256 .f32) : FVec F S1x1x32x256 .bf16 :=
  shapeCast S1x1x32x256 (truncf .bf16 (mulf a (broadcast S32x256 (Scalar.ofBits .f32 0x3E38AA3B#32))) bitsLt_bf16_f32) shapeCasts_S32x256_S1x1x32x256

/-- A key's half's square norms. -/
def square (a : FVec F S32x256 .f32) : FVec F S1x256 .f32 :=
  shapeCast S1x256 (multiReduction .add [0] S256 (mulf (extf .f32 (truncf .bf16 a bitsLt_bf16_f32) bitsLt_bf16_f32) (extf .f32 (truncf .bf16 a bitsLt_bf16_f32) bitsLt_bf16_f32)) 0x00000000#32 reduces_S32x256_S256 (.inl rfl) rfl) shapeCasts_S256_S1x256

/-- A key's square norms. -/
def norms (a b : FVec F S32x256 .f32) : FVec F S1x256 .f32 :=
  addf (addf (broadcast S1x256 (Scalar.ofBits .f32 0x00000000#32)) (square a)) (square b)

/-- Their largest, in every lane. -/
def largest (n : FVec F S1x256 .f32) : FVec F S1x128 .f32 :=
  broadcastTo S1x128 (shapeCast S1x1 (shapeCast S1x1 (multiReduction .maximumf [1] S1 n 0xFF800000#32 reduces_S1x256_S1 (.inl rfl) rfl) shapeCasts_S1_S1x1) shapeCasts_S1x1_S1x1) broadcasts_S1x1_S1x128

/-- Eight rows, one below the other. -/
def rows8 (n : Fin 8 → FVec F S1x128 .f32) : FVec F S8x128 .f32 :=
  concatenate S8x128 0 [⟨S1x128, n 0⟩, ⟨S1x128, n 1⟩, ⟨S1x128, n 2⟩, ⟨S1x128, n 3⟩, ⟨S1x128, n 4⟩, ⟨S1x128, n 5⟩, ⟨S1x128, n 6⟩, ⟨S1x128, n 7⟩] concatenates_S1x128_S1x128_S1x128_S1x128_S1x128_S1x128_S1x128_S1x128_S8x128_d0

/-- The eight keys' largest norms, as stored. -/
def peaks (n : Fin 8 → FVec F S1x128 .f32) : FVec F S1x1x8x128 .f32 := shapeCast S1x1x8x128 (rows8 n) shapeCasts_S8x128_S1x1x8x128

/-- The sixteen keys' halves, one below the other. -/
def stack (f : Fin 16 → FVec F S32x256 .f32) : FVec F S512x256 .f32 :=
  concatenate S512x256 0 [⟨S32x256, f 0⟩, ⟨S32x256, f 1⟩, ⟨S32x256, f 2⟩, ⟨S32x256, f 3⟩, ⟨S32x256, f 4⟩, ⟨S32x256, f 5⟩, ⟨S32x256, f 6⟩, ⟨S32x256, f 7⟩, ⟨S32x256, f 8⟩, ⟨S32x256, f 9⟩, ⟨S32x256, f 10⟩, ⟨S32x256, f 11⟩, ⟨S32x256, f 12⟩, ⟨S32x256, f 13⟩, ⟨S32x256, f 14⟩, ⟨S32x256, f 15⟩] concatenates_S32x256_S32x256_S32x256_S32x256_S32x256_S32x256_S32x256_S32x256_S32x256_S32x256_S32x256_S32x256_S32x256_S32x256_S32x256_S32x256_S512x256_d0

/-- The keys, as stored. -/
def keys (s : FVec F S512x256 .f32) : FVec F S1x256x512 .bf16 :=
  shapeCast S1x256x512 (transpose S256x512 [1, 0] (truncf .bf16 s bitsLt_bf16_f32) transposes_S512x256_p1_0_S256x512) shapeCasts_S256x512_S1x256x512

/-- One head's values, as stored. -/
def value (p : FVec F S1536x256 .f32) (k : Fin 4) : FVec F S1x1x128x256 .bf16 :=
  shapeCast S1x1x128x256 (truncf .bf16 (extractStridedSlice S128x256 ![1024 + 128 * k.val, 0] p (slices_vals k)) bitsLt_bf16_f32) shapeCasts_S128x256_S1x1x128x256

/-- The rows of ones below a head's values. -/
def ones : FVec F S1x1x16x256 .bf16 :=
  shapeCast S1x1x16x256 (broadcast S16x256 (Scalar.ofBits .bf16 0x3F80#16)) shapeCasts_S16x256_S1x1x16x256

/-- A key's half, its halves taken in turn: head `k / 2`, first half when `k` is even. -/
def keyHalf (p : FVec F S1536x256 .f32) (c s : Vec F S32x256 .f32) : Fin 16 → FVec F S32x256 .f32 :=
  ![rotA p c s 8, rotB p c s 8, rotA p c s 9, rotB p c s 9, rotA p c s 10, rotB p c s 10, rotA p c s 11, rotB p c s 11, rotA p c s 12, rotB p c s 12, rotA p c s 13, rotB p c s 13, rotA p c s 14, rotB p c s 14, rotA p c s 15, rotB p c s 15]

/-- A key's largest norm. -/
def peak (p : FVec F S1536x256 .f32) (c s : Vec F S32x256 .f32) (k : Fin 8) : FVec F S1x128 .f32 :=
  largest (norms (rotA p c s ⟨8 + k.val, by omega⟩) (rotB p c s ⟨8 + k.val, by omega⟩))

end Cert.Kernel6Ideal.Body

end
-- ==== Proof.OddPieces.lean ====
/- What one grid point leaves in the seven output blocks, piece by piece. -/
module

public import proofs.«01_k».proof.Proof.OddBody
public import Idealize.ShloMosaic.Lib.Pipeline.CanonAppend
public import Idealize.ShloMosaic.Lib.Pointwise

@[expose] public section

noncomputable section

namespace Cert.Kernel6Ideal.Body

open Cert.Kernel6Ideal Cert.Kernel6Ideal.Gen Idealize.ShloMosaic Idealize.ShloMosaic.TcCoe Idealize.SL.Sem

variable {F : FTy → Type} [FloatOps F]

theorem fits_tile : ∀ (s : Fin 4) (a : Fin 3), (![s.val, 0, 0] : Fin 3 → ℕ) a + S1x256x1024.size a ≤ S4x256x1024.size a := by decide
theorem fits_rows : ∀ (s : Fin 4) (a : Fin 3), (![s.val, 0, 0] : Fin 3 → ℕ) a + S1x8x1024.size a ≤ S4x8x1024.size a := by decide
theorem fits_mods : ∀ (s : Fin 4) (a : Fin 3), (![s.val, 0, 0] : Fin 3 → ℕ) a + S1x6x1024.size a ≤ S4x6x1024.size a := by decide
theorem fits_toks : ∀ (s : Fin 4) (a : Fin 3), (![s.val, 0, 0] : Fin 3 → ℕ) a + S1x256x512.size a ≤ S4x256x512.size a := by decide
theorem fits_half : ∀ (s : Fin 4) (k : Fin 16) (a : Fin 4), (![s.val, 0, 32 * k.val, 0] : Fin 4 → ℕ) a + S1x1x32x256.size a ≤ S4x1x512x256.size a := by decide
theorem fits_vals : ∀ (s h : Fin 4) (a : Fin 4), (![s.val, 0, 144 * h.val, 0] : Fin 4 → ℕ) a + S1x1x128x256.size a ≤ S4x1x576x256.size a := by decide
theorem fits_ones : ∀ (s h : Fin 4) (a : Fin 4), (![s.val, 0, 144 * h.val + 128, 0] : Fin 4 → ℕ) a + S1x1x16x256.size a ≤ S4x1x576x256.size a := by decide
theorem fits_peak : ∀ (s : Fin 4) (a : Fin 4), (![s.val, 0, 0, 0] : Fin 4 → ℕ) a + S1x1x8x128.size a ≤ S4x1x8x128.size a := by decide

abbrev tileBox (s : Fin 4) : Rect S4x256x1024 := Rect.unit ![s.val, 0, 0] S1x256x1024.size (fits_tile s)
abbrev rowsBox (s : Fin 4) : Rect S4x8x1024 := Rect.unit ![s.val, 0, 0] S1x8x1024.size (fits_rows s)
abbrev modsBox (s : Fin 4) : Rect S4x6x1024 := Rect.unit ![s.val, 0, 0] S1x6x1024.size (fits_mods s)
abbrev gainBox : Rect S1x1024 := Rect.unit ![0, 0] S1x1024.size inb_S1x1024_S1x1024_0_0
abbrev chanBox : Rect S1024x1536 := Rect.unit ![0, 0] S1024x1536.size inb_S1024x1536_S1024x1536_0_0
abbrev headBox : Rect S1536x1024 := Rect.unit ![0, 0] S1536x1024.size inb_S1536x1024_S1536x1024_0_0
abbrev tapsBox : Rect S3x1536 := Rect.unit ![0, 0] S3x1536.size inb_S3x1536_S3x1536_0_0
abbrev biasBox : Rect S1x1536 := Rect.unit ![0, 0] S1x1536.size inb_S1x1536_S1x1536_0_0
abbrev angleBox : Rect S32x256 := Rect.unit ![0, 0] S32x256.size inb_S32x256_S32x256_0_0
abbrev toksBox (s : Fin 4) : Rect S4x256x512 := Rect.unit ![s.val, 0, 0] S1x256x512.size (fits_toks s)
abbrev halfBox (s : Fin 4) (k : Fin 16) : Rect S4x1x512x256 := Rect.unit ![s.val, 0, 32 * k.val, 0] S1x1x32x256.size (fits_half s k)
abbrev valsBox (s h : Fin 4) : Rect S4x1x576x256 := Rect.unit ![s.val, 0, 144 * h.val, 0] S1x1x128x256.size (fits_vals s h)
abbrev onesBox (s h : Fin 4) : Rect S4x1x576x256 := Rect.unit ![s.val, 0, 144 * h.val + 128, 0] S1x1x16x256.size (fits_ones s h)
abbrev peakBox (s : Fin 4) : Rect S4x1x8x128 := Rect.unit ![s.val, 0, 0, 0] S1x1x8x128.size (fits_peak s)

/-- The convolution of one sample's tile, of the rows it reads. -/
def convOf (i : BitVec 32) (x : Vec F S1x256x1024 .f32) (p n : Vec F S1x8x1024 .f32) (md : Vec F S1x6x1024 .f32) (g : Vec F S1x1024 .f32)
    (w : Vec F S1024x1536 .bf16) (cw : Vec F S3x1536 .f32) (cb : Vec F S1x1536 .f32) : FVec F S256x1536 .f32 :=
  conv i (chan (ext (hid256 x md g) (hid8 p md g) (hid8 n md g)) w) cw cb

/-- The heads' channels of one sample's tile. -/
def headsOf (x : Vec F S1x256x1024 .f32) (md : Vec F S1x6x1024 .f32) (g : Vec F S1x1024 .f32) (w : Vec F S1536x1024 .bf16) : FVec F S1536x256 .f32 :=
  heads (hid256 x md g) w

/-- A query's half: head `k / 2`, first half when `k` is even. -/
def queryHalf (p : FVec F S1536x256 .f32) (c s : Vec F S32x256 .f32) : Fin 16 → FVec F S32x256 .f32 :=
  ![rotA p c s 0, rotB p c s 0, rotA p c s 1, rotB p c s 1, rotA p c s 2, rotB p c s 2, rotA p c s 3, rotB p c s 3, rotA p c s 4, rotB p c s 4, rotA p c s 5, rotB p c s 5, rotA p c s 6, rotB p c s 6, rotA p c s 7, rotB p c s 7]

/-- The stores of one block: the last of them first. -/
def samples : List (Fin 4) := [3, 2, 1, 0]
def halvesOrder : List (Fin 4 × Fin 16) := [(3, 15), (3, 14), (3, 13), (3, 12), (3, 11), (3, 10), (3, 9), (3, 8), (3, 7), (3, 6), (3, 5), (3, 4), (3, 3), (3, 2), (3, 1), (3, 0), (2, 15), (2, 14), (2, 13), (2, 12), (2, 11), (2, 10), (2, 9), (2, 8), (2, 7), (2, 6), (2, 5), (2, 4), (2, 3), (2, 2), (2, 1), (2, 0), (1, 15), (1, 14), (1, 13), (1, 12), (1, 11), (1, 10), (1, 9), (1, 8), (1, 7), (1, 6), (1, 5), (1, 4), (1, 3), (1, 2), (1, 1), (1, 0), (0, 15), (0, 14), (0, 13), (0, 12), (0, 11), (0, 10), (0, 9), (0, 8), (0, 7), (0, 6), (0, 5), (0, 4), (0, 3), (0, 2), (0, 1), (0, 0)]
def headsOrder : List (Fin 4 × Fin 4) := [(3, 3), (3, 2), (3, 1), (3, 0), (2, 3), (2, 2), (2, 1), (2, 0), (1, 3), (1, 2), (1, 1), (1, 0), (0, 3), (0, 2), (0, 1), (0, 0)]

abbrev toksPieces (P : Fin 4 → Vec F S1x256x512 .f32) : List (View.Piece (Elt F) S4x256x512 .f32) := samples.map fun s => ⟨toksBox s, P s⟩
abbrev keysPieces (P : Fin 4 → Vec F S1x256x512 .bf16) : List (View.Piece (Elt F) S4x256x512 .bf16) := samples.map fun s => ⟨toksBox s, P s⟩
abbrev peakPieces (P : Fin 4 → Vec F S1x1x8x128 .f32) : List (View.Piece (Elt F) S4x1x8x128 .f32) := samples.map fun s => ⟨peakBox s, P s⟩
abbrev halfPieces (P : Fin 4 → Fin 16 → Vec F S1x1x32x256 .bf16) : List (View.Piece (Elt F) S4x1x512x256 .bf16) :=
  halvesOrder.map fun a => ⟨halfBox a.1 a.2, P a.1 a.2⟩
abbrev valsPieces (P : Fin 4 → Fin 4 → Vec F S1x1x128x256 .bf16) (O : Vec F S1x1x16x256 .bf16) : List (View.Piece (Elt F) S4x1x576x256 .bf16) :=
  headsOrder.flatMap fun a => [⟨onesBox a.1 a.2, O⟩, ⟨valsBox a.1 a.2, P a.1 a.2⟩]

theorem mem_samples : ∀ s : Fin 4, s ∈ samples := by decide
theorem mem_halves : ∀ (s : Fin 4) (k : Fin 16), (s, k) ∈ halvesOrder := by decide +kernel
theorem mem_heads : ∀ (s h : Fin 4), (s, h) ∈ headsOrder := by decide +kernel

section Runs

variable (c : Dev nD) (i : grid0.Coords) (arg2 : Memref sig .tc .vmem S4x256x1024 .f32) (harg2 : arg2.IsWhole) (arg3 : Memref sig .tc .vmem S4x8x1024 .f32) (harg3 : arg3.IsWhole) (arg4 : Memref sig .tc .vmem S4x8x1024 .f32) (harg4 : arg4.IsWhole) (arg5 : Memref sig .tc .vmem S4x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1536x1024 .bf16) (harg8 : arg8.IsWhole) (arg9 : Memref sig .tc .vmem S3x1536 .f32) (harg9 : arg9.IsWhole) (arg10 : Memref sig .tc .vmem S1x1536 .f32) (harg10 : arg10.IsWhole) (arg11 : Memref sig .tc .vmem S32x256 .f32) (harg11 : arg11.IsWhole) (arg12 : Memref sig .tc .vmem S32x256 .f32) (harg12 : arg12.IsWhole) (arg13 : Memref sig .tc .vmem S4x256x512 .f32) (harg13 : arg13.IsWhole) (arg14 : Memref sig .tc .vmem S4x256x512 .f32) (harg14 : arg14.IsWhole) (arg15 : Memref sig .tc .vmem S4x256x512 .f32) (harg15 : arg15.IsWhole) (arg16 : Memref sig .tc .vmem S4x1x512x256 .bf16) (harg16 : arg16.IsWhole) (arg17 : Memref sig .tc .vmem S4x256x512 .bf16) (harg17 : arg17.IsWhole) (arg18 : Memref sig .tc .vmem S4x1x576x256 .bf16) (harg18 : arg18.IsWhole) (arg19 : Memref sig .tc .vmem S4x1x8x128 .f32) (harg19 : arg19.IsWhole)
    (x0 : Vec F S4x256x1024 .f32) (x1 : Vec F S4x8x1024 .f32) (x2 : Vec F S4x8x1024 .f32) (x3 : Vec F S4x6x1024 .f32) (x4 : Vec F S1x1024 .f32) (x5 : Vec F S1024x1536 .bf16) (x6 : Vec F S1536x1024 .bf16) (x7 : Vec F S3x1536 .f32) (x8 : Vec F S1x1536 .f32) (x9 : Vec F S32x256 .f32) (x10 : Vec F S32x256 .f32)

set_option maxRecDepth 8192 in
theorem out_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (toksPieces (fun s => third (convOf (BitVec.ofNat 32 (i 1).val) (View.ld x0 (tileBox s)) (View.ld x1 (rowsBox s)) (View.ld x2 (rowsBox s)) (View.ld x3 (modsBox s)) (View.ld x4 gainBox) (View.ld x5 chanBox) (View.ld x7 tapsBox) (View.ld x8 biasBox)) 0)) := by
  have e : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (toksPieces (fun s => third (convOf (BitVec.ofNat 32 (i 1).val) (View.readAt (Elt F) arg2.view (tileBox s).toLoadRect (harg2.unread x0)) (View.readAt (Elt F) arg3.view (rowsBox s).toLoadRect (harg3.unread x1)) (View.readAt (Elt F) arg4.view (rowsBox s).toLoadRect (harg4.unread x2)) (View.readAt (Elt F) arg5.view (modsBox s).toLoadRect (harg5.unread x3)) (View.readAt (Elt F) arg6.view gainBox.toLoadRect (harg6.unread x4)) (View.readAt (Elt F) arg7.view chanBox.toLoadRect (harg7.unread x5)) (View.readAt (Elt F) arg9.view tapsBox.toLoadRect (harg9.unread x7)) (View.readAt (Elt F) arg10.view biasBox.toLoadRect (harg10.unread x8))) 0)) := by
    unfold out0_A_11 kernelRun0_A
    dsimp only
    rw [View.read_writes_junk_eq_canon]
    rfl
  rw [e]
  simp only [View.readAt_eq_ld, Memref.IsWhole.read_unread]

set_option maxRecDepth 8192 in
theorem out_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (toksPieces (fun s => third (convOf (BitVec.ofNat 32 (i 1).val) (View.ld x0 (tileBox s)) (View.ld x1 (rowsBox s)) (View.ld x2 (rowsBox s)) (View.ld x3 (modsBox s)) (View.ld x4 gainBox) (View.ld x5 chanBox) (View.ld x7 tapsBox) (View.ld x8 biasBox)) 1)) := by
  have e : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (toksPieces (fun s => third (convOf (BitVec.ofNat 32 (i 1).val) (View.readAt (Elt F) arg2.view (tileBox s).toLoadRect (harg2.unread x0)) (View.readAt (Elt F) arg3.view (rowsBox s).toLoadRect (harg3.unread x1)) (View.readAt (Elt F) arg4.view (rowsBox s).toLoadRect (harg4.unread x2)) (View.readAt (Elt F) arg5.view (modsBox s).toLoadRect (harg5.unread x3)) (View.readAt (Elt F) arg6.view gainBox.toLoadRect (harg6.unread x4)) (View.readAt (Elt F) arg7.view chanBox.toLoadRect (harg7.unread x5)) (View.readAt (Elt F) arg9.view tapsBox.toLoadRect (harg9.unread x7)) (View.readAt (Elt F) arg10.view biasBox.toLoadRect (harg10.unread x8))) 1)) := by
    unfold out0_A_12 kernelRun0_A
    dsimp only
    rw [View.read_writes_junk_eq_canon]
    rfl
  rw [e]
  simp only [View.readAt_eq_ld, Memref.IsWhole.read_unread]

set_option maxRecDepth 8192 in
theorem out_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (toksPieces (fun s => third (convOf (BitVec.ofNat 32 (i 1).val) (View.ld x0 (tileBox s)) (View.ld x1 (rowsBox s)) (View.ld x2 (rowsBox s)) (View.ld x3 (modsBox s)) (View.ld x4 gainBox) (View.ld x5 chanBox) (View.ld x7 tapsBox) (View.ld x8 biasBox)) 2)) := by
  have e : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (toksPieces (fun s => third (convOf (BitVec.ofNat 32 (i 1).val) (View.readAt (Elt F) arg2.view (tileBox s).toLoadRect (harg2.unread x0)) (View.readAt (Elt F) arg3.view (rowsBox s).toLoadRect (harg3.unread x1)) (View.readAt (Elt F) arg4.view (rowsBox s).toLoadRect (harg4.unread x2)) (View.readAt (Elt F) arg5.view (modsBox s).toLoadRect (harg5.unread x3)) (View.readAt (Elt F) arg6.view gainBox.toLoadRect (harg6.unread x4)) (View.readAt (Elt F) arg7.view chanBox.toLoadRect (harg7.unread x5)) (View.readAt (Elt F) arg9.view tapsBox.toLoadRect (harg9.unread x7)) (View.readAt (Elt F) arg10.view biasBox.toLoadRect (harg10.unread x8))) 2)) := by
    unfold out0_A_13 kernelRun0_A
    dsimp only
    rw [View.read_writes_junk_eq_canon]
    rfl
  rw [e]
  simp only [View.readAt_eq_ld, Memref.IsWhole.read_unread]

set_option maxRecDepth 8192 in
theorem out_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (halfPieces (fun s k => query (queryHalf (headsOf (View.ld x0 (tileBox s)) (View.ld x3 (modsBox s)) (View.ld x4 gainBox) (View.ld x6 headBox)) (View.ld x9 angleBox) (View.ld x10 angleBox) k))) := by
  have e : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (halfPieces (fun s k => query (queryHalf (headsOf (View.readAt (Elt F) arg2.view (tileBox s).toLoadRect (harg2.unread x0)) (View.readAt (Elt F) arg5.view (modsBox s).toLoadRect (harg5.unread x3)) (View.readAt (Elt F) arg6.view gainBox.toLoadRect (harg6.unread x4)) (View.readAt (Elt F) arg8.view headBox.toLoadRect (harg8.unread x6))) (View.readAt (Elt F) arg11.view angleBox.toLoadRect (harg11.unread x9)) (View.readAt (Elt F) arg12.view angleBox.toLoadRect (harg12.unread x10)) k))) := by
    unfold out0_A_14 kernelRun0_A
    dsimp only
    rw [View.read_writes_junk_eq_canon]
    rfl
  rw [e]
  simp only [View.readAt_eq_ld, Memref.IsWhole.read_unread]

set_option maxRecDepth 8192 in
theorem out_15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (keysPieces (fun s => keys (stack (keyHalf (headsOf (View.ld x0 (tileBox s)) (View.ld x3 (modsBox s)) (View.ld x4 gainBox) (View.ld x6 headBox)) (View.ld x9 angleBox) (View.ld x10 angleBox))))) := by
  have e : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (keysPieces (fun s => keys (stack (keyHalf (headsOf (View.readAt (Elt F) arg2.view (tileBox s).toLoadRect (harg2.unread x0)) (View.readAt (Elt F) arg5.view (modsBox s).toLoadRect (harg5.unread x3)) (View.readAt (Elt F) arg6.view gainBox.toLoadRect (harg6.unread x4)) (View.readAt (Elt F) arg8.view headBox.toLoadRect (harg8.unread x6))) (View.readAt (Elt F) arg11.view angleBox.toLoadRect (harg11.unread x9)) (View.readAt (Elt F) arg12.view angleBox.toLoadRect (harg12.unread x10)))))) := by
    unfold out0_A_15 kernelRun0_A
    dsimp only
    rw [View.read_writes_junk_eq_canon]
    rfl
  rw [e]
  simp only [View.readAt_eq_ld, Memref.IsWhole.read_unread]

set_option maxRecDepth 8192 in
theorem out_16 : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (valsPieces (fun s h => value (headsOf (View.ld x0 (tileBox s)) (View.ld x3 (modsBox s)) (View.ld x4 gainBox) (View.ld x6 headBox)) h) ones) := by
  have e : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (valsPieces (fun s h => value (headsOf (View.readAt (Elt F) arg2.view (tileBox s).toLoadRect (harg2.unread x0)) (View.readAt (Elt F) arg5.view (modsBox s).toLoadRect (harg5.unread x3)) (View.readAt (Elt F) arg6.view gainBox.toLoadRect (harg6.unread x4)) (View.readAt (Elt F) arg8.view headBox.toLoadRect (harg8.unread x6))) h) ones) := by
    unfold out0_A_16 kernelRun0_A
    dsimp only
    rw [View.read_writes_junk_eq_canon]
    rfl
  rw [e]
  simp only [View.readAt_eq_ld, Memref.IsWhole.read_unread]

set_option maxRecDepth 8192 in
theorem out_17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (peakPieces (fun s => peaks (peak (headsOf (View.ld x0 (tileBox s)) (View.ld x3 (modsBox s)) (View.ld x4 gainBox) (View.ld x6 headBox)) (View.ld x9 angleBox) (View.ld x10 angleBox)))) := by
  have e : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 = View.canon (peakPieces (fun s => peaks (peak (headsOf (View.readAt (Elt F) arg2.view (tileBox s).toLoadRect (harg2.unread x0)) (View.readAt (Elt F) arg5.view (modsBox s).toLoadRect (harg5.unread x3)) (View.readAt (Elt F) arg6.view gainBox.toLoadRect (harg6.unread x4)) (View.readAt (Elt F) arg8.view headBox.toLoadRect (harg8.unread x6))) (View.readAt (Elt F) arg11.view angleBox.toLoadRect (harg11.unread x9)) (View.readAt (Elt F) arg12.view angleBox.toLoadRect (harg12.unread x10))))) := by
    unfold out0_A_17 kernelRun0_A
    dsimp only
    rw [View.read_writes_junk_eq_canon]
    rfl
  rw [e]
  simp only [View.readAt_eq_ld, Memref.IsWhole.read_unread]

end Runs

end Cert.Kernel6Ideal.Body

end
-- ==== Proof.OddSpec.lean ====
/- The entry of an odd layer, written once over the extended reals: one normalized and modulated token times the input
   projection, the short convolution along the tokens, the rotated queries and keys, the keys' largest square norm in a
   tile of 256 tokens, and the values with the rows of ones appended to each head. -/
module

public import proofs.«01_k».proof.Proof.PostSpec

@[expose] public section

noncomputable section

namespace Cert.OddSpec

open Idealize.ShloMosaic

/-- A token's modulations in the table of eight rows: the sample's own, or the sample's context's. -/
def modRow (b : Fin 4) (t : Fin 8448) : Fin 8 := if t.val < 256 then ⟨4 + b.val, by omega⟩ else ⟨b.val, by omega⟩

/-- A token's row: normalized and modulated. -/
def hrow (x : Fin 4 → Fin 8448 → Fin 1024 → EReal) (md : Fin 8 → Fin 6 → Fin 1024 → EReal) (g : Fin 1024 → EReal)
    (b : Fin 4) (t : Fin 8448) : Fin 1024 → EReal :=
  PostSpec.hid (x b t) g (md (modRow b t) 1) (md (modRow b t) 0)

/-- One entry of the input projection. -/
def proj (x : Fin 4 → Fin 8448 → Fin 1024 → EReal) (md : Fin 8 → Fin 6 → Fin 1024 → EReal) (g : Fin 1024 → EReal)
    (w : Fin 1024 → Fin 3072 → EReal) (b : Fin 4) (t : Fin 8448) (n : Fin 3072) : EReal :=
  ∑ k, hrow x md g b t k * w k n

/-- The token before, and nothing at either sequence's first token. -/
def before (f : Fin 8448 → EReal) (t : Fin 8448) : EReal :=
  if t.val = 0 ∨ t.val = 256 then 0 else f ⟨t.val - 1, by omega⟩

/-- The token after, and nothing at either sequence's last token. -/
def after (f : Fin 8448 → EReal) (t : Fin 8448) : EReal :=
  if h : t.val = 255 ∨ t.val = 8447 then 0 else f ⟨t.val + 1, by omega⟩

/-- The convolution of width three along the tokens of one channel. -/
def conv (f : Fin 8448 → EReal) (w : Fin 3 → EReal) (v : EReal) (t : Fin 8448) : EReal :=
  before f t * w 0 + f t * w 1 + after f t * w 2 + v

/-- The two halves of one rotated pair. -/
def rotA (a : Fin 512 → EReal) (c s : Fin 32 → EReal) (h : Fin 8) (j : Fin 32) : EReal :=
  a ⟨h.val * 64 + 2 * j.val, by omega⟩ * c j - a ⟨h.val * 64 + 2 * j.val + 1, by omega⟩ * s j
def rotB (a : Fin 512 → EReal) (c s : Fin 32 → EReal) (h : Fin 8) (j : Fin 32) : EReal :=
  a ⟨h.val * 64 + 2 * j.val, by omega⟩ * s j + a ⟨h.val * 64 + 2 * j.val + 1, by omega⟩ * c j

/-- A token's rotated heads: each head's first halves, then its second halves. -/
def rot (a : Fin 512 → EReal) (c s : Fin 32 → EReal) (k : Fin 512) : EReal :=
  if k.val % 64 < 32 then rotA a c s ⟨k.val / 64, by omega⟩ ⟨k.val % 32, by omega⟩
  else rotB a c s ⟨k.val / 64, by omega⟩ ⟨k.val % 32, by omega⟩

/-- A head's square norm. -/
def nrm (a : Fin 512 → EReal) (c s : Fin 32 → EReal) (h : Fin 8) : EReal :=
  (∑ j, rotA a c s h j * rotA a c s h j) + ∑ j, rotB a c s h j * rotB a c s h j

/-- The largest over a tile. -/
def top (f : Fin 256 → EReal) : EReal := Finset.univ.fold max (Ideal.ofBits .f32 0xFF800000#32) f

/-- The values' rows with ones after each head's 128. -/
def vals (a : Fin 512 → EReal) (k : Fin 576) : EReal :=
  if h : k.val % 144 < 128 then a ⟨k.val / 144 * 128 + k.val % 144, by omega⟩ else 1

/-- The channels of the projection that are queries, keys and values. -/
def qs (p : Fin 3072 → EReal) (k : Fin 512) : EReal := p ⟨1536 + k.val, by omega⟩
def ks (p : Fin 3072 → EReal) (k : Fin 512) : EReal := p ⟨2048 + k.val, by omega⟩
def vs (p : Fin 3072 → EReal) (k : Fin 512) : EReal := p ⟨2560 + k.val, by omega⟩

/-- The token at a place of a tile. -/
def tok (j : Fin 33) (r : Fin 256) : Fin 8448 := ⟨j.val * 256 + r.val, by omega⟩

end Cert.OddSpec

end
-- ==== Proof.OddBodyAt.lean ====
/- The body of the odd layers' entry read over the extended reals, function by function. -/
module

public import proofs.«01_k».proof.Proof.OddBody
public import proofs.«01_k».proof.Proof.OddSpec
public import Idealize.ShloMosaic.Lib.Pointwise
public import Idealize.ShloMosaic.Lib.KernelVsHost

@[expose] public section

noncomputable section

namespace Cert.Kernel6Ideal.Body

open Cert.Kernel6Ideal Cert.Kernel6Ideal.Gen Idealize.ShloMosaic Idealize.ShloMosaic.TcCoe

theorem hid256_at (x : Vec Ideal S1x256x1024 .f32) (md : Vec Ideal S1x6x1024 .f32) (g : Vec Ideal S1x1024 .f32) (r : Fin 256) (k : Fin 1024) :
    hid256 x md g (ix2 r k) = PostSpec.hid (fun k => x (ix3 0 r k)) (fun k => g (ix2 0 k)) (fun k => md (ix3 0 1 k)) (fun k => md (ix3 0 0 k)) k := by
  unfold PostSpec.hid PostSpec.rms
  pointwise [hid256]

theorem hid8_at (x : Vec Ideal S1x8x1024 .f32) (md : Vec Ideal S1x6x1024 .f32) (g : Vec Ideal S1x1024 .f32) (r : Fin 8) (k : Fin 1024) :
    hid8 x md g (ix2 r k) = PostSpec.hid (fun k => x (ix3 0 r k)) (fun k => g (ix2 0 k)) (fun k => md (ix3 0 1 k)) (fun k => md (ix3 0 0 k)) k := by
  unfold PostSpec.hid PostSpec.rms
  pointwise [hid8]

theorem ext_at (h : FVec Ideal S256x1024 .bf16) (p n : FVec Ideal S8x1024 .bf16) (r : Fin 272) (k : Fin 1024) :
    ext h p n (ix2 r k) = if h1 : r.val < 256 then h (ix2 ⟨r.val, h1⟩ k) else if h2 : r.val - 256 < 8 then p (ix2 ⟨r.val - 256, h2⟩ k)
      else n (ix2 ⟨r.val - 256 - 8, by omega⟩ k) := by
  pointwise [ext]

theorem chan_at (e : FVec Ideal S272x1024 .bf16) (w : Vec Ideal S1024x1536 .bf16) (r : Fin 272) (n : Fin 1536) :
    chan e w (ix2 r n) = ∑ k : Fin 1024, e (ix2 r k) * w (ix2 k n) := by
  have h : chan e w (ix2 r n) = Ideal.ofBits .f32 0x00000000#32 + ∑ k : Fin 1024, e (ix2 r k) * w (ix2 k n) := by
    pointwise [chan]
  rw [h, Ideal.ofBits_zero_f32, zero_add]

theorem heads_at (e : FVec Ideal S256x1024 .bf16) (w : Vec Ideal S1536x1024 .bf16) (n : Fin 1536) (r : Fin 256) :
    heads e w (ix2 n r) = ∑ k : Fin 1024, w (ix2 n k) * e (ix2 r k) := by
  have h : heads e w (ix2 n r) = Ideal.ofBits .f32 0x00000000#32 + ∑ k : Fin 1024, w (ix2 n k) * e (ix2 r k) := by
    pointwise [heads]
  rw [h, Ideal.ofBits_zero_f32, zero_add]

theorem bits_or (p q : Prop) [Decidable p] [Decidable q] :
    Scalar.ori (if p then 1#1 else 0#1) (if q then 1#1 else 0#1) = if p ∨ q then 1#1 else 0#1 := by
  by_cases hp : p <;> by_cases hq : q <;> simp [hp, hq] <;> rfl

/-- Whether a tile is one of two. -/
theorem either (i a : ℕ) (hi : i < 33) (ha : a < 33) :
    Scalar.ori (Scalar.cmpi .eq (BitVec.ofNat 32 i) 0#32) (Scalar.cmpi .eq (BitVec.ofNat 32 i) (BitVec.ofNat 32 a)) = if i = 0 ∨ i = a then 1#1 else 0#1 := by
  have e (b : ℕ) (hb : b < 33) : Scalar.cmpi .eq (BitVec.ofNat 32 i) (BitVec.ofNat 32 b) = if i = b then 1#1 else 0#1 := by
    have q : BitVec.ofNat 32 i = BitVec.ofNat 32 b ↔ i = b := by
      rw [← BitVec.toNat_inj, BitVec.toNat_ofNat, BitVec.toNat_ofNat, Nat.mod_eq_of_lt (by omega), Nat.mod_eq_of_lt (by omega)]
    by_cases h : i = b
    · rw [if_pos h]; unfold Scalar.cmpi IntOp.cmpi; simp [q.mpr h]
    · rw [if_neg h]; unfold Scalar.cmpi IntOp.cmpi; rw [beq_false_of_ne (mt q.mp h)]; rfl
  rw [e a ha, show (0#32 : BitVec 32) = BitVec.ofNat 32 0 from rfl, e 0 (by omega)]
  exact bits_or (i = 0) (i = a)

theorem rowBefore_at (i : ℕ) (hi : i < 33) (u : FVec Ideal S272x1536 .f32) (n : Fin 1536) :
    rowBefore (BitVec.ofNat 32 i) u (ix2 0 n) = if i = 0 ∨ i = 1 then 0 else u (ix2 263 n) := by
  unfold rowBefore
  rw [show (1#32 : BitVec 32) = BitVec.ofNat 32 1 from rfl, either i 1 hi (by omega)]
  by_cases h : i = 0 ∨ i = 1
  · rw [if_pos h, if_pos h]; exact Ideal.ofBits_zero_f32
  · rw [if_neg h, if_neg h]
    show extractStridedSlice S1x1536 ![263, 0] u slices_S272x1536_o263_0_S1x1536 (ix2 0 n) = _
    pointwise []

theorem rowAfter_at (i : ℕ) (hi : i < 33) (u : FVec Ideal S272x1536 .f32) (n : Fin 1536) :
    rowAfter (BitVec.ofNat 32 i) u (ix2 0 n) = if i = 0 ∨ i = 32 then 0 else u (ix2 264 n) := by
  unfold rowAfter
  rw [show (32#32 : BitVec 32) = BitVec.ofNat 32 32 from rfl, either i 32 hi (by omega)]
  by_cases h : i = 0 ∨ i = 32
  · rw [if_pos h, if_pos h]; exact Ideal.ofBits_zero_f32
  · rw [if_neg h, if_neg h]
    show extractStridedSlice S1x1536 ![264, 0] u slices_S272x1536_o264_0_S1x1536 (ix2 0 n) = _
    pointwise []

theorem mid_at (u : FVec Ideal S272x1536 .f32) (r : Fin 256) (n : Fin 1536) : mid u (ix2 r n) = u (ix2 ⟨r.val, by omega⟩ n) := by
  pointwise [mid]

/-- Whether a row is the one named. -/
theorem isRow (r : Fin 256) (n : Fin 1536) (a : ℕ) (ha : a < 256) :
    cmpi .eq (iota .tc S256x1536 32 [0] iota_S256x1536_d0_w32) (broadcast S256x1536 (BitVec.ofNat 32 a)) (ix2 r n) = if r.val = a then 1#1 else 0#1 := by
  have e : cmpi .eq (iota .tc S256x1536 32 [0] iota_S256x1536_d0_w32) (broadcast S256x1536 (BitVec.ofNat 32 a)) (ix2 r n)
      = IntOp.cmpi .eq (BitVec.ofNat 32 r.val) (BitVec.ofNat 32 a) := by
    pointwise []
  rw [e]
  have q : BitVec.ofNat 32 r.val = BitVec.ofNat 32 a ↔ r.val = a := by
    have := r.isLt
    rw [← BitVec.toNat_inj, BitVec.toNat_ofNat, BitVec.toNat_ofNat, Nat.mod_eq_of_lt (by omega), Nat.mod_eq_of_lt (by omega)]
  by_cases h : r.val = a
  · rw [if_pos h]; unfold IntOp.cmpi; simp [q.mpr h]
  · rw [if_neg h]; unfold IntOp.cmpi; rw [beq_false_of_ne (mt q.mp h)]; rfl

theorem row_at (v : FVec Ideal S1x1536 .f32) (r : Fin 256) (n : Fin 1536) :
    broadcastTo S256x1536 (shapeCast S1x1536 v shapeCasts_S1x1536_S1x1536) broadcasts_S1x1536_S256x1536 (ix2 r n) = v (ix2 0 n) := by
  pointwise []

theorem up_at (u : FVec Ideal S256x1536 .f32) (v : FVec Ideal S1x1536 .f32) (r : Fin 256) (n : Fin 1536) :
    up u v (ix2 r n) = if r.val = 0 then v (ix2 0 n) else u (ix2 ⟨r.val - 1, by omega⟩ n) := by
  unfold up
  show Scalar.select (cmpi .eq (iota .tc S256x1536 32 [0] iota_S256x1536_d0_w32) (broadcast S256x1536 (BitVec.ofNat 32 0)) (ix2 r n)) _ _ = _
  rw [isRow r n 0 (by omega)]
  by_cases h : r.val = 0
  · rw [if_pos h, if_pos h]; exact row_at v r n
  · rw [if_neg h, if_neg h]
    refine dynamicRotate_apply 0 1#32 u rotates_S256x1536_d0 _ (ix2 ⟨r.val - 1, by omega⟩ n) fun b => ?_
    match b with
    | ⟨0, _⟩ => exact (show r.val - 1 = (r.val + 256 - 1 % 256) % 256 by have := r.isLt; omega)
    | ⟨1, _⟩ => rfl

theorem down_at (u : FVec Ideal S256x1536 .f32) (v : FVec Ideal S1x1536 .f32) (r : Fin 256) (n : Fin 1536) :
    down u v (ix2 r n) = if h : r.val = 255 then v (ix2 0 n) else u (ix2 ⟨r.val + 1, by omega⟩ n) := by
  unfold down
  show Scalar.select (cmpi .eq (iota .tc S256x1536 32 [0] iota_S256x1536_d0_w32) (broadcast S256x1536 (BitVec.ofNat 32 255)) (ix2 r n)) _ _ = _
  rw [isRow r n 255 (by omega)]
  by_cases h : r.val = 255
  · rw [if_pos h, dif_pos h]; exact row_at v r n
  · rw [if_neg h, dif_neg h]
    refine dynamicRotate_apply 0 255#32 u rotates_S256x1536_d0 _ (ix2 ⟨r.val + 1, by omega⟩ n) fun b => ?_
    match b with
    | ⟨0, _⟩ => exact (show r.val + 1 = (r.val + 256 - 255 % 256) % 256 by have := r.isLt; omega)
    | ⟨1, _⟩ => rfl

theorem mix_at (a u d : FVec Ideal S256x1536 .f32) (w : Vec Ideal S3x1536 .f32) (v : Vec Ideal S1x1536 .f32) (r : Fin 256) (n : Fin 1536) :
    mix a u d w v (ix2 r n) = a (ix2 r n) * w (ix2 0 n) + u (ix2 r n) * w (ix2 1 n) + d (ix2 r n) * w (ix2 2 n) + v (ix2 0 n) := by
  pointwise [mix]

theorem conv_at (i : ℕ) (hi : i < 33) (u : FVec Ideal S272x1536 .f32) (w : Vec Ideal S3x1536 .f32) (v : Vec Ideal S1x1536 .f32) (r : Fin 256) (n : Fin 1536) :
    conv (BitVec.ofNat 32 i) u w v (ix2 r n)
      = (if r.val = 0 then if i = 0 ∨ i = 1 then 0 else u (ix2 263 n) else u (ix2 ⟨r.val - 1, by omega⟩ n)) * w (ix2 0 n)
        + u (ix2 ⟨r.val, by omega⟩ n) * w (ix2 1 n)
        + (if r.val = 255 then if i = 0 ∨ i = 32 then 0 else u (ix2 264 n) else u (ix2 ⟨r.val + 1, by omega⟩ n)) * w (ix2 2 n) + v (ix2 0 n) := by
  unfold conv
  rw [mix_at, up_at, down_at, mid_at, mid_at, rowBefore_at i hi, rowAfter_at i hi]
  refine congrArg₂ (· + ·) (congrArg₂ (· + ·) rfl (congrArg (· * _) ?_)) rfl
  by_cases h : r.val = 255
  · rw [dif_pos h, if_pos h]
  · rw [dif_neg h, if_neg h, mid_at]

theorem third_at (c : FVec Ideal S256x1536 .f32) (k : Fin 3) (r : Fin 256) (n : Fin 512) :
    third c k (ix3 0 r n) = c (ix2 r ⟨512 * k.val + n.val, by omega⟩) := by
  fin_cases k <;> pointwise [third]

theorem lo_at (p : FVec Ideal S1536x256 .f32) (k : Fin 16) (j : Fin 32) (r : Fin 256) : lo p k (ix2 j r) = p (ix2 ⟨64 * k.val + j.val, by omega⟩ r) := by
  unfold lo
  rw [extractStridedSlice_apply _ _ _ _ (ix2 ⟨j.val, by omega⟩ r) (fun a => by match a with | ⟨0, _⟩ => exact (show j.val = 0 + j.val by omega) | ⟨1, _⟩ => exact (show r.val = 0 + r.val by omega))]
  exact extractStridedSlice_apply _ _ _ _ _ (fun a => by match a with | ⟨0, _⟩ => rfl | ⟨1, _⟩ => exact (show r.val = 0 + r.val by omega))
theorem hi_at (p : FVec Ideal S1536x256 .f32) (k : Fin 16) (j : Fin 32) (r : Fin 256) : hi p k (ix2 j r) = p (ix2 ⟨64 * k.val + (32 + j.val), by omega⟩ r) := by
  unfold hi
  rw [extractStridedSlice_apply _ _ _ _ (ix2 ⟨32 + j.val, by omega⟩ r) (fun a => by match a with | ⟨0, _⟩ => rfl | ⟨1, _⟩ => exact (show r.val = 0 + r.val by omega))]
  exact extractStridedSlice_apply _ _ _ _ _ (fun a => by match a with | ⟨0, _⟩ => rfl | ⟨1, _⟩ => exact (show r.val = 0 + r.val by omega))

theorem rotA_at (p : FVec Ideal S1536x256 .f32) (c s : Vec Ideal S32x256 .f32) (k : Fin 16) (j : Fin 32) (r : Fin 256) :
    rotA p c s k (ix2 j r) = p (ix2 ⟨64 * k.val + j.val, by omega⟩ r) * c (ix2 j r) - p (ix2 ⟨64 * k.val + (32 + j.val), by omega⟩ r) * s (ix2 j r) := by
  rw [← lo_at p k j r, ← hi_at p k j r]; rfl
theorem rotB_at (p : FVec Ideal S1536x256 .f32) (c s : Vec Ideal S32x256 .f32) (k : Fin 16) (j : Fin 32) (r : Fin 256) :
    rotB p c s k (ix2 j r) = p (ix2 ⟨64 * k.val + j.val, by omega⟩ r) * s (ix2 j r) + p (ix2 ⟨64 * k.val + (32 + j.val), by omega⟩ r) * c (ix2 j r) := by
  rw [← lo_at p k j r, ← hi_at p k j r]; rfl

theorem query_at (a : FVec Ideal S32x256 .f32) (j : Fin 32) (r : Fin 256) :
    query a (ix4 0 0 j r) = a (ix2 j r) * Ideal.ofBits .f32 0x3E38AA3B#32 := by
  pointwise [query]

theorem square_at (a : FVec Ideal S32x256 .f32) (r : Fin 256) : square a (ix2 0 r) = ∑ j : Fin 32, a (ix2 j r) * a (ix2 j r) := by
  pointwise [square]

theorem norms_at (a b : FVec Ideal S32x256 .f32) (r : Fin 256) :
    norms a b (ix2 0 r) = (∑ j : Fin 32, a (ix2 j r) * a (ix2 j r)) + ∑ j : Fin 32, b (ix2 j r) * b (ix2 j r) := by
  rw [← square_at, ← square_at]
  have h : norms a b (ix2 0 r) = Ideal.ofBits .f32 0x00000000#32 + square a (ix2 0 r) + square b (ix2 0 r) := rfl
  rw [h, Ideal.ofBits_zero_f32, zero_add]

theorem largest_at (n : FVec Ideal S1x256 .f32) (l : Fin 128) : largest n (ix2 0 l) = OddSpec.top fun r => n (ix2 0 r) := by
  unfold OddSpec.top
  pointwise [largest]

theorem rows8_at (n : Fin 8 → FVec Ideal S1x128 .f32) (h : Fin 8) (l : Fin 128) : rows8 n (ix2 h l) = n h (ix2 0 l) :=
  concatenate_ofFn_apply 0 (fun i : Fin 8 => n i) concatenates_S1x128_S1x128_S1x128_S1x128_S1x128_S1x128_S1x128_S1x128_S8x128_d0 rfl 1 rfl (ix2 h l) h
    (by show h.val / 1 = h.val; omega) (ix2 0 l) (by show 0 = h.val % 1; omega) (fun b hb => by
      match b with
      | ⟨0, _⟩ => exact absurd rfl hb
      | ⟨1, _⟩ => rfl)

theorem peaks_at (n : Fin 8 → FVec Ideal S1x128 .f32) (h : Fin 8) (l : Fin 128) : peaks n (ix4 0 0 h l) = n h (ix2 0 l) := by
  rw [← rows8_at n h l]
  pointwise [peaks]

theorem stack_at (f : Fin 16 → FVec Ideal S32x256 .f32) (k : Fin 512) (r : Fin 256) :
    stack f (ix2 k r) = f ⟨k.val / 32, by omega⟩ (ix2 ⟨k.val % 32, by omega⟩ r) :=
  concatenate_ofFn_apply 0 (fun i : Fin 16 => f i) concatenates_S32x256_S32x256_S32x256_S32x256_S32x256_S32x256_S32x256_S32x256_S32x256_S32x256_S32x256_S32x256_S32x256_S32x256_S32x256_S32x256_S512x256_d0 rfl 32 rfl (ix2 k r) ⟨k.val / 32, by omega⟩
    rfl (ix2 ⟨k.val % 32, by omega⟩ r) rfl (fun b hb => by
      match b with
      | ⟨0, _⟩ => exact absurd rfl hb
      | ⟨1, _⟩ => rfl)

theorem keys_at (s : FVec Ideal S512x256 .f32) (r : Fin 256) (k : Fin 512) : keys s (ix3 0 r k) = s (ix2 k r) := by
  pointwise [keys]

theorem value_at (p : FVec Ideal S1536x256 .f32) (k : Fin 4) (j : Fin 128) (r : Fin 256) :
    value p k (ix4 0 0 j r) = p (ix2 ⟨1024 + 128 * k.val + j.val, by omega⟩ r) := by
  fin_cases k <;> pointwise [value]

theorem ones_at (j : Fin 16) (r : Fin 256) : ones (F := Ideal) (ix4 0 0 j r) = 1 := by
  have h : ones (F := Ideal) (ix4 0 0 j r) = Ideal.ofBits .bf16 0x3F80#16 := by
    pointwise [ones]
  rw [h, Ideal.ofBits_one_bf16]

end Cert.Kernel6Ideal.Body

end
-- ==== Proof.OddTile.lean ====
/- What one tile of the odd layers' entry stores, from the rows it reads. -/
module

public import proofs.«01_k».proof.Proof.OddPieces
public import proofs.«01_k».proof.Proof.OddBodyAt

@[expose] public section

noncomputable section

namespace Cert.Kernel6Ideal.Body

open Cert.Kernel6Ideal Cert.Kernel6Ideal.Gen Idealize.ShloMosaic Idealize.ShloMosaic.TcCoe Idealize.SL.Sem

/-- The projection's column a head's channel is made of: queries and keys with a pair's first dimensions before its second ones. -/
def perm (k : ℕ) : ℕ := k / 64 * 64 + 2 * (k % 32) + k % 64 / 32
def col (n : Fin 1536) : Fin 3072 :=
  ⟨if n.val < 512 then 1536 + perm n.val else if n.val < 1024 then 2048 + perm (n.val - 512) else 1536 + n.val, by
    unfold perm; have := n.isLt; split <;> [skip; split] <;> omega⟩

/-- The projection's column a convolution's channel is. -/
def chanCol (a : Fin 1536) : Fin 3072 := ⟨a.val, by omega⟩

/-- The token before a tile, and the token after it. -/
def tokBefore (i : Fin 33) : Fin 8448 := ⟨i.val * 256 - 1, by omega⟩
def tokAfter (i : Fin 33) (h : i.val ≠ 32) : Fin 8448 := ⟨i.val * 256 + 256, by omega⟩

section Tile

variable {X : Fin 4 → Fin 8448 → Fin 1024 → EReal} {M : Fin 8 → Fin 6 → Fin 1024 → EReal} {G : Fin 1024 → EReal}
  {W : Fin 1024 → Fin 3072 → EReal} {CW : Fin 3 → Fin 1536 → EReal} {CB : Fin 1536 → EReal} {C S : Fin 32 → Fin 8448 → EReal}
  (s : Fin 4) (i : Fin 33)
  (x : Vec Ideal S1x256x1024 .f32) (p n : Vec Ideal S1x8x1024 .f32) (md : Vec Ideal S1x6x1024 .f32) (g : Vec Ideal S1x1024 .f32)
  (w : Vec Ideal S1024x1536 .bf16) (wt : Vec Ideal S1536x1024 .bf16) (cw : Vec Ideal S3x1536 .f32) (cb : Vec Ideal S1x1536 .f32)
  (c sn : Vec Ideal S32x256 .f32)
  (hx : ∀ r k, x (ix3 0 r k) = X s (OddSpec.tok i r) k)
  (hp : ∀ h : i.val ≠ 0, ∀ k, p (ix3 0 7 k) = X s (tokBefore i) k)
  (hn : ∀ h : i.val ≠ 32, ∀ k, n (ix3 0 0 k) = X s (tokAfter i h) k)
  (hmd : ∀ r a k, md (ix3 0 a k) = M (OddSpec.modRow s (OddSpec.tok i r)) a k)
  (hg : ∀ k, g (ix2 0 k) = G k)
  (hw : ∀ k (a : Fin 1536), w (ix2 k a) = W k (chanCol a))
  (hwt : ∀ (a : Fin 1536) k, wt (ix2 a k) = W k (col a))
  (hcw : ∀ a b, cw (ix2 a b) = CW a b) (hcb : ∀ b, cb (ix2 0 b) = CB b)
  (hc : ∀ j r, c (ix2 j r) = C j (OddSpec.tok i r)) (hs : ∀ j r, sn (ix2 j r) = S j (OddSpec.tok i r))

include hx hmd hg in
theorem row_hid (r : Fin 256) (k : Fin 1024) : hid256 x md g (ix2 r k) = OddSpec.hrow X M G s (OddSpec.tok i r) k := by
  rw [hid256_at]
  unfold OddSpec.hrow
  simp only [hx, hg, hmd r]

include hx hmd hg hw in
theorem row_chan (r : Fin 256) (a : Fin 1536) :
    chan (ext (hid256 x md g) (hid8 p md g) (hid8 n md g)) w (ix2 ⟨r.val, by omega⟩ a) = OddSpec.proj X M G W s (OddSpec.tok i r) ⟨a.val, by omega⟩ := by
  rw [chan_at]
  unfold OddSpec.proj
  refine Finset.sum_congr rfl fun k _ => ?_
  rw [ext_at, dif_pos r.isLt, hw]
  exact congrArg (· * _) (row_hid s i x md g hx hmd hg r k)

include hp hmd hg hw in
theorem row_before (h0 : i.val ≠ 0) (h1 : i.val ≠ 1) (a : Fin 1536) :
    chan (ext (hid256 x md g) (hid8 p md g) (hid8 n md g)) w (ix2 263 a) = OddSpec.proj X M G W s ⟨i.val * 256 - 1, by omega⟩ ⟨a.val, by omega⟩ := by
  rw [chan_at]
  unfold OddSpec.proj
  refine Finset.sum_congr rfl fun k _ => ?_
  rw [ext_at, dif_neg (show ¬ (263 : Fin 272).val < 256 by decide), dif_pos (show (263 : Fin 272).val - 256 < 8 by decide), hw]
  refine congrArg (· * _) ?_
  rw [hid8_at]
  unfold OddSpec.hrow
  have e : OddSpec.modRow s (OddSpec.tok i 0) = OddSpec.modRow s ⟨i.val * 256 - 1, by omega⟩ := by
    unfold OddSpec.modRow OddSpec.tok
    show (if i.val * 256 + 0 < 256 then (⟨4 + s.val, by omega⟩ : Fin 8) else ⟨s.val, by omega⟩) = if i.val * 256 - 1 < 256 then (⟨4 + s.val, by omega⟩ : Fin 8) else ⟨s.val, by omega⟩
    rw [if_neg (show ¬ i.val * 256 + 0 < 256 by omega), if_neg (show ¬ i.val * 256 - 1 < 256 by omega)]
  simp only [hg, hmd 0, e]
  exact congrArg (fun z => PostSpec.hid z _ _ _ k) (funext fun k => hp h0 k)

include hn hmd hg hw in
theorem row_after (h0 : i.val ≠ 0) (h1 : i.val ≠ 32) (a : Fin 1536) :
    chan (ext (hid256 x md g) (hid8 p md g) (hid8 n md g)) w (ix2 264 a) = OddSpec.proj X M G W s ⟨i.val * 256 + 256, by omega⟩ ⟨a.val, by omega⟩ := by
  rw [chan_at]
  unfold OddSpec.proj
  refine Finset.sum_congr rfl fun k _ => ?_
  rw [ext_at, dif_neg (show ¬ (264 : Fin 272).val < 256 by decide), dif_neg (show ¬ (264 : Fin 272).val - 256 < 8 by decide), hw]
  refine congrArg (· * _) ?_
  rw [show (⟨(264 : Fin 272).val - 256 - 8, by decide⟩ : Fin 8) = 0 from rfl, hid8_at]
  unfold OddSpec.hrow
  have e : OddSpec.modRow s (OddSpec.tok i 0) = OddSpec.modRow s ⟨i.val * 256 + 256, by omega⟩ := by
    unfold OddSpec.modRow OddSpec.tok
    show (if i.val * 256 + 0 < 256 then (⟨4 + s.val, by omega⟩ : Fin 8) else ⟨s.val, by omega⟩) = if i.val * 256 + 256 < 256 then (⟨4 + s.val, by omega⟩ : Fin 8) else ⟨s.val, by omega⟩
    rw [if_neg (show ¬ i.val * 256 + 0 < 256 by omega), if_neg (show ¬ i.val * 256 + 256 < 256 by omega)]
  simp only [hg, hmd 0, e]
  exact congrArg (fun z => PostSpec.hid z _ _ _ k) (funext fun k => hn h1 k)

include hx hp hn hmd hg hw hcw hcb in
/-- The convolution's channels of a tile. -/
theorem conv_row (r : Fin 256) (a : Fin 1536) : convOf (BitVec.ofNat 32 i.val) x p n md g w cw cb (ix2 r a)
    = OddSpec.conv (fun t => OddSpec.proj X M G W s t (chanCol a)) (fun b => CW b a) (CB a) (OddSpec.tok i r) := by
  have hi := i.isLt
  have hr := r.isLt
  unfold convOf OddSpec.conv
  rw [conv_at i.val i.isLt, hcw, hcw, hcw, hcb]
  refine congrArg₂ (· + ·) (congrArg₂ (· + ·) (congrArg₂ (· + ·) (congrArg (· * _) ?_) (congrArg (· * _) (row_chan s i x p n md g w hx hmd hg hw r a))) (congrArg (· * _) ?_)) rfl
  · show _ = if i.val * 256 + r.val = 0 ∨ i.val * 256 + r.val = 256 then (0 : EReal)
      else OddSpec.proj X M G W s ⟨i.val * 256 + r.val - 1, by omega⟩ ⟨a.val, by omega⟩
    by_cases h : r.val = 0
    · rw [if_pos h]
      by_cases h2 : i.val = 0 ∨ i.val = 1
      · rw [if_pos h2, if_pos (show i.val * 256 + r.val = 0 ∨ i.val * 256 + r.val = 256 by omega)]
      · rw [if_neg h2, if_neg (show ¬ (i.val * 256 + r.val = 0 ∨ i.val * 256 + r.val = 256) by omega),
          row_before s i x p n md g w hp hmd hg hw (by omega) (by omega)]
        exact congrArg (fun t => OddSpec.proj X M G W s t _) (Fin.ext (show i.val * 256 - 1 = i.val * 256 + r.val - 1 by omega))
    · rw [if_neg h, if_neg (show ¬ (i.val * 256 + r.val = 0 ∨ i.val * 256 + r.val = 256) by omega)]
      refine (row_chan s i x p n md g w hx hmd hg hw ⟨r.val - 1, by omega⟩ a).trans ?_
      exact congrArg (fun t => OddSpec.proj X M G W s t _) (Fin.ext (show i.val * 256 + (r.val - 1) = i.val * 256 + r.val - 1 by omega))
  · show _ = if h : i.val * 256 + r.val = 255 ∨ i.val * 256 + r.val = 8447 then (0 : EReal)
      else OddSpec.proj X M G W s ⟨i.val * 256 + r.val + 1, by omega⟩ ⟨a.val, by omega⟩
    by_cases h : r.val = 255
    · rw [if_pos h]
      by_cases h2 : i.val = 0 ∨ i.val = 32
      · rw [if_pos h2, dif_pos (show i.val * 256 + r.val = 255 ∨ i.val * 256 + r.val = 8447 by omega)]
      · rw [if_neg h2, dif_neg (show ¬ (i.val * 256 + r.val = 255 ∨ i.val * 256 + r.val = 8447) by omega),
          row_after s i x p n md g w hn hmd hg hw (by omega) (by omega)]
        exact congrArg (fun t => OddSpec.proj X M G W s t _) (Fin.ext (show i.val * 256 + 256 = i.val * 256 + r.val + 1 by omega))
    · rw [if_neg h, dif_neg (show ¬ (i.val * 256 + r.val = 255 ∨ i.val * 256 + r.val = 8447) by omega)]
      refine (row_chan s i x p n md g w hx hmd hg hw ⟨r.val + 1, by omega⟩ a).trans ?_
      exact congrArg (fun t => OddSpec.proj X M G W s t _) (Fin.ext (show i.val * 256 + (r.val + 1) = i.val * 256 + r.val + 1 by omega))

include hx hmd hg hwt in
/-- The heads' channels of a tile. -/
theorem heads_row (a : Fin 1536) (r : Fin 256) : headsOf x md g wt (ix2 a r) = OddSpec.proj X M G W s (OddSpec.tok i r) (col a) := by
  unfold headsOf OddSpec.proj
  rw [heads_at]
  refine Finset.sum_congr rfl fun k _ => ?_
  rw [hwt, row_hid s i x md g hx hmd hg, mul_comm]

/-- The rotated halves of a head whose channels are a token's projections. -/
theorem rotA_row (q : FVec Ideal S1536x256 .f32) (P : Fin 3072 → EReal) (cc ss : Fin 32 → EReal) (r : Fin 256)
    (hq : ∀ a, q (ix2 a r) = P (col a)) (hc : ∀ j, c (ix2 j r) = cc j) (hs : ∀ j, sn (ix2 j r) = ss j) (h : Fin 8) (j : Fin 32) :
    rotA q c sn ⟨h.val, by omega⟩ (ix2 j r) = OddSpec.rotA (OddSpec.qs P) cc ss h j
    ∧ rotA q c sn ⟨8 + h.val, by omega⟩ (ix2 j r) = OddSpec.rotA (OddSpec.ks P) cc ss h j
    ∧ rotB q c sn ⟨h.val, by omega⟩ (ix2 j r) = OddSpec.rotB (OddSpec.qs P) cc ss h j
    ∧ rotB q c sn ⟨8 + h.val, by omega⟩ (ix2 j r) = OddSpec.rotB (OddSpec.ks P) cc ss h j := by
  have hh := h.isLt
  have hj := j.isLt
  have e1 : P (col ⟨64 * h.val + j.val, by omega⟩) = OddSpec.qs P ⟨h.val * 64 + 2 * j.val, by omega⟩ := congrArg P (Fin.ext (by
    show (if 64 * h.val + j.val < 512 then 1536 + perm (64 * h.val + j.val) else _) = 1536 + (h.val * 64 + 2 * j.val)
    rw [if_pos (by omega)]; unfold perm; omega))
  have e2 : P (col ⟨64 * h.val + (32 + j.val), by omega⟩) = OddSpec.qs P ⟨h.val * 64 + 2 * j.val + 1, by omega⟩ := congrArg P (Fin.ext (by
    show (if 64 * h.val + (32 + j.val) < 512 then 1536 + perm (64 * h.val + (32 + j.val)) else _) = 1536 + (h.val * 64 + 2 * j.val + 1)
    rw [if_pos (by omega)]; unfold perm; omega))
  have e3 : P (col ⟨64 * (8 + h.val) + j.val, by omega⟩) = OddSpec.ks P ⟨h.val * 64 + 2 * j.val, by omega⟩ := congrArg P (Fin.ext (by
    show (if 64 * (8 + h.val) + j.val < 512 then _ else if 64 * (8 + h.val) + j.val < 1024 then 2048 + perm (64 * (8 + h.val) + j.val - 512) else _) = 2048 + (h.val * 64 + 2 * j.val)
    rw [if_neg (by omega), if_pos (by omega)]; unfold perm; omega))
  have e4 : P (col ⟨64 * (8 + h.val) + (32 + j.val), by omega⟩) = OddSpec.ks P ⟨h.val * 64 + 2 * j.val + 1, by omega⟩ := congrArg P (Fin.ext (by
    show (if 64 * (8 + h.val) + (32 + j.val) < 512 then _ else if 64 * (8 + h.val) + (32 + j.val) < 1024 then 2048 + perm (64 * (8 + h.val) + (32 + j.val) - 512) else _) = 2048 + (h.val * 64 + 2 * j.val + 1)
    rw [if_neg (by omega), if_pos (by omega)]; unfold perm; omega))
  unfold OddSpec.rotA OddSpec.rotB
  refine ⟨?_, ?_, ?_, ?_⟩
  · rw [rotA_at, hq, hq, hc, hs]; dsimp only; rw [e1, e2]
  · rw [rotA_at, hq, hq, hc, hs]; dsimp only; rw [e3, e4]
  · rw [rotB_at, hq, hq, hc, hs]; dsimp only; rw [e1, e2]
  · rw [rotB_at, hq, hq, hc, hs]; dsimp only; rw [e3, e4]

theorem queryHalf_eq (q : FVec Ideal S1536x256 .f32) (k : Fin 16) :
    queryHalf q c sn k = if k.val % 2 = 0 then rotA q c sn ⟨k.val / 2, by omega⟩ else rotB q c sn ⟨k.val / 2, by omega⟩ := by
  fin_cases k <;> rfl
theorem keyHalf_eq (q : FVec Ideal S1536x256 .f32) (k : Fin 16) :
    keyHalf q c sn k = if k.val % 2 = 0 then rotA q c sn ⟨8 + k.val / 2, by omega⟩ else rotB q c sn ⟨8 + k.val / 2, by omega⟩ := by
  fin_cases k <;> rfl

section Heads

variable (q : FVec Ideal S1536x256 .f32) (P : Fin 3072 → EReal) (cc ss : Fin 32 → EReal) (r : Fin 256)
    (hq : ∀ a, q (ix2 a r) = P (col a)) (hcc : ∀ j, c (ix2 j r) = cc j) (hss : ∀ j, sn (ix2 j r) = ss j)

include hq hcc hss in
theorem query_row (k : Fin 16) (j : Fin 32) : query (queryHalf q c sn k) (ix4 0 0 j r)
    = OddSpec.rot (OddSpec.qs P) cc ss ⟨32 * k.val + j.val, by omega⟩ * Ideal.ofBits .f32 0x3E38AA3B#32 := by
  have hk := k.isLt
  have hj := j.isLt
  rw [query_at, queryHalf_eq]
  refine congrArg (· * _) ?_
  obtain ⟨hA, -, hB, -⟩ := rotA_row c sn q P cc ss r hq hcc hss ⟨k.val / 2, by omega⟩ j
  unfold OddSpec.rot
  by_cases h : k.val % 2 = 0
  · rw [if_pos h, if_pos (show (32 * k.val + j.val) % 64 < 32 by omega)]
    exact hA.trans (congrArg₂ _ (Fin.ext (show k.val / 2 = (32 * k.val + j.val) / 64 by omega)) (Fin.ext (show j.val = (32 * k.val + j.val) % 32 by omega)))
  · rw [if_neg h, if_neg (show ¬ (32 * k.val + j.val) % 64 < 32 by omega)]
    exact hB.trans (congrArg₂ _ (Fin.ext (show k.val / 2 = (32 * k.val + j.val) / 64 by omega)) (Fin.ext (show j.val = (32 * k.val + j.val) % 32 by omega)))

include hq hcc hss in
theorem keys_row (k : Fin 512) : keys (stack (keyHalf q c sn)) (ix3 0 r k) = OddSpec.rot (OddSpec.ks P) cc ss k := by
  have hk := k.isLt
  rw [keys_at, stack_at, keyHalf_eq]
  obtain ⟨-, hA, -, hB⟩ := rotA_row c sn q P cc ss r hq hcc hss ⟨k.val / 32 / 2, by omega⟩ ⟨k.val % 32, by omega⟩
  unfold OddSpec.rot
  by_cases h : k.val / 32 % 2 = 0
  · rw [if_pos (show (⟨k.val / 32, by omega⟩ : Fin 16).val % 2 = 0 from h), if_pos (show k.val % 64 < 32 by omega)]
    exact hA.trans (congrArg (fun z => OddSpec.rotA _ _ _ z _) (Fin.ext (show k.val / 32 / 2 = k.val / 64 by omega)))
  · rw [if_neg (show ¬ (⟨k.val / 32, by omega⟩ : Fin 16).val % 2 = 0 from h), if_neg (show ¬ k.val % 64 < 32 by omega)]
    exact hB.trans (congrArg (fun z => OddSpec.rotB _ _ _ z _) (Fin.ext (show k.val / 32 / 2 = k.val / 64 by omega)))

include hq in
theorem value_row (h : Fin 4) (j : Fin 128) : value q h (ix4 0 0 j r) = OddSpec.vals (OddSpec.vs P) ⟨144 * h.val + j.val, by omega⟩ := by
  have hh := h.isLt
  have hj := j.isLt
  rw [value_at, hq]
  unfold OddSpec.vals
  rw [dif_pos (show (144 * h.val + j.val) % 144 < 128 by omega)]
  refine congrArg P (Fin.ext ?_)
  show (if 1024 + 128 * h.val + j.val < 512 then _ else if 1024 + 128 * h.val + j.val < 1024 then _ else 1536 + (1024 + 128 * h.val + j.val))
    = 2560 + ((144 * h.val + j.val) / 144 * 128 + (144 * h.val + j.val) % 144)
  rw [if_neg (by omega), if_neg (by omega)]
  omega

theorem ones_row (h : Fin 4) (j : Fin 16) : ones (F := Ideal) (ix4 0 0 j r) = OddSpec.vals (OddSpec.vs P) ⟨144 * h.val + 128 + j.val, by omega⟩ := by
  have hh := h.isLt
  have hj := j.isLt
  rw [ones_at]
  unfold OddSpec.vals
  rw [dif_neg (show ¬ (144 * h.val + 128 + j.val) % 144 < 128 by omega)]

include hq hcc hss in
theorem norms_row (h : Fin 8) : norms (rotA q c sn ⟨8 + h.val, by omega⟩) (rotB q c sn ⟨8 + h.val, by omega⟩) (ix2 0 r)
    = OddSpec.nrm (OddSpec.ks P) cc ss h := by
  rw [norms_at]
  unfold OddSpec.nrm
  refine congrArg₂ (· + ·) (Finset.sum_congr rfl fun j _ => ?_) (Finset.sum_congr rfl fun j _ => ?_)
  · rw [(rotA_row c sn q P cc ss r hq hcc hss h j).2.1]
  · rw [(rotA_row c sn q P cc ss r hq hcc hss h j).2.2.2]

end Heads

theorem peak_row (q : FVec Ideal S1536x256 .f32) (P : Fin 256 → Fin 3072 → EReal) (cc ss : Fin 256 → Fin 32 → EReal)
    (hq : ∀ r a, q (ix2 a r) = P r (col a)) (hcc : ∀ r j, c (ix2 j r) = cc r j) (hss : ∀ r j, sn (ix2 j r) = ss r j) (h : Fin 8) (l : Fin 128) :
    peaks (peak q c sn) (ix4 0 0 h l) = OddSpec.top fun r => OddSpec.nrm (OddSpec.ks (P r)) (cc r) (ss r) h := by
  rw [peaks_at]
  unfold peak
  rw [largest_at]
  exact congrArg OddSpec.top (funext fun r => norms_row c sn q (P r) (cc r) (ss r) r (hq r) (hcc r) (hss r) h)

end Tile

end Cert.Kernel6Ideal.Body

end
-- ==== Proof.OddBlocks.lean ====
/- The blocks a grid point of the odd layers' entry reads, as parts of the arguments. -/
module

public import proofs.«01_k».proof.Proof.OddTile
public import proofs.«01_k».proof.Proof.Gen.Kernel6Ideal.Frame
public import proofs.«01_k».proof.Proof.Gen.Kernel6Ideal.Value
public import Idealize.ShloMosaic.Lib.StableHlo.Run
public import Idealize.ShloMosaic.Lib.Tactic
public import Idealize.ShloMosaic.Lib.ValueIdxCore
public import Idealize.ShloMosaic.Lib.Pipeline.ValueKit.Geometry

@[expose] public section

noncomputable section

namespace Cert.Kernel6Ideal.Body

open Cert.Kernel6Ideal Cert.Kernel6Ideal.Gen Idealize.ShloMosaic Idealize.ShloMosaic.TcCoe Idealize.SL.Sem
open Idealize.ShloMosaic.StableHlo

variable (m : (ℓ : Loc nD τ sig) → Buf (Elt Ideal) ℓ)

/-- The grid's index maps, decided over its 33 points. -/
theorem index_facts : ∀ t : Fin cfg0.N,
    (win0_0.index t 0 = 0 ∧ win0_0.index t 1 = t.val ∧ win0_0.index t 2 = 0)
    ∧ (win0_1.index t 0 = 0 ∧ win0_1.index t 1 = t.val * 32 - 1 ∧ win0_1.index t 2 = 0)
    ∧ (win0_2.index t 0 = 0 ∧ win0_2.index t 1 = min (t.val * 32 + 32) 1055 ∧ win0_2.index t 2 = 0)
    ∧ (win0_3.index t 0 = (if t.val = 0 then 1 else 0) ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = t.val)
    ∧ (win0_10.index t 0 = 0 ∧ win0_10.index t 1 = t.val)
    ∧ (win0_11.index t 0 = 0 ∧ win0_11.index t 1 = t.val ∧ win0_11.index t 2 = 0)
    ∧ (win0_12.index t 0 = 0 ∧ win0_12.index t 1 = t.val ∧ win0_12.index t 2 = 0)
    ∧ (win0_13.index t 0 = 0 ∧ win0_13.index t 1 = t.val ∧ win0_13.index t 2 = 0)
    ∧ (win0_14.index t 0 = 0 ∧ win0_14.index t 1 = t.val ∧ win0_14.index t 2 = 0 ∧ win0_14.index t 3 = 0)
    ∧ (win0_15.index t 0 = 0 ∧ win0_15.index t 1 = t.val ∧ win0_15.index t 2 = 0)
    ∧ (win0_16.index t 0 = 0 ∧ win0_16.index t 1 = t.val ∧ win0_16.index t 2 = 0 ∧ win0_16.index t 3 = 0)
    ∧ (win0_17.index t 0 = 0 ∧ win0_17.index t 1 = t.val ∧ win0_17.index t 2 = 0 ∧ win0_17.index t 3 = 0) :=
  (by decide +kernel : ∀ t : Fin grid0.N,
    (win0_0.index t 0 = 0 ∧ win0_0.index t 1 = t.val ∧ win0_0.index t 2 = 0)
    ∧ (win0_1.index t 0 = 0 ∧ win0_1.index t 1 = t.val * 32 - 1 ∧ win0_1.index t 2 = 0)
    ∧ (win0_2.index t 0 = 0 ∧ win0_2.index t 1 = min (t.val * 32 + 32) 1055 ∧ win0_2.index t 2 = 0)
    ∧ (win0_3.index t 0 = (if t.val = 0 then 1 else 0) ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = t.val)
    ∧ (win0_10.index t 0 = 0 ∧ win0_10.index t 1 = t.val)
    ∧ (win0_11.index t 0 = 0 ∧ win0_11.index t 1 = t.val ∧ win0_11.index t 2 = 0)
    ∧ (win0_12.index t 0 = 0 ∧ win0_12.index t 1 = t.val ∧ win0_12.index t 2 = 0)
    ∧ (win0_13.index t 0 = 0 ∧ win0_13.index t 1 = t.val ∧ win0_13.index t 2 = 0)
    ∧ (win0_14.index t 0 = 0 ∧ win0_14.index t 1 = t.val ∧ win0_14.index t 2 = 0 ∧ win0_14.index t 3 = 0)
    ∧ (win0_15.index t 0 = 0 ∧ win0_15.index t 1 = t.val ∧ win0_15.index t 2 = 0)
    ∧ (win0_16.index t 0 = 0 ∧ win0_16.index t 1 = t.val ∧ win0_16.index t 2 = 0 ∧ win0_16.index t 3 = 0)
    ∧ (win0_17.index t 0 = 0 ∧ win0_17.index t 1 = t.val ∧ win0_17.index t 2 = 0 ∧ win0_17.index t 3 = 0))

theorem coord_eq : ∀ t : Fin cfg0.N, ((grid0.coords t) 1).val = t.val := (by decide +kernel : ∀ t : Fin grid0.N, ((grid0.coords t) 1).val = t.val)

theorem tlt (t : Fin cfg0.N) : t.val < 33 := lt_of_lt_of_eq t.isLt N_0

/-- The tile a grid point stands for. -/
def tile (t : Fin cfg0.N) : Fin 33 := ⟨t.val, tlt t⟩

/-- The columns the heads' weights are gathered at. -/
abbrev order : IVec S512 32 := fun i => lit0 (S512.rowMajor i)

theorem order_perm : ∀ k : Fin 512, min (lit0 k).toInt.toNat 511 = perm k.val := by decide +kernel

/-- A gather along the second axis of a matrix. -/
theorem gather_at (x : S1024x512.Idx → EReal) (idx : IVec S512x1 32) (r : Fin 1024) (k : Fin 512) :
    Host.gather gather_S1024x512_S512x1_S1024x512_0_1_n_n_1_1_10241 x idx (ix2 r k) = x (ix2 r ⟨min (idx (ix2 k 0)).toInt.toNat 511, by omega⟩) := by
  unfold Host.gather
  congr 1
  funext a
  refine Fin.ext ?_
  show gather_S1024x512_S512x1_S1024x512_0_1_n_n_1_1_10241.start (ix2 r k) idx a + gather_S1024x512_S512x1_S1024x512_0_1_n_n_1_1_10241.batchCoord (ix2 r k) a
      + gather_S1024x512_S512x1_S1024x512_0_1_n_n_1_1_10241.offCoord (ix2 r k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have e : gather_S1024x512_S512x1_S1024x512_0_1_n_n_1_1_10241.start (ix2 r k) idx 0 = 0 := by
      unfold GatherDims.start
      rw [dif_neg (show ¬ (0 : Fin 2) ∈ gather_S1024x512_S512x1_S1024x512_0_1_n_n_1_1_10241.startIndexMap from by decide)]
    rw [e, Nat.zero_add]
    unfold GatherDims.offCoord
    rw [dif_pos (show (0 : Fin 2) ∈ gather_S1024x512_S512x1_S1024x512_0_1_n_n_1_1_10241.sKept from by decide)]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ gather_S1024x512_S512x1_S1024x512_0_1_n_n_1_1_10241.startIndexMap from List.mem_singleton.mpr rfl)]
    have hsi : gather_S1024x512_S512x1_S1024x512_0_1_n_n_1_1_10241.siIdx (ix2 r k) ⟨List.idxOf (1 : Fin 2) gather_S1024x512_S512x1_S1024x512_0_1_n_n_1_1_10241.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-- The indices as the host prepares them. -/
abbrev indices : IVec S512x1 32 := broadcastInDim S512x1 ![0] bcast_S512_S512x1_0
  (select (constantI S512 1 0#1) (addi order (broadcastInDim S512 ![] bcast_S_S512 (constantI S_ 32 512#32))) order)

theorem rowMajor_at (k : Fin 512) : S512.rowMajor (ix1 k) = k :=
  Fin.ext ((by decide +kernel : ∀ k : Fin 512, (S512.rowMajor (ix1 k)).val = k.val) k)

theorem indices_at (k : Fin 512) : indices (ix2 k 0) = lit0 k := by
  have e : indices (ix2 k 0) = order (ix1 k) := rfl
  rw [e]
  exact congrArg lit0 (rowMajor_at k)

/-- The weights the host prepares: the convolution's columns, and the heads' columns in the kernel's order, transposed. -/
theorem V_v1 (c : Dev nD) : (V m c main_v1 : S1024x1536.Idx → EReal)
    = extractStridedSlice S1024x1536 ![0, 0] (m ((c : Thread nD τ).loc main_arg3)) slices_S1024x3072_S1024x1536_0_0 := by
  unfold V
  after_results_simp
  rfl
theorem V_v18 (c : Dev nD) : (V m c main_v18 : S1x1536.Idx → EReal) = shapeCast S1x1536 (m ((c : Thread nD τ).loc main_arg5)) shapeCasts_S1536_S1x1536 := by
  unfold V
  after_results_simp
  rfl

/-- The heads' columns in the kernel's order. -/
def headCols (x : S1024x3072.Idx → EReal) : S1024x1536.Idx → EReal :=
  concatenate S1024x1536 1 [
    ⟨S1024x512, Host.gather gather_S1024x512_S512x1_S1024x512_0_1_n_n_1_1_10241 (extractStridedSlice S1024x512 ![0, 1536] x slices_S1024x3072_S1024x512_0_1536) indices⟩,
    ⟨S1024x512, Host.gather gather_S1024x512_S512x1_S1024x512_0_1_n_n_1_1_10241 (extractStridedSlice S1024x512 ![0, 2048] x slices_S1024x3072_S1024x512_0_2048) indices⟩,
    ⟨S1024x512, extractStridedSlice S1024x512 ![0, 2560] x slices_S1024x3072_S1024x512_0_2560⟩] concatenates_S1024x512_S1024x512_S1024x512_S1024x1536_d1

theorem V_v17 (c : Dev nD) : (V m c main_v17 : S1536x1024.Idx → EReal)
    = transpose S1536x1024 [1, 0] (headCols (m ((c : Thread nD τ).loc main_arg3))) transposes_S1024x1536_S1536x1024_1_0 := by
  unfold V
  after_results_simp
  rfl

theorem part_at (o : ℕ) (x : S1024x3072.Idx → EReal) (h : S1024x3072.Slices ![0, o] S1024x512) (r : Fin 1024) (k : Fin 512) (ho : o + k.val < 3072) :
    extractStridedSlice S1024x512 ![0, o] x h (ix2 r k) = x (ix2 r ⟨o + k.val, ho⟩) :=
  extractStridedSlice_apply _ _ _ _ _ (fun a => by
    match a with
    | ⟨0, _⟩ => show r.val = 0 + r.val; omega
    | ⟨1, _⟩ => rfl)

/-- Three matrices side by side. -/
theorem side_at (x y z : S1024x512.Idx → EReal) (r : Fin 1024) (a : Fin 1536) :
    concatenate S1024x1536 1 [⟨S1024x512, x⟩, ⟨S1024x512, y⟩, ⟨S1024x512, z⟩] concatenates_S1024x512_S1024x512_S1024x512_S1024x1536_d1 (ix2 r a)
      = if h : a.val < 512 then x (ix2 r ⟨a.val, h⟩) else if h2 : a.val - 512 < 512 then y (ix2 r ⟨a.val - 512, h2⟩)
        else z (ix2 r ⟨a.val - 512 - 512, by omega⟩) := by
  pointwise []

theorem transposed_at (x : S1024x1536.Idx → EReal) (n : Fin 1536) (k : Fin 1024) :
    transpose S1536x1024 [1, 0] x transposes_S1024x1536_S1536x1024_1_0 (ix2 n k) = x (ix2 k n) := by
  pointwise []

theorem asRow_at (x : S1536.Idx → EReal) (n : Fin 1536) : shapeCast S1x1536 x shapeCasts_S1536_S1x1536 (ix2 0 n) = x (ix1 n) := by
  pointwise []

theorem headCols_at (x : S1024x3072.Idx → EReal) (r : Fin 1024) (a : Fin 1536) : headCols x (ix2 r a) = x (ix2 r (col a)) := by
  have ha := a.isLt
  have e : headCols x (ix2 r a) = if h : a.val < 512 then
        Host.gather gather_S1024x512_S512x1_S1024x512_0_1_n_n_1_1_10241 (extractStridedSlice S1024x512 ![0, 1536] x slices_S1024x3072_S1024x512_0_1536) indices (ix2 r ⟨a.val, h⟩)
      else if h2 : a.val - 512 < 512 then
        Host.gather gather_S1024x512_S512x1_S1024x512_0_1_n_n_1_1_10241 (extractStridedSlice S1024x512 ![0, 2048] x slices_S1024x3072_S1024x512_0_2048) indices (ix2 r ⟨a.val - 512, h2⟩)
      else extractStridedSlice S1024x512 ![0, 2560] x slices_S1024x3072_S1024x512_0_2560 (ix2 r ⟨a.val - 512 - 512, by omega⟩) := by
    exact side_at _ _ _ r a
  rw [e]
  have hp (k : ℕ) (hk : k < 512) : perm k < 512 := by unfold perm; omega
  by_cases h : a.val < 512
  · rw [dif_pos h, gather_at, part_at 1536 _ _ _ _ (by show 1536 + min _ 511 < 3072; omega)]
    refine congrArg (fun z => x (ix2 r z)) (Fin.ext ?_)
    show 1536 + min (indices (ix2 ⟨a.val, h⟩ 0)).toInt.toNat 511 = if a.val < 512 then 1536 + perm a.val else _
    rw [if_pos h, indices_at, order_perm]
  · rw [dif_neg h]
    by_cases h2 : a.val < 1024
    · rw [dif_pos (show a.val - 512 < 512 by omega), gather_at, part_at 2048 _ _ _ _ (by show 2048 + min _ 511 < 3072; omega)]
      refine congrArg (fun z => x (ix2 r z)) (Fin.ext ?_)
      show 2048 + min (indices (ix2 ⟨a.val - 512, by omega⟩ 0)).toInt.toNat 511 = if a.val < 512 then _ else if a.val < 1024 then 2048 + perm (a.val - 512) else _
      rw [if_neg h, if_pos h2, indices_at, order_perm]
    · rw [dif_neg (show ¬ a.val - 512 < 512 by omega), part_at 2560 _ _ _ _ (by show 2560 + (a.val - 512 - 512) < 3072; omega)]
      refine congrArg (fun z => x (ix2 r z)) (Fin.ext ?_)
      show 2560 + (a.val - 512 - 512) = if a.val < 512 then _ else if a.val < 1024 then _ else 1536 + a.val
      rw [if_neg h, if_neg h2]
      omega

section Blocks
variable (c : Dev nD) (t : Fin cfg0.N)

theorem blk0 (s : Fin 4) (r : Fin 256) (k : Fin 1024) : iblk m c 0 t (ix3 s r k) = m ((c : Thread nD τ).loc main_arg0) (ix3 s (OddSpec.tok (tile t) r) k) := by
  obtain ⟨⟨h0, h1, h2⟩, -⟩ := index_facts t
  have ht := tlt t
  unfold iblk
  rw [View.read_apply]
  show V m c main_arg0 _ = _
  rw [V_main_arg0]
  refine congrArg (m _) (funext fun a => Fin.ext ?_)
  match a with
  | ⟨0, _⟩ => show win0_0.index t 0 * 4 + 1 * s.val = s.val; rw [h0]; omega
  | ⟨1, _⟩ => show win0_0.index t 1 * 256 + 1 * r.val = t.val * 256 + r.val; rw [h1]; omega
  | ⟨2, _⟩ => show win0_0.index t 2 * 1024 + 1 * k.val = k.val; rw [h2]; omega

theorem blk1 (h : (tile t).val ≠ 0) (s : Fin 4) (k : Fin 1024) : iblk m c 1 t (ix3 s 7 k) = m ((c : Thread nD τ).loc main_arg0) (ix3 s ⟨(tile t).val * 256 - 1, by omega⟩ k) := by
  obtain ⟨-, ⟨h0, h1, h2⟩, -⟩ := index_facts t
  have ht := tlt t
  unfold iblk
  rw [View.read_apply]
  show V m c main_arg0 _ = _
  rw [V_main_arg0]
  have hz : t.val ≠ 0 := h
  refine congrArg (m _) (funext fun a => Fin.ext ?_)
  match a with
  | ⟨0, _⟩ => show win0_1.index t 0 * 4 + 1 * s.val = s.val; rw [h0]; omega
  | ⟨1, _⟩ => show win0_1.index t 1 * 8 + 1 * 7 = t.val * 256 - 1; rw [h1]; omega
  | ⟨2, _⟩ => show win0_1.index t 2 * 1024 + 1 * k.val = k.val; rw [h2]; omega

theorem blk2 (h : (tile t).val ≠ 32) (s : Fin 4) (k : Fin 1024) : iblk m c 2 t (ix3 s 0 k) = m ((c : Thread nD τ).loc main_arg0) (ix3 s ⟨(tile t).val * 256 + 256, by have := (tile t).isLt; omega⟩ k) := by
  obtain ⟨-, -, ⟨h0, h1, h2⟩, -⟩ := index_facts t
  have ht := tlt t
  unfold iblk
  rw [View.read_apply]
  show V m c main_arg0 _ = _
  rw [V_main_arg0]
  have hz : t.val ≠ 32 := h
  refine congrArg (m _) (funext fun a => Fin.ext ?_)
  match a with
  | ⟨0, _⟩ => show win0_2.index t 0 * 4 + 1 * s.val = s.val; rw [h0]; omega
  | ⟨1, _⟩ => show win0_2.index t 1 * 8 + 1 * 0 = t.val * 256 + 256; rw [h1]; omega
  | ⟨2, _⟩ => show win0_2.index t 2 * 1024 + 1 * k.val = k.val; rw [h2]; omega

theorem blk3 (s : Fin 4) (r : Fin 256) (i : Fin 6) (k : Fin 1024) : iblk m c 3 t (ix3 s i k)
    = m ((c : Thread nD τ).loc main_arg1) (ix3 (OddSpec.modRow s (OddSpec.tok (tile t) r)) i k) := by
  obtain ⟨-, -, -, ⟨h0, h1, h2⟩, -⟩ := index_facts t
  have e : OddSpec.modRow s (OddSpec.tok (tile t) r) = ⟨(if t.val = 0 then 1 else 0) * 4 + s.val, by split <;> omega⟩ := by
    unfold OddSpec.modRow
    show (if t.val * 256 + r.val < 256 then (⟨4 + s.val, by omega⟩ : Fin 8) else ⟨s.val, by omega⟩) = _
    refine Fin.ext ?_
    show _ = (if t.val = 0 then 1 else 0) * 4 + s.val
    by_cases h : t.val = 0
    · rw [if_pos (by omega), if_pos h]
    · rw [if_neg (by omega), if_neg h]; show s.val = 0 * 4 + s.val; omega
  rw [e]
  unfold iblk
  rw [View.read_apply]
  show V m c main_arg1 _ = _
  rw [V_main_arg1]
  refine congrArg (m _) (funext fun a => Fin.ext ?_)
  match a with
  | ⟨0, _⟩ => show win0_3.index t 0 * 4 + 1 * s.val = (if t.val = 0 then 1 else 0) * 4 + s.val; rw [h0, one_mul]
  | ⟨1, _⟩ => show win0_3.index t 1 * 6 + 1 * i.val = i.val; rw [h1]; omega
  | ⟨2, _⟩ => show win0_3.index t 2 * 1024 + 1 * k.val = k.val; rw [h2]; omega

theorem blk4 (k : Fin 1024) : iblk m c 4 t (ix2 0 k) = m ((c : Thread nD τ).loc main_arg2) (ix2 0 k) := by
  obtain ⟨-, -, -, -, ⟨h0, h1⟩, -⟩ := index_facts t
  have ht := tlt t
  unfold iblk
  rw [View.read_apply]
  show V m c main_arg2 _ = _
  rw [V_main_arg2]
  refine congrArg (m _) (funext fun a => Fin.ext ?_)
  match a with
  | ⟨0, _⟩ => show win0_4.index t 0 * 1 + 1 * 0 = 0; rw [h0]
  | ⟨1, _⟩ => show win0_4.index t 1 * 1024 + 1 * k.val = k.val; rw [h1]; omega

theorem blk5 (k : Fin 1024) (n : Fin 1536) : iblk m c 5 t (ix2 k n) = m ((c : Thread nD τ).loc main_arg3) (ix2 k ⟨n.val, by omega⟩) := by
  obtain ⟨-, -, -, -, -, ⟨h0, h1⟩, -⟩ := index_facts t
  unfold iblk
  rw [View.read_apply]
  show V m c main_v1 _ = _
  rw [V_v1]
  refine extractStridedSlice_apply _ _ _ _ _ (fun a => ?_)
  match a with
  | ⟨0, _⟩ => show k.val = 0 + (win0_5.index t 0 * 1024 + 1 * k.val); rw [h0]; omega
  | ⟨1, _⟩ => show n.val = 0 + (win0_5.index t 1 * 1536 + 1 * n.val); rw [h1]; omega

theorem blk6 (n : Fin 1536) (k : Fin 1024) : iblk m c 6 t (ix2 n k) = m ((c : Thread nD τ).loc main_arg3) (ix2 k (col n)) := by
  obtain ⟨-, -, -, -, -, -, ⟨h0, h1⟩, -⟩ := index_facts t
  have e : iblk m c 6 t (ix2 n k) = V m c main_v17 (ix2 n k) := by
    unfold iblk
    rw [View.read_apply]
    show V m c main_v17 _ = _
    refine congrArg (V m c main_v17) (funext fun a => Fin.ext ?_)
    match a with
    | ⟨0, _⟩ => show win0_6.index t 0 * 1536 + 1 * n.val = n.val; rw [h0]; omega
    | ⟨1, _⟩ => show win0_6.index t 1 * 1024 + 1 * k.val = k.val; rw [h1]; omega
  rw [e, V_v17, transposed_at, headCols_at]

theorem blk7 (i : Fin 3) (n : Fin 1536) : iblk m c 7 t (ix2 i n) = m ((c : Thread nD τ).loc main_arg4) (ix2 i n) := by
  obtain ⟨-, -, -, -, -, -, -, ⟨h0, h1⟩, -⟩ := index_facts t
  have ht := tlt t
  unfold iblk
  rw [View.read_apply]
  show V m c main_arg4 _ = _
  rw [V_main_arg4]
  refine congrArg (m _) (funext fun a => Fin.ext ?_)
  match a with
  | ⟨0, _⟩ => show win0_7.index t 0 * 3 + 1 * i.val = i.val; rw [h0]; omega
  | ⟨1, _⟩ => show win0_7.index t 1 * 1536 + 1 * n.val = n.val; rw [h1]; omega

theorem blk8 (n : Fin 1536) : iblk m c 8 t (ix2 0 n) = m ((c : Thread nD τ).loc main_arg5) (ix1 n) := by
  obtain ⟨-, -, -, -, -, -, -, -, ⟨h0, h1⟩, -⟩ := index_facts t
  have e : iblk m c 8 t (ix2 0 n) = V m c main_v18 (ix2 0 n) := by
    unfold iblk
    rw [View.read_apply]
    show V m c main_v18 _ = _
    refine congrArg (V m c main_v18) (funext fun a => Fin.ext ?_)
    match a with
    | ⟨0, _⟩ => show win0_8.index t 0 * 1 + 1 * 0 = 0; rw [h0]
    | ⟨1, _⟩ => show win0_8.index t 1 * 1536 + 1 * n.val = n.val; rw [h1]; omega
  rw [e, V_v18, asRow_at]

theorem blk9 (j : Fin 32) (r : Fin 256) : iblk m c 9 t (ix2 j r) = m ((c : Thread nD τ).loc main_arg6) (ix2 j (OddSpec.tok (tile t) r)) := by
  obtain ⟨-, -, -, -, -, -, -, -, -, ⟨h0, h1⟩, -⟩ := index_facts t
  have ht := tlt t
  unfold iblk
  rw [View.read_apply]
  show V m c main_arg6 _ = _
  rw [V_main_arg6]
  refine congrArg (m _) (funext fun a => Fin.ext ?_)
  match a with
  | ⟨0, _⟩ => show win0_9.index t 0 * 32 + 1 * j.val = j.val; rw [h0]; omega
  | ⟨1, _⟩ => show win0_9.index t 1 * 256 + 1 * r.val = t.val * 256 + r.val; rw [h1]; omega

theorem blk10 (j : Fin 32) (r : Fin 256) : iblk m c 10 t (ix2 j r) = m ((c : Thread nD τ).loc main_arg7) (ix2 j (OddSpec.tok (tile t) r)) := by
  obtain ⟨-, -, -, -, -, -, -, -, -, -, ⟨h0, h1⟩, -⟩ := index_facts t
  have ht := tlt t
  unfold iblk
  rw [View.read_apply]
  show V m c main_arg7 _ = _
  rw [V_main_arg7]
  refine congrArg (m _) (funext fun a => Fin.ext ?_)
  match a with
  | ⟨0, _⟩ => show win0_10.index t 0 * 32 + 1 * j.val = j.val; rw [h0]; omega
  | ⟨1, _⟩ => show win0_10.index t 1 * 256 + 1 * r.val = t.val * 256 + r.val; rw [h1]; omega

end Blocks

/-! The places of the output blocks' elements in the arrays. -/

theorem place11 (t : Fin cfg0.N) (s : Fin 4) (r : Fin 256) (k : Fin 512) : ((cfg0.win 11).blk t).view.emb (ix3 s r k)
    = (ix3 s (OddSpec.tok (tile t) r) k : S4x8448x512.Idx) := by
  obtain ⟨-, -, -, -, -, -, -, -, -, -, -, ⟨h0, h1, h2⟩, -⟩ := index_facts t
  refine funext fun a => Fin.ext ?_
  match a with
  | ⟨0, _⟩ => show win0_11.index t 0 * 4 + 1 * s.val = s.val; rw [h0]; omega
  | ⟨1, _⟩ => show win0_11.index t 1 * 256 + 1 * r.val = t.val * 256 + r.val; rw [h1]; omega
  | ⟨2, _⟩ => show win0_11.index t 2 * 512 + 1 * k.val = k.val; rw [h2]; omega

theorem place12 (t : Fin cfg0.N) (s : Fin 4) (r : Fin 256) (k : Fin 512) : ((cfg0.win 12).blk t).view.emb (ix3 s r k)
    = (ix3 s (OddSpec.tok (tile t) r) k : S4x8448x512.Idx) := by
  obtain ⟨-, -, -, -, -, -, -, -, -, -, -, -, ⟨h0, h1, h2⟩, -⟩ := index_facts t
  refine funext fun a => Fin.ext ?_
  match a with
  | ⟨0, _⟩ => show win0_12.index t 0 * 4 + 1 * s.val = s.val; rw [h0]; omega
  | ⟨1, _⟩ => show win0_12.index t 1 * 256 + 1 * r.val = t.val * 256 + r.val; rw [h1]; omega
  | ⟨2, _⟩ => show win0_12.index t 2 * 512 + 1 * k.val = k.val; rw [h2]; omega

theorem place13 (t : Fin cfg0.N) (s : Fin 4) (r : Fin 256) (k : Fin 512) : ((cfg0.win 13).blk t).view.emb (ix3 s r k)
    = (ix3 s (OddSpec.tok (tile t) r) k : S4x8448x512.Idx) := by
  obtain ⟨-, -, -, -, -, -, -, -, -, -, -, -, -, ⟨h0, h1, h2⟩, -⟩ := index_facts t
  refine funext fun a => Fin.ext ?_
  match a with
  | ⟨0, _⟩ => show win0_13.index t 0 * 4 + 1 * s.val = s.val; rw [h0]; omega
  | ⟨1, _⟩ => show win0_13.index t 1 * 256 + 1 * r.val = t.val * 256 + r.val; rw [h1]; omega
  | ⟨2, _⟩ => show win0_13.index t 2 * 512 + 1 * k.val = k.val; rw [h2]; omega

theorem place15 (t : Fin cfg0.N) (s : Fin 4) (r : Fin 256) (k : Fin 512) : ((cfg0.win 15).blk t).view.emb (ix3 s r k)
    = (ix3 s (OddSpec.tok (tile t) r) k : S4x8448x512.Idx) := by
  obtain ⟨-, -, -, -, -, -, -, -, -, -, -, -, -, -, -, ⟨h0, h1, h2⟩, -⟩ := index_facts t
  refine funext fun a => Fin.ext ?_
  match a with
  | ⟨0, _⟩ => show win0_15.index t 0 * 4 + 1 * s.val = s.val; rw [h0]; omega
  | ⟨1, _⟩ => show win0_15.index t 1 * 256 + 1 * r.val = t.val * 256 + r.val; rw [h1]; omega
  | ⟨2, _⟩ => show win0_15.index t 2 * 512 + 1 * k.val = k.val; rw [h2]; omega

theorem place14 (t : Fin cfg0.N) (s : Fin 4) (k : Fin 512) (r : Fin 256) : ((cfg0.win 14).blk t).view.emb (ix4 s 0 k r)
    = (ix4 s (tile t) k r : S4x33x512x256.Idx) := by
  obtain ⟨-, -, -, -, -, -, -, -, -, -, -, -, -, -, ⟨h0, h1, h2, h3⟩, -⟩ := index_facts t
  refine funext fun a => Fin.ext ?_
  match a with
  | ⟨0, _⟩ => show win0_14.index t 0 * 4 + 1 * s.val = s.val; rw [h0]; omega
  | ⟨1, _⟩ => show win0_14.index t 1 * 1 + 1 * 0 = t.val; rw [h1]; omega
  | ⟨2, _⟩ => show win0_14.index t 2 * 512 + 1 * k.val = k.val; rw [h2]; omega
  | ⟨3, _⟩ => show win0_14.index t 3 * 256 + 1 * r.val = r.val; rw [h3]; omega

theorem place16 (t : Fin cfg0.N) (s : Fin 4) (k : Fin 576) (r : Fin 256) : ((cfg0.win 16).blk t).view.emb (ix4 s 0 k r)
    = (ix4 s (tile t) k r : S4x33x576x256.Idx) := by
  obtain ⟨-, -, -, -, -, -, -, -, -, -, -, -, -, -, -, -, ⟨h0, h1, h2, h3⟩, -⟩ := index_facts t
  refine funext fun a => Fin.ext ?_
  match a with
  | ⟨0, _⟩ => show win0_16.index t 0 * 4 + 1 * s.val = s.val; rw [h0]; omega
  | ⟨1, _⟩ => show win0_16.index t 1 * 1 + 1 * 0 = t.val; rw [h1]; omega
  | ⟨2, _⟩ => show win0_16.index t 2 * 576 + 1 * k.val = k.val; rw [h2]; omega
  | ⟨3, _⟩ => show win0_16.index t 3 * 256 + 1 * r.val = r.val; rw [h3]; omega

theorem place17 (t : Fin cfg0.N) (s : Fin 4) (k : Fin 8) (r : Fin 128) : ((cfg0.win 17).blk t).view.emb (ix4 s 0 k r)
    = (ix4 s (tile t) k r : S4x33x8x128.Idx) := by
  obtain ⟨-, -, -, -, -, -, -, -, -, -, -, -, -, -, -, -, -, h0, h1, h2, h3⟩ := index_facts t
  refine funext fun a => Fin.ext ?_
  match a with
  | ⟨0, _⟩ => show win0_17.index t 0 * 4 + 1 * s.val = s.val; rw [h0]; omega
  | ⟨1, _⟩ => show win0_17.index t 1 * 1 + 1 * 0 = t.val; rw [h1]; omega
  | ⟨2, _⟩ => show win0_17.index t 2 * 8 + 1 * k.val = k.val; rw [h2]; omega
  | ⟨3, _⟩ => show win0_17.index t 3 * 128 + 1 * r.val = r.val; rw [h3]; omega

end Cert.Kernel6Ideal.Body

end
-- ==== Proof.OddArray.lean ====
/- The seven arrays the odd layers' entry leaves, as functions of its arguments. -/
module

public import proofs.«01_k».proof.Proof.OddBlocks

@[expose] public section

noncomputable section

namespace Cert.Kernel6Ideal.Body

open Cert.Kernel6Ideal Cert.Kernel6Ideal.Gen Idealize.ShloMosaic Idealize.ShloMosaic.TcCoe Idealize.SL.Sem
open Idealize.ShloMosaic.StableHlo

/-! Each load at an index. -/

theorem ld_tile (X : Vec Ideal S4x256x1024 .f32) (s : Fin 4) (r : Fin 256) (k : Fin 1024) : View.ld X (tileBox s) (ix3 0 r k) = X (ix3 s r k) :=
  congrArg X (funext fun a => Fin.ext (by
    match a with
    | ⟨0, _⟩ => show s.val + 1 * 0 = s.val; omega
    | ⟨1, _⟩ => show 0 + 1 * r.val = r.val; omega
    | ⟨2, _⟩ => show 0 + 1 * k.val = k.val; omega))

theorem ld_rows (X : Vec Ideal S4x8x1024 .f32) (s : Fin 4) (r : Fin 8) (k : Fin 1024) : View.ld X (rowsBox s) (ix3 0 r k) = X (ix3 s r k) :=
  congrArg X (funext fun a => Fin.ext (by
    match a with
    | ⟨0, _⟩ => show s.val + 1 * 0 = s.val; omega
    | ⟨1, _⟩ => show 0 + 1 * r.val = r.val; omega
    | ⟨2, _⟩ => show 0 + 1 * k.val = k.val; omega))

theorem ld_mods (X : Vec Ideal S4x6x1024 .f32) (s : Fin 4) (r : Fin 6) (k : Fin 1024) : View.ld X (modsBox s) (ix3 0 r k) = X (ix3 s r k) :=
  congrArg X (funext fun a => Fin.ext (by
    match a with
    | ⟨0, _⟩ => show s.val + 1 * 0 = s.val; omega
    | ⟨1, _⟩ => show 0 + 1 * r.val = r.val; omega
    | ⟨2, _⟩ => show 0 + 1 * k.val = k.val; omega))

theorem ld_gain (X : Vec Ideal S1x1024 .f32) (i : Fin 1) (k : Fin 1024) : View.ld X (gainBox) (ix2 i k) = X (ix2 i k) :=
  congrArg X (funext fun a => Fin.ext (by
    match a with
    | ⟨0, _⟩ => show 0 + 1 * i.val = i.val; omega
    | ⟨1, _⟩ => show 0 + 1 * k.val = k.val; omega))

theorem ld_chan (X : Vec Ideal S1024x1536 .bf16) (i : Fin 1024) (k : Fin 1536) : View.ld X (chanBox) (ix2 i k) = X (ix2 i k) :=
  congrArg X (funext fun a => Fin.ext (by
    match a with
    | ⟨0, _⟩ => show 0 + 1 * i.val = i.val; omega
    | ⟨1, _⟩ => show 0 + 1 * k.val = k.val; omega))

theorem ld_head (X : Vec Ideal S1536x1024 .bf16) (i : Fin 1536) (k : Fin 1024) : View.ld X (headBox) (ix2 i k) = X (ix2 i k) :=
  congrArg X (funext fun a => Fin.ext (by
    match a with
    | ⟨0, _⟩ => show 0 + 1 * i.val = i.val; omega
    | ⟨1, _⟩ => show 0 + 1 * k.val = k.val; omega))

theorem ld_taps (X : Vec Ideal S3x1536 .f32) (i : Fin 3) (k : Fin 1536) : View.ld X (tapsBox) (ix2 i k) = X (ix2 i k) :=
  congrArg X (funext fun a => Fin.ext (by
    match a with
    | ⟨0, _⟩ => show 0 + 1 * i.val = i.val; omega
    | ⟨1, _⟩ => show 0 + 1 * k.val = k.val; omega))

theorem ld_bias (X : Vec Ideal S1x1536 .f32) (i : Fin 1) (k : Fin 1536) : View.ld X (biasBox) (ix2 i k) = X (ix2 i k) :=
  congrArg X (funext fun a => Fin.ext (by
    match a with
    | ⟨0, _⟩ => show 0 + 1 * i.val = i.val; omega
    | ⟨1, _⟩ => show 0 + 1 * k.val = k.val; omega))

theorem ld_angle (X : Vec Ideal S32x256 .f32) (i : Fin 32) (k : Fin 256) : View.ld X (angleBox) (ix2 i k) = X (ix2 i k) :=
  congrArg X (funext fun a => Fin.ext (by
    match a with
    | ⟨0, _⟩ => show 0 + 1 * i.val = i.val; omega
    | ⟨1, _⟩ => show 0 + 1 * k.val = k.val; omega))

/-! Each store's place in its block. -/

theorem emb_toks (s : Fin 4) (r : Fin 256) (n : Fin 512) : (toksBox s).emb (ix3 0 r n) = (ix3 s r n : S4x256x512.Idx) :=
  funext fun a => Fin.ext (by
    match a with
    | ⟨0, _⟩ => show s.val + 1 * 0 = s.val; omega
    | ⟨1, _⟩ => show 0 + 1 * r.val = r.val; omega
    | ⟨2, _⟩ => show 0 + 1 * n.val = n.val; omega)

theorem emb_half (s : Fin 4) (k : Fin 16) (j : Fin 32) (r : Fin 256) : (halfBox s k).emb (ix4 0 0 j r) = (ix4 s 0 ⟨32 * k.val + j.val, by omega⟩ r : S4x1x512x256.Idx) :=
  funext fun a => Fin.ext (by
    match a with
    | ⟨0, _⟩ => show s.val + 1 * 0 = s.val; omega
    | ⟨1, _⟩ => show 0 + 1 * 0 = 0; omega
    | ⟨2, _⟩ => show 32 * k.val + 1 * j.val = 32 * k.val + j.val; omega
    | ⟨3, _⟩ => show 0 + 1 * r.val = r.val; omega)

theorem emb_vals (s h : Fin 4) (j : Fin 128) (r : Fin 256) : (valsBox s h).emb (ix4 0 0 j r) = (ix4 s 0 ⟨144 * h.val + j.val, by omega⟩ r : S4x1x576x256.Idx) :=
  funext fun a => Fin.ext (by
    match a with
    | ⟨0, _⟩ => show s.val + 1 * 0 = s.val; omega
    | ⟨1, _⟩ => show 0 + 1 * 0 = 0; omega
    | ⟨2, _⟩ => show 144 * h.val + 1 * j.val = 144 * h.val + j.val; omega
    | ⟨3, _⟩ => show 0 + 1 * r.val = r.val; omega)

theorem emb_ones (s h : Fin 4) (j : Fin 16) (r : Fin 256) : (onesBox s h).emb (ix4 0 0 j r) = (ix4 s 0 ⟨144 * h.val + 128 + j.val, by omega⟩ r : S4x1x576x256.Idx) :=
  funext fun a => Fin.ext (by
    match a with
    | ⟨0, _⟩ => show s.val + 1 * 0 = s.val; omega
    | ⟨1, _⟩ => show 0 + 1 * 0 = 0; omega
    | ⟨2, _⟩ => show 144 * h.val + 128 + 1 * j.val = 144 * h.val + 128 + j.val; omega
    | ⟨3, _⟩ => show 0 + 1 * r.val = r.val; omega)

theorem emb_peak (s : Fin 4) (h : Fin 8) (l : Fin 128) : (peakBox s).emb (ix4 0 0 h l) = (ix4 s 0 h l : S4x1x8x128.Idx) :=
  funext fun a => Fin.ext (by
    match a with
    | ⟨0, _⟩ => show s.val + 1 * 0 = s.val; omega
    | ⟨1, _⟩ => show 0 + 1 * 0 = 0; omega
    | ⟨2, _⟩ => show 0 + 1 * h.val = h.val; omega
    | ⟨3, _⟩ => show 0 + 1 * l.val = l.val; omega)

theorem mem_toks (s : Fin 4) (r : Fin 256) (n : Fin 512) : (ix3 s r n : S4x256x512.Idx) ∈ (toksBox s).set := by
  rw [← emb_toks s r n]; exact (toksBox s).idx_mem (ix3 0 r n)

theorem mem_half (s : Fin 4) (a : Fin 512) (r : Fin 256) : (ix4 s 0 a r : S4x1x512x256.Idx) ∈ (halfBox s ⟨a.val / 32, by omega⟩).set := by
  have e : a = ⟨32 * (⟨a.val / 32, by omega⟩ : Fin 16).val + (⟨a.val % 32, by omega⟩ : Fin 32).val, by show 32 * (a.val / 32) + a.val % 32 < 512; omega⟩ :=
    Fin.ext (Nat.div_add_mod a.val 32).symm
  refine (congrArg (fun z => (ix4 s 0 z r : S4x1x512x256.Idx) ∈ (halfBox s ⟨a.val / 32, by omega⟩).set) e).mpr ?_
  rw [← emb_half s ⟨a.val / 32, by omega⟩ ⟨a.val % 32, by omega⟩ r]
  exact (halfBox s ⟨a.val / 32, by omega⟩).idx_mem (ix4 0 0 ⟨a.val % 32, by omega⟩ r)

theorem mem_vals (s h : Fin 4) (j : Fin 128) (r : Fin 256) : (ix4 s 0 ⟨144 * h.val + j.val, by omega⟩ r : S4x1x576x256.Idx) ∈ (valsBox s h).set := by
  rw [← emb_vals s h j r]; exact (valsBox s h).idx_mem (ix4 0 0 j r)

theorem mem_ones (s h : Fin 4) (j : Fin 16) (r : Fin 256) : (ix4 s 0 ⟨144 * h.val + 128 + j.val, by omega⟩ r : S4x1x576x256.Idx) ∈ (onesBox s h).set := by
  rw [← emb_ones s h j r]; exact (onesBox s h).idx_mem (ix4 0 0 j r)

theorem mem_peak (s : Fin 4) (h : Fin 8) (l : Fin 128) : (ix4 s 0 h l : S4x1x8x128.Idx) ∈ (peakBox s).set := by
  rw [← emb_peak s h l]; exact (peakBox s).idx_mem (ix4 0 0 h l)

variable (m : (ℓ : Loc nD τ sig) → Buf (Elt Ideal) ℓ) (c : Dev nD)

/-- The projection, cosines and sines the arguments hold. -/
abbrev P (b : Fin 4) (t : Fin 8448) : Fin 3072 → EReal :=
  OddSpec.proj (fun b t k => m ((c : Thread nD τ).loc main_arg0) (ix3 b t k)) (fun a i k => m ((c : Thread nD τ).loc main_arg1) (ix3 a i k))
    (fun k => m ((c : Thread nD τ).loc main_arg2) (ix2 0 k)) (fun k n => m ((c : Thread nD τ).loc main_arg3) (ix2 k n)) b t
abbrev cosAt (t : Fin 8448) (j : Fin 32) : EReal := m ((c : Thread nD τ).loc main_arg6) (ix2 j t)
abbrev sinAt (t : Fin 8448) (j : Fin 32) : EReal := m ((c : Thread nD τ).loc main_arg7) (ix2 j t)

/-- One channel of the convolution at a token. -/
def convVal (b : Fin 4) (t : Fin 8448) (a : Fin 1536) : EReal :=
  OddSpec.conv (fun t => P m c b t (chanCol a)) (fun i => m ((c : Thread nD τ).loc main_arg4) (ix2 i a)) (m ((c : Thread nD τ).loc main_arg5) (ix1 a)) t
def queryVal (b : Fin 4) (t : Fin 8448) (k : Fin 512) : EReal :=
  OddSpec.rot (OddSpec.qs (P m c b t)) (cosAt m c t) (sinAt m c t) k * Ideal.ofBits .f32 0x3E38AA3B#32
def keyVal (b : Fin 4) (t : Fin 8448) (k : Fin 512) : EReal :=
  OddSpec.rot (OddSpec.ks (P m c b t)) (cosAt m c t) (sinAt m c t) k
def valueVal (b : Fin 4) (t : Fin 8448) (k : Fin 576) : EReal := OddSpec.vals (OddSpec.vs (P m c b t)) k
def peakVal (b : Fin 4) (j : Fin 33) (h : Fin 8) : EReal :=
  OddSpec.top fun r => OddSpec.nrm (OddSpec.ks (P m c b (OddSpec.tok j r))) (cosAt m c (OddSpec.tok j r)) (sinAt m c (OddSpec.tok j r)) h

/-- The result arrays. -/
def convArr (o : Fin 3) : S4x8448x512.Idx → EReal := fun i =>
  convVal m c (i 0) (i 1) ⟨512 * o.val + (i 2).val, by have : (i 2).val < 512 := (i 2).isLt; omega⟩
def queryArr : S4x33x512x256.Idx → EReal := fun i => queryVal m c (i 0) (OddSpec.tok (i 1) (i 3)) (i 2)
def keyArr : S4x8448x512.Idx → EReal := fun i => keyVal m c (i 0) (i 1) (i 2)
def valueArr : S4x33x576x256.Idx → EReal := fun i => valueVal m c (i 0) (OddSpec.tok (i 1) (i 3)) (i 2)
def peakArr : S4x33x8x128.Idx → EReal := fun i => peakVal m c (i 0) (i 1) (i 2)

variable (t : Fin cfg0.N) (s : Fin 4)

/-- The convolution's channels of a grid point. -/
theorem conv_piece (r : Fin 256) (a : Fin 1536) :
    convOf (BitVec.ofNat 32 (tile t).val) (View.ld (iblk m c 0 t) (tileBox s)) (View.ld (iblk m c 1 t) (rowsBox s)) (View.ld (iblk m c 2 t) (rowsBox s)) (View.ld (iblk m c 3 t) (modsBox s)) (View.ld (iblk m c 4 t) gainBox) (View.ld (iblk m c 5 t) chanBox) (View.ld (iblk m c 7 t) tapsBox) (View.ld (iblk m c 8 t) biasBox) (ix2 r a)
      = convVal m c s (OddSpec.tok (tile t) r) a :=
  conv_row (X := fun b t k => m ((c : Thread nD τ).loc main_arg0) (ix3 b t k)) (M := fun a i k => m ((c : Thread nD τ).loc main_arg1) (ix3 a i k))
    (G := fun k => m ((c : Thread nD τ).loc main_arg2) (ix2 0 k)) (W := fun k n => m ((c : Thread nD τ).loc main_arg3) (ix2 k n))
    (CW := fun i a => m ((c : Thread nD τ).loc main_arg4) (ix2 i a)) (CB := fun a => m ((c : Thread nD τ).loc main_arg5) (ix1 a))
    s (tile t) _ _ _ _ _ _ _ _
    (fun r k => (ld_tile _ s r k).trans (blk0 m c t s r k)) (fun h k => (ld_rows _ s 7 k).trans (blk1 m c t h s k)) (fun h k => (ld_rows _ s 0 k).trans (blk2 m c t h s k))
    (fun r i k => (ld_mods _ s i k).trans (blk3 m c t s r i k)) (fun k => (ld_gain _ 0 k).trans (blk4 m c t k)) (fun k a => (ld_chan _ k a).trans (blk5 m c t k a))
    (fun i a => (ld_taps _ i a).trans (blk7 m c t i a)) (fun a => (ld_bias _ 0 a).trans (blk8 m c t a)) r a

/-- The heads' channels of a grid point. -/
theorem heads_piece (r : Fin 256) (a : Fin 1536) :
    headsOf (View.ld (iblk m c 0 t) (tileBox s)) (View.ld (iblk m c 3 t) (modsBox s)) (View.ld (iblk m c 4 t) gainBox) (View.ld (iblk m c 6 t) headBox) (ix2 a r)
      = P m c s (OddSpec.tok (tile t) r) (col a) :=
  heads_row (X := fun b t k => m ((c : Thread nD τ).loc main_arg0) (ix3 b t k)) (M := fun a i k => m ((c : Thread nD τ).loc main_arg1) (ix3 a i k))
    (G := fun k => m ((c : Thread nD τ).loc main_arg2) (ix2 0 k)) (W := fun k n => m ((c : Thread nD τ).loc main_arg3) (ix2 k n))
    s (tile t) _ _ _ _
    (fun r k => (ld_tile _ s r k).trans (blk0 m c t s r k))
    (fun r i k => (ld_mods _ s i k).trans (blk3 m c t s r i k)) (fun k => (ld_gain _ 0 k).trans (blk4 m c t k)) (fun a k => (ld_head _ a k).trans (blk6 m c t a k)) a r

theorem cos_piece (r : Fin 256) (j : Fin 32) : View.ld (iblk m c 9 t) angleBox (ix2 j r) = cosAt m c (OddSpec.tok (tile t) r) j :=
  (ld_angle _ j r).trans (blk9 m c t j r)
theorem sin_piece (r : Fin 256) (j : Fin 32) : View.ld (iblk m c 10 t) angleBox (ix2 j r) = sinAt m c (OddSpec.tok (tile t) r) j :=
  (ld_angle _ j r).trans (blk10 m c t j r)

/-! The arrays the kernel leaves. -/

theorem final11 : (dats m 0 c).arrAt 11 cfg0.N = convArr m c 0 := by
  refine (dats m 0 c).arrAt_eq_of_covers 11 _ (by decide +kernel) fun t hf y => ?_
  show (dats m 0 c).after 11 t y = _
  rw [after0_11]
  simp only [outsAt0]
  rw [out_11]
  refine View.canon_apply_of_pieces (Val := Elt Ideal) (e := .f32) (fun y => convArr m c 0 (((cfg0.win 11).blk t).view.emb y)) _ ?_ y ?_
  · intro p hp x
    obtain ⟨s, -, rfl⟩ := List.mem_map.mp hp
    obtain ⟨z, r, n, rfl⟩ : ∃ z r n, x = ix3 z r n := ⟨x 0, x 1, x 2, eq_ix3 x⟩
    obtain rfl : z = 0 := Subsingleton.elim _ _
    dsimp only
    refine Eq.trans ?_ (congrArg (fun z => convArr m c 0 (((cfg0.win 11).blk t).view.emb z)) (emb_toks s r n)).symm
    refine Eq.trans ?_ (congrArg (convArr m c 0) (place11 t s r n)).symm
    refine (third_at _ 0 r n).trans ?_
    rw [coord_eq]
    exact conv_piece m c t s r _
  · obtain ⟨s, r, n, rfl⟩ : ∃ (s : Fin 4) (r : Fin 256) (n : Fin 512), y = ix3 s r n := ⟨y 0, y 1, y 2, eq_ix3 y⟩
    exact ⟨_, List.mem_map_of_mem (mem_samples s), mem_toks s r n⟩

theorem final12 : (dats m 0 c).arrAt 12 cfg0.N = convArr m c 1 := by
  refine (dats m 0 c).arrAt_eq_of_covers 12 _ (by decide +kernel) fun t hf y => ?_
  show (dats m 0 c).after 12 t y = _
  rw [after0_12]
  simp only [outsAt0]
  rw [out_12]
  refine View.canon_apply_of_pieces (Val := Elt Ideal) (e := .f32) (fun y => convArr m c 1 (((cfg0.win 12).blk t).view.emb y)) _ ?_ y ?_
  · intro p hp x
    obtain ⟨s, -, rfl⟩ := List.mem_map.mp hp
    obtain ⟨z, r, n, rfl⟩ : ∃ z r n, x = ix3 z r n := ⟨x 0, x 1, x 2, eq_ix3 x⟩
    obtain rfl : z = 0 := Subsingleton.elim _ _
    dsimp only
    refine Eq.trans ?_ (congrArg (fun z => convArr m c 1 (((cfg0.win 12).blk t).view.emb z)) (emb_toks s r n)).symm
    refine Eq.trans ?_ (congrArg (convArr m c 1) (place12 t s r n)).symm
    refine (third_at _ 1 r n).trans ?_
    rw [coord_eq]
    exact conv_piece m c t s r _
  · obtain ⟨s, r, n, rfl⟩ : ∃ (s : Fin 4) (r : Fin 256) (n : Fin 512), y = ix3 s r n := ⟨y 0, y 1, y 2, eq_ix3 y⟩
    exact ⟨_, List.mem_map_of_mem (mem_samples s), mem_toks s r n⟩

theorem final13 : (dats m 0 c).arrAt 13 cfg0.N = convArr m c 2 := by
  refine (dats m 0 c).arrAt_eq_of_covers 13 _ (by decide +kernel) fun t hf y => ?_
  show (dats m 0 c).after 13 t y = _
  rw [after0_13]
  simp only [outsAt0]
  rw [out_13]
  refine View.canon_apply_of_pieces (Val := Elt Ideal) (e := .f32) (fun y => convArr m c 2 (((cfg0.win 13).blk t).view.emb y)) _ ?_ y ?_
  · intro p hp x
    obtain ⟨s, -, rfl⟩ := List.mem_map.mp hp
    obtain ⟨z, r, n, rfl⟩ : ∃ z r n, x = ix3 z r n := ⟨x 0, x 1, x 2, eq_ix3 x⟩
    obtain rfl : z = 0 := Subsingleton.elim _ _
    dsimp only
    refine Eq.trans ?_ (congrArg (fun z => convArr m c 2 (((cfg0.win 13).blk t).view.emb z)) (emb_toks s r n)).symm
    refine Eq.trans ?_ (congrArg (convArr m c 2) (place13 t s r n)).symm
    refine (third_at _ 2 r n).trans ?_
    rw [coord_eq]
    exact conv_piece m c t s r _
  · obtain ⟨s, r, n, rfl⟩ : ∃ (s : Fin 4) (r : Fin 256) (n : Fin 512), y = ix3 s r n := ⟨y 0, y 1, y 2, eq_ix3 y⟩
    exact ⟨_, List.mem_map_of_mem (mem_samples s), mem_toks s r n⟩

theorem final14 : (dats m 0 c).arrAt 14 cfg0.N = queryArr m c := by
  refine (dats m 0 c).arrAt_eq_of_covers 14 _ (by decide +kernel) fun t hf y => ?_
  show (dats m 0 c).after 14 t y = _
  rw [after0_14]
  simp only [outsAt0]
  rw [out_14]
  refine View.canon_apply_of_pieces (Val := Elt Ideal) (e := .bf16) (fun y => queryArr m c (((cfg0.win 14).blk t).view.emb y)) _ ?_ y ?_
  · intro p hp x
    obtain ⟨⟨s, k⟩, -, rfl⟩ := List.mem_map.mp hp
    obtain ⟨z, z', j, r, rfl⟩ : ∃ z z' j r, x = ix4 z z' j r := ⟨x 0, x 1, x 2, x 3, eq_ix4 x⟩
    obtain rfl : z = 0 := Subsingleton.elim _ _
    obtain rfl : z' = 0 := Subsingleton.elim _ _
    dsimp only
    refine Eq.trans ?_ (congrArg (fun z => queryArr m c (((cfg0.win 14).blk t).view.emb z)) (emb_half s k j r)).symm
    refine Eq.trans ?_ (congrArg (queryArr m c) (place14 t s _ r)).symm
    exact query_row _ _ _ _ _ _ r (fun a => heads_piece m c t s r a) (fun j => cos_piece m c t r j) (fun j => sin_piece m c t r j) k j
  · obtain ⟨s, z, a, r, rfl⟩ : ∃ (s : Fin 4) (z : Fin 1) (a : Fin 512) (r : Fin 256), y = ix4 s z a r := ⟨y 0, y 1, y 2, y 3, eq_ix4 y⟩
    obtain rfl : z = 0 := Subsingleton.elim _ _
    exact ⟨_, List.mem_map_of_mem (mem_halves s ⟨a.val / 32, by omega⟩), mem_half s a r⟩

theorem final15 : (dats m 0 c).arrAt 15 cfg0.N = keyArr m c := by
  refine (dats m 0 c).arrAt_eq_of_covers 15 _ (by decide +kernel) fun t hf y => ?_
  show (dats m 0 c).after 15 t y = _
  rw [after0_15]
  simp only [outsAt0]
  rw [out_15]
  refine View.canon_apply_of_pieces (Val := Elt Ideal) (e := .bf16) (fun y => keyArr m c (((cfg0.win 15).blk t).view.emb y)) _ ?_ y ?_
  · intro p hp x
    obtain ⟨s, -, rfl⟩ := List.mem_map.mp hp
    obtain ⟨z, r, n, rfl⟩ : ∃ z r n, x = ix3 z r n := ⟨x 0, x 1, x 2, eq_ix3 x⟩
    obtain rfl : z = 0 := Subsingleton.elim _ _
    dsimp only
    refine Eq.trans ?_ (congrArg (fun z => keyArr m c (((cfg0.win 15).blk t).view.emb z)) (emb_toks s r n)).symm
    refine Eq.trans ?_ (congrArg (keyArr m c) (place15 t s r n)).symm
    exact keys_row _ _ _ _ _ _ r (fun a => heads_piece m c t s r a) (fun j => cos_piece m c t r j) (fun j => sin_piece m c t r j) n
  · obtain ⟨s, r, n, rfl⟩ : ∃ (s : Fin 4) (r : Fin 256) (n : Fin 512), y = ix3 s r n := ⟨y 0, y 1, y 2, eq_ix3 y⟩
    exact ⟨_, List.mem_map_of_mem (mem_samples s), mem_toks s r n⟩

theorem final16 : (dats m 0 c).arrAt 16 cfg0.N = valueArr m c := by
  refine (dats m 0 c).arrAt_eq_of_covers 16 _ (by decide +kernel) fun t hf y => ?_
  show (dats m 0 c).after 16 t y = _
  rw [after0_16]
  simp only [outsAt0]
  rw [out_16]
  refine View.canon_apply_of_pieces (Val := Elt Ideal) (e := .bf16) (fun y => valueArr m c (((cfg0.win 16).blk t).view.emb y)) _ ?_ y ?_
  · intro p hp x
    obtain ⟨⟨s, h⟩, -, hp⟩ := List.mem_flatMap.mp hp
    simp only [List.mem_cons, List.not_mem_nil, or_false] at hp
    rcases hp with rfl | rfl
    · obtain ⟨z, z', j, r, rfl⟩ : ∃ z z' j r, x = ix4 z z' j r := ⟨x 0, x 1, x 2, x 3, eq_ix4 x⟩
      obtain rfl : z = 0 := Subsingleton.elim _ _
      obtain rfl : z' = 0 := Subsingleton.elim _ _
      dsimp only
      refine Eq.trans ?_ (congrArg (fun z => valueArr m c (((cfg0.win 16).blk t).view.emb z)) (emb_ones s h j r)).symm
      refine Eq.trans ?_ (congrArg (valueArr m c) (place16 t s _ r)).symm
      exact ones_row _ r h j
    · obtain ⟨z, z', j, r, rfl⟩ : ∃ z z' j r, x = ix4 z z' j r := ⟨x 0, x 1, x 2, x 3, eq_ix4 x⟩
      obtain rfl : z = 0 := Subsingleton.elim _ _
      obtain rfl : z' = 0 := Subsingleton.elim _ _
      dsimp only
      refine Eq.trans ?_ (congrArg (fun z => valueArr m c (((cfg0.win 16).blk t).view.emb z)) (emb_vals s h j r)).symm
      refine Eq.trans ?_ (congrArg (valueArr m c) (place16 t s _ r)).symm
      exact value_row _ _ r (fun a => heads_piece m c t s r a) h j
  · obtain ⟨s, z, a, r, rfl⟩ : ∃ (s : Fin 4) (z : Fin 1) (a : Fin 576) (r : Fin 256), y = ix4 s z a r := ⟨y 0, y 1, y 2, y 3, eq_ix4 y⟩
    obtain rfl : z = 0 := Subsingleton.elim _ _
    have ha := a.isLt
    by_cases h : a.val % 144 < 128
    · have e : a = ⟨144 * (⟨a.val / 144, by omega⟩ : Fin 4).val + (⟨a.val % 144, h⟩ : Fin 128).val, by show 144 * (a.val / 144) + a.val % 144 < 576; omega⟩ :=
        Fin.ext (Nat.div_add_mod a.val 144).symm
      refine ⟨_, List.mem_flatMap.mpr ⟨(s, ⟨a.val / 144, by omega⟩), mem_heads s _, List.mem_cons_of_mem _ (List.mem_singleton.mpr rfl)⟩, ?_⟩
      exact (congrArg (fun z => (ix4 s 0 z r : S4x1x576x256.Idx) ∈ (valsBox s ⟨a.val / 144, by omega⟩).set) e).mpr (mem_vals s ⟨a.val / 144, by omega⟩ ⟨a.val % 144, h⟩ r)
    · have e : a = ⟨144 * (⟨a.val / 144, by omega⟩ : Fin 4).val + 128 + (⟨a.val % 144 - 128, by omega⟩ : Fin 16).val, by show 144 * (a.val / 144) + 128 + (a.val % 144 - 128) < 576; omega⟩ :=
        Fin.ext (by show a.val = 144 * (a.val / 144) + 128 + (a.val % 144 - 128); omega)
      refine ⟨_, List.mem_flatMap.mpr ⟨(s, ⟨a.val / 144, by omega⟩), mem_heads s _, List.mem_cons_self⟩, ?_⟩
      exact (congrArg (fun z => (ix4 s 0 z r : S4x1x576x256.Idx) ∈ (onesBox s ⟨a.val / 144, by omega⟩).set) e).mpr (mem_ones s ⟨a.val / 144, by omega⟩ ⟨a.val % 144 - 128, by omega⟩ r)

theorem final17 : (dats m 0 c).arrAt 17 cfg0.N = peakArr m c := by
  refine (dats m 0 c).arrAt_eq_of_covers 17 _ (by decide +kernel) fun t hf y => ?_
  show (dats m 0 c).after 17 t y = _
  rw [after0_17]
  simp only [outsAt0]
  rw [out_17]
  refine View.canon_apply_of_pieces (Val := Elt Ideal) (e := .f32) (fun y => peakArr m c (((cfg0.win 17).blk t).view.emb y)) _ ?_ y ?_
  · intro p hp x
    obtain ⟨s, -, rfl⟩ := List.mem_map.mp hp
    obtain ⟨z, z', j, r, rfl⟩ : ∃ z z' j r, x = ix4 z z' j r := ⟨x 0, x 1, x 2, x 3, eq_ix4 x⟩
    obtain rfl : z = 0 := Subsingleton.elim _ _
    obtain rfl : z' = 0 := Subsingleton.elim _ _
    dsimp only
    refine Eq.trans ?_ (congrArg (fun z => peakArr m c (((cfg0.win 17).blk t).view.emb z)) (emb_peak s j r)).symm
    refine Eq.trans ?_ (congrArg (peakArr m c) (place17 t s j r)).symm
    exact peak_row _ _ _ _ _ _ (fun r a => heads_piece m c t s r a) (fun r j => cos_piece m c t r j) (fun r j => sin_piece m c t r j) j r
  · obtain ⟨s, z, a, r, rfl⟩ : ∃ (s : Fin 4) (z : Fin 1) (a : Fin 8) (r : Fin 128), y = ix4 s z a r := ⟨y 0, y 1, y 2, y 3, eq_ix4 y⟩
    obtain rfl : z = 0 := Subsingleton.elim _ _
    exact ⟨_, List.mem_map_of_mem (mem_samples s), mem_peak s a r⟩

end Cert.Kernel6Ideal.Body

end
-- ==== Proof.OddReference.lean ====
/- The reference's seven results, read as the functions of the entry of an odd layer. -/
module

public import proofs.«01_k».proof.Proof.OddSpec
public import proofs.«01_k».proof.Proof.Gen.Reference6Ideal.Read
public import Idealize.ShloMosaic.Lib.Pointwise
public import Idealize.ShloMosaic.Lib.KernelVsHost

@[expose] public section

noncomputable section

namespace Cert.Reference6Ideal.Rows

open Cert.Reference6Ideal Cert.Reference6Ideal.Gen Cert.Reference6Ideal.Read Idealize.ShloMosaic Idealize.ShloMosaic.TcCoe Idealize.SL.Sem
open Idealize.ShloMosaic.StableHlo Cert

variable (x0 : (⟨S4x8448x1024, .f32⟩ : BufTy).Contents (Elt Ideal)) (x1 : (⟨S8x6x1024, .f32⟩ : BufTy).Contents (Elt Ideal))
  (x2 : (⟨S1x1024, .f32⟩ : BufTy).Contents (Elt Ideal)) (x3 : (⟨S1024x3072, .f32⟩ : BufTy).Contents (Elt Ideal))
  (x4 : (⟨S3x1536, .f32⟩ : BufTy).Contents (Elt Ideal)) (x5 : (⟨S1536, .f32⟩ : BufTy).Contents (Elt Ideal))
  (x6 : (⟨S32x8448, .f32⟩ : BufTy).Contents (Elt Ideal)) (x7 : (⟨S32x8448, .f32⟩ : BufTy).Contents (Elt Ideal))

/-- The reference's projection, as a function of its arrays. -/
abbrev P (b : Fin 4) (t : Fin 8448) : Fin 3072 → EReal :=
  OddSpec.proj (fun b t k => x0 (ix3 b t k)) (fun a i k => x1 (ix3 a i k)) (fun k => x2 (ix2 0 k)) (fun k n => x3 (ix2 k n)) b t

/-- Whether a token is one of the context's. -/
theorem lt_at (t : Fin 8448) : IntOp.cmpi CmpIPredicate.slt (BitVec.ofNat 32 t.val) 256#32 = if t.val < 256 then 1#1 else 0#1 := by
  have e : (BitVec.ofNat 32 t.val).slt 256#32 = decide (t.val < 256) := by
    have h : t.val < 8448 := t.isLt
    rw [BitVec.slt_eq_decide, BitVec.toInt_eq_toNat_of_lt (by rw [BitVec.toNat_ofNat]; omega), BitVec.toNat_ofNat, Nat.mod_eq_of_lt (by omega)]
    exact decide_eq_decide.mpr (by show ((t.val : Int) < 256) ↔ _; omega)
  unfold IntOp.cmpi
  simp only [e]
  by_cases h : t.val < 256 <;> simp [h]

/-- The choice between the context's row and the sample's. -/
theorem pick_at (g : Fin 8 → EReal) (b : Fin 4) (t : Fin 8448) :
    Scalar.select (IntOp.cmpi CmpIPredicate.slt (BitVec.ofNat 32 t.val) 256#32) (g ⟨4 + b.val, by omega⟩) (g ⟨b.val, by omega⟩)
      = g (OddSpec.modRow b t) := by
  rw [lt_at]
  unfold OddSpec.modRow
  by_cases ht : t.val < 256
  · rw [if_pos ht, if_pos ht]; rfl
  · rw [if_neg ht, if_neg ht]; rfl

theorem m0_at (b : Fin 4) (t : Fin 8448) (c : Fin 1024) : val_main_v10 (F := Ideal) x1 (ix3 b t c) = x1 (ix3 (OddSpec.modRow b t) 0 c) := by
  pointwise [val_main_v0, val_main_v1, val_main_v2, val_main_v3, val_main_v4, val_main_v5, val_main_v6, val_main_v7, val_main_v8, val_main_v9, val_main_v10, val_main_call0_v0, val_main_call0_v1, val_main_call0_v2, val_main_c]
  exact pick_at (fun r => x1 (ix3 r 0 c)) b t

theorem m1_at (b : Fin 4) (t : Fin 8448) (c : Fin 1024) : val_main_v19 (F := Ideal) x1 (ix3 b t c) = x1 (ix3 (OddSpec.modRow b t) 1 c) := by
  pointwise [val_main_v0, val_main_v1, val_main_v11, val_main_v12, val_main_v13, val_main_v14, val_main_v15, val_main_v16, val_main_v17, val_main_v18, val_main_v19, val_main_call1_v0, val_main_call1_v1, val_main_call1_v2, val_main_c_0]
  exact pick_at (fun r => x1 (ix3 r 1 c)) b t

theorem norm_at (b : Fin 4) (t : Fin 8448) (c : Fin 1024) : val_main_v33 (F := Ideal) x0 x2 (ix3 b t c)
    = PostSpec.rms (fun k => x0 (ix3 b t k)) (fun k => x2 (ix2 0 k)) c := by
  unfold PostSpec.rms
  pointwise [val_main_v20, val_main_v21, val_main_v22, val_main_v23, val_main_v24, val_main_v25, val_main_v26, val_main_v27, val_main_v28, val_main_v29, val_main_v30, val_main_v31, val_main_v32, val_main_v33, val_main_cst, val_main_cst_1, val_main_cst_2]

theorem hid_at (b : Fin 4) (t : Fin 8448) (c : Fin 1024) : val_main_v37 (F := Ideal) x0 x1 x2 (ix3 b t c)
    = OddSpec.hrow (fun b t k => x0 (ix3 b t k)) (fun a i k => x1 (ix3 a i k)) (fun k => x2 (ix2 0 k)) b t c := by
  unfold OddSpec.hrow PostSpec.hid
  rw [← norm_at]
  simp only [← m0_at, ← m1_at]
  pointwise [val_main_v34, val_main_v35, val_main_v36, val_main_v37, val_main_cst_3]

theorem p_at (b : Fin 4) (t : Fin 8448) (n : Fin 3072) : val_main_v38 (F := Ideal) x0 x1 x2 x3 (ix3 b t n) = P x0 x1 x2 x3 b t n := by
  unfold P OddSpec.proj
  simp only [← hid_at]
  pointwise [val_main_v38]

theorem u_at (b : Fin 4) (t : Fin 8448) (n : Fin 1536) :
    val_main_v39 (F := Ideal) x0 x1 x2 x3 (ix3 b t n) = P x0 x1 x2 x3 b t ⟨n.val, by omega⟩ := by
  rw [← p_at]
  pointwise [val_main_v39]

theorem q_at (b : Fin 4) (t : Fin 8448) (n : Fin 512) :
    val_main_v40 (F := Ideal) x0 x1 x2 x3 (ix3 b t n) = OddSpec.qs (P x0 x1 x2 x3 b t) n := by
  unfold OddSpec.qs
  rw [← p_at]
  pointwise [val_main_v40]

theorem k_at (b : Fin 4) (t : Fin 8448) (n : Fin 512) :
    val_main_v41 (F := Ideal) x0 x1 x2 x3 (ix3 b t n) = OddSpec.ks (P x0 x1 x2 x3 b t) n := by
  unfold OddSpec.ks
  rw [← p_at]
  pointwise [val_main_v41]

theorem v_at (b : Fin 4) (t : Fin 8448) (n : Fin 512) :
    val_main_v42 (F := Ideal) x0 x1 x2 x3 (ix3 b t n) = OddSpec.vs (P x0 x1 x2 x3 b t) n := by
  unfold OddSpec.vs
  rw [← p_at]
  pointwise [val_main_v42]

/-- The context's rows with one row of zeros before and one after. -/
theorem padc_at (b : Fin 4) (i : Fin 258) (n : Fin 1536) : val_main_v72 (F := Ideal) x0 x1 x2 x3 (ix3 b i n)
    = if h : i.val = 0 ∨ i.val = 257 then 0 else P x0 x1 x2 x3 b ⟨i.val - 1, by omega⟩ ⟨n.val, by omega⟩ := by
  unfold val_main_v72
  by_cases h : i.val = 0 ∨ i.val = 257
  · rw [dif_pos h]
    rw [pad_apply_of_not_inside _ _ _ _ _ _ _ _ 1 (by
      show ¬ (1 ≤ i.val ∧ (i.val - 1) % (0 + 1) = 0 ∧ (i.val - 1) / (0 + 1) < 256)
      omega)]
    unfold val_main_call2_v0 val_main_c_5
    exact sitofp_zero (φ := .f32)
  · rw [dif_neg h]
    rw [pad_apply_of_inside _ _ _ _ _ _ _ (ix3 b i n) (ix3 b ⟨i.val - 1, by omega⟩ n) (fun a => by
      match a with
      | ⟨0, _⟩ => show b.val = 0 + b.val * (0 + 1); omega
      | ⟨1, _⟩ => show i.val = 1 + (i.val - 1) * (0 + 1); omega
      | ⟨2, _⟩ => show n.val = 0 + n.val * (0 + 1); omega)]
    rw [← u_at x0 x1 x2 x3 b ⟨i.val - 1, by omega⟩ n]
    pointwise [val_main_v71]

theorem padl_at (b : Fin 4) (i : Fin 8194) (n : Fin 1536) : val_main_v123 (F := Ideal) x0 x1 x2 x3 (ix3 b i n)
    = if h : i.val = 0 ∨ i.val = 8193 then 0 else P x0 x1 x2 x3 b ⟨256 + (i.val - 1), by omega⟩ ⟨n.val, by omega⟩ := by
  unfold val_main_v123
  by_cases h : i.val = 0 ∨ i.val = 8193
  · rw [dif_pos h]
    rw [pad_apply_of_not_inside _ _ _ _ _ _ _ _ 1 (by
      show ¬ (1 ≤ i.val ∧ (i.val - 1) % (0 + 1) = 0 ∧ (i.val - 1) / (0 + 1) < 8192)
      omega)]
    unfold val_main_call3_v0 val_main_c_6
    exact sitofp_zero (φ := .f32)
  · rw [dif_neg h]
    rw [pad_apply_of_inside _ _ _ _ _ _ _ (ix3 b i n) (ix3 b ⟨i.val - 1, by omega⟩ n) (fun a => by
      match a with
      | ⟨0, _⟩ => show b.val = 0 + b.val * (0 + 1); omega
      | ⟨1, _⟩ => show i.val = 1 + (i.val - 1) * (0 + 1); omega
      | ⟨2, _⟩ => show n.val = 0 + n.val * (0 + 1); omega)]
    rw [← u_at x0 x1 x2 x3 b ⟨256 + (i.val - 1), by omega⟩ n]
    pointwise [val_main_v122]

/-- The convolution of the context's tokens, and of the latents'. -/
theorem convc_at (b : Fin 4) (r : Fin 256) (n : Fin 1536) : val_main_v95 (F := Ideal) x0 x1 x2 x3 x4 x5 (ix3 b r n)
    = val_main_v72 (F := Ideal) x0 x1 x2 x3 (ix3 b ⟨r.val, by omega⟩ n) * x4 (ix2 0 n)
      + val_main_v72 (F := Ideal) x0 x1 x2 x3 (ix3 b ⟨1 + r.val, by omega⟩ n) * x4 (ix2 1 n)
      + val_main_v72 (F := Ideal) x0 x1 x2 x3 (ix3 b ⟨2 + r.val, by omega⟩ n) * x4 (ix2 2 n) + x5 (ix1 n) := by
  pointwise [val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95]

theorem convl_at (b : Fin 4) (r : Fin 8192) (n : Fin 1536) : val_main_v146 (F := Ideal) x0 x1 x2 x3 x4 x5 (ix3 b r n)
    = val_main_v123 (F := Ideal) x0 x1 x2 x3 (ix3 b ⟨r.val, by omega⟩ n) * x4 (ix2 0 n)
      + val_main_v123 (F := Ideal) x0 x1 x2 x3 (ix3 b ⟨1 + r.val, by omega⟩ n) * x4 (ix2 1 n)
      + val_main_v123 (F := Ideal) x0 x1 x2 x3 (ix3 b ⟨2 + r.val, by omega⟩ n) * x4 (ix2 2 n) + x5 (ix1 n) := by
  pointwise [val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146]

theorem conv_at (b : Fin 4) (t : Fin 8448) (n : Fin 1536) : val_main_v147 (F := Ideal) x0 x1 x2 x3 x4 x5 (ix3 b t n)
    = OddSpec.conv (fun t => P x0 x1 x2 x3 b t ⟨n.val, by omega⟩) (fun i => x4 (ix2 i n)) (x5 (ix1 n)) t := by
  have e : val_main_v147 (F := Ideal) x0 x1 x2 x3 x4 x5 (ix3 b t n) = if h : t.val < 256 then val_main_v95 (F := Ideal) x0 x1 x2 x3 x4 x5 (ix3 b ⟨t.val, h⟩ n)
      else val_main_v146 (F := Ideal) x0 x1 x2 x3 x4 x5 (ix3 b ⟨t.val - 256, by omega⟩ n) := by
    pointwise [val_main_v147]
  rw [e]
  unfold OddSpec.conv OddSpec.before OddSpec.after
  by_cases h : t.val < 256
  · rw [dif_pos h, convc_at, padc_at, padc_at, padc_at]
    have e1 : ((⟨1 + t.val, by omega⟩ : Fin 258).val - 1) = t.val := by show 1 + t.val - 1 = t.val; omega
    rw [dif_neg (show ¬ (1 + t.val = 0 ∨ 1 + t.val = 257) by omega)]
    refine congrArg₂ (· + ·) (congrArg₂ (· + ·) (congrArg₂ (· + ·) (congrArg (· * _) ?_) (congrArg (· * _) ?_)) (congrArg (· * _) ?_)) rfl
    · by_cases h0 : t.val = 0
      · rw [dif_pos (Or.inl h0), if_pos (Or.inl h0)]
      · rw [dif_neg (show ¬ (t.val = 0 ∨ t.val = 257) by omega), if_neg (by omega)]
    · exact congrArg (fun z => P x0 x1 x2 x3 b z _) (Fin.ext (by show 1 + t.val - 1 = t.val; omega))
    · by_cases h0 : t.val = 255
      · rw [dif_pos (show (2 + t.val = 0 ∨ 2 + t.val = 257) by omega), dif_pos (Or.inl h0)]
      · rw [dif_neg (show ¬ (2 + t.val = 0 ∨ 2 + t.val = 257) by omega), dif_neg (by omega)]
        exact congrArg (fun z => P x0 x1 x2 x3 b z _) (Fin.ext (by show 2 + t.val - 1 = t.val + 1; omega))
  · rw [dif_neg h, convl_at, padl_at, padl_at, padl_at]
    rw [dif_neg (show ¬ (1 + (t.val - 256) = 0 ∨ 1 + (t.val - 256) = 8193) by omega)]
    refine congrArg₂ (· + ·) (congrArg₂ (· + ·) (congrArg₂ (· + ·) (congrArg (· * _) ?_) (congrArg (· * _) ?_)) (congrArg (· * _) ?_)) rfl
    · by_cases h0 : t.val = 256
      · rw [dif_pos (show (t.val - 256 = 0 ∨ t.val - 256 = 8193) by omega), if_pos (Or.inr h0)]
      · rw [dif_neg (show ¬ (t.val - 256 = 0 ∨ t.val - 256 = 8193) by omega), if_neg (by omega)]
        exact congrArg (fun z => P x0 x1 x2 x3 b z _) (Fin.ext (by show 256 + (t.val - 256 - 1) = t.val - 1; omega))
    · exact congrArg (fun z => P x0 x1 x2 x3 b z _) (Fin.ext (by show 256 + (1 + (t.val - 256) - 1) = t.val; omega))
    · by_cases h0 : t.val = 8447
      · rw [dif_pos (show (2 + (t.val - 256) = 0 ∨ 2 + (t.val - 256) = 8193) by omega), dif_pos (Or.inr h0)]
      · rw [dif_neg (show ¬ (2 + (t.val - 256) = 0 ∨ 2 + (t.val - 256) = 8193) by omega), dif_neg (by omega)]
        exact congrArg (fun z => P x0 x1 x2 x3 b z _) (Fin.ext (by show 256 + (2 + (t.val - 256) - 1) = t.val + 1; omega))

/-- The three results of the convolution. -/
theorem hv_at (b : Fin 4) (t : Fin 8448) (n : Fin 512) : val_main_v148 (F := Ideal) x0 x1 x2 x3 x4 x5 (ix3 b t n)
    = OddSpec.conv (fun t => P x0 x1 x2 x3 b t ⟨n.val, by omega⟩) (fun i => x4 (ix2 i ⟨n.val, by omega⟩)) (x5 (ix1 ⟨n.val, by omega⟩)) t := by
  have e : val_main_v148 (F := Ideal) x0 x1 x2 x3 x4 x5 (ix3 b t n) = val_main_v147 (F := Ideal) x0 x1 x2 x3 x4 x5 (ix3 b t ⟨n.val, by omega⟩) := by
    pointwise [val_main_v148]
  rw [e, conv_at]
theorem hx1_at (b : Fin 4) (t : Fin 8448) (n : Fin 512) : val_main_v149 (F := Ideal) x0 x1 x2 x3 x4 x5 (ix3 b t n)
    = OddSpec.conv (fun t => P x0 x1 x2 x3 b t ⟨512 + n.val, by omega⟩) (fun i => x4 (ix2 i ⟨512 + n.val, by omega⟩)) (x5 (ix1 ⟨512 + n.val, by omega⟩)) t := by
  have e : val_main_v149 (F := Ideal) x0 x1 x2 x3 x4 x5 (ix3 b t n) = val_main_v147 (F := Ideal) x0 x1 x2 x3 x4 x5 (ix3 b t ⟨512 + n.val, by omega⟩) := by
    pointwise [val_main_v149]
  rw [e, conv_at]
theorem hx2_at (b : Fin 4) (t : Fin 8448) (n : Fin 512) : val_main_v150 (F := Ideal) x0 x1 x2 x3 x4 x5 (ix3 b t n)
    = OddSpec.conv (fun t => P x0 x1 x2 x3 b t ⟨1024 + n.val, by omega⟩) (fun i => x4 (ix2 i ⟨1024 + n.val, by omega⟩)) (x5 (ix1 ⟨1024 + n.val, by omega⟩)) t := by
  have e : val_main_v150 (F := Ideal) x0 x1 x2 x3 x4 x5 (ix3 b t n) = val_main_v147 (F := Ideal) x0 x1 x2 x3 x4 x5 (ix3 b t ⟨1024 + n.val, by omega⟩) := by
    pointwise [val_main_v150]
  rw [e, conv_at]

/-- The cosines and sines of a token. -/
abbrev C (t : Fin 8448) (j : Fin 32) : EReal := x6 (ix2 j t)

section Rotation

theorem qlo_at (b : Fin 4) (t : Fin 8448) (h : Fin 8) (j : Fin 32) : val_main_v50 (F := Ideal) x0 x1 x2 x3 (ix4 b t h j)
    = OddSpec.qs (P x0 x1 x2 x3 b t) ⟨h.val * 64 + 2 * j.val, by omega⟩ := by
  rw [← q_at]
  pointwise [val_main_v43, val_main_v48, val_main_v49, val_main_v50]
  exact congrArg (fun z => val_main_v40 (F := Ideal) x0 x1 x2 x3 (ix3 b t z)) (Fin.ext (by show h.val * 64 + j.val * 2 = h.val * 64 + 2 * j.val; omega))
theorem qhi_at (b : Fin 4) (t : Fin 8448) (h : Fin 8) (j : Fin 32) : val_main_v52 (F := Ideal) x0 x1 x2 x3 (ix4 b t h j)
    = OddSpec.qs (P x0 x1 x2 x3 b t) ⟨h.val * 64 + 2 * j.val + 1, by omega⟩ := by
  rw [← q_at]
  pointwise [val_main_v43, val_main_v48, val_main_v51, val_main_v52]
  exact congrArg (fun z => val_main_v40 (F := Ideal) x0 x1 x2 x3 (ix3 b t z)) (Fin.ext (by show h.val * 64 + j.val * 2 + 1 = h.val * 64 + 2 * j.val + 1; omega))
theorem qA_at (b : Fin 4) (t : Fin 8448) (h : Fin 8) (j : Fin 32) : val_main_v59 (F := Ideal) x0 x1 x2 x3 x6 x7 (ix4 b t h j)
    = OddSpec.rotA (OddSpec.qs (P x0 x1 x2 x3 b t)) (C x6 t) (C x7 t) h j := by
  unfold OddSpec.rotA
  rw [← qlo_at, ← qhi_at]
  pointwise [val_main_v44, val_main_v45, val_main_v46, val_main_v47, val_main_v53, val_main_v54, val_main_v55, val_main_v56, val_main_v57, val_main_v58, val_main_v59]
theorem qB_at (b : Fin 4) (t : Fin 8448) (h : Fin 8) (j : Fin 32) : val_main_v66 (F := Ideal) x0 x1 x2 x3 x6 x7 (ix4 b t h j)
    = OddSpec.rotB (OddSpec.qs (P x0 x1 x2 x3 b t)) (C x6 t) (C x7 t) h j := by
  unfold OddSpec.rotB
  rw [← qlo_at, ← qhi_at]
  pointwise [val_main_v44, val_main_v45, val_main_v46, val_main_v47, val_main_v60, val_main_v61, val_main_v62, val_main_v63, val_main_v64, val_main_v65, val_main_v66]
theorem klo_at (b : Fin 4) (t : Fin 8448) (h : Fin 8) (j : Fin 32) : val_main_v103 (F := Ideal) x0 x1 x2 x3 (ix4 b t h j)
    = OddSpec.ks (P x0 x1 x2 x3 b t) ⟨h.val * 64 + 2 * j.val, by omega⟩ := by
  rw [← k_at]
  pointwise [val_main_v96, val_main_v101, val_main_v102, val_main_v103]
  exact congrArg (fun z => val_main_v41 (F := Ideal) x0 x1 x2 x3 (ix3 b t z)) (Fin.ext (by show h.val * 64 + j.val * 2 = h.val * 64 + 2 * j.val; omega))
theorem khi_at (b : Fin 4) (t : Fin 8448) (h : Fin 8) (j : Fin 32) : val_main_v105 (F := Ideal) x0 x1 x2 x3 (ix4 b t h j)
    = OddSpec.ks (P x0 x1 x2 x3 b t) ⟨h.val * 64 + 2 * j.val + 1, by omega⟩ := by
  rw [← k_at]
  pointwise [val_main_v96, val_main_v101, val_main_v104, val_main_v105]
  exact congrArg (fun z => val_main_v41 (F := Ideal) x0 x1 x2 x3 (ix3 b t z)) (Fin.ext (by show h.val * 64 + j.val * 2 + 1 = h.val * 64 + 2 * j.val + 1; omega))
theorem kA_at (b : Fin 4) (t : Fin 8448) (h : Fin 8) (j : Fin 32) : val_main_v112 (F := Ideal) x0 x1 x2 x3 x6 x7 (ix4 b t h j)
    = OddSpec.rotA (OddSpec.ks (P x0 x1 x2 x3 b t)) (C x6 t) (C x7 t) h j := by
  unfold OddSpec.rotA
  rw [← klo_at, ← khi_at]
  pointwise [val_main_v97, val_main_v98, val_main_v99, val_main_v100, val_main_v106, val_main_v107, val_main_v108, val_main_v109, val_main_v110, val_main_v111, val_main_v112]
theorem kB_at (b : Fin 4) (t : Fin 8448) (h : Fin 8) (j : Fin 32) : val_main_v119 (F := Ideal) x0 x1 x2 x3 x6 x7 (ix4 b t h j)
    = OddSpec.rotB (OddSpec.ks (P x0 x1 x2 x3 b t)) (C x6 t) (C x7 t) h j := by
  unfold OddSpec.rotB
  rw [← klo_at, ← khi_at]
  pointwise [val_main_v97, val_main_v98, val_main_v99, val_main_v100, val_main_v113, val_main_v114, val_main_v115, val_main_v116, val_main_v117, val_main_v118, val_main_v119]

/-- Two halves side by side, and eight heads in one row. -/
theorem joined_at (x y : S4x8448x8x32.Idx → EReal) (b : Fin 4) (t : Fin 8448) (h : Fin 8) (j : Fin 64) :
    concatenate S4x8448x8x64 3 [⟨S4x8448x8x32, x⟩, ⟨S4x8448x8x32, y⟩] concatenates_S4x8448x8x32_S4x8448x8x32_S4x8448x8x64_d3 (ix4 b t h j)
      = if hj : j.val < 32 then x (ix4 b t h ⟨j.val, hj⟩) else y (ix4 b t h ⟨j.val - 32, by omega⟩) := by
  pointwise []

theorem inRow_at (x : S4x8448x8x64.Idx → EReal) (b : Fin 4) (t : Fin 8448) (k : Fin 512) :
    shapeCast S4x8448x512 x shapeCasts_S4x8448x8x64_S4x8448x512 (ix3 b t k) = x (ix4 b t ⟨k.val / 64, by omega⟩ ⟨k.val % 64, by omega⟩) := by
  pointwise []

/-- A head's first halves before its second halves. -/
theorem qhalf_at (b : Fin 4) (t : Fin 8448) (k : Fin 512) : val_main_v68 (F := Ideal) x0 x1 x2 x3 x6 x7 (ix3 b t k)
    = if h : k.val % 64 < 32 then val_main_v59 (F := Ideal) x0 x1 x2 x3 x6 x7 (ix4 b t ⟨k.val / 64, by omega⟩ ⟨k.val % 64, h⟩)
      else val_main_v66 (F := Ideal) x0 x1 x2 x3 x6 x7 (ix4 b t ⟨k.val / 64, by omega⟩ ⟨k.val % 64 - 32, by omega⟩) := by
  have e (h : Fin 8) (j : Fin 64) : val_main_v67 (F := Ideal) x0 x1 x2 x3 x6 x7 (ix4 b t h j)
      = if hj : j.val < 32 then val_main_v59 (F := Ideal) x0 x1 x2 x3 x6 x7 (ix4 b t h ⟨j.val, hj⟩)
        else val_main_v66 (F := Ideal) x0 x1 x2 x3 x6 x7 (ix4 b t h ⟨j.val - 32, by omega⟩) := by
    unfold val_main_v67
    exact joined_at _ _ b t h j
  rw [← e ⟨k.val / 64, by omega⟩ ⟨k.val % 64, by omega⟩]
  unfold val_main_v68
  exact inRow_at _ b t k
theorem khalf_at (b : Fin 4) (t : Fin 8448) (k : Fin 512) : val_main_v121 (F := Ideal) x0 x1 x2 x3 x6 x7 (ix3 b t k)
    = if h : k.val % 64 < 32 then val_main_v112 (F := Ideal) x0 x1 x2 x3 x6 x7 (ix4 b t ⟨k.val / 64, by omega⟩ ⟨k.val % 64, h⟩)
      else val_main_v119 (F := Ideal) x0 x1 x2 x3 x6 x7 (ix4 b t ⟨k.val / 64, by omega⟩ ⟨k.val % 64 - 32, by omega⟩) := by
  have e (h : Fin 8) (j : Fin 64) : val_main_v120 (F := Ideal) x0 x1 x2 x3 x6 x7 (ix4 b t h j)
      = if hj : j.val < 32 then val_main_v112 (F := Ideal) x0 x1 x2 x3 x6 x7 (ix4 b t h ⟨j.val, hj⟩)
        else val_main_v119 (F := Ideal) x0 x1 x2 x3 x6 x7 (ix4 b t h ⟨j.val - 32, by omega⟩) := by
    unfold val_main_v120
    exact joined_at _ _ b t h j
  rw [← e ⟨k.val / 64, by omega⟩ ⟨k.val % 64, by omega⟩]
  unfold val_main_v121
  exact inRow_at _ b t k

theorem qrot_at (b : Fin 4) (t : Fin 8448) (k : Fin 512) : val_main_v68 (F := Ideal) x0 x1 x2 x3 x6 x7 (ix3 b t k)
    = OddSpec.rot (OddSpec.qs (P x0 x1 x2 x3 b t)) (C x6 t) (C x7 t) k := by
  rw [qhalf_at]
  unfold OddSpec.rot
  by_cases h : k.val % 64 < 32
  · rw [dif_pos h, if_pos h, qA_at]
    exact congrArg (OddSpec.rotA _ _ _ _) (Fin.ext (by show k.val % 64 = k.val % 32; omega))
  · rw [dif_neg h, if_neg h, qB_at]
    exact congrArg (OddSpec.rotB _ _ _ _) (Fin.ext (by show k.val % 64 - 32 = k.val % 32; omega))
theorem krot_at (b : Fin 4) (t : Fin 8448) (k : Fin 512) : val_main_v121 (F := Ideal) x0 x1 x2 x3 x6 x7 (ix3 b t k)
    = OddSpec.rot (OddSpec.ks (P x0 x1 x2 x3 b t)) (C x6 t) (C x7 t) k := by
  rw [khalf_at]
  unfold OddSpec.rot
  by_cases h : k.val % 64 < 32
  · rw [dif_pos h, if_pos h, kA_at]
    exact congrArg (OddSpec.rotA _ _ _ _) (Fin.ext (by show k.val % 64 = k.val % 32; omega))
  · rw [dif_neg h, if_neg h, kB_at]
    exact congrArg (OddSpec.rotB _ _ _ _) (Fin.ext (by show k.val % 64 - 32 = k.val % 32; omega))

end Rotation

end Cert.Reference6Ideal.Rows

end
-- ==== Proof.OddReferenceHeads.lean ====
/- The reference's heads by tiles: the scaled queries, the keys, the values with the ones, and the largest square norms. -/
module

public import proofs.«01_k».proof.Proof.OddReference
public import proofs.«01_k».proof.Proof.Gen.Reference6Ideal.Read
public import Idealize.ShloMosaic.Lib.Pointwise
public import Idealize.ShloMosaic.Lib.KernelVsHost

@[expose] public section

noncomputable section

namespace Cert.Reference6Ideal.Rows

open Cert.Reference6Ideal Cert.Reference6Ideal.Gen Cert.Reference6Ideal.Read Idealize.ShloMosaic Idealize.ShloMosaic.TcCoe Idealize.SL.Sem
open Idealize.ShloMosaic.StableHlo Cert

variable (x0 : (⟨S4x8448x1024, .f32⟩ : BufTy).Contents (Elt Ideal)) (x1 : (⟨S8x6x1024, .f32⟩ : BufTy).Contents (Elt Ideal))
  (x2 : (⟨S1x1024, .f32⟩ : BufTy).Contents (Elt Ideal)) (x3 : (⟨S1024x3072, .f32⟩ : BufTy).Contents (Elt Ideal))
  (x4 : (⟨S3x1536, .f32⟩ : BufTy).Contents (Elt Ideal)) (x5 : (⟨S1536, .f32⟩ : BufTy).Contents (Elt Ideal))
  (x6 : (⟨S32x8448, .f32⟩ : BufTy).Contents (Elt Ideal)) (x7 : (⟨S32x8448, .f32⟩ : BufTy).Contents (Elt Ideal))

/-- Tokens by tiles of 256, and the places within a tile last. -/
theorem tiles_at (x : S4x8448x512.Idx → EReal) (b : Fin 4) (j : Fin 33) (r : Fin 256) (k : Fin 512) :
    shapeCast S4x33x256x512 x shapeCasts_S4x8448x512_S4x33x256x512 (ix4 b j r k) = x (ix3 b (OddSpec.tok j r) k) := by
  unfold OddSpec.tok
  pointwise []

theorem turned_at (x : S4x33x256x512.Idx → EReal) (b : Fin 4) (j : Fin 33) (k : Fin 512) (r : Fin 256) :
    transpose S4x33x512x256 [0, 1, 3, 2] x transposes_S4x33x256x512_S4x33x512x256_0_1_3_2 (ix4 b j k r) = x (ix4 b j r k) := by
  pointwise []

theorem heads5_at (x : S4x8448x512.Idx → EReal) (b : Fin 4) (j : Fin 33) (r : Fin 256) (h : Fin 8) (i : Fin 64) :
    shapeCast S4x33x256x8x64 x shapeCasts_S4x8448x512_S4x33x256x8x64 (ix5 b j r h i) = x (ix3 b (OddSpec.tok j r) ⟨h.val * 64 + i.val, by omega⟩) := by
  unfold OddSpec.tok
  pointwise []

theorem four_at (x : S4x33x512x256.Idx → EReal) (b : Fin 4) (j : Fin 33) (h : Fin 4) (i : Fin 128) (r : Fin 256) :
    shapeCast S4x33x4x128x256 x shapeCasts_S4x33x512x256_S4x33x4x128x256 (ix5 b j h i r) = x (ix4 b j ⟨h.val * 128 + i.val, by omega⟩ r) := by
  pointwise []

theorem flat_at (x : S4x33x4x144x256.Idx → EReal) (b : Fin 4) (j : Fin 33) (k : Fin 576) (r : Fin 256) :
    shapeCast S4x33x576x256 x shapeCasts_S4x33x4x144x256_S4x33x576x256 (ix4 b j k r) = x (ix5 b j ⟨k.val / 144, by omega⟩ ⟨k.val % 144, by omega⟩ r) := by
  pointwise []

theorem withOnes_at (x : S4x33x4x128x256.Idx → EReal) (y : S4x33x4x16x256.Idx → EReal) (b : Fin 4) (j : Fin 33) (h : Fin 4) (i : Fin 144) (r : Fin 256) :
    concatenate S4x33x4x144x256 3 [⟨S4x33x4x128x256, x⟩, ⟨S4x33x4x16x256, y⟩] concatenates_S4x33x4x128x256_S4x33x4x16x256_S4x33x4x144x256_d3 (ix5 b j h i r)
      = if hi : i.val < 128 then x (ix5 b j h ⟨i.val, hi⟩ r) else y (ix5 b j h ⟨i.val - 128, by omega⟩ r) := by
  pointwise []

/-- The sum of squares over a head, and the largest over a tile. -/
theorem squares_at (x : (⟨S4x33x256x8x64, .f32⟩ : BufTy).Contents (Elt Ideal)) (b : Fin 4) (j : Fin 33) (r : Fin 256) (h : Fin 8) :
    Host.reduceAdd (mulf (F := Ideal) (φ := .f32) x x) (val_main_cst_7 (F := Ideal)) reducesTo_S4x33x256x8x64_S4x33x256x8_d4 h_S_ (ix4 b j r h)
      = ∑ i : Fin 64, x (ix5 b j r h i) * x (ix5 b j r h i) := by
  pointwise [val_main_cst_7]

theorem tops_at (x : (⟨S4x33x256x8, .f32⟩ : BufTy).Contents (Elt Ideal)) (b : Fin 4) (j : Fin 33) (h : Fin 8) :
    Host.reduce (FloatOps.maximumf (F := Ideal) (φ := .f32)) x (val_main_cst_8 (F := Ideal)) reducesTo_S4x33x256x8_S4x33x8_d2 h_S_ (ix3 b j h)
      = OddSpec.top fun r => x (ix4 b j r h) := by
  unfold OddSpec.top
  pointwise [val_main_cst_8]

/-- The largest over a tile, spread over lanes. -/
theorem spread_at (x : S4x33x8.Idx → EReal) (b : Fin 4) (j : Fin 33) (h : Fin 8) (l : Fin 128) :
    broadcastInDim S4x33x8x128 ![0, 1, 2, 3] bcast_S4x33x8x1_S4x33x8x128_0_1_2_3 (broadcastInDim S4x33x8x1 ![0, 1, 2] bcast_S4x33x8_S4x33x8x1_0_1_2 x) (ix4 b j h l) = x (ix3 b j h) := by
  pointwise []

/-- The queries by tiles, scaled. -/
theorem dq_at (b : Fin 4) (j : Fin 33) (k : Fin 512) (r : Fin 256) : val_main_v162 (F := Ideal) x0 x1 x2 x3 x6 x7 (ix4 b j k r)
    = OddSpec.rot (OddSpec.qs (P x0 x1 x2 x3 b (OddSpec.tok j r))) (C x6 (OddSpec.tok j r)) (C x7 (OddSpec.tok j r)) k * Ideal.ofBits .f32 0x3E38AA3B#32 := by
  rw [← qrot_at]
  refine (val_main_v162_apply x0 x1 x2 x3 x6 x7 _).trans ?_
  show val_main_v161 (F := Ideal) x0 x1 x2 x3 x6 x7 (ix4 b j k r) = _
  unfold val_main_v161 val_main_v160
  refine (turned_at _ b j k r).trans ((tiles_at _ b j r k).trans ?_)
  exact val_main_v70_apply x0 x1 x2 x3 x6 x7 _

theorem dk_at (b : Fin 4) (t : Fin 8448) (k : Fin 512) : val_main_v163 (F := Ideal) x0 x1 x2 x3 x6 x7 (ix3 b t k)
    = OddSpec.rot (OddSpec.ks (P x0 x1 x2 x3 b t)) (C x6 t) (C x7 t) k := by
  rw [← krot_at]
  exact val_main_v163_apply x0 x1 x2 x3 x6 x7 _

/-- The values by tiles, with the ones. -/
theorem dv_at (b : Fin 4) (j : Fin 33) (k : Fin 576) (r : Fin 256) : val_main_v165 (F := Ideal) x0 x1 x2 x3 (ix4 b j k r)
    = OddSpec.vals (OddSpec.vs (P x0 x1 x2 x3 b (OddSpec.tok j r))) k := by
  have e : val_main_v165 (F := Ideal) x0 x1 x2 x3 (ix4 b j k r)
      = val_main_v159 (F := Ideal) x0 x1 x2 x3 (ix5 b j ⟨k.val / 144, by omega⟩ ⟨k.val % 144, by omega⟩ r) := by
    refine (val_main_v165_apply x0 x1 x2 x3 _).trans ?_
    show val_main_v164 (F := Ideal) x0 x1 x2 x3 (ix4 b j k r) = _
    unfold val_main_v164
    exact flat_at _ b j k r
  have e2 (h : Fin 4) (i : Fin 144) : val_main_v159 (F := Ideal) x0 x1 x2 x3 (ix5 b j h i r)
      = if hi : i.val < 128 then val_main_v157 (F := Ideal) x0 x1 x2 x3 (ix5 b j h ⟨i.val, hi⟩ r) else Ideal.ofBits .f32 0x3F800000#32 := by
    unfold val_main_v159
    refine (withOnes_at _ _ b j h i r).trans ?_
    by_cases hi : i.val < 128
    · rw [dif_pos hi, dif_pos hi]
    · rw [dif_neg hi, dif_neg hi]
      exact val_main_v158_apply _
  have e3 (h : Fin 4) (i : Fin 128) : val_main_v157 (F := Ideal) x0 x1 x2 x3 (ix5 b j h i r)
      = val_main_v42 (F := Ideal) x0 x1 x2 x3 (ix3 b (OddSpec.tok j r) ⟨h.val * 128 + i.val, by omega⟩) := by
    unfold val_main_v157 val_main_v156 val_main_v155
    exact (four_at _ b j h i r).trans ((turned_at _ b j _ r).trans (tiles_at _ b j r _))
  rw [e, e2]
  unfold OddSpec.vals
  by_cases h : k.val % 144 < 128
  · rw [dif_pos h, dif_pos h, e3, v_at]
  · rw [dif_neg h, dif_neg h]
    exact Ideal.ofBits_one_f32

/-- The keys' largest square norm in a tile. -/
theorem kn_at (b : Fin 4) (j : Fin 33) (h : Fin 8) (l : Fin 128) : val_main_v167 (F := Ideal) x0 x1 x2 x3 x6 x7 (ix4 b j h l)
    = OddSpec.top fun r => OddSpec.nrm (OddSpec.ks (P x0 x1 x2 x3 b (OddSpec.tok j r))) (C x6 (OddSpec.tok j r)) (C x7 (OddSpec.tok j r)) h := by
  have e0 (r : Fin 256) (i : Fin 64) : val_main_v151 (F := Ideal) x0 x1 x2 x3 x6 x7 (ix5 b j r h i)
      = val_main_v121 (F := Ideal) x0 x1 x2 x3 x6 x7 (ix3 b (OddSpec.tok j r) ⟨h.val * 64 + i.val, by omega⟩) := by
    unfold val_main_v151
    exact heads5_at _ b j r h i
  have e1 (r : Fin 256) : val_main_v153 (F := Ideal) x0 x1 x2 x3 x6 x7 (ix4 b j r h)
      = OddSpec.nrm (OddSpec.ks (P x0 x1 x2 x3 b (OddSpec.tok j r))) (C x6 (OddSpec.tok j r)) (C x7 (OddSpec.tok j r)) h := by
    unfold val_main_v153 val_main_v152
    rw [squares_at]
    simp only [e0, krot_at]
    rw [Fin.sum_univ_two_halves 32 32 rfl]
    unfold OddSpec.nrm
    refine congrArg₂ (· + ·) (Finset.sum_congr rfl fun i _ => ?_) (Finset.sum_congr rfl fun i _ => ?_)
    · have q : OddSpec.rot (OddSpec.ks (P x0 x1 x2 x3 b (OddSpec.tok j r))) (C x6 (OddSpec.tok j r)) (C x7 (OddSpec.tok j r)) ⟨h.val * 64 + (Fin.castAdd 32 i).val, by have := i.isLt; simp only [Fin.val_castAdd]; omega⟩
          = OddSpec.rotA (OddSpec.ks (P x0 x1 x2 x3 b (OddSpec.tok j r))) (C x6 (OddSpec.tok j r)) (C x7 (OddSpec.tok j r)) h i := by
        unfold OddSpec.rot
        simp only [Fin.val_castAdd]
        rw [if_pos (by omega)]
        exact congrArg₂ _ (Fin.ext (by show (h.val * 64 + i.val) / 64 = h.val; omega)) (Fin.ext (by show (h.val * 64 + i.val) % 32 = i.val; omega))
      exact congrArg₂ (· * ·) q q
    · have q : OddSpec.rot (OddSpec.ks (P x0 x1 x2 x3 b (OddSpec.tok j r))) (C x6 (OddSpec.tok j r)) (C x7 (OddSpec.tok j r)) ⟨h.val * 64 + (Fin.natAdd 32 i).val, by have := i.isLt; simp only [Fin.val_natAdd]; omega⟩
          = OddSpec.rotB (OddSpec.ks (P x0 x1 x2 x3 b (OddSpec.tok j r))) (C x6 (OddSpec.tok j r)) (C x7 (OddSpec.tok j r)) h i := by
        unfold OddSpec.rot
        simp only [Fin.val_natAdd]
        rw [if_neg (by omega)]
        exact congrArg₂ _ (Fin.ext (by show (h.val * 64 + (32 + i.val)) / 64 = h.val; omega)) (Fin.ext (by show (h.val * 64 + (32 + i.val)) % 32 = i.val; omega))
      exact congrArg₂ (· * ·) q q
  have e2 : val_main_v167 (F := Ideal) x0 x1 x2 x3 x6 x7 (ix4 b j h l) = val_main_v154 (F := Ideal) x0 x1 x2 x3 x6 x7 (ix3 b j h) := by
    unfold val_main_v167 val_main_v166
    exact spread_at _ b j h l
  rw [e2]
  unfold val_main_v154
  rw [tops_at]
  exact congrArg OddSpec.top (funext e1)

end Cert.Reference6Ideal.Rows

end
-- ==== Proof.OddClaims.lean ====
/- The claims about the odd layers' entry: the frames of the three programs, and that over the extended reals the kernel and the reference end
   with equal arrays. -/
module

public import proofs.«01_k».proof.Defs
public import proofs.«01_k».proof.Proof.OddArray
public import proofs.«01_k».proof.Proof.OddReferenceHeads
public import proofs.«01_k».proof.Proof.Gen.Kernel6.Frame
public import Idealize.ShloMosaic.Lib.Quiescent

@[expose] public section

noncomputable section

namespace Cert.Proof.Odd

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

theorem preserves : Cert.preserves_Kernel6_Kernel6Ideal := trivial

/-! The reference's results are the arrays the kernel leaves, index by index. -/

section Arrays
open Cert.Kernel6Ideal
variable (m : (ℓ : Loc nD τ sig) → Buf (Elt Ideal) ℓ) (c : Dev nD)

theorem first_conv (b : Fin 4) (t : Fin 8448) (n : Fin 512) :
    Cert.Kernel6Ideal.Body.convArr m c 0 (ix3 b t n) = Cert.Kernel6Ideal.Body.convVal m c b t ⟨n.val, by omega⟩ := by
  have e : (⟨512 * 0 + n.val, by omega⟩ : Fin 1536) = ⟨n.val, by omega⟩ := Fin.ext (by show 512 * 0 + n.val = n.val; omega)
  rw [← e]
  rfl

theorem array_148 : Cert.Reference6Ideal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Cert.Kernel6Ideal.Body.convArr m c 0 := by
  funext i
  obtain ⟨b, t, n, rfl⟩ : ∃ b t n, i = ix3 b t n := ⟨i 0, i 1, i 2, eq_ix3 i⟩
  rw [Cert.Reference6Ideal.Rows.hv_at]
  rw [first_conv]
  rfl

theorem array_149 : Cert.Reference6Ideal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Cert.Kernel6Ideal.Body.convArr m c 1 := by
  funext i
  obtain ⟨b, t, n, rfl⟩ : ∃ b t n, i = ix3 b t n := ⟨i 0, i 1, i 2, eq_ix3 i⟩
  rw [Cert.Reference6Ideal.Rows.hx1_at]
  rfl

theorem array_150 : Cert.Reference6Ideal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Cert.Kernel6Ideal.Body.convArr m c 2 := by
  funext i
  obtain ⟨b, t, n, rfl⟩ : ∃ b t n, i = ix3 b t n := ⟨i 0, i 1, i 2, eq_ix3 i⟩
  rw [Cert.Reference6Ideal.Rows.hx2_at]
  rfl

theorem array_162 : Cert.Reference6Ideal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) = Cert.Kernel6Ideal.Body.queryArr m c := by
  funext i
  obtain ⟨b, j, k, r, rfl⟩ : ∃ b j k r, i = ix4 b j k r := ⟨i 0, i 1, i 2, i 3, eq_ix4 i⟩
  rw [Cert.Reference6Ideal.Rows.dq_at]
  rfl

theorem array_163 : Cert.Reference6Ideal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) = Cert.Kernel6Ideal.Body.keyArr m c := by
  funext i
  obtain ⟨b, t, n, rfl⟩ : ∃ b t n, i = ix3 b t n := ⟨i 0, i 1, i 2, eq_ix3 i⟩
  rw [Cert.Reference6Ideal.Rows.dk_at]
  rfl

theorem array_165 : Cert.Reference6Ideal.Read.val_main_v165 (F := Ideal) (m ((c : Thread nD τ).loc main_arg0)) (m ((c : Thread nD τ).loc main_arg1)) (m ((c : Thread nD τ).loc main_arg2)) (m ((c : Thread nD τ).loc main_arg3)) = Cert.Kernel6Ideal.Body.valueArr m c := by
  funext i
  obtain ⟨b, j, k, r, rfl⟩ : ∃ b j k r, i = ix4 b j k r := ⟨i 0, i 1, i 2, i 3, eq_ix4 i⟩
  rw [Cert.Reference6Ideal.Rows.dv_at]
  rfl

theorem array_167 : Cert.Reference6Ideal.Read.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) = Cert.Kernel6Ideal.Body.peakArr m c := by
  funext i
  obtain ⟨b, j, k, r, rfl⟩ : ∃ b j k r, i = ix4 b j k r := ⟨i 0, i 1, i 2, i 3, eq_ix4 i⟩
  rw [Cert.Reference6Ideal.Rows.kn_at]
  rfl

end Arrays

/-- The arrays are one function of the arguments. -/
theorem algebraic : Cert.algebraic_Kernel6Ideal_Reference6Ideal := by
  intro m ρ m' ρ' _ hagree
  refine ⟨fun c => Cert.Kernel6Ideal.Body.convArr m c 0, fun c => Cert.Kernel6Ideal.Body.convArr m c 1, fun c => Cert.Kernel6Ideal.Body.convArr m c 2, fun c => Cert.Kernel6Ideal.Body.queryArr m c, fun c => Cert.Kernel6Ideal.Body.keyArr m c, fun c => Cert.Kernel6Ideal.Body.valueArr m c, fun c => Cert.Kernel6Ideal.Body.peakArr m c, ?_, ?_⟩
  · exact (θ_run Cert.Kernel6Ideal.defs _ _).mono (fun _ h c => ⟨(h c).1.trans (Cert.Kernel6Ideal.Body.final11 m c), (h c).2.1.trans (Cert.Kernel6Ideal.Body.final12 m c), (h c).2.2.1.trans (Cert.Kernel6Ideal.Body.final13 m c), (h c).2.2.2.1.trans (Cert.Kernel6Ideal.Body.final14 m c), (h c).2.2.2.2.1.trans (Cert.Kernel6Ideal.Body.final15 m c), (h c).2.2.2.2.2.1.trans (Cert.Kernel6Ideal.Body.final16 m c), (h c).2.2.2.2.2.2.1.trans (Cert.Kernel6Ideal.Body.final17 m c), (h c).2.2.2.2.2.2.2⟩)
      (Cert.Kernel6Ideal.Value.run_blocks (F := Ideal) m ρ)
  · refine (θ_run Cert.Reference6Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference6Ideal.Value.run (F := Ideal) m' ρ')
    · obtain ⟨h0, h1, h2, h3, h4, h5, h6, h7⟩ := hagree c
      rw [Cert.Reference6Ideal.Read.val_main_v148_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3,
        show StableHlo.launchContents m' c (Proc.tc.devRef Reference6Ideal.main_arg4) = _ from h4,
        show StableHlo.launchContents m' c (Proc.tc.devRef Reference6Ideal.main_arg5) = _ from h5]
      exact array_148 m c
    · obtain ⟨h0, h1, h2, h3, h4, h5, h6, h7⟩ := hagree c
      rw [Cert.Reference6Ideal.Read.val_main_v149_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3,
        show StableHlo.launchContents m' c (Proc.tc.devRef Reference6Ideal.main_arg4) = _ from h4,
        show StableHlo.launchContents m' c (Proc.tc.devRef Reference6Ideal.main_arg5) = _ from h5]
      exact array_149 m c
    · obtain ⟨h0, h1, h2, h3, h4, h5, h6, h7⟩ := hagree c
      rw [Cert.Reference6Ideal.Read.val_main_v150_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3,
        show StableHlo.launchContents m' c (Proc.tc.devRef Reference6Ideal.main_arg4) = _ from h4,
        show StableHlo.launchContents m' c (Proc.tc.devRef Reference6Ideal.main_arg5) = _ from h5]
      exact array_150 m c
    · obtain ⟨h0, h1, h2, h3, h4, h5, h6, h7⟩ := hagree c
      rw [Cert.Reference6Ideal.Read.val_main_v162_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3,
        show StableHlo.launchContents m' c (Proc.tc.devRef Reference6Ideal.main_arg6) = _ from h6,
        show StableHlo.launchContents m' c (Proc.tc.devRef Reference6Ideal.main_arg7) = _ from h7]
      exact array_162 m c
    · obtain ⟨h0, h1, h2, h3, h4, h5, h6, h7⟩ := hagree c
      rw [Cert.Reference6Ideal.Read.val_main_v163_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3,
        show StableHlo.launchContents m' c (Proc.tc.devRef Reference6Ideal.main_arg6) = _ from h6,
        show StableHlo.launchContents m' c (Proc.tc.devRef Reference6Ideal.main_arg7) = _ from h7]
      exact array_163 m c
    · obtain ⟨h0, h1, h2, h3, h4, h5, h6, h7⟩ := hagree c
      rw [Cert.Reference6Ideal.Read.val_main_v165_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3]
      exact array_165 m c
    · obtain ⟨h0, h1, h2, h3, h4, h5, h6, h7⟩ := hagree c
      rw [Cert.Reference6Ideal.Read.val_main_v167_eq,
        show StableHlo.launchContents m' c (Proc.tc.devRef Reference6Ideal.main_arg0) = _ from h0,
        show StableHlo.launchContents m' c (Proc.tc.devRef Reference6Ideal.main_arg1) = _ from h1,
        show StableHlo.launchContents m' c (Proc.tc.devRef Reference6Ideal.main_arg2) = _ from h2,
        show StableHlo.launchContents m' c (Proc.tc.devRef Reference6Ideal.main_arg3) = _ from h3,
        show StableHlo.launchContents m' c (Proc.tc.devRef Reference6Ideal.main_arg6) = _ from h6,
        show StableHlo.launchContents m' c (Proc.tc.devRef Reference6Ideal.main_arg7) = _ from h7]
      exact array_167 m c

end Cert.Proof.Odd

end
-- ==== Proof.lean ====
module

public import proofs.«01_k».proof.Defs
public import proofs.«01_k».proof.Proof.GlaClaims
public import proofs.«01_k».proof.Proof.PostClaims
public import proofs.«01_k».proof.Proof.Post3Claims
public import proofs.«01_k».proof.Proof.Post4Claims
public import proofs.«01_k».proof.Proof.Post5Claims
public import proofs.«01_k».proof.Proof.OddClaims

@[expose] public section

noncomputable section

namespace Cert.Proof

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_decay.Gen.facts,
  Gla.frame_kernel, Gla.frame_ideal, Gla.frame_ideal_finite, Gla.frame_reference, Gla.frame_reference_finite,
  Post.frame_kernel, Post.frame_ideal, Post.frame_reference,
  Post3.frame_kernel, Post3.frame_ideal, Post3.frame_reference,
  Post4.frame_kernel, Post4.frame_ideal, Post4.frame_reference,
  Post5.frame_kernel, Post5.frame_ideal, Post5.frame_reference,
  Odd.frame_kernel, Odd.frame_ideal, Odd.frame_reference,
  Gla.preserves, Gla.algebraic,
  Post.preserves, Post.algebraic,
  Post3.preserves, Post3.algebraic,
  Post4.preserves, Post4.algebraic,
  Post5.preserves, Post5.algebraic,
  Odd.preserves, Odd.algebraic⟩

end Cert.Proof

end
